-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_stated_prob [hPre_stated_prob : Cert.Pre_stated_prob.Facts] (m : (ℓ : Loc Cert.KernelIdeal.nD Cert.KernelIdeal.τ Cert.KernelIdeal.sig) → Buf (Elt Ideal) ℓ) : Prop :=
  ∀ c : Dev Cert.KernelIdeal.nD,
    (Cert.Pre_stated_prob.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_stated_prob [hPre_stated_prob : Cert.Pre_stated_prob.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_stated_prob.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_stated_prob [hKernelIdeal : Cert.KernelIdeal.Facts] [hPre_stated_prob : Cert.Pre_stated_prob.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_stated_prob m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_stated_prob [hReferenceIdeal : Cert.ReferenceIdeal.Facts] [hPre_stated_prob : Cert.Pre_stated_prob.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_stated_prob m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_stated_prob [hKernelIdeal : Cert.KernelIdeal.Facts] [hReferenceIdeal : Cert.ReferenceIdeal.Facts] [hPre_stated_prob : Cert.Pre_stated_prob.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_stated_prob m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v212_0)) (v1 : (c : Dev Cert.KernelIdeal.nD) → Buf (Elt Ideal) ((c.tc : Thread Cert.KernelIdeal.nD Cert.KernelIdeal.τ).loc Cert.KernelIdeal.main_v212_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v212_0) = v0 c
          ∧ r.2.mem ((c.tc : Thread Cert.KernelIdeal.nD Cert.KernelIdeal.τ).loc Cert.KernelIdeal.main_v212_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_stated_prob : Cert.Pre_stated_prob.Facts),
    quiescent_Kernel (hKernel := hKernel)
    ∧ quiescent_KernelIdeal (hKernelIdeal := hKernelIdeal)
    ∧ quiescent_KernelIdeal_pre_stated_prob (hKernelIdeal := hKernelIdeal) (hPre_stated_prob := hPre_stated_prob)
    ∧ quiescent_ReferenceIdeal (hReferenceIdeal := hReferenceIdeal)
    ∧ quiescent_ReferenceIdeal_pre_stated_prob (hReferenceIdeal := hReferenceIdeal) (hPre_stated_prob := hPre_stated_prob)
    ∧ preserves_Kernel_KernelIdeal
    ∧ algebraic_KernelIdeal_ReferenceIdeal_pre_stated_prob (hKernelIdeal := hKernelIdeal) (hReferenceIdeal := hReferenceIdeal) (hPre_stated_prob := hPre_stated_prob)
-- ==== Pre_stated_prob.lean ====
abbrev S128x4096 : Shape := ⟨2, ![128, 4096]⟩
abbrev S_ : Shape := ⟨0, ![]⟩

class Facts : Prop where

variable [Facts]

def fn {F : FTy → Type} [FloatOps F] (main_arg0 : IVec S128x4096 32) (main_arg1 : FVec F S_ .f32) : IVec S_ 1 :=
  let main_cst : FVec F S_ .f32 := constant S_ .f32 0x3E19999A#32
  let main_v0 : IVec S_ 1 := cmpf .oeq main_arg1 main_cst
  main_v0
-- ==== Kernel.lean ====
abbrev S128x4096 : Shape := ⟨2, ![128, 4096]⟩
abbrev S_ : Shape := ⟨0, ![]⟩
abbrev S4x1 : Shape := ⟨2, ![4, 1]⟩
abbrev S2x64x1 : Shape := ⟨3, ![2, 64, 1]⟩
abbrev S4x524288 : Shape := ⟨2, ![4, 524288]⟩
abbrev S1x524288 : Shape := ⟨2, ![1, 524288]⟩
abbrev S64x4096 : Shape := ⟨2, ![64, 4096]⟩
abbrev S1x64x1 : Shape := ⟨3, ![1, 64, 1]⟩
abbrev S64 : Shape := ⟨1, ![64]⟩
abbrev S64x1 : Shape := ⟨2, ![64, 1]⟩

abbrev nBuf : Space → Nat
  | .hbm => 279
  | .vmem => 12
  | .smem => 0
  | _ => 0

abbrev hbmTy0_0 (i : Nat) : BufTy := match i % 128 with
  | 0 => ⟨S128x4096, .i32⟩
  | 1 => ⟨S_, .f32⟩
  | 2 => ⟨S4x1, .i32⟩
  | 3 => ⟨S4x1, .i32⟩
  | 4 => ⟨S4x1, .i32⟩
  | 5 => ⟨S2x64x1, .i32⟩
  | 6 => ⟨S2x64x1, .i32⟩
  | 7 => ⟨S_, .i32⟩
  | 8 => ⟨S4x524288, .i32⟩
  | 9 => ⟨S4x524288, .i32⟩
  | 10 => ⟨S4x524288, .i32⟩
  | 11 => ⟨S4x524288, .i32⟩
  | 12 => ⟨S4x524288, .i32⟩
  | 13 => ⟨S4x524288, .i32⟩
  | 14 => ⟨S4x524288, .i32⟩
  | 15 => ⟨S_, .i32⟩
  | 16 => ⟨S4x524288, .i32⟩
  | 17 => ⟨S4x524288, .i32⟩
  | 18 => ⟨S_, .i32⟩
  | 19 => ⟨S4x524288, .i32⟩
  | 20 => ⟨S4x524288, .i32⟩
  | 21 => ⟨S4x524288, .i32⟩
  | 22 => ⟨S4x524288, .i32⟩
  | 23 => ⟨S4x524288, .i32⟩
  | 24 => ⟨S_, .i32⟩
  | 25 => ⟨S4x524288, .i32⟩
  | 26 => ⟨S4x524288, .i32⟩
  | 27 => ⟨S_, .i32⟩
  | 28 => ⟨S4x524288, .i32⟩
  | 29 => ⟨S4x524288, .i32⟩
  | 30 => ⟨S4x524288, .i32⟩
  | 31 => ⟨S4x524288, .i32⟩
  | 32 => ⟨S4x524288, .i32⟩
  | 33 => ⟨S_, .i32⟩
  | 34 => ⟨S4x524288, .i32⟩
  | 35 => ⟨S4x524288, .i32⟩
  | 36 => ⟨S_, .i32⟩
  | 37 => ⟨S4x524288, .i32⟩
  | 38 => ⟨S4x524288, .i32⟩
  | 39 => ⟨S4x524288, .i32⟩
  | 40 => ⟨S4x524288, .i32⟩
  | 41 => ⟨S4x524288, .i32⟩
  | 42 => ⟨S_, .i32⟩
  | 43 => ⟨S4x524288, .i32⟩
  | 44 => ⟨S4x524288, .i32⟩
  | 45 => ⟨S_, .i32⟩
  | 46 => ⟨S4x524288, .i32⟩
  | 47 => ⟨S4x524288, .i32⟩
  | 48 => ⟨S4x524288, .i32⟩
  | 49 => ⟨S4x524288, .i32⟩
  | 50 => ⟨S4x524288, .i32⟩
  | 51 => ⟨S4x524288, .i32⟩
  | 52 => ⟨S4x524288, .i32⟩
  | 53 => ⟨S4x524288, .i32⟩
  | 54 => ⟨S_, .i32⟩
  | 55 => ⟨S4x524288, .i32⟩
  | 56 => ⟨S4x524288, .i32⟩
  | 57 => ⟨S4x524288, .i32⟩
  | 58 => ⟨S_, .i32⟩
  | 59 => ⟨S4x524288, .i32⟩
  | 60 => ⟨S4x524288, .i32⟩
  | 61 => ⟨S_, .i32⟩
  | 62 => ⟨S4x524288, .i32⟩
  | 63 => ⟨S4x524288, .i32⟩
  | 64 => ⟨S4x524288, .i32⟩
  | 65 => ⟨S4x524288, .i32⟩
  | 66 => ⟨S4x524288, .i32⟩
  | 67 => ⟨S_, .i32⟩
  | 68 => ⟨S4x524288, .i32⟩
  | 69 => ⟨S4x524288, .i32⟩
  | 70 => ⟨S_, .i32⟩
  | 71 => ⟨S4x524288, .i32⟩
  | 72 => ⟨S4x524288, .i32⟩
  | 73 => ⟨S4x524288, .i32⟩
  | 74 => ⟨S4x524288, .i32⟩
  | 75 => ⟨S4x524288, .i32⟩
  | 76 => ⟨S_, .i32⟩
  | 77 => ⟨S4x524288, .i32⟩
  | 78 => ⟨S4x524288, .i32⟩
  | 79 => ⟨S_, .i32⟩
  | 80 => ⟨S4x524288, .i32⟩
  | 81 => ⟨S4x524288, .i32⟩
  | 82 => ⟨S4x524288, .i32⟩
  | 83 => ⟨S4x524288, .i32⟩
  | 84 => ⟨S4x524288, .i32⟩
  | 85 => ⟨S_, .i32⟩
  | 86 => ⟨S4x524288, .i32⟩
  | 87 => ⟨S4x524288, .i32⟩
  | 88 => ⟨S_, .i32⟩
  | 89 => ⟨S4x524288, .i32⟩
  | 90 => ⟨S4x524288, .i32⟩
  | 91 => ⟨S4x524288, .i32⟩
  | 92 => ⟨S4x524288, .i32⟩
  | 93 => ⟨S4x524288, .i32⟩
  | 94 => ⟨S4x524288, .i32⟩
  | 95 => ⟨S4x524288, .i32⟩
  | 96 => ⟨S4x524288, .i32⟩
  | 97 => ⟨S_, .i32⟩
  | 98 => ⟨S4x524288, .i32⟩
  | 99 => ⟨S4x524288, .i32⟩
  | 100 => ⟨S4x524288, .i32⟩
  | 101 => ⟨S_, .i32⟩
  | 102 => ⟨S4x524288, .i32⟩
  | 103 => ⟨S4x524288, .i32⟩
  | 104 => ⟨S_, .i32⟩
  | 105 => ⟨S4x524288, .i32⟩
  | 106 => ⟨S4x524288, .i32⟩
  | 107 => ⟨S4x524288, .i32⟩
  | 108 => ⟨S4x524288, .i32⟩
  | 109 => ⟨S4x524288, .i32⟩
  | 110 => ⟨S_, .i32⟩
  | 111 => ⟨S4x524288, .i32⟩
  | 112 => ⟨S4x524288, .i32⟩
  | 113 => ⟨S_, .i32⟩
  | 114 => ⟨S4x524288, .i32⟩
  | 115 => ⟨S4x524288, .i32⟩
  | 116 => ⟨S4x524288, .i32⟩
  | 117 => ⟨S4x524288, .i32⟩
  | 118 => ⟨S4x524288, .i32⟩
  | 119 => ⟨S_, .i32⟩
  | 120 => ⟨S4x524288, .i32⟩
  | 121 => ⟨S4x524288, .i32⟩
  | 122 => ⟨S_, .i32⟩
  | 123 => ⟨S4x524288, .i32⟩
  | 124 => ⟨S4x524288, .i32⟩
  | 125 => ⟨S4x524288, .i32⟩
  | 126 => ⟨S4x524288, .i32⟩
  | 127 => ⟨S4x524288, .i32⟩
  | _ => ⟨S128x4096, .i32⟩

abbrev hbmTy0_1 (i : Nat) : BufTy := match i % 128 with
  | 0 => ⟨S_, .i32⟩
  | 1 => ⟨S4x524288, .i32⟩
  | 2 => ⟨S4x524288, .i32⟩
  | 3 => ⟨S_, .i32⟩
  | 4 => ⟨S4x524288, .i32⟩
  | 5 => ⟨S4x524288, .i32⟩
  | 6 => ⟨S4x524288, .i32⟩
  | 7 => ⟨S4x524288, .i32⟩
  | 8 => ⟨S4x524288, .i32⟩
  | 9 => ⟨S4x524288, .i32⟩
  | 10 => ⟨S4x524288, .i32⟩
  | 11 => ⟨S4x524288, .i32⟩
  | 12 => ⟨S_, .i32⟩
  | 13 => ⟨S4x524288, .i32⟩
  | 14 => ⟨S4x524288, .i32⟩
  | 15 => ⟨S4x524288, .i32⟩
  | 16 => ⟨S_, .i32⟩
  | 17 => ⟨S4x524288, .i32⟩
  | 18 => ⟨S4x524288, .i32⟩
  | 19 => ⟨S_, .i32⟩
  | 20 => ⟨S4x524288, .i32⟩
  | 21 => ⟨S4x524288, .i32⟩
  | 22 => ⟨S4x524288, .i32⟩
  | 23 => ⟨S4x524288, .i32⟩
  | 24 => ⟨S4x524288, .i32⟩
  | 25 => ⟨S_, .i32⟩
  | 26 => ⟨S4x524288, .i32⟩
  | 27 => ⟨S4x524288, .i32⟩
  | 28 => ⟨S_, .i32⟩
  | 29 => ⟨S4x524288, .i32⟩
  | 30 => ⟨S4x524288, .i32⟩
  | 31 => ⟨S4x524288, .i32⟩
  | 32 => ⟨S4x524288, .i32⟩
  | 33 => ⟨S4x524288, .i32⟩
  | 34 => ⟨S_, .i32⟩
  | 35 => ⟨S4x524288, .i32⟩
  | 36 => ⟨S4x524288, .i32⟩
  | 37 => ⟨S_, .i32⟩
  | 38 => ⟨S4x524288, .i32⟩
  | 39 => ⟨S4x524288, .i32⟩
  | 40 => ⟨S4x524288, .i32⟩
  | 41 => ⟨S4x524288, .i32⟩
  | 42 => ⟨S4x524288, .i32⟩
  | 43 => ⟨S_, .i32⟩
  | 44 => ⟨S4x524288, .i32⟩
  | 45 => ⟨S4x524288, .i32⟩
  | 46 => ⟨S_, .i32⟩
  | 47 => ⟨S4x524288, .i32⟩
  | 48 => ⟨S4x524288, .i32⟩
  | 49 => ⟨S4x524288, .i32⟩
  | 50 => ⟨S4x524288, .i32⟩
  | 51 => ⟨S4x524288, .i32⟩
  | 52 => ⟨S4x524288, .i32⟩
  | 53 => ⟨S4x524288, .i32⟩
  | 54 => ⟨S4x524288, .i32⟩
  | 55 => ⟨S_, .i32⟩
  | 56 => ⟨S4x524288, .i32⟩
  | 57 => ⟨S4x524288, .i32⟩
  | 58 => ⟨S4x524288, .i32⟩
  | 59 => ⟨S_, .i32⟩
  | 60 => ⟨S4x524288, .i32⟩
  | 61 => ⟨S4x524288, .i32⟩
  | 62 => ⟨S_, .i32⟩
  | 63 => ⟨S4x524288, .i32⟩
  | 64 => ⟨S4x524288, .i32⟩
  | 65 => ⟨S4x524288, .i32⟩
  | 66 => ⟨S4x524288, .i32⟩
  | 67 => ⟨S4x524288, .i32⟩
  | 68 => ⟨S_, .i32⟩
  | 69 => ⟨S4x524288, .i32⟩
  | 70 => ⟨S4x524288, .i32⟩
  | 71 => ⟨S_, .i32⟩
  | 72 => ⟨S4x524288, .i32⟩
  | 73 => ⟨S4x524288, .i32⟩
  | 74 => ⟨S4x524288, .i32⟩
  | 75 => ⟨S4x524288, .i32⟩
  | 76 => ⟨S4x524288, .i32⟩
  | 77 => ⟨S_, .i32⟩
  | 78 => ⟨S4x524288, .i32⟩
  | 79 => ⟨S4x524288, .i32⟩
  | 80 => ⟨S_, .i32⟩
  | 81 => ⟨S4x524288, .i32⟩
  | 82 => ⟨S4x524288, .i32⟩
  | 83 => ⟨S4x524288, .i32⟩
  | 84 => ⟨S4x524288, .i32⟩
  | 85 => ⟨S4x524288, .i32⟩
  | 86 => ⟨S_, .i32⟩
  | 87 => ⟨S4x524288, .i32⟩
  | 88 => ⟨S4x524288, .i32⟩
  | 89 => ⟨S_, .i32⟩
  | 90 => ⟨S4x524288, .i32⟩
  | 91 => ⟨S4x524288, .i32⟩
  | 92 => ⟨S4x524288, .i32⟩
  | 93 => ⟨S4x524288, .i32⟩
  | 94 => ⟨S4x524288, .i32⟩
  | 95 => ⟨S4x524288, .i32⟩
  | 96 => ⟨S4x524288, .i32⟩
  | 97 => ⟨S4x524288, .i32⟩
  | 98 => ⟨S_, .i32⟩
  | 99 => ⟨S4x524288, .i32⟩
  | 100 => ⟨S4x524288, .i32⟩
  | 101 => ⟨S4x524288, .i32⟩
  | 102 => ⟨S1x524288, .i32⟩
  | 103 => ⟨S1x524288, .i32⟩
  | 104 => ⟨S_, .i32⟩
  | 105 => ⟨S4x524288, .i32⟩
  | 106 => ⟨S4x524288, .i32⟩
  | 107 => ⟨S_, .i32⟩
  | 108 => ⟨S4x524288, .i32⟩
  | 109 => ⟨S4x524288, .i32⟩
  | 110 => ⟨S4x524288, .f32⟩
  | 111 => ⟨S_, .f32⟩
  | 112 => ⟨S4x524288, .f32⟩
  | 113 => ⟨S4x524288, .f32⟩
  | 114 => ⟨S1x524288, .f32⟩
  | 115 => ⟨S1x524288, .f32⟩
  | 116 => ⟨S_, .i32⟩
  | 117 => ⟨S1x524288, .i32⟩
  | 118 => ⟨S1x524288, .i32⟩
  | 119 => ⟨S_, .i32⟩
  | 120 => ⟨S1x524288, .i32⟩
  | 121 => ⟨S1x524288, .i32⟩
  | 122 => ⟨S1x524288, .i32⟩
  | 123 => ⟨S1x524288, .i32⟩
  | 124 => ⟨S1x524288, .i32⟩
  | 125 => ⟨S1x524288, .i32⟩
  | 126 => ⟨S_, .i32⟩
  | 127 => ⟨S1x524288, .i32⟩
  | _ => ⟨S128x4096, .i32⟩

abbrev hbmTy0_2 (i : Nat) : BufTy := match i % 128 with
  | 0 => ⟨S1x524288, .i32⟩
  | 1 => ⟨S_, .f32⟩
  | 2 => ⟨S1x524288, .f32⟩
  | 3 => ⟨S1x524288, .i1⟩
  | 4 => ⟨S_, .i32⟩
  | 5 => ⟨S1x524288, .i32⟩
  | 6 => ⟨S1x524288, .i32⟩
  | 7 => ⟨S_, .f32⟩
  | 8 => ⟨S1x524288, .f32⟩
  | 9 => ⟨S1x524288, .i1⟩
  | 10 => ⟨S_, .i32⟩
  | 11 => ⟨S1x524288, .i32⟩
  | 12 => ⟨S1x524288, .i32⟩
  | 13 => ⟨S_, .f32⟩
  | 14 => ⟨S1x524288, .f32⟩
  | 15 => ⟨S1x524288, .i1⟩
  | 16 => ⟨S_, .i32⟩
  | 17 => ⟨S1x524288, .i32⟩
  | 18 => ⟨S1x524288, .i32⟩
  | 19 => ⟨S1x524288, .i16⟩
  | 20 => ⟨S128x4096, .i16⟩
  | 21 => ⟨S128x4096, .i32⟩
  | 22 => ⟨S128x4096, .i32⟩
  | _ => ⟨S128x4096, .i32⟩

abbrev hbmTy (i : Nat) : BufTy := match i / 128 with
  | 0 => hbmTy0_0 i
  | 1 => hbmTy0_1 i
  | 2 => hbmTy0_2 i
  | _ => ⟨S128x4096, .i32⟩

abbrev bufTy : (tb : Table) → Fin (tcTables nBuf tb) → BufTy
  | .hbm, ⟨i, _⟩ => hbmTy i
  | .local _ .vmem, ⟨0, _⟩ => ⟨S64x4096, .i32⟩
  | .local _ .vmem, ⟨1, _⟩ => ⟨S64x4096, .i32⟩
  | .local _ .vmem, ⟨2, _⟩ => ⟨S64x4096, .i16⟩
  | .local _ .vmem, ⟨3, _⟩ => ⟨S64x4096, .i16⟩
  | .local _ .vmem, ⟨4, _⟩ => ⟨S1x64x1, .i32⟩
  | .local _ .vmem, ⟨5, _⟩ => ⟨S1x64x1, .i32⟩
  | .local _ .vmem, ⟨6, _⟩ => ⟨S1x64x1, .i32⟩
  | .local _ .vmem, ⟨7, _⟩ => ⟨S1x64x1, .i32⟩
  | .local _ .vmem, ⟨8, _⟩ => ⟨S64x4096, .i32⟩
  | .local _ .vmem, ⟨9, _⟩ => ⟨S64x4096, .i32⟩
  | .local _ .vmem, ⟨10, _⟩ => ⟨S64x4096, .i32⟩
  | .local _ .vmem, ⟨11, _⟩ => ⟨S64x4096, .i32⟩
  | _, _ => ⟨S128x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_c_4 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_5 : Ref sig .tc := ⟨.hbm, 15, rfl⟩
abbrev main_v7 : Ref sig .tc := ⟨.hbm, 16, rfl⟩
abbrev main_v8 : Ref sig .tc := ⟨.hbm, 17, rfl⟩
abbrev main_c_6 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_7 : Ref sig .tc := ⟨.hbm, 24, rfl⟩
abbrev main_v14 : Ref sig .tc := ⟨.hbm, 25, rfl⟩
abbrev main_v15 : Ref sig .tc := ⟨.hbm, 26, rfl⟩
abbrev main_c_8 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_9 : Ref sig .tc := ⟨.hbm, 33, rfl⟩
abbrev main_v21 : Ref sig .tc := ⟨.hbm, 34, rfl⟩
abbrev main_v22 : Ref sig .tc := ⟨.hbm, 35, rfl⟩
abbrev main_c_10 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_11 : Ref sig .tc := ⟨.hbm, 42, rfl⟩
abbrev main_v28 : Ref sig .tc := ⟨.hbm, 43, rfl⟩
abbrev main_v29 : Ref sig .tc := ⟨.hbm, 44, rfl⟩
abbrev main_c_12 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_13 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_14 : Ref sig .tc := ⟨.hbm, 58, rfl⟩
abbrev main_v41 : Ref sig .tc := ⟨.hbm, 59, rfl⟩
abbrev main_v42 : Ref sig .tc := ⟨.hbm, 60, rfl⟩
abbrev main_c_15 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_16 : Ref sig .tc := ⟨.hbm, 67, rfl⟩
abbrev main_v48 : Ref sig .tc := ⟨.hbm, 68, rfl⟩
abbrev main_v49 : Ref sig .tc := ⟨.hbm, 69, rfl⟩
abbrev main_c_17 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_18 : Ref sig .tc := ⟨.hbm, 76, rfl⟩
abbrev main_v55 : Ref sig .tc := ⟨.hbm, 77, rfl⟩
abbrev main_v56 : Ref sig .tc := ⟨.hbm, 78, rfl⟩
abbrev main_c_19 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_20 : Ref sig .tc := ⟨.hbm, 85, rfl⟩
abbrev main_v62 : Ref sig .tc := ⟨.hbm, 86, rfl⟩
abbrev main_v63 : Ref sig .tc := ⟨.hbm, 87, rfl⟩
abbrev main_c_21 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_22 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_c_23 : Ref sig .tc := ⟨.hbm, 101, rfl⟩
abbrev main_v75 : Ref sig .tc := ⟨.hbm, 102, rfl⟩
abbrev main_v76 : Ref sig .tc := ⟨.hbm, 103, rfl⟩
abbrev main_c_24 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_c_25 : Ref sig .tc := ⟨.hbm, 110, rfl⟩
abbrev main_v82 : Ref sig .tc := ⟨.hbm, 111, rfl⟩
abbrev main_v83 : Ref sig .tc := ⟨.hbm, 112, rfl⟩
abbrev main_c_26 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_c_27 : Ref sig .tc := ⟨.hbm, 119, rfl⟩
abbrev main_v89 : Ref sig .tc := ⟨.hbm, 120, rfl⟩
abbrev main_v90 : Ref sig .tc := ⟨.hbm, 121, rfl⟩
abbrev main_c_28 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_c_29 : Ref sig .tc := ⟨.hbm, 128, rfl⟩
abbrev main_v96 : Ref sig .tc := ⟨.hbm, 129, rfl⟩
abbrev main_v97 : Ref sig .tc := ⟨.hbm, 130, rfl⟩
abbrev main_c_30 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_c_31 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_c_32 : Ref sig .tc := ⟨.hbm, 144, rfl⟩
abbrev main_v109 : Ref sig .tc := ⟨.hbm, 145, rfl⟩
abbrev main_v110 : Ref sig .tc := ⟨.hbm, 146, rfl⟩
abbrev main_c_33 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_c_34 : Ref sig .tc := ⟨.hbm, 153, rfl⟩
abbrev main_v116 : Ref sig .tc := ⟨.hbm, 154, rfl⟩
abbrev main_v117 : Ref sig .tc := ⟨.hbm, 155, rfl⟩
abbrev main_c_35 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_c_36 : Ref sig .tc := ⟨.hbm, 162, rfl⟩
abbrev main_v123 : Ref sig .tc := ⟨.hbm, 163, rfl⟩
abbrev main_v124 : Ref sig .tc := ⟨.hbm, 164, rfl⟩
abbrev main_c_37 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_c_38 : Ref sig .tc := ⟨.hbm, 171, rfl⟩
abbrev main_v130 : Ref sig .tc := ⟨.hbm, 172, rfl⟩
abbrev main_v131 : Ref sig .tc := ⟨.hbm, 173, rfl⟩
abbrev main_c_39 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_c_40 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_c_41 : Ref sig .tc := ⟨.hbm, 187, rfl⟩
abbrev main_v143 : Ref sig .tc := ⟨.hbm, 188, rfl⟩
abbrev main_v144 : Ref sig .tc := ⟨.hbm, 189, rfl⟩
abbrev main_c_42 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_c_43 : Ref sig .tc := ⟨.hbm, 196, rfl⟩
abbrev main_v150 : Ref sig .tc := ⟨.hbm, 197, rfl⟩
abbrev main_v151 : Ref sig .tc := ⟨.hbm, 198, rfl⟩
abbrev main_c_44 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_c_45 : Ref sig .tc := ⟨.hbm, 205, rfl⟩
abbrev main_v157 : Ref sig .tc := ⟨.hbm, 206, rfl⟩
abbrev main_v158 : Ref sig .tc := ⟨.hbm, 207, rfl⟩
abbrev main_c_46 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_c_47 : Ref sig .tc := ⟨.hbm, 214, rfl⟩
abbrev main_v164 : Ref sig .tc := ⟨.hbm, 215, rfl⟩
abbrev main_v165 : Ref sig .tc := ⟨.hbm, 216, rfl⟩
abbrev main_c_48 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_c_49 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_c_50 : Ref sig .tc := ⟨.hbm, 232, rfl⟩
abbrev main_v179 : Ref sig .tc := ⟨.hbm, 233, rfl⟩
abbrev main_v180 : Ref sig .tc := ⟨.hbm, 234, rfl⟩
abbrev main_c_51 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_cst : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_c_52 : Ref sig .tc := ⟨.hbm, 244, rfl⟩
abbrev main_v188 : Ref sig .tc := ⟨.hbm, 245, rfl⟩
abbrev main_v189 : Ref sig .tc := ⟨.hbm, 246, rfl⟩
abbrev main_c_53 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_c_54 : Ref sig .tc := ⟨.hbm, 254, rfl⟩
abbrev main_v196 : Ref sig .tc := ⟨.hbm, 255, rfl⟩
abbrev main_v197 : Ref sig .tc := ⟨.hbm, 256, rfl⟩
abbrev main_cst_55 : Ref sig .tc := ⟨.hbm, 257, rfl⟩
abbrev main_v198 : Ref sig .tc := ⟨.hbm, 258, rfl⟩
abbrev main_v199 : Ref sig .tc := ⟨.hbm, 259, rfl⟩
abbrev main_c_56 : Ref sig .tc := ⟨.hbm, 260, rfl⟩
abbrev main_v200 : Ref sig .tc := ⟨.hbm, 261, rfl⟩
abbrev main_v201 : Ref sig .tc := ⟨.hbm, 262, rfl⟩
abbrev main_cst_57 : Ref sig .tc := ⟨.hbm, 263, rfl⟩
abbrev main_v202 : Ref sig .tc := ⟨.hbm, 264, rfl⟩
abbrev main_v203 : Ref sig .tc := ⟨.hbm, 265, rfl⟩
abbrev main_c_58 : Ref sig .tc := ⟨.hbm, 266, rfl⟩
abbrev main_v204 : Ref sig .tc := ⟨.hbm, 267, rfl⟩
abbrev main_v205 : Ref sig .tc := ⟨.hbm, 268, rfl⟩
abbrev main_cst_59 : Ref sig .tc := ⟨.hbm, 269, rfl⟩
abbrev main_v206 : Ref sig .tc := ⟨.hbm, 270, rfl⟩
abbrev main_v207 : Ref sig .tc := ⟨.hbm, 271, rfl⟩
abbrev main_c_60 : Ref sig .tc := ⟨.hbm, 272, rfl⟩
abbrev main_v208 : Ref sig .tc := ⟨.hbm, 273, rfl⟩
abbrev main_v209 : Ref sig .tc := ⟨.hbm, 274, rfl⟩
abbrev main_v210 : Ref sig .tc := ⟨.hbm, 275, rfl⟩
abbrev main_v211 : Ref sig .tc := ⟨.hbm, 276, rfl⟩
abbrev main_v212_0 : Ref sig .tc := ⟨.hbm, 277, rfl⟩
abbrev main_v212_1 : Ref sig .tc := ⟨.hbm, 278, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .i16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S128x4096 : Shape := ⟨2, ![128, 4096]⟩
abbrev S_ : Shape := ⟨0, ![]⟩
abbrev S1 : Shape := ⟨1, ![1]⟩
abbrev S2 : Shape := ⟨1, ![2]⟩
abbrev S4 : Shape := ⟨1, ![4]⟩
abbrev S4x1 : Shape := ⟨2, ![4, 1]⟩
abbrev S4x2 : Shape := ⟨2, ![4, 2]⟩
abbrev S1x2 : Shape := ⟨2, ![1, 2]⟩
abbrev S1x1 : Shape := ⟨2, ![1, 1]⟩
abbrev S128 : Shape := ⟨1, ![128]⟩
abbrev S2x1 : Shape := ⟨2, ![2, 1]⟩
abbrev S2x2 : Shape := ⟨2, ![2, 2]⟩
abbrev S128x1 : Shape := ⟨2, ![128, 1]⟩
abbrev S1x4096 : Shape := ⟨2, ![1, 4096]⟩

abbrev nBuf : Space → Nat
  | .hbm => 2365
  | .vmem => 0
  | .smem => 0
  | _ => 0

abbrev hbmTy0_0 (i : Nat) : BufTy := match i % 128 with
  | 0 => ⟨S128x4096, .i32⟩
  | 1 => ⟨S_, .f32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S1, .i32⟩
  | 13 => ⟨S_, .i32⟩
  | 14 => ⟨S1, .i32⟩
  | 15 => ⟨S_, .i32⟩
  | 16 => ⟨S4, .i64⟩
  | 17 => ⟨S_, .i64⟩
  | 18 => ⟨S4, .i64⟩
  | 19 => ⟨S4, .i64⟩
  | 20 => ⟨S_, .i64⟩
  | 21 => ⟨S4, .i64⟩
  | 22 => ⟨S4, .i64⟩
  | 23 => ⟨S4, .i32⟩
  | 24 => ⟨S4, .i32⟩
  | 25 => ⟨S_, .i32⟩
  | 26 => ⟨S_, .i32⟩
  | 27 => ⟨S_, .i32⟩
  | 28 => ⟨S4, .i32⟩
  | 29 => ⟨S4, .i32⟩
  | 30 => ⟨S4, .i32⟩
  | 31 => ⟨S4, .i32⟩
  | 32 => ⟨S4, .i32⟩
  | 33 => ⟨S_, .i32⟩
  | 34 => ⟨S4, .i32⟩
  | 35 => ⟨S4, .i32⟩
  | 36 => ⟨S_, .i32⟩
  | 37 => ⟨S4, .i32⟩
  | 38 => ⟨S4, .i32⟩
  | 39 => ⟨S4, .i32⟩
  | 40 => ⟨S4, .i32⟩
  | 41 => ⟨S4, .i32⟩
  | 42 => ⟨S_, .i32⟩
  | 43 => ⟨S4, .i32⟩
  | 44 => ⟨S4, .i32⟩
  | 45 => ⟨S_, .i32⟩
  | 46 => ⟨S4, .i32⟩
  | 47 => ⟨S4, .i32⟩
  | 48 => ⟨S4, .i32⟩
  | 49 => ⟨S4, .i32⟩
  | 50 => ⟨S4, .i32⟩
  | 51 => ⟨S_, .i32⟩
  | 52 => ⟨S4, .i32⟩
  | 53 => ⟨S4, .i32⟩
  | 54 => ⟨S_, .i32⟩
  | 55 => ⟨S4, .i32⟩
  | 56 => ⟨S4, .i32⟩
  | 57 => ⟨S4, .i32⟩
  | 58 => ⟨S4, .i32⟩
  | 59 => ⟨S4, .i32⟩
  | 60 => ⟨S_, .i32⟩
  | 61 => ⟨S4, .i32⟩
  | 62 => ⟨S4, .i32⟩
  | 63 => ⟨S_, .i32⟩
  | 64 => ⟨S4, .i32⟩
  | 65 => ⟨S4, .i32⟩
  | 66 => ⟨S4, .i32⟩
  | 67 => ⟨S4, .i32⟩
  | 68 => ⟨S4, .i32⟩
  | 69 => ⟨S4, .i32⟩
  | 70 => ⟨S4, .i32⟩
  | 71 => ⟨S4, .i32⟩
  | 72 => ⟨S_, .i32⟩
  | 73 => ⟨S4, .i32⟩
  | 74 => ⟨S4, .i32⟩
  | 75 => ⟨S4, .i32⟩
  | 76 => ⟨S_, .i32⟩
  | 77 => ⟨S4, .i32⟩
  | 78 => ⟨S4, .i32⟩
  | 79 => ⟨S_, .i32⟩
  | 80 => ⟨S4, .i32⟩
  | 81 => ⟨S4, .i32⟩
  | 82 => ⟨S4, .i32⟩
  | 83 => ⟨S4, .i32⟩
  | 84 => ⟨S4, .i32⟩
  | 85 => ⟨S_, .i32⟩
  | 86 => ⟨S4, .i32⟩
  | 87 => ⟨S4, .i32⟩
  | 88 => ⟨S_, .i32⟩
  | 89 => ⟨S4, .i32⟩
  | 90 => ⟨S4, .i32⟩
  | 91 => ⟨S4, .i32⟩
  | 92 => ⟨S4, .i32⟩
  | 93 => ⟨S4, .i32⟩
  | 94 => ⟨S_, .i32⟩
  | 95 => ⟨S4, .i32⟩
  | 96 => ⟨S4, .i32⟩
  | 97 => ⟨S_, .i32⟩
  | 98 => ⟨S4, .i32⟩
  | 99 => ⟨S4, .i32⟩
  | 100 => ⟨S4, .i32⟩
  | 101 => ⟨S4, .i32⟩
  | 102 => ⟨S4, .i32⟩
  | 103 => ⟨S_, .i32⟩
  | 104 => ⟨S4, .i32⟩
  | 105 => ⟨S4, .i32⟩
  | 106 => ⟨S_, .i32⟩
  | 107 => ⟨S4, .i32⟩
  | 108 => ⟨S4, .i32⟩
  | 109 => ⟨S4, .i32⟩
  | 110 => ⟨S4, .i32⟩
  | 111 => ⟨S4, .i32⟩
  | 112 => ⟨S4, .i32⟩
  | 113 => ⟨S4, .i32⟩
  | 114 => ⟨S4, .i32⟩
  | 115 => ⟨S_, .i32⟩
  | 116 => ⟨S4, .i32⟩
  | 117 => ⟨S4, .i32⟩
  | 118 => ⟨S4, .i32⟩
  | 119 => ⟨S_, .i32⟩
  | 120 => ⟨S4, .i32⟩
  | 121 => ⟨S4, .i32⟩
  | 122 => ⟨S_, .i32⟩
  | 123 => ⟨S4, .i32⟩
  | 124 => ⟨S4, .i32⟩
  | 125 => ⟨S4, .i32⟩
  | 126 => ⟨S4, .i32⟩
  | 127 => ⟨S4, .i32⟩
  | _ => ⟨S128x4096, .i32⟩

abbrev hbmTy0_1 (i : Nat) : BufTy := match i % 128 with
  | 0 => ⟨S_, .i32⟩
  | 1 => ⟨S4, .i32⟩
  | 2 => ⟨S4, .i32⟩
  | 3 => ⟨S_, .i32⟩
  | 4 => ⟨S4, .i32⟩
  | 5 => ⟨S4, .i32⟩
  | 6 => ⟨S4, .i32⟩
  | 7 => ⟨S4, .i32⟩
  | 8 => ⟨S4, .i32⟩
  | 9 => ⟨S_, .i32⟩
  | 10 => ⟨S4, .i32⟩
  | 11 => ⟨S4, .i32⟩
  | 12 => ⟨S_, .i32⟩
  | 13 => ⟨S4, .i32⟩
  | 14 => ⟨S4, .i32⟩
  | 15 => ⟨S4, .i32⟩
  | 16 => ⟨S4, .i32⟩
  | 17 => ⟨S4, .i32⟩
  | 18 => ⟨S_, .i32⟩
  | 19 => ⟨S4, .i32⟩
  | 20 => ⟨S4, .i32⟩
  | 21 => ⟨S_, .i32⟩
  | 22 => ⟨S4, .i32⟩
  | 23 => ⟨S4, .i32⟩
  | 24 => ⟨S4, .i32⟩
  | 25 => ⟨S4, .i32⟩
  | 26 => ⟨S4, .i32⟩
  | 27 => ⟨S4, .i32⟩
  | 28 => ⟨S4, .i32⟩
  | 29 => ⟨S4, .i32⟩
  | 30 => ⟨S_, .i32⟩
  | 31 => ⟨S4, .i32⟩
  | 32 => ⟨S4, .i32⟩
  | 33 => ⟨S4, .i32⟩
  | 34 => ⟨S_, .i32⟩
  | 35 => ⟨S4, .i32⟩
  | 36 => ⟨S4, .i32⟩
  | 37 => ⟨S_, .i32⟩
  | 38 => ⟨S4, .i32⟩
  | 39 => ⟨S4, .i32⟩
  | 40 => ⟨S4, .i32⟩
  | 41 => ⟨S4, .i32⟩
  | 42 => ⟨S4, .i32⟩
  | 43 => ⟨S_, .i32⟩
  | 44 => ⟨S4, .i32⟩
  | 45 => ⟨S4, .i32⟩
  | 46 => ⟨S_, .i32⟩
  | 47 => ⟨S4, .i32⟩
  | 48 => ⟨S4, .i32⟩
  | 49 => ⟨S4, .i32⟩
  | 50 => ⟨S4, .i32⟩
  | 51 => ⟨S4, .i32⟩
  | 52 => ⟨S_, .i32⟩
  | 53 => ⟨S4, .i32⟩
  | 54 => ⟨S4, .i32⟩
  | 55 => ⟨S_, .i32⟩
  | 56 => ⟨S4, .i32⟩
  | 57 => ⟨S4, .i32⟩
  | 58 => ⟨S4, .i32⟩
  | 59 => ⟨S4, .i32⟩
  | 60 => ⟨S4, .i32⟩
  | 61 => ⟨S_, .i32⟩
  | 62 => ⟨S4, .i32⟩
  | 63 => ⟨S4, .i32⟩
  | 64 => ⟨S_, .i32⟩
  | 65 => ⟨S4, .i32⟩
  | 66 => ⟨S4, .i32⟩
  | 67 => ⟨S4, .i32⟩
  | 68 => ⟨S4, .i32⟩
  | 69 => ⟨S4, .i32⟩
  | 70 => ⟨S4, .i32⟩
  | 71 => ⟨S4, .i32⟩
  | 72 => ⟨S4, .i32⟩
  | 73 => ⟨S_, .i32⟩
  | 74 => ⟨S4, .i32⟩
  | 75 => ⟨S4, .i32⟩
  | 76 => ⟨S4, .i32⟩
  | 77 => ⟨S_, .i32⟩
  | 78 => ⟨S4, .i32⟩
  | 79 => ⟨S4, .i32⟩
  | 80 => ⟨S_, .i32⟩
  | 81 => ⟨S4, .i32⟩
  | 82 => ⟨S4, .i32⟩
  | 83 => ⟨S4, .i32⟩
  | 84 => ⟨S4, .i32⟩
  | 85 => ⟨S4, .i32⟩
  | 86 => ⟨S_, .i32⟩
  | 87 => ⟨S4, .i32⟩
  | 88 => ⟨S4, .i32⟩
  | 89 => ⟨S_, .i32⟩
  | 90 => ⟨S4, .i32⟩
  | 91 => ⟨S4, .i32⟩
  | 92 => ⟨S4, .i32⟩
  | 93 => ⟨S4, .i32⟩
  | 94 => ⟨S4, .i32⟩
  | 95 => ⟨S_, .i32⟩
  | 96 => ⟨S4, .i32⟩
  | 97 => ⟨S4, .i32⟩
  | 98 => ⟨S_, .i32⟩
  | 99 => ⟨S4, .i32⟩
  | 100 => ⟨S4, .i32⟩
  | 101 => ⟨S4, .i32⟩
  | 102 => ⟨S4, .i32⟩
  | 103 => ⟨S4, .i32⟩
  | 104 => ⟨S_, .i32⟩
  | 105 => ⟨S4, .i32⟩
  | 106 => ⟨S4, .i32⟩
  | 107 => ⟨S_, .i32⟩
  | 108 => ⟨S4, .i32⟩
  | 109 => ⟨S4, .i32⟩
  | 110 => ⟨S4, .i32⟩
  | 111 => ⟨S4, .i32⟩
  | 112 => ⟨S4, .i32⟩
  | 113 => ⟨S4, .i32⟩
  | 114 => ⟨S4, .i32⟩
  | 115 => ⟨S4, .i32⟩
  | 116 => ⟨S_, .i32⟩
  | 117 => ⟨S4, .i32⟩
  | 118 => ⟨S4, .i32⟩
  | 119 => ⟨S4x1, .i32⟩
  | 120 => ⟨S4x1, .i32⟩
  | 121 => ⟨S4x2, .i32⟩
  | 122 => ⟨S1x2, .i32⟩
  | 123 => ⟨S2, .i32⟩
  | 124 => ⟨S1x2, .i32⟩
  | 125 => ⟨S2, .i32⟩
  | 126 => ⟨S1x2, .i32⟩
  | 127 => ⟨S2, .i32⟩
  | _ => ⟨S128x4096, .i32⟩

abbrev hbmTy0_2 (i : Nat) : BufTy := match i % 128 with
  | 0 => ⟨S1x2, .i32⟩
  | 1 => ⟨S2, .i32⟩
  | 2 => ⟨S_, .f32⟩
  | 3 => ⟨S_, .f32⟩
  | 4 => ⟨S_, .f32⟩
  | 5 => ⟨S_, .f32⟩
  | 6 => ⟨S1x1, .f32⟩
  | 7 => ⟨S1x1, .f32⟩
  | 8 => ⟨S1, .i32⟩
  | 9 => ⟨S_, .i32⟩
  | 10 => ⟨S1, .i32⟩
  | 11 => ⟨S_, .i32⟩
  | 12 => ⟨S128x4096, .i64⟩
  | 13 => ⟨S128x4096, .i64⟩
  | 14 => ⟨S_, .i64⟩
  | 15 => ⟨S128x4096, .i64⟩
  | 16 => ⟨S128x4096, .i64⟩
  | 17 => ⟨S_, .i64⟩
  | 18 => ⟨S128x4096, .i64⟩
  | 19 => ⟨S128x4096, .i64⟩
  | 20 => ⟨S128x4096, .i64⟩
  | 21 => ⟨S_, .i64⟩
  | 22 => ⟨S128x4096, .i64⟩
  | 23 => ⟨S128x4096, .i64⟩
  | 24 => ⟨S128x4096, .i32⟩
  | 25 => ⟨S128x4096, .i32⟩
  | 26 => ⟨S_, .i32⟩
  | 27 => ⟨S_, .i32⟩
  | 28 => ⟨S_, .i32⟩
  | 29 => ⟨S128x4096, .i32⟩
  | 30 => ⟨S128x4096, .i32⟩
  | 31 => ⟨S128x4096, .i32⟩
  | 32 => ⟨S128x4096, .i32⟩
  | 33 => ⟨S128x4096, .i32⟩
  | 34 => ⟨S_, .i32⟩
  | 35 => ⟨S128x4096, .i32⟩
  | 36 => ⟨S128x4096, .i32⟩
  | 37 => ⟨S_, .i32⟩
  | 38 => ⟨S128x4096, .i32⟩
  | 39 => ⟨S128x4096, .i32⟩
  | 40 => ⟨S128x4096, .i32⟩
  | 41 => ⟨S128x4096, .i32⟩
  | 42 => ⟨S128x4096, .i32⟩
  | 43 => ⟨S_, .i32⟩
  | 44 => ⟨S128x4096, .i32⟩
  | 45 => ⟨S128x4096, .i32⟩
  | 46 => ⟨S_, .i32⟩
  | 47 => ⟨S128x4096, .i32⟩
  | 48 => ⟨S128x4096, .i32⟩
  | 49 => ⟨S128x4096, .i32⟩
  | 50 => ⟨S128x4096, .i32⟩
  | 51 => ⟨S128x4096, .i32⟩
  | 52 => ⟨S_, .i32⟩
  | 53 => ⟨S128x4096, .i32⟩
  | 54 => ⟨S128x4096, .i32⟩
  | 55 => ⟨S_, .i32⟩
  | 56 => ⟨S128x4096, .i32⟩
  | 57 => ⟨S128x4096, .i32⟩
  | 58 => ⟨S128x4096, .i32⟩
  | 59 => ⟨S128x4096, .i32⟩
  | 60 => ⟨S128x4096, .i32⟩
  | 61 => ⟨S_, .i32⟩
  | 62 => ⟨S128x4096, .i32⟩
  | 63 => ⟨S128x4096, .i32⟩
  | 64 => ⟨S_, .i32⟩
  | 65 => ⟨S128x4096, .i32⟩
  | 66 => ⟨S128x4096, .i32⟩
  | 67 => ⟨S128x4096, .i32⟩
  | 68 => ⟨S128x4096, .i32⟩
  | 69 => ⟨S128x4096, .i32⟩
  | 70 => ⟨S128x4096, .i32⟩
  | 71 => ⟨S128x4096, .i32⟩
  | 72 => ⟨S128x4096, .i32⟩
  | 73 => ⟨S_, .i32⟩
  | 74 => ⟨S128x4096, .i32⟩
  | 75 => ⟨S128x4096, .i32⟩
  | 76 => ⟨S128x4096, .i32⟩
  | 77 => ⟨S_, .i32⟩
  | 78 => ⟨S128x4096, .i32⟩
  | 79 => ⟨S128x4096, .i32⟩
  | 80 => ⟨S_, .i32⟩
  | 81 => ⟨S128x4096, .i32⟩
  | 82 => ⟨S128x4096, .i32⟩
  | 83 => ⟨S128x4096, .i32⟩
  | 84 => ⟨S128x4096, .i32⟩
  | 85 => ⟨S128x4096, .i32⟩
  | 86 => ⟨S_, .i32⟩
  | 87 => ⟨S128x4096, .i32⟩
  | 88 => ⟨S128x4096, .i32⟩
  | 89 => ⟨S_, .i32⟩
  | 90 => ⟨S128x4096, .i32⟩
  | 91 => ⟨S128x4096, .i32⟩
  | 92 => ⟨S128x4096, .i32⟩
  | 93 => ⟨S128x4096, .i32⟩
  | 94 => ⟨S128x4096, .i32⟩
  | 95 => ⟨S_, .i32⟩
  | 96 => ⟨S128x4096, .i32⟩
  | 97 => ⟨S128x4096, .i32⟩
  | 98 => ⟨S_, .i32⟩
  | 99 => ⟨S128x4096, .i32⟩
  | 100 => ⟨S128x4096, .i32⟩
  | 101 => ⟨S128x4096, .i32⟩
  | 102 => ⟨S128x4096, .i32⟩
  | 103 => ⟨S128x4096, .i32⟩
  | 104 => ⟨S_, .i32⟩
  | 105 => ⟨S128x4096, .i32⟩
  | 106 => ⟨S128x4096, .i32⟩
  | 107 => ⟨S_, .i32⟩
  | 108 => ⟨S128x4096, .i32⟩
  | 109 => ⟨S128x4096, .i32⟩
  | 110 => ⟨S128x4096, .i32⟩
  | 111 => ⟨S128x4096, .i32⟩
  | 112 => ⟨S128x4096, .i32⟩
  | 113 => ⟨S128x4096, .i32⟩
  | 114 => ⟨S128x4096, .i32⟩
  | 115 => ⟨S128x4096, .i32⟩
  | 116 => ⟨S_, .i32⟩
  | 117 => ⟨S128x4096, .i32⟩
  | 118 => ⟨S128x4096, .i32⟩
  | 119 => ⟨S128x4096, .i32⟩
  | 120 => ⟨S_, .i32⟩
  | 121 => ⟨S128x4096, .i32⟩
  | 122 => ⟨S128x4096, .i32⟩
  | 123 => ⟨S_, .i32⟩
  | 124 => ⟨S128x4096, .i32⟩
  | 125 => ⟨S128x4096, .i32⟩
  | 126 => ⟨S128x4096, .i32⟩
  | 127 => ⟨S128x4096, .i32⟩
  | _ => ⟨S128x4096, .i32⟩

abbrev hbmTy0_3 (i : Nat) : BufTy := match i % 128 with
  | 0 => ⟨S128x4096, .i32⟩
  | 1 => ⟨S_, .i32⟩
  | 2 => ⟨S128x4096, .i32⟩
  | 3 => ⟨S128x4096, .i32⟩
  | 4 => ⟨S_, .i32⟩
  | 5 => ⟨S128x4096, .i32⟩
  | 6 => ⟨S128x4096, .i32⟩
  | 7 => ⟨S128x4096, .i32⟩
  | 8 => ⟨S128x4096, .i32⟩
  | 9 => ⟨S128x4096, .i32⟩
  | 10 => ⟨S_, .i32⟩
  | 11 => ⟨S128x4096, .i32⟩
  | 12 => ⟨S128x4096, .i32⟩
  | 13 => ⟨S_, .i32⟩
  | 14 => ⟨S128x4096, .i32⟩
  | 15 => ⟨S128x4096, .i32⟩
  | 16 => ⟨S128x4096, .i32⟩
  | 17 => ⟨S128x4096, .i32⟩
  | 18 => ⟨S128x4096, .i32⟩
  | 19 => ⟨S_, .i32⟩
  | 20 => ⟨S128x4096, .i32⟩
  | 21 => ⟨S128x4096, .i32⟩
  | 22 => ⟨S_, .i32⟩
  | 23 => ⟨S128x4096, .i32⟩
  | 24 => ⟨S128x4096, .i32⟩
  | 25 => ⟨S128x4096, .i32⟩
  | 26 => ⟨S128x4096, .i32⟩
  | 27 => ⟨S128x4096, .i32⟩
  | 28 => ⟨S128x4096, .i32⟩
  | 29 => ⟨S128x4096, .i32⟩
  | 30 => ⟨S128x4096, .i32⟩
  | 31 => ⟨S_, .i32⟩
  | 32 => ⟨S128x4096, .i32⟩
  | 33 => ⟨S128x4096, .i32⟩
  | 34 => ⟨S128x4096, .i32⟩
  | 35 => ⟨S_, .i32⟩
  | 36 => ⟨S128x4096, .i32⟩
  | 37 => ⟨S128x4096, .i32⟩
  | 38 => ⟨S_, .i32⟩
  | 39 => ⟨S128x4096, .i32⟩
  | 40 => ⟨S128x4096, .i32⟩
  | 41 => ⟨S128x4096, .i32⟩
  | 42 => ⟨S128x4096, .i32⟩
  | 43 => ⟨S128x4096, .i32⟩
  | 44 => ⟨S_, .i32⟩
  | 45 => ⟨S128x4096, .i32⟩
  | 46 => ⟨S128x4096, .i32⟩
  | 47 => ⟨S_, .i32⟩
  | 48 => ⟨S128x4096, .i32⟩
  | 49 => ⟨S128x4096, .i32⟩
  | 50 => ⟨S128x4096, .i32⟩
  | 51 => ⟨S128x4096, .i32⟩
  | 52 => ⟨S128x4096, .i32⟩
  | 53 => ⟨S_, .i32⟩
  | 54 => ⟨S128x4096, .i32⟩
  | 55 => ⟨S128x4096, .i32⟩
  | 56 => ⟨S_, .i32⟩
  | 57 => ⟨S128x4096, .i32⟩
  | 58 => ⟨S128x4096, .i32⟩
  | 59 => ⟨S128x4096, .i32⟩
  | 60 => ⟨S128x4096, .i32⟩
  | 61 => ⟨S128x4096, .i32⟩
  | 62 => ⟨S_, .i32⟩
  | 63 => ⟨S128x4096, .i32⟩
  | 64 => ⟨S128x4096, .i32⟩
  | 65 => ⟨S_, .i32⟩
  | 66 => ⟨S128x4096, .i32⟩
  | 67 => ⟨S128x4096, .i32⟩
  | 68 => ⟨S128x4096, .i32⟩
  | 69 => ⟨S128x4096, .i32⟩
  | 70 => ⟨S128x4096, .i32⟩
  | 71 => ⟨S128x4096, .i32⟩
  | 72 => ⟨S128x4096, .i32⟩
  | 73 => ⟨S128x4096, .i32⟩
  | 74 => ⟨S_, .i32⟩
  | 75 => ⟨S128x4096, .i32⟩
  | 76 => ⟨S128x4096, .i32⟩
  | 77 => ⟨S128x4096, .i32⟩
  | 78 => ⟨S_, .i32⟩
  | 79 => ⟨S128x4096, .i32⟩
  | 80 => ⟨S128x4096, .i32⟩
  | 81 => ⟨S_, .i32⟩
  | 82 => ⟨S128x4096, .i32⟩
  | 83 => ⟨S128x4096, .i32⟩
  | 84 => ⟨S128x4096, .i32⟩
  | 85 => ⟨S128x4096, .i32⟩
  | 86 => ⟨S128x4096, .i32⟩
  | 87 => ⟨S_, .i32⟩
  | 88 => ⟨S128x4096, .i32⟩
  | 89 => ⟨S128x4096, .i32⟩
  | 90 => ⟨S_, .i32⟩
  | 91 => ⟨S128x4096, .i32⟩
  | 92 => ⟨S128x4096, .i32⟩
  | 93 => ⟨S128x4096, .i32⟩
  | 94 => ⟨S128x4096, .i32⟩
  | 95 => ⟨S128x4096, .i32⟩
  | 96 => ⟨S_, .i32⟩
  | 97 => ⟨S128x4096, .i32⟩
  | 98 => ⟨S128x4096, .i32⟩
  | 99 => ⟨S_, .i32⟩
  | 100 => ⟨S128x4096, .i32⟩
  | 101 => ⟨S128x4096, .i32⟩
  | 102 => ⟨S128x4096, .i32⟩
  | 103 => ⟨S128x4096, .i32⟩
  | 104 => ⟨S128x4096, .i32⟩
  | 105 => ⟨S_, .i32⟩
  | 106 => ⟨S128x4096, .i32⟩
  | 107 => ⟨S128x4096, .i32⟩
  | 108 => ⟨S_, .i32⟩
  | 109 => ⟨S128x4096, .i32⟩
  | 110 => ⟨S128x4096, .i32⟩
  | 111 => ⟨S128x4096, .i32⟩
  | 112 => ⟨S128x4096, .i32⟩
  | 113 => ⟨S128x4096, .i32⟩
  | 114 => ⟨S128x4096, .i32⟩
  | 115 => ⟨S128x4096, .i32⟩
  | 116 => ⟨S128x4096, .i32⟩
  | 117 => ⟨S_, .i32⟩
  | 118 => ⟨S128x4096, .i32⟩
  | 119 => ⟨S128x4096, .i32⟩
  | 120 => ⟨S128x4096, .i32⟩
  | 121 => ⟨S_, .i32⟩
  | 122 => ⟨S128x4096, .i32⟩
  | 123 => ⟨S128x4096, .i32⟩
  | 124 => ⟨S_, .i32⟩
  | 125 => ⟨S128x4096, .i32⟩
  | 126 => ⟨S128x4096, .i32⟩
  | 127 => ⟨S128x4096, .f32⟩
  | _ => ⟨S128x4096, .i32⟩

abbrev hbmTy0_4 (i : Nat) : BufTy := match i % 128 with
  | 0 => ⟨S_, .f32⟩
  | 1 => ⟨S128x4096, .f32⟩
  | 2 => ⟨S128x4096, .f32⟩
  | 3 => ⟨S1x1, .f32⟩
  | 4 => ⟨S128x4096, .f32⟩
  | 5 => ⟨S128x4096, .f32⟩
  | 6 => ⟨S128x4096, .f32⟩
  | 7 => ⟨S128x4096, .f32⟩
  | 8 => ⟨S128x4096, .f32⟩
  | 9 => ⟨S128x4096, .f32⟩
  | 10 => ⟨S128x4096, .f32⟩
  | 11 => ⟨S128x4096, .i1⟩
  | 12 => ⟨S_, .i32⟩
  | 13 => ⟨S128x4096, .i32⟩
  | 14 => ⟨S128x4096, .i1⟩
  | 15 => ⟨S128x4096, .i1⟩
  | 16 => ⟨S128x4096, .i32⟩
  | 17 => ⟨S_, .i32⟩
  | 18 => ⟨S128, .i32⟩
  | 19 => ⟨S_, .i32⟩
  | 20 => ⟨S128, .i32⟩
  | 21 => ⟨S128, .i1⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S_, .i32⟩
  | 37 => ⟨S_, .i32⟩
  | 38 => ⟨S_, .i32⟩
  | 39 => ⟨S_, .i32⟩
  | 40 => ⟨S1, .i32⟩
  | 41 => ⟨S1, .i32⟩
  | 42 => ⟨S1, .i32⟩
  | 43 => ⟨S_, .i32⟩
  | 44 => ⟨S1, .i32⟩
  | 45 => ⟨S_, .i32⟩
  | 46 => ⟨S2, .i64⟩
  | 47 => ⟨S_, .i64⟩
  | 48 => ⟨S2, .i64⟩
  | 49 => ⟨S2, .i64⟩
  | 50 => ⟨S_, .i64⟩
  | 51 => ⟨S2, .i64⟩
  | 52 => ⟨S2, .i64⟩
  | 53 => ⟨S2, .i32⟩
  | 54 => ⟨S2, .i32⟩
  | 55 => ⟨S_, .i32⟩
  | 56 => ⟨S_, .i32⟩
  | 57 => ⟨S_, .i32⟩
  | 58 => ⟨S2, .i32⟩
  | 59 => ⟨S2, .i32⟩
  | 60 => ⟨S2, .i32⟩
  | 61 => ⟨S2, .i32⟩
  | 62 => ⟨S2, .i32⟩
  | 63 => ⟨S_, .i32⟩
  | 64 => ⟨S2, .i32⟩
  | 65 => ⟨S2, .i32⟩
  | 66 => ⟨S_, .i32⟩
  | 67 => ⟨S2, .i32⟩
  | 68 => ⟨S2, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S_, .i32⟩
  | 76 => ⟨S2, .i32⟩
  | 77 => ⟨S2, .i32⟩
  | 78 => ⟨S2, .i32⟩
  | 79 => ⟨S2, .i32⟩
  | 80 => ⟨S2, .i32⟩
  | 81 => ⟨S_, .i32⟩
  | 82 => ⟨S2, .i32⟩
  | 83 => ⟨S2, .i32⟩
  | 84 => ⟨S_, .i32⟩
  | 85 => ⟨S2, .i32⟩
  | 86 => ⟨S2, .i32⟩
  | 87 => ⟨S2, .i32⟩
  | 88 => ⟨S2, .i32⟩
  | 89 => ⟨S2, .i32⟩
  | 90 => ⟨S_, .i32⟩
  | 91 => ⟨S2, .i32⟩
  | 92 => ⟨S2, .i32⟩
  | 93 => ⟨S_, .i32⟩
  | 94 => ⟨S2, .i32⟩
  | 95 => ⟨S2, .i32⟩
  | 96 => ⟨S2, .i32⟩
  | 97 => ⟨S2, .i32⟩
  | 98 => ⟨S2, .i32⟩
  | 99 => ⟨S2, .i32⟩
  | 100 => ⟨S2, .i32⟩
  | 101 => ⟨S2, .i32⟩
  | 102 => ⟨S_, .i32⟩
  | 103 => ⟨S2, .i32⟩
  | 104 => ⟨S2, .i32⟩
  | 105 => ⟨S2, .i32⟩
  | 106 => ⟨S_, .i32⟩
  | 107 => ⟨S2, .i32⟩
  | 108 => ⟨S2, .i32⟩
  | 109 => ⟨S_, .i32⟩
  | 110 => ⟨S2, .i32⟩
  | 111 => ⟨S2, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S_, .i32⟩
  | 119 => ⟨S2, .i32⟩
  | 120 => ⟨S2, .i32⟩
  | 121 => ⟨S2, .i32⟩
  | 122 => ⟨S2, .i32⟩
  | 123 => ⟨S2, .i32⟩
  | 124 => ⟨S_, .i32⟩
  | 125 => ⟨S2, .i32⟩
  | 126 => ⟨S2, .i32⟩
  | 127 => ⟨S_, .i32⟩
  | _ => ⟨S128x4096, .i32⟩

abbrev hbmTy0_5 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S_, .i32⟩
  | 6 => ⟨S2, .i32⟩
  | 7 => ⟨S2, .i32⟩
  | 8 => ⟨S_, .i32⟩
  | 9 => ⟨S2, .i32⟩
  | 10 => ⟨S2, .i32⟩
  | 11 => ⟨S2, .i32⟩
  | 12 => ⟨S2, .i32⟩
  | 13 => ⟨S2, .i32⟩
  | 14 => ⟨S2, .i32⟩
  | 15 => ⟨S2, .i32⟩
  | 16 => ⟨S2, .i32⟩
  | 17 => ⟨S_, .i32⟩
  | 18 => ⟨S2, .i32⟩
  | 19 => ⟨S2, .i32⟩
  | 20 => ⟨S2, .i32⟩
  | 21 => ⟨S_, .i32⟩
  | 22 => ⟨S2, .i32⟩
  | 23 => ⟨S2, .i32⟩
  | 24 => ⟨S_, .i32⟩
  | 25 => ⟨S2, .i32⟩
  | 26 => ⟨S2, .i32⟩
  | 27 => ⟨S2, .i32⟩
  | 28 => ⟨S2, .i32⟩
  | 29 => ⟨S2, .i32⟩
  | 30 => ⟨S_, .i32⟩
  | 31 => ⟨S2, .i32⟩
  | 32 => ⟨S2, .i32⟩
  | 33 => ⟨S_, .i32⟩
  | 34 => ⟨S2, .i32⟩
  | 35 => ⟨S2, .i32⟩
  | 36 => ⟨S2, .i32⟩
  | 37 => ⟨S2, .i32⟩
  | 38 => ⟨S2, .i32⟩
  | 39 => ⟨S_, .i32⟩
  | 40 => ⟨S2, .i32⟩
  | 41 => ⟨S2, .i32⟩
  | 42 => ⟨S_, .i32⟩
  | 43 => ⟨S2, .i32⟩
  | 44 => ⟨S2, .i32⟩
  | 45 => ⟨S2, .i32⟩
  | 46 => ⟨S2, .i32⟩
  | 47 => ⟨S2, .i32⟩
  | 48 => ⟨S_, .i32⟩
  | 49 => ⟨S2, .i32⟩
  | 50 => ⟨S2, .i32⟩
  | 51 => ⟨S_, .i32⟩
  | 52 => ⟨S2, .i32⟩
  | 53 => ⟨S2, .i32⟩
  | 54 => ⟨S2, .i32⟩
  | 55 => ⟨S2, .i32⟩
  | 56 => ⟨S2, .i32⟩
  | 57 => ⟨S2, .i32⟩
  | 58 => ⟨S2, .i32⟩
  | 59 => ⟨S2, .i32⟩
  | 60 => ⟨S_, .i32⟩
  | 61 => ⟨S2, .i32⟩
  | 62 => ⟨S2, .i32⟩
  | 63 => ⟨S2, .i32⟩
  | 64 => ⟨S_, .i32⟩
  | 65 => ⟨S2, .i32⟩
  | 66 => ⟨S2, .i32⟩
  | 67 => ⟨S_, .i32⟩
  | 68 => ⟨S2, .i32⟩
  | 69 => ⟨S2, .i32⟩
  | 70 => ⟨S2, .i32⟩
  | 71 => ⟨S2, .i32⟩
  | 72 => ⟨S2, .i32⟩
  | 73 => ⟨S_, .i32⟩
  | 74 => ⟨S2, .i32⟩
  | 75 => ⟨S2, .i32⟩
  | 76 => ⟨S_, .i32⟩
  | 77 => ⟨S2, .i32⟩
  | 78 => ⟨S2, .i32⟩
  | 79 => ⟨S2, .i32⟩
  | 80 => ⟨S2, .i32⟩
  | 81 => ⟨S2, .i32⟩
  | 82 => ⟨S_, .i32⟩
  | 83 => ⟨S2, .i32⟩
  | 84 => ⟨S2, .i32⟩
  | 85 => ⟨S_, .i32⟩
  | 86 => ⟨S2, .i32⟩
  | 87 => ⟨S2, .i32⟩
  | 88 => ⟨S2, .i32⟩
  | 89 => ⟨S2, .i32⟩
  | 90 => ⟨S2, .i32⟩
  | 91 => ⟨S_, .i32⟩
  | 92 => ⟨S2, .i32⟩
  | 93 => ⟨S2, .i32⟩
  | 94 => ⟨S_, .i32⟩
  | 95 => ⟨S2, .i32⟩
  | 96 => ⟨S2, .i32⟩
  | 97 => ⟨S2, .i32⟩
  | 98 => ⟨S2, .i32⟩
  | 99 => ⟨S2, .i32⟩
  | 100 => ⟨S2, .i32⟩
  | 101 => ⟨S2, .i32⟩
  | 102 => ⟨S2, .i32⟩
  | 103 => ⟨S_, .i32⟩
  | 104 => ⟨S2, .i32⟩
  | 105 => ⟨S2, .i32⟩
  | 106 => ⟨S2, .i32⟩
  | 107 => ⟨S_, .i32⟩
  | 108 => ⟨S2, .i32⟩
  | 109 => ⟨S2, .i32⟩
  | 110 => ⟨S_, .i32⟩
  | 111 => ⟨S2, .i32⟩
  | 112 => ⟨S2, .i32⟩
  | 113 => ⟨S2, .i32⟩
  | 114 => ⟨S2, .i32⟩
  | 115 => ⟨S2, .i32⟩
  | 116 => ⟨S_, .i32⟩
  | 117 => ⟨S2, .i32⟩
  | 118 => ⟨S2, .i32⟩
  | 119 => ⟨S_, .i32⟩
  | 120 => ⟨S2, .i32⟩
  | 121 => ⟨S2, .i32⟩
  | 122 => ⟨S2, .i32⟩
  | 123 => ⟨S2, .i32⟩
  | 124 => ⟨S2, .i32⟩
  | 125 => ⟨S_, .i32⟩
  | 126 => ⟨S2, .i32⟩
  | 127 => ⟨S2, .i32⟩
  | _ => ⟨S128x4096, .i32⟩

abbrev hbmTy0_6 (i : Nat) : BufTy := match i % 128 with
  | 0 => ⟨S_, .i32⟩
  | 1 => ⟨S2, .i32⟩
  | 2 => ⟨S2, .i32⟩
  | 3 => ⟨S2, .i32⟩
  | 4 => ⟨S2, .i32⟩
  | 5 => ⟨S2, .i32⟩
  | 6 => ⟨S_, .i32⟩
  | 7 => ⟨S2, .i32⟩
  | 8 => ⟨S2, .i32⟩
  | 9 => ⟨S_, .i32⟩
  | 10 => ⟨S2, .i32⟩
  | 11 => ⟨S2, .i32⟩
  | 12 => ⟨S2, .i32⟩
  | 13 => ⟨S2, .i32⟩
  | 14 => ⟨S2, .i32⟩
  | 15 => ⟨S2, .i32⟩
  | 16 => ⟨S2, .i32⟩
  | 17 => ⟨S2, .i32⟩
  | 18 => ⟨S_, .i32⟩
  | 19 => ⟨S2, .i32⟩
  | 20 => ⟨S2, .i32⟩
  | 21 => ⟨S2x1, .i32⟩
  | 22 => ⟨S2x1, .i32⟩
  | 23 => ⟨S2x2, .i32⟩
  | 24 => ⟨S1x2, .i32⟩
  | 25 => ⟨S2, .i32⟩
  | 26 => ⟨S1x2, .i32⟩
  | 27 => ⟨S2, .i32⟩
  | 28 => ⟨S1, .i32⟩
  | 29 => ⟨S_, .i32⟩
  | 30 => ⟨S1, .i32⟩
  | 31 => ⟨S_, .i32⟩
  | 32 => ⟨S128, .i64⟩
  | 33 => ⟨S_, .i64⟩
  | 34 => ⟨S128, .i64⟩
  | 35 => ⟨S128, .i64⟩
  | 36 => ⟨S_, .i64⟩
  | 37 => ⟨S128, .i64⟩
  | 38 => ⟨S128, .i64⟩
  | 39 => ⟨S128, .i32⟩
  | 40 => ⟨S128, .i32⟩
  | 41 => ⟨S_, .i32⟩
  | 42 => ⟨S_, .i32⟩
  | 43 => ⟨S_, .i32⟩
  | 44 => ⟨S128, .i32⟩
  | 45 => ⟨S128, .i32⟩
  | 46 => ⟨S128, .i32⟩
  | 47 => ⟨S128, .i32⟩
  | 48 => ⟨S128, .i32⟩
  | 49 => ⟨S_, .i32⟩
  | 50 => ⟨S128, .i32⟩
  | 51 => ⟨S128, .i32⟩
  | 52 => ⟨S_, .i32⟩
  | 53 => ⟨S128, .i32⟩
  | 54 => ⟨S128, .i32⟩
  | 55 => ⟨S128, .i32⟩
  | 56 => ⟨S128, .i32⟩
  | 57 => ⟨S128, .i32⟩
  | 58 => ⟨S_, .i32⟩
  | 59 => ⟨S128, .i32⟩
  | 60 => ⟨S128, .i32⟩
  | 61 => ⟨S_, .i32⟩
  | 62 => ⟨S128, .i32⟩
  | 63 => ⟨S128, .i32⟩
  | 64 => ⟨S128, .i32⟩
  | 65 => ⟨S128, .i32⟩
  | 66 => ⟨S128, .i32⟩
  | 67 => ⟨S_, .i32⟩
  | 68 => ⟨S128, .i32⟩
  | 69 => ⟨S128, .i32⟩
  | 70 => ⟨S_, .i32⟩
  | 71 => ⟨S128, .i32⟩
  | 72 => ⟨S128, .i32⟩
  | 73 => ⟨S128, .i32⟩
  | 74 => ⟨S128, .i32⟩
  | 75 => ⟨S128, .i32⟩
  | 76 => ⟨S_, .i32⟩
  | 77 => ⟨S128, .i32⟩
  | 78 => ⟨S128, .i32⟩
  | 79 => ⟨S_, .i32⟩
  | 80 => ⟨S128, .i32⟩
  | 81 => ⟨S128, .i32⟩
  | 82 => ⟨S128, .i32⟩
  | 83 => ⟨S128, .i32⟩
  | 84 => ⟨S128, .i32⟩
  | 85 => ⟨S128, .i32⟩
  | 86 => ⟨S128, .i32⟩
  | 87 => ⟨S128, .i32⟩
  | 88 => ⟨S_, .i32⟩
  | 89 => ⟨S128, .i32⟩
  | 90 => ⟨S128, .i32⟩
  | 91 => ⟨S128, .i32⟩
  | 92 => ⟨S_, .i32⟩
  | 93 => ⟨S128, .i32⟩
  | 94 => ⟨S128, .i32⟩
  | 95 => ⟨S_, .i32⟩
  | 96 => ⟨S128, .i32⟩
  | 97 => ⟨S128, .i32⟩
  | 98 => ⟨S128, .i32⟩
  | 99 => ⟨S128, .i32⟩
  | 100 => ⟨S128, .i32⟩
  | 101 => ⟨S_, .i32⟩
  | 102 => ⟨S128, .i32⟩
  | 103 => ⟨S128, .i32⟩
  | 104 => ⟨S_, .i32⟩
  | 105 => ⟨S128, .i32⟩
  | 106 => ⟨S128, .i32⟩
  | 107 => ⟨S128, .i32⟩
  | 108 => ⟨S128, .i32⟩
  | 109 => ⟨S128, .i32⟩
  | 110 => ⟨S_, .i32⟩
  | 111 => ⟨S128, .i32⟩
  | 112 => ⟨S128, .i32⟩
  | 113 => ⟨S_, .i32⟩
  | 114 => ⟨S128, .i32⟩
  | 115 => ⟨S128, .i32⟩
  | 116 => ⟨S128, .i32⟩
  | 117 => ⟨S128, .i32⟩
  | 118 => ⟨S128, .i32⟩
  | 119 => ⟨S_, .i32⟩
  | 120 => ⟨S128, .i32⟩
  | 121 => ⟨S128, .i32⟩
  | 122 => ⟨S_, .i32⟩
  | 123 => ⟨S128, .i32⟩
  | 124 => ⟨S128, .i32⟩
  | 125 => ⟨S128, .i32⟩
  | 126 => ⟨S128, .i32⟩
  | 127 => ⟨S128, .i32⟩
  | _ => ⟨S128x4096, .i32⟩

abbrev hbmTy0_7 (i : Nat) : BufTy := match i % 128 with
  | 0 => ⟨S128, .i32⟩
  | 1 => ⟨S128, .i32⟩
  | 2 => ⟨S128, .i32⟩
  | 3 => ⟨S_, .i32⟩
  | 4 => ⟨S128, .i32⟩
  | 5 => ⟨S128, .i32⟩
  | 6 => ⟨S128, .i32⟩
  | 7 => ⟨S_, .i32⟩
  | 8 => ⟨S128, .i32⟩
  | 9 => ⟨S128, .i32⟩
  | 10 => ⟨S_, .i32⟩
  | 11 => ⟨S128, .i32⟩
  | 12 => ⟨S128, .i32⟩
  | 13 => ⟨S128, .i32⟩
  | 14 => ⟨S128, .i32⟩
  | 15 => ⟨S128, .i32⟩
  | 16 => ⟨S_, .i32⟩
  | 17 => ⟨S128, .i32⟩
  | 18 => ⟨S128, .i32⟩
  | 19 => ⟨S_, .i32⟩
  | 20 => ⟨S128, .i32⟩
  | 21 => ⟨S128, .i32⟩
  | 22 => ⟨S128, .i32⟩
  | 23 => ⟨S128, .i32⟩
  | 24 => ⟨S128, .i32⟩
  | 25 => ⟨S_, .i32⟩
  | 26 => ⟨S128, .i32⟩
  | 27 => ⟨S128, .i32⟩
  | 28 => ⟨S_, .i32⟩
  | 29 => ⟨S128, .i32⟩
  | 30 => ⟨S128, .i32⟩
  | 31 => ⟨S128, .i32⟩
  | 32 => ⟨S128, .i32⟩
  | 33 => ⟨S128, .i32⟩
  | 34 => ⟨S_, .i32⟩
  | 35 => ⟨S128, .i32⟩
  | 36 => ⟨S128, .i32⟩
  | 37 => ⟨S_, .i32⟩
  | 38 => ⟨S128, .i32⟩
  | 39 => ⟨S128, .i32⟩
  | 40 => ⟨S128, .i32⟩
  | 41 => ⟨S128, .i32⟩
  | 42 => ⟨S128, .i32⟩
  | 43 => ⟨S128, .i32⟩
  | 44 => ⟨S128, .i32⟩
  | 45 => ⟨S128, .i32⟩
  | 46 => ⟨S_, .i32⟩
  | 47 => ⟨S128, .i32⟩
  | 48 => ⟨S128, .i32⟩
  | 49 => ⟨S128, .i32⟩
  | 50 => ⟨S_, .i32⟩
  | 51 => ⟨S128, .i32⟩
  | 52 => ⟨S128, .i32⟩
  | 53 => ⟨S_, .i32⟩
  | 54 => ⟨S128, .i32⟩
  | 55 => ⟨S128, .i32⟩
  | 56 => ⟨S128, .i32⟩
  | 57 => ⟨S128, .i32⟩
  | 58 => ⟨S128, .i32⟩
  | 59 => ⟨S_, .i32⟩
  | 60 => ⟨S128, .i32⟩
  | 61 => ⟨S128, .i32⟩
  | 62 => ⟨S_, .i32⟩
  | 63 => ⟨S128, .i32⟩
  | 64 => ⟨S128, .i32⟩
  | 65 => ⟨S128, .i32⟩
  | 66 => ⟨S128, .i32⟩
  | 67 => ⟨S128, .i32⟩
  | 68 => ⟨S_, .i32⟩
  | 69 => ⟨S128, .i32⟩
  | 70 => ⟨S128, .i32⟩
  | 71 => ⟨S_, .i32⟩
  | 72 => ⟨S128, .i32⟩
  | 73 => ⟨S128, .i32⟩
  | 74 => ⟨S128, .i32⟩
  | 75 => ⟨S128, .i32⟩
  | 76 => ⟨S128, .i32⟩
  | 77 => ⟨S_, .i32⟩
  | 78 => ⟨S128, .i32⟩
  | 79 => ⟨S128, .i32⟩
  | 80 => ⟨S_, .i32⟩
  | 81 => ⟨S128, .i32⟩
  | 82 => ⟨S128, .i32⟩
  | 83 => ⟨S128, .i32⟩
  | 84 => ⟨S128, .i32⟩
  | 85 => ⟨S128, .i32⟩
  | 86 => ⟨S128, .i32⟩
  | 87 => ⟨S128, .i32⟩
  | 88 => ⟨S128, .i32⟩
  | 89 => ⟨S_, .i32⟩
  | 90 => ⟨S128, .i32⟩
  | 91 => ⟨S128, .i32⟩
  | 92 => ⟨S128, .i32⟩
  | 93 => ⟨S_, .i32⟩
  | 94 => ⟨S128, .i32⟩
  | 95 => ⟨S128, .i32⟩
  | 96 => ⟨S_, .i32⟩
  | 97 => ⟨S128, .i32⟩
  | 98 => ⟨S128, .i32⟩
  | 99 => ⟨S128, .i32⟩
  | 100 => ⟨S128, .i32⟩
  | 101 => ⟨S128, .i32⟩
  | 102 => ⟨S_, .i32⟩
  | 103 => ⟨S128, .i32⟩
  | 104 => ⟨S128, .i32⟩
  | 105 => ⟨S_, .i32⟩
  | 106 => ⟨S128, .i32⟩
  | 107 => ⟨S128, .i32⟩
  | 108 => ⟨S128, .i32⟩
  | 109 => ⟨S128, .i32⟩
  | 110 => ⟨S128, .i32⟩
  | 111 => ⟨S_, .i32⟩
  | 112 => ⟨S128, .i32⟩
  | 113 => ⟨S128, .i32⟩
  | 114 => ⟨S_, .i32⟩
  | 115 => ⟨S128, .i32⟩
  | 116 => ⟨S128, .i32⟩
  | 117 => ⟨S128, .i32⟩
  | 118 => ⟨S128, .i32⟩
  | 119 => ⟨S128, .i32⟩
  | 120 => ⟨S_, .i32⟩
  | 121 => ⟨S128, .i32⟩
  | 122 => ⟨S128, .i32⟩
  | 123 => ⟨S_, .i32⟩
  | 124 => ⟨S128, .i32⟩
  | 125 => ⟨S128, .i32⟩
  | 126 => ⟨S128, .i32⟩
  | 127 => ⟨S128, .i32⟩
  | _ => ⟨S128x4096, .i32⟩

abbrev hbmTy0_8 (i : Nat) : BufTy := match i % 128 with
  | 0 => ⟨S128, .i32⟩
  | 1 => ⟨S128, .i32⟩
  | 2 => ⟨S128, .i32⟩
  | 3 => ⟨S128, .i32⟩
  | 4 => ⟨S_, .i32⟩
  | 5 => ⟨S128, .i32⟩
  | 6 => ⟨S128, .i32⟩
  | 7 => ⟨S128, .i32⟩
  | 8 => ⟨S1, .i32⟩
  | 9 => ⟨S_, .i32⟩
  | 10 => ⟨S1, .i32⟩
  | 11 => ⟨S_, .i32⟩
  | 12 => ⟨S128, .i64⟩
  | 13 => ⟨S_, .i64⟩
  | 14 => ⟨S128, .i64⟩
  | 15 => ⟨S128, .i64⟩
  | 16 => ⟨S_, .i64⟩
  | 17 => ⟨S128, .i64⟩
  | 18 => ⟨S128, .i64⟩
  | 19 => ⟨S128, .i32⟩
  | 20 => ⟨S128, .i32⟩
  | 21 => ⟨S_, .i32⟩
  | 22 => ⟨S_, .i32⟩
  | 23 => ⟨S_, .i32⟩
  | 24 => ⟨S128, .i32⟩
  | 25 => ⟨S128, .i32⟩
  | 26 => ⟨S128, .i32⟩
  | 27 => ⟨S128, .i32⟩
  | 28 => ⟨S128, .i32⟩
  | 29 => ⟨S_, .i32⟩
  | 30 => ⟨S128, .i32⟩
  | 31 => ⟨S128, .i32⟩
  | 32 => ⟨S_, .i32⟩
  | 33 => ⟨S128, .i32⟩
  | 34 => ⟨S128, .i32⟩
  | 35 => ⟨S128, .i32⟩
  | 36 => ⟨S128, .i32⟩
  | 37 => ⟨S128, .i32⟩
  | 38 => ⟨S_, .i32⟩
  | 39 => ⟨S128, .i32⟩
  | 40 => ⟨S128, .i32⟩
  | 41 => ⟨S_, .i32⟩
  | 42 => ⟨S128, .i32⟩
  | 43 => ⟨S128, .i32⟩
  | 44 => ⟨S128, .i32⟩
  | 45 => ⟨S128, .i32⟩
  | 46 => ⟨S128, .i32⟩
  | 47 => ⟨S_, .i32⟩
  | 48 => ⟨S128, .i32⟩
  | 49 => ⟨S128, .i32⟩
  | 50 => ⟨S_, .i32⟩
  | 51 => ⟨S128, .i32⟩
  | 52 => ⟨S128, .i32⟩
  | 53 => ⟨S128, .i32⟩
  | 54 => ⟨S128, .i32⟩
  | 55 => ⟨S128, .i32⟩
  | 56 => ⟨S_, .i32⟩
  | 57 => ⟨S128, .i32⟩
  | 58 => ⟨S128, .i32⟩
  | 59 => ⟨S_, .i32⟩
  | 60 => ⟨S128, .i32⟩
  | 61 => ⟨S128, .i32⟩
  | 62 => ⟨S128, .i32⟩
  | 63 => ⟨S128, .i32⟩
  | 64 => ⟨S128, .i32⟩
  | 65 => ⟨S128, .i32⟩
  | 66 => ⟨S128, .i32⟩
  | 67 => ⟨S128, .i32⟩
  | 68 => ⟨S_, .i32⟩
  | 69 => ⟨S128, .i32⟩
  | 70 => ⟨S128, .i32⟩
  | 71 => ⟨S128, .i32⟩
  | 72 => ⟨S_, .i32⟩
  | 73 => ⟨S128, .i32⟩
  | 74 => ⟨S128, .i32⟩
  | 75 => ⟨S_, .i32⟩
  | 76 => ⟨S128, .i32⟩
  | 77 => ⟨S128, .i32⟩
  | 78 => ⟨S128, .i32⟩
  | 79 => ⟨S128, .i32⟩
  | 80 => ⟨S128, .i32⟩
  | 81 => ⟨S_, .i32⟩
  | 82 => ⟨S128, .i32⟩
  | 83 => ⟨S128, .i32⟩
  | 84 => ⟨S_, .i32⟩
  | 85 => ⟨S128, .i32⟩
  | 86 => ⟨S128, .i32⟩
  | 87 => ⟨S128, .i32⟩
  | 88 => ⟨S128, .i32⟩
  | 89 => ⟨S128, .i32⟩
  | 90 => ⟨S_, .i32⟩
  | 91 => ⟨S128, .i32⟩
  | 92 => ⟨S128, .i32⟩
  | 93 => ⟨S_, .i32⟩
  | 94 => ⟨S128, .i32⟩
  | 95 => ⟨S128, .i32⟩
  | 96 => ⟨S128, .i32⟩
  | 97 => ⟨S128, .i32⟩
  | 98 => ⟨S128, .i32⟩
  | 99 => ⟨S_, .i32⟩
  | 100 => ⟨S128, .i32⟩
  | 101 => ⟨S128, .i32⟩
  | 102 => ⟨S_, .i32⟩
  | 103 => ⟨S128, .i32⟩
  | 104 => ⟨S128, .i32⟩
  | 105 => ⟨S128, .i32⟩
  | 106 => ⟨S128, .i32⟩
  | 107 => ⟨S128, .i32⟩
  | 108 => ⟨S128, .i32⟩
  | 109 => ⟨S128, .i32⟩
  | 110 => ⟨S128, .i32⟩
  | 111 => ⟨S_, .i32⟩
  | 112 => ⟨S128, .i32⟩
  | 113 => ⟨S128, .i32⟩
  | 114 => ⟨S128, .i32⟩
  | 115 => ⟨S_, .i32⟩
  | 116 => ⟨S128, .i32⟩
  | 117 => ⟨S128, .i32⟩
  | 118 => ⟨S_, .i32⟩
  | 119 => ⟨S128, .i32⟩
  | 120 => ⟨S128, .i32⟩
  | 121 => ⟨S128, .i32⟩
  | 122 => ⟨S128, .i32⟩
  | 123 => ⟨S128, .i32⟩
  | 124 => ⟨S_, .i32⟩
  | 125 => ⟨S128, .i32⟩
  | 126 => ⟨S128, .i32⟩
  | 127 => ⟨S_, .i32⟩
  | _ => ⟨S128x4096, .i32⟩

abbrev hbmTy0_9 (i : Nat) : BufTy := match i % 128 with
  | 0 => ⟨S128, .i32⟩
  | 1 => ⟨S128, .i32⟩
  | 2 => ⟨S128, .i32⟩
  | 3 => ⟨S128, .i32⟩
  | 4 => ⟨S128, .i32⟩
  | 5 => ⟨S_, .i32⟩
  | 6 => ⟨S128, .i32⟩
  | 7 => ⟨S128, .i32⟩
  | 8 => ⟨S_, .i32⟩
  | 9 => ⟨S128, .i32⟩
  | 10 => ⟨S128, .i32⟩
  | 11 => ⟨S128, .i32⟩
  | 12 => ⟨S128, .i32⟩
  | 13 => ⟨S128, .i32⟩
  | 14 => ⟨S_, .i32⟩
  | 15 => ⟨S128, .i32⟩
  | 16 => ⟨S128, .i32⟩
  | 17 => ⟨S_, .i32⟩
  | 18 => ⟨S128, .i32⟩
  | 19 => ⟨S128, .i32⟩
  | 20 => ⟨S128, .i32⟩
  | 21 => ⟨S128, .i32⟩
  | 22 => ⟨S128, .i32⟩
  | 23 => ⟨S128, .i32⟩
  | 24 => ⟨S128, .i32⟩
  | 25 => ⟨S128, .i32⟩
  | 26 => ⟨S_, .i32⟩
  | 27 => ⟨S128, .i32⟩
  | 28 => ⟨S128, .i32⟩
  | 29 => ⟨S128, .i32⟩
  | 30 => ⟨S_, .i32⟩
  | 31 => ⟨S128, .i32⟩
  | 32 => ⟨S128, .i32⟩
  | 33 => ⟨S_, .i32⟩
  | 34 => ⟨S128, .i32⟩
  | 35 => ⟨S128, .i32⟩
  | 36 => ⟨S128, .i32⟩
  | 37 => ⟨S128, .i32⟩
  | 38 => ⟨S128, .i32⟩
  | 39 => ⟨S_, .i32⟩
  | 40 => ⟨S128, .i32⟩
  | 41 => ⟨S128, .i32⟩
  | 42 => ⟨S_, .i32⟩
  | 43 => ⟨S128, .i32⟩
  | 44 => ⟨S128, .i32⟩
  | 45 => ⟨S128, .i32⟩
  | 46 => ⟨S128, .i32⟩
  | 47 => ⟨S128, .i32⟩
  | 48 => ⟨S_, .i32⟩
  | 49 => ⟨S128, .i32⟩
  | 50 => ⟨S128, .i32⟩
  | 51 => ⟨S_, .i32⟩
  | 52 => ⟨S128, .i32⟩
  | 53 => ⟨S128, .i32⟩
  | 54 => ⟨S128, .i32⟩
  | 55 => ⟨S128, .i32⟩
  | 56 => ⟨S128, .i32⟩
  | 57 => ⟨S_, .i32⟩
  | 58 => ⟨S128, .i32⟩
  | 59 => ⟨S128, .i32⟩
  | 60 => ⟨S_, .i32⟩
  | 61 => ⟨S128, .i32⟩
  | 62 => ⟨S128, .i32⟩
  | 63 => ⟨S128, .i32⟩
  | 64 => ⟨S128, .i32⟩
  | 65 => ⟨S128, .i32⟩
  | 66 => ⟨S128, .i32⟩
  | 67 => ⟨S128, .i32⟩
  | 68 => ⟨S128, .i32⟩
  | 69 => ⟨S_, .i32⟩
  | 70 => ⟨S128, .i32⟩
  | 71 => ⟨S128, .i32⟩
  | 72 => ⟨S128, .i32⟩
  | 73 => ⟨S_, .i32⟩
  | 74 => ⟨S128, .i32⟩
  | 75 => ⟨S128, .i32⟩
  | 76 => ⟨S_, .i32⟩
  | 77 => ⟨S128, .i32⟩
  | 78 => ⟨S128, .i32⟩
  | 79 => ⟨S128, .i32⟩
  | 80 => ⟨S128, .i32⟩
  | 81 => ⟨S128, .i32⟩
  | 82 => ⟨S_, .i32⟩
  | 83 => ⟨S128, .i32⟩
  | 84 => ⟨S128, .i32⟩
  | 85 => ⟨S_, .i32⟩
  | 86 => ⟨S128, .i32⟩
  | 87 => ⟨S128, .i32⟩
  | 88 => ⟨S128, .i32⟩
  | 89 => ⟨S128, .i32⟩
  | 90 => ⟨S128, .i32⟩
  | 91 => ⟨S_, .i32⟩
  | 92 => ⟨S128, .i32⟩
  | 93 => ⟨S128, .i32⟩
  | 94 => ⟨S_, .i32⟩
  | 95 => ⟨S128, .i32⟩
  | 96 => ⟨S128, .i32⟩
  | 97 => ⟨S128, .i32⟩
  | 98 => ⟨S128, .i32⟩
  | 99 => ⟨S128, .i32⟩
  | 100 => ⟨S_, .i32⟩
  | 101 => ⟨S128, .i32⟩
  | 102 => ⟨S128, .i32⟩
  | 103 => ⟨S_, .i32⟩
  | 104 => ⟨S128, .i32⟩
  | 105 => ⟨S128, .i32⟩
  | 106 => ⟨S128, .i32⟩
  | 107 => ⟨S128, .i32⟩
  | 108 => ⟨S128, .i32⟩
  | 109 => ⟨S128, .i32⟩
  | 110 => ⟨S128, .i32⟩
  | 111 => ⟨S128, .i32⟩
  | 112 => ⟨S_, .i32⟩
  | 113 => ⟨S128, .i32⟩
  | 114 => ⟨S128, .i32⟩
  | 115 => ⟨S128, .i32⟩
  | 116 => ⟨S1, .i32⟩
  | 117 => ⟨S1, .i32⟩
  | 118 => ⟨S1, .i1⟩
  | 119 => ⟨S_, .i32⟩
  | 120 => ⟨S1, .i32⟩
  | 121 => ⟨S1, .i32⟩
  | 122 => ⟨S1, .i1⟩
  | 123 => ⟨S1, .i1⟩
  | 124 => ⟨S1, .i1⟩
  | 125 => ⟨S_, .i32⟩
  | 126 => ⟨S1, .i32⟩
  | 127 => ⟨S1, .i32⟩
  | _ => ⟨S128x4096, .i32⟩

abbrev hbmTy0_10 (i : Nat) : BufTy := match i % 128 with
  | 0 => ⟨S1, .i32⟩
  | 1 => ⟨S_, .i32⟩
  | 2 => ⟨S1, .i32⟩
  | 3 => ⟨S1, .i32⟩
  | 4 => ⟨S1, .i32⟩
  | 5 => ⟨S1, .i32⟩
  | 6 => ⟨S128, .i32⟩
  | 7 => ⟨S128, .i32⟩
  | 8 => ⟨S128, .i32⟩
  | 9 => ⟨S128, .i32⟩
  | 10 => ⟨S128, .i32⟩
  | 11 => ⟨S128, .i32⟩
  | 12 => ⟨S128, .i32⟩
  | 13 => ⟨S128, .i32⟩
  | 14 => ⟨S128, .i32⟩
  | 15 => ⟨S128, .i32⟩
  | 16 => ⟨S128, .i32⟩
  | 17 => ⟨S128, .i32⟩
  | 18 => ⟨S128x1, .i32⟩
  | 19 => ⟨S1x4096, .i32⟩
  | 20 => ⟨S128x4096, .i32⟩
  | 21 => ⟨S128x4096, .i32⟩
  | 22 => ⟨S128x4096, .i1⟩
  | 23 => ⟨S128x1, .i1⟩
  | 24 => ⟨S128x4096, .i1⟩
  | 25 => ⟨S128x4096, .i1⟩
  | 26 => ⟨S128x4096, .i1⟩
  | 27 => ⟨S_, .i32⟩
  | 28 => ⟨S128x4096, .i32⟩
  | 29 => ⟨S128x4096, .i32⟩
  | 30 => ⟨S128x4096, .i32⟩
  | 31 => ⟨S_, .f32⟩
  | 32 => ⟨S_, .f32⟩
  | 33 => ⟨S_, .f32⟩
  | 34 => ⟨S_, .f32⟩
  | 35 => ⟨S1x1, .f32⟩
  | 36 => ⟨S1x1, .f32⟩
  | 37 => ⟨S1, .i32⟩
  | 38 => ⟨S_, .i32⟩
  | 39 => ⟨S1, .i32⟩
  | 40 => ⟨S_, .i32⟩
  | 41 => ⟨S128x4096, .i64⟩
  | 42 => ⟨S128x4096, .i64⟩
  | 43 => ⟨S_, .i64⟩
  | 44 => ⟨S128x4096, .i64⟩
  | 45 => ⟨S128x4096, .i64⟩
  | 46 => ⟨S_, .i64⟩
  | 47 => ⟨S128x4096, .i64⟩
  | 48 => ⟨S128x4096, .i64⟩
  | 49 => ⟨S128x4096, .i64⟩
  | 50 => ⟨S_, .i64⟩
  | 51 => ⟨S128x4096, .i64⟩
  | 52 => ⟨S128x4096, .i64⟩
  | 53 => ⟨S128x4096, .i32⟩
  | 54 => ⟨S128x4096, .i32⟩
  | 55 => ⟨S_, .i32⟩
  | 56 => ⟨S_, .i32⟩
  | 57 => ⟨S_, .i32⟩
  | 58 => ⟨S128x4096, .i32⟩
  | 59 => ⟨S128x4096, .i32⟩
  | 60 => ⟨S128x4096, .i32⟩
  | 61 => ⟨S128x4096, .i32⟩
  | 62 => ⟨S128x4096, .i32⟩
  | 63 => ⟨S_, .i32⟩
  | 64 => ⟨S128x4096, .i32⟩
  | 65 => ⟨S128x4096, .i32⟩
  | 66 => ⟨S_, .i32⟩
  | 67 => ⟨S128x4096, .i32⟩
  | 68 => ⟨S128x4096, .i32⟩
  | 69 => ⟨S128x4096, .i32⟩
  | 70 => ⟨S128x4096, .i32⟩
  | 71 => ⟨S128x4096, .i32⟩
  | 72 => ⟨S_, .i32⟩
  | 73 => ⟨S128x4096, .i32⟩
  | 74 => ⟨S128x4096, .i32⟩
  | 75 => ⟨S_, .i32⟩
  | 76 => ⟨S128x4096, .i32⟩
  | 77 => ⟨S128x4096, .i32⟩
  | 78 => ⟨S128x4096, .i32⟩
  | 79 => ⟨S128x4096, .i32⟩
  | 80 => ⟨S128x4096, .i32⟩
  | 81 => ⟨S_, .i32⟩
  | 82 => ⟨S128x4096, .i32⟩
  | 83 => ⟨S128x4096, .i32⟩
  | 84 => ⟨S_, .i32⟩
  | 85 => ⟨S128x4096, .i32⟩
  | 86 => ⟨S128x4096, .i32⟩
  | 87 => ⟨S128x4096, .i32⟩
  | 88 => ⟨S128x4096, .i32⟩
  | 89 => ⟨S128x4096, .i32⟩
  | 90 => ⟨S_, .i32⟩
  | 91 => ⟨S128x4096, .i32⟩
  | 92 => ⟨S128x4096, .i32⟩
  | 93 => ⟨S_, .i32⟩
  | 94 => ⟨S128x4096, .i32⟩
  | 95 => ⟨S128x4096, .i32⟩
  | 96 => ⟨S128x4096, .i32⟩
  | 97 => ⟨S128x4096, .i32⟩
  | 98 => ⟨S128x4096, .i32⟩
  | 99 => ⟨S128x4096, .i32⟩
  | 100 => ⟨S128x4096, .i32⟩
  | 101 => ⟨S128x4096, .i32⟩
  | 102 => ⟨S_, .i32⟩
  | 103 => ⟨S128x4096, .i32⟩
  | 104 => ⟨S128x4096, .i32⟩
  | 105 => ⟨S128x4096, .i32⟩
  | 106 => ⟨S_, .i32⟩
  | 107 => ⟨S128x4096, .i32⟩
  | 108 => ⟨S128x4096, .i32⟩
  | 109 => ⟨S_, .i32⟩
  | 110 => ⟨S128x4096, .i32⟩
  | 111 => ⟨S128x4096, .i32⟩
  | 112 => ⟨S128x4096, .i32⟩
  | 113 => ⟨S128x4096, .i32⟩
  | 114 => ⟨S128x4096, .i32⟩
  | 115 => ⟨S_, .i32⟩
  | 116 => ⟨S128x4096, .i32⟩
  | 117 => ⟨S128x4096, .i32⟩
  | 118 => ⟨S_, .i32⟩
  | 119 => ⟨S128x4096, .i32⟩
  | 120 => ⟨S128x4096, .i32⟩
  | 121 => ⟨S128x4096, .i32⟩
  | 122 => ⟨S128x4096, .i32⟩
  | 123 => ⟨S128x4096, .i32⟩
  | 124 => ⟨S_, .i32⟩
  | 125 => ⟨S128x4096, .i32⟩
  | 126 => ⟨S128x4096, .i32⟩
  | 127 => ⟨S_, .i32⟩
  | _ => ⟨S128x4096, .i32⟩

abbrev hbmTy0_11 (i : Nat) : BufTy := match i % 128 with
  | 0 => ⟨S128x4096, .i32⟩
  | 1 => ⟨S128x4096, .i32⟩
  | 2 => ⟨S128x4096, .i32⟩
  | 3 => ⟨S128x4096, .i32⟩
  | 4 => ⟨S128x4096, .i32⟩
  | 5 => ⟨S_, .i32⟩
  | 6 => ⟨S128x4096, .i32⟩
  | 7 => ⟨S128x4096, .i32⟩
  | 8 => ⟨S_, .i32⟩
  | 9 => ⟨S128x4096, .i32⟩
  | 10 => ⟨S128x4096, .i32⟩
  | 11 => ⟨S128x4096, .i32⟩
  | 12 => ⟨S128x4096, .i32⟩
  | 13 => ⟨S128x4096, .i32⟩
  | 14 => ⟨S128x4096, .i32⟩
  | 15 => ⟨S128x4096, .i32⟩
  | 16 => ⟨S128x4096, .i32⟩
  | 17 => ⟨S_, .i32⟩
  | 18 => ⟨S128x4096, .i32⟩
  | 19 => ⟨S128x4096, .i32⟩
  | 20 => ⟨S128x4096, .i32⟩
  | 21 => ⟨S_, .i32⟩
  | 22 => ⟨S128x4096, .i32⟩
  | 23 => ⟨S128x4096, .i32⟩
  | 24 => ⟨S_, .i32⟩
  | 25 => ⟨S128x4096, .i32⟩
  | 26 => ⟨S128x4096, .i32⟩
  | 27 => ⟨S128x4096, .i32⟩
  | 28 => ⟨S128x4096, .i32⟩
  | 29 => ⟨S128x4096, .i32⟩
  | 30 => ⟨S_, .i32⟩
  | 31 => ⟨S128x4096, .i32⟩
  | 32 => ⟨S128x4096, .i32⟩
  | 33 => ⟨S_, .i32⟩
  | 34 => ⟨S128x4096, .i32⟩
  | 35 => ⟨S128x4096, .i32⟩
  | 36 => ⟨S128x4096, .i32⟩
  | 37 => ⟨S128x4096, .i32⟩
  | 38 => ⟨S128x4096, .i32⟩
  | 39 => ⟨S_, .i32⟩
  | 40 => ⟨S128x4096, .i32⟩
  | 41 => ⟨S128x4096, .i32⟩
  | 42 => ⟨S_, .i32⟩
  | 43 => ⟨S128x4096, .i32⟩
  | 44 => ⟨S128x4096, .i32⟩
  | 45 => ⟨S128x4096, .i32⟩
  | 46 => ⟨S128x4096, .i32⟩
  | 47 => ⟨S128x4096, .i32⟩
  | 48 => ⟨S_, .i32⟩
  | 49 => ⟨S128x4096, .i32⟩
  | 50 => ⟨S128x4096, .i32⟩
  | 51 => ⟨S_, .i32⟩
  | 52 => ⟨S128x4096, .i32⟩
  | 53 => ⟨S128x4096, .i32⟩
  | 54 => ⟨S128x4096, .i32⟩
  | 55 => ⟨S128x4096, .i32⟩
  | 56 => ⟨S128x4096, .i32⟩
  | 57 => ⟨S128x4096, .i32⟩
  | 58 => ⟨S128x4096, .i32⟩
  | 59 => ⟨S128x4096, .i32⟩
  | 60 => ⟨S_, .i32⟩
  | 61 => ⟨S128x4096, .i32⟩
  | 62 => ⟨S128x4096, .i32⟩
  | 63 => ⟨S128x4096, .i32⟩
  | 64 => ⟨S_, .i32⟩
  | 65 => ⟨S128x4096, .i32⟩
  | 66 => ⟨S128x4096, .i32⟩
  | 67 => ⟨S_, .i32⟩
  | 68 => ⟨S128x4096, .i32⟩
  | 69 => ⟨S128x4096, .i32⟩
  | 70 => ⟨S128x4096, .i32⟩
  | 71 => ⟨S128x4096, .i32⟩
  | 72 => ⟨S128x4096, .i32⟩
  | 73 => ⟨S_, .i32⟩
  | 74 => ⟨S128x4096, .i32⟩
  | 75 => ⟨S128x4096, .i32⟩
  | 76 => ⟨S_, .i32⟩
  | 77 => ⟨S128x4096, .i32⟩
  | 78 => ⟨S128x4096, .i32⟩
  | 79 => ⟨S128x4096, .i32⟩
  | 80 => ⟨S128x4096, .i32⟩
  | 81 => ⟨S128x4096, .i32⟩
  | 82 => ⟨S_, .i32⟩
  | 83 => ⟨S128x4096, .i32⟩
  | 84 => ⟨S128x4096, .i32⟩
  | 85 => ⟨S_, .i32⟩
  | 86 => ⟨S128x4096, .i32⟩
  | 87 => ⟨S128x4096, .i32⟩
  | 88 => ⟨S128x4096, .i32⟩
  | 89 => ⟨S128x4096, .i32⟩
  | 90 => ⟨S128x4096, .i32⟩
  | 91 => ⟨S_, .i32⟩
  | 92 => ⟨S128x4096, .i32⟩
  | 93 => ⟨S128x4096, .i32⟩
  | 94 => ⟨S_, .i32⟩
  | 95 => ⟨S128x4096, .i32⟩
  | 96 => ⟨S128x4096, .i32⟩
  | 97 => ⟨S128x4096, .i32⟩
  | 98 => ⟨S128x4096, .i32⟩
  | 99 => ⟨S128x4096, .i32⟩
  | 100 => ⟨S128x4096, .i32⟩
  | 101 => ⟨S128x4096, .i32⟩
  | 102 => ⟨S128x4096, .i32⟩
  | 103 => ⟨S_, .i32⟩
  | 104 => ⟨S128x4096, .i32⟩
  | 105 => ⟨S128x4096, .i32⟩
  | 106 => ⟨S128x4096, .i32⟩
  | 107 => ⟨S_, .i32⟩
  | 108 => ⟨S128x4096, .i32⟩
  | 109 => ⟨S128x4096, .i32⟩
  | 110 => ⟨S_, .i32⟩
  | 111 => ⟨S128x4096, .i32⟩
  | 112 => ⟨S128x4096, .i32⟩
  | 113 => ⟨S128x4096, .i32⟩
  | 114 => ⟨S128x4096, .i32⟩
  | 115 => ⟨S128x4096, .i32⟩
  | 116 => ⟨S_, .i32⟩
  | 117 => ⟨S128x4096, .i32⟩
  | 118 => ⟨S128x4096, .i32⟩
  | 119 => ⟨S_, .i32⟩
  | 120 => ⟨S128x4096, .i32⟩
  | 121 => ⟨S128x4096, .i32⟩
  | 122 => ⟨S128x4096, .i32⟩
  | 123 => ⟨S128x4096, .i32⟩
  | 124 => ⟨S128x4096, .i32⟩
  | 125 => ⟨S_, .i32⟩
  | 126 => ⟨S128x4096, .i32⟩
  | 127 => ⟨S128x4096, .i32⟩
  | _ => ⟨S128x4096, .i32⟩

abbrev hbmTy0_12 (i : Nat) : BufTy := match i % 128 with
  | 0 => ⟨S_, .i32⟩
  | 1 => ⟨S128x4096, .i32⟩
  | 2 => ⟨S128x4096, .i32⟩
  | 3 => ⟨S128x4096, .i32⟩
  | 4 => ⟨S128x4096, .i32⟩
  | 5 => ⟨S128x4096, .i32⟩
  | 6 => ⟨S_, .i32⟩
  | 7 => ⟨S128x4096, .i32⟩
  | 8 => ⟨S128x4096, .i32⟩
  | 9 => ⟨S_, .i32⟩
  | 10 => ⟨S128x4096, .i32⟩
  | 11 => ⟨S128x4096, .i32⟩
  | 12 => ⟨S128x4096, .i32⟩
  | 13 => ⟨S128x4096, .i32⟩
  | 14 => ⟨S128x4096, .i32⟩
  | 15 => ⟨S128x4096, .i32⟩
  | 16 => ⟨S128x4096, .i32⟩
  | 17 => ⟨S128x4096, .i32⟩
  | 18 => ⟨S_, .i32⟩
  | 19 => ⟨S128x4096, .i32⟩
  | 20 => ⟨S128x4096, .i32⟩
  | 21 => ⟨S128x4096, .i32⟩
  | 22 => ⟨S_, .i32⟩
  | 23 => ⟨S128x4096, .i32⟩
  | 24 => ⟨S128x4096, .i32⟩
  | 25 => ⟨S_, .i32⟩
  | 26 => ⟨S128x4096, .i32⟩
  | 27 => ⟨S128x4096, .i32⟩
  | 28 => ⟨S128x4096, .f32⟩
  | 29 => ⟨S_, .f32⟩
  | 30 => ⟨S128x4096, .f32⟩
  | 31 => ⟨S128x4096, .f32⟩
  | 32 => ⟨S1x1, .f32⟩
  | 33 => ⟨S128x4096, .f32⟩
  | 34 => ⟨S128x4096, .f32⟩
  | 35 => ⟨S128x4096, .f32⟩
  | 36 => ⟨S128x4096, .f32⟩
  | 37 => ⟨S128x4096, .f32⟩
  | 38 => ⟨S128x4096, .f32⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S_, .i32⟩
  | 56 => ⟨S_, .i32⟩
  | 57 => ⟨S1x1, .i32⟩
  | 58 => ⟨S1x1, .i32⟩
  | 59 => ⟨S1, .i32⟩
  | 60 => ⟨S_, .i32⟩
  | 61 => ⟨S1, .i32⟩
  | 62 => ⟨S_, .i32⟩
  | 63 => ⟨S2, .i64⟩
  | 64 => ⟨S_, .i64⟩
  | 65 => ⟨S2, .i64⟩
  | 66 => ⟨S2, .i64⟩
  | 67 => ⟨S_, .i64⟩
  | 68 => ⟨S2, .i64⟩
  | 69 => ⟨S2, .i64⟩
  | 70 => ⟨S2, .i32⟩
  | 71 => ⟨S2, .i32⟩
  | 72 => ⟨S_, .i32⟩
  | 73 => ⟨S_, .i32⟩
  | 74 => ⟨S_, .i32⟩
  | 75 => ⟨S2, .i32⟩
  | 76 => ⟨S2, .i32⟩
  | 77 => ⟨S2, .i32⟩
  | 78 => ⟨S2, .i32⟩
  | 79 => ⟨S2, .i32⟩
  | 80 => ⟨S_, .i32⟩
  | 81 => ⟨S2, .i32⟩
  | 82 => ⟨S2, .i32⟩
  | 83 => ⟨S_, .i32⟩
  | 84 => ⟨S2, .i32⟩
  | 85 => ⟨S2, .i32⟩
  | 86 => ⟨S2, .i32⟩
  | 87 => ⟨S2, .i32⟩
  | 88 => ⟨S2, .i32⟩
  | 89 => ⟨S_, .i32⟩
  | 90 => ⟨S2, .i32⟩
  | 91 => ⟨S2, .i32⟩
  | 92 => ⟨S_, .i32⟩
  | 93 => ⟨S2, .i32⟩
  | 94 => ⟨S2, .i32⟩
  | 95 => ⟨S2, .i32⟩
  | 96 => ⟨S2, .i32⟩
  | 97 => ⟨S2, .i32⟩
  | 98 => ⟨S_, .i32⟩
  | 99 => ⟨S2, .i32⟩
  | 100 => ⟨S2, .i32⟩
  | 101 => ⟨S_, .i32⟩
  | 102 => ⟨S2, .i32⟩
  | 103 => ⟨S2, .i32⟩
  | 104 => ⟨S2, .i32⟩
  | 105 => ⟨S2, .i32⟩
  | 106 => ⟨S2, .i32⟩
  | 107 => ⟨S_, .i32⟩
  | 108 => ⟨S2, .i32⟩
  | 109 => ⟨S2, .i32⟩
  | 110 => ⟨S_, .i32⟩
  | 111 => ⟨S2, .i32⟩
  | 112 => ⟨S2, .i32⟩
  | 113 => ⟨S2, .i32⟩
  | 114 => ⟨S2, .i32⟩
  | 115 => ⟨S2, .i32⟩
  | 116 => ⟨S2, .i32⟩
  | 117 => ⟨S2, .i32⟩
  | 118 => ⟨S2, .i32⟩
  | 119 => ⟨S_, .i32⟩
  | 120 => ⟨S2, .i32⟩
  | 121 => ⟨S2, .i32⟩
  | 122 => ⟨S2, .i32⟩
  | 123 => ⟨S_, .i32⟩
  | 124 => ⟨S2, .i32⟩
  | 125 => ⟨S2, .i32⟩
  | 126 => ⟨S_, .i32⟩
  | 127 => ⟨S2, .i32⟩
  | _ => ⟨S128x4096, .i32⟩

abbrev hbmTy0_13 (i : Nat) : BufTy := match i % 128 with
  | 0 => ⟨S2, .i32⟩
  | 1 => ⟨S2, .i32⟩
  | 2 => ⟨S2, .i32⟩
  | 3 => ⟨S2, .i32⟩
  | 4 => ⟨S_, .i32⟩
  | 5 => ⟨S2, .i32⟩
  | 6 => ⟨S2, .i32⟩
  | 7 => ⟨S_, .i32⟩
  | 8 => ⟨S2, .i32⟩
  | 9 => ⟨S2, .i32⟩
  | 10 => ⟨S2, .i32⟩
  | 11 => ⟨S2, .i32⟩
  | 12 => ⟨S2, .i32⟩
  | 13 => ⟨S_, .i32⟩
  | 14 => ⟨S2, .i32⟩
  | 15 => ⟨S2, .i32⟩
  | 16 => ⟨S_, .i32⟩
  | 17 => ⟨S2, .i32⟩
  | 18 => ⟨S2, .i32⟩
  | 19 => ⟨S2, .i32⟩
  | 20 => ⟨S2, .i32⟩
  | 21 => ⟨S2, .i32⟩
  | 22 => ⟨S_, .i32⟩
  | 23 => ⟨S2, .i32⟩
  | 24 => ⟨S2, .i32⟩
  | 25 => ⟨S_, .i32⟩
  | 26 => ⟨S2, .i32⟩
  | 27 => ⟨S2, .i32⟩
  | 28 => ⟨S2, .i32⟩
  | 29 => ⟨S2, .i32⟩
  | 30 => ⟨S2, .i32⟩
  | 31 => ⟨S2, .i32⟩
  | 32 => ⟨S2, .i32⟩
  | 33 => ⟨S2, .i32⟩
  | 34 => ⟨S_, .i32⟩
  | 35 => ⟨S2, .i32⟩
  | 36 => ⟨S2, .i32⟩
  | 37 => ⟨S2, .i32⟩
  | 38 => ⟨S_, .i32⟩
  | 39 => ⟨S2, .i32⟩
  | 40 => ⟨S2, .i32⟩
  | 41 => ⟨S_, .i32⟩
  | 42 => ⟨S2, .i32⟩
  | 43 => ⟨S2, .i32⟩
  | 44 => ⟨S2, .i32⟩
  | 45 => ⟨S2, .i32⟩
  | 46 => ⟨S2, .i32⟩
  | 47 => ⟨S_, .i32⟩
  | 48 => ⟨S2, .i32⟩
  | 49 => ⟨S2, .i32⟩
  | 50 => ⟨S_, .i32⟩
  | 51 => ⟨S2, .i32⟩
  | 52 => ⟨S2, .i32⟩
  | 53 => ⟨S2, .i32⟩
  | 54 => ⟨S2, .i32⟩
  | 55 => ⟨S2, .i32⟩
  | 56 => ⟨S_, .i32⟩
  | 57 => ⟨S2, .i32⟩
  | 58 => ⟨S2, .i32⟩
  | 59 => ⟨S_, .i32⟩
  | 60 => ⟨S2, .i32⟩
  | 61 => ⟨S2, .i32⟩
  | 62 => ⟨S2, .i32⟩
  | 63 => ⟨S2, .i32⟩
  | 64 => ⟨S2, .i32⟩
  | 65 => ⟨S_, .i32⟩
  | 66 => ⟨S2, .i32⟩
  | 67 => ⟨S2, .i32⟩
  | 68 => ⟨S_, .i32⟩
  | 69 => ⟨S2, .i32⟩
  | 70 => ⟨S2, .i32⟩
  | 71 => ⟨S2, .i32⟩
  | 72 => ⟨S2, .i32⟩
  | 73 => ⟨S2, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S2, .i32⟩
  | 81 => ⟨S_, .i32⟩
  | 82 => ⟨S2, .i32⟩
  | 83 => ⟨S2, .i32⟩
  | 84 => ⟨S_, .i32⟩
  | 85 => ⟨S2, .i32⟩
  | 86 => ⟨S2, .i32⟩
  | 87 => ⟨S2, .i32⟩
  | 88 => ⟨S2, .i32⟩
  | 89 => ⟨S2, .i32⟩
  | 90 => ⟨S_, .i32⟩
  | 91 => ⟨S2, .i32⟩
  | 92 => ⟨S2, .i32⟩
  | 93 => ⟨S_, .i32⟩
  | 94 => ⟨S2, .i32⟩
  | 95 => ⟨S2, .i32⟩
  | 96 => ⟨S2, .i32⟩
  | 97 => ⟨S2, .i32⟩
  | 98 => ⟨S2, .i32⟩
  | 99 => ⟨S_, .i32⟩
  | 100 => ⟨S2, .i32⟩
  | 101 => ⟨S2, .i32⟩
  | 102 => ⟨S_, .i32⟩
  | 103 => ⟨S2, .i32⟩
  | 104 => ⟨S2, .i32⟩
  | 105 => ⟨S2, .i32⟩
  | 106 => ⟨S2, .i32⟩
  | 107 => ⟨S2, .i32⟩
  | 108 => ⟨S_, .i32⟩
  | 109 => ⟨S2, .i32⟩
  | 110 => ⟨S2, .i32⟩
  | 111 => ⟨S_, .i32⟩
  | 112 => ⟨S2, .i32⟩
  | 113 => ⟨S2, .i32⟩
  | 114 => ⟨S2, .i32⟩
  | 115 => ⟨S2, .i32⟩
  | 116 => ⟨S2, .i32⟩
  | 117 => ⟨S2, .i32⟩
  | 118 => ⟨S2, .i32⟩
  | 119 => ⟨S2, .i32⟩
  | 120 => ⟨S_, .i32⟩
  | 121 => ⟨S2, .i32⟩
  | 122 => ⟨S2, .i32⟩
  | 123 => ⟨S2, .i32⟩
  | 124 => ⟨S_, .i32⟩
  | 125 => ⟨S2, .i32⟩
  | 126 => ⟨S2, .i32⟩
  | 127 => ⟨S_, .i32⟩
  | _ => ⟨S128x4096, .i32⟩

abbrev hbmTy0_14 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S_, .i32⟩
  | 6 => ⟨S2, .i32⟩
  | 7 => ⟨S2, .i32⟩
  | 8 => ⟨S_, .i32⟩
  | 9 => ⟨S2, .i32⟩
  | 10 => ⟨S2, .i32⟩
  | 11 => ⟨S2, .i32⟩
  | 12 => ⟨S2, .i32⟩
  | 13 => ⟨S2, .i32⟩
  | 14 => ⟨S_, .i32⟩
  | 15 => ⟨S2, .i32⟩
  | 16 => ⟨S2, .i32⟩
  | 17 => ⟨S_, .i32⟩
  | 18 => ⟨S2, .i32⟩
  | 19 => ⟨S2, .i32⟩
  | 20 => ⟨S2, .i32⟩
  | 21 => ⟨S2, .i32⟩
  | 22 => ⟨S2, .i32⟩
  | 23 => ⟨S_, .i32⟩
  | 24 => ⟨S2, .i32⟩
  | 25 => ⟨S2, .i32⟩
  | 26 => ⟨S_, .i32⟩
  | 27 => ⟨S2, .i32⟩
  | 28 => ⟨S2, .i32⟩
  | 29 => ⟨S2, .i32⟩
  | 30 => ⟨S2, .i32⟩
  | 31 => ⟨S2, .i32⟩
  | 32 => ⟨S2, .i32⟩
  | 33 => ⟨S2, .i32⟩
  | 34 => ⟨S2, .i32⟩
  | 35 => ⟨S_, .i32⟩
  | 36 => ⟨S2, .i32⟩
  | 37 => ⟨S2, .i32⟩
  | 38 => ⟨S2x1, .i32⟩
  | 39 => ⟨S2x1, .i32⟩
  | 40 => ⟨S2x2, .i32⟩
  | 41 => ⟨S1x2, .i32⟩
  | 42 => ⟨S2, .i32⟩
  | 43 => ⟨S1x2, .i32⟩
  | 44 => ⟨S2, .i32⟩
  | 45 => ⟨S1, .i32⟩
  | 46 => ⟨S_, .i32⟩
  | 47 => ⟨S1, .i32⟩
  | 48 => ⟨S_, .i32⟩
  | 49 => ⟨S128x4096, .i64⟩
  | 50 => ⟨S128x4096, .i64⟩
  | 51 => ⟨S_, .i64⟩
  | 52 => ⟨S128x4096, .i64⟩
  | 53 => ⟨S128x4096, .i64⟩
  | 54 => ⟨S_, .i64⟩
  | 55 => ⟨S128x4096, .i64⟩
  | 56 => ⟨S128x4096, .i64⟩
  | 57 => ⟨S128x4096, .i64⟩
  | 58 => ⟨S_, .i64⟩
  | 59 => ⟨S128x4096, .i64⟩
  | 60 => ⟨S128x4096, .i64⟩
  | 61 => ⟨S128x4096, .i32⟩
  | 62 => ⟨S128x4096, .i32⟩
  | 63 => ⟨S_, .i32⟩
  | 64 => ⟨S_, .i32⟩
  | 65 => ⟨S_, .i32⟩
  | 66 => ⟨S128x4096, .i32⟩
  | 67 => ⟨S128x4096, .i32⟩
  | 68 => ⟨S128x4096, .i32⟩
  | 69 => ⟨S128x4096, .i32⟩
  | 70 => ⟨S128x4096, .i32⟩
  | 71 => ⟨S_, .i32⟩
  | 72 => ⟨S128x4096, .i32⟩
  | 73 => ⟨S128x4096, .i32⟩
  | 74 => ⟨S_, .i32⟩
  | 75 => ⟨S128x4096, .i32⟩
  | 76 => ⟨S128x4096, .i32⟩
  | 77 => ⟨S128x4096, .i32⟩
  | 78 => ⟨S128x4096, .i32⟩
  | 79 => ⟨S128x4096, .i32⟩
  | 80 => ⟨S_, .i32⟩
  | 81 => ⟨S128x4096, .i32⟩
  | 82 => ⟨S128x4096, .i32⟩
  | 83 => ⟨S_, .i32⟩
  | 84 => ⟨S128x4096, .i32⟩
  | 85 => ⟨S128x4096, .i32⟩
  | 86 => ⟨S128x4096, .i32⟩
  | 87 => ⟨S128x4096, .i32⟩
  | 88 => ⟨S128x4096, .i32⟩
  | 89 => ⟨S_, .i32⟩
  | 90 => ⟨S128x4096, .i32⟩
  | 91 => ⟨S128x4096, .i32⟩
  | 92 => ⟨S_, .i32⟩
  | 93 => ⟨S128x4096, .i32⟩
  | 94 => ⟨S128x4096, .i32⟩
  | 95 => ⟨S128x4096, .i32⟩
  | 96 => ⟨S128x4096, .i32⟩
  | 97 => ⟨S128x4096, .i32⟩
  | 98 => ⟨S_, .i32⟩
  | 99 => ⟨S128x4096, .i32⟩
  | 100 => ⟨S128x4096, .i32⟩
  | 101 => ⟨S_, .i32⟩
  | 102 => ⟨S128x4096, .i32⟩
  | 103 => ⟨S128x4096, .i32⟩
  | 104 => ⟨S128x4096, .i32⟩
  | 105 => ⟨S128x4096, .i32⟩
  | 106 => ⟨S128x4096, .i32⟩
  | 107 => ⟨S128x4096, .i32⟩
  | 108 => ⟨S128x4096, .i32⟩
  | 109 => ⟨S128x4096, .i32⟩
  | 110 => ⟨S_, .i32⟩
  | 111 => ⟨S128x4096, .i32⟩
  | 112 => ⟨S128x4096, .i32⟩
  | 113 => ⟨S128x4096, .i32⟩
  | 114 => ⟨S_, .i32⟩
  | 115 => ⟨S128x4096, .i32⟩
  | 116 => ⟨S128x4096, .i32⟩
  | 117 => ⟨S_, .i32⟩
  | 118 => ⟨S128x4096, .i32⟩
  | 119 => ⟨S128x4096, .i32⟩
  | 120 => ⟨S128x4096, .i32⟩
  | 121 => ⟨S128x4096, .i32⟩
  | 122 => ⟨S128x4096, .i32⟩
  | 123 => ⟨S_, .i32⟩
  | 124 => ⟨S128x4096, .i32⟩
  | 125 => ⟨S128x4096, .i32⟩
  | 126 => ⟨S_, .i32⟩
  | 127 => ⟨S128x4096, .i32⟩
  | _ => ⟨S128x4096, .i32⟩

abbrev hbmTy0_15 (i : Nat) : BufTy := match i % 128 with
  | 0 => ⟨S128x4096, .i32⟩
  | 1 => ⟨S128x4096, .i32⟩
  | 2 => ⟨S128x4096, .i32⟩
  | 3 => ⟨S128x4096, .i32⟩
  | 4 => ⟨S_, .i32⟩
  | 5 => ⟨S128x4096, .i32⟩
  | 6 => ⟨S128x4096, .i32⟩
  | 7 => ⟨S_, .i32⟩
  | 8 => ⟨S128x4096, .i32⟩
  | 9 => ⟨S128x4096, .i32⟩
  | 10 => ⟨S128x4096, .i32⟩
  | 11 => ⟨S128x4096, .i32⟩
  | 12 => ⟨S128x4096, .i32⟩
  | 13 => ⟨S_, .i32⟩
  | 14 => ⟨S128x4096, .i32⟩
  | 15 => ⟨S128x4096, .i32⟩
  | 16 => ⟨S_, .i32⟩
  | 17 => ⟨S128x4096, .i32⟩
  | 18 => ⟨S128x4096, .i32⟩
  | 19 => ⟨S128x4096, .i32⟩
  | 20 => ⟨S128x4096, .i32⟩
  | 21 => ⟨S128x4096, .i32⟩
  | 22 => ⟨S128x4096, .i32⟩
  | 23 => ⟨S128x4096, .i32⟩
  | 24 => ⟨S128x4096, .i32⟩
  | 25 => ⟨S_, .i32⟩
  | 26 => ⟨S128x4096, .i32⟩
  | 27 => ⟨S128x4096, .i32⟩
  | 28 => ⟨S128x4096, .i32⟩
  | 29 => ⟨S_, .i32⟩
  | 30 => ⟨S128x4096, .i32⟩
  | 31 => ⟨S128x4096, .i32⟩
  | 32 => ⟨S_, .i32⟩
  | 33 => ⟨S128x4096, .i32⟩
  | 34 => ⟨S128x4096, .i32⟩
  | 35 => ⟨S128x4096, .i32⟩
  | 36 => ⟨S128x4096, .i32⟩
  | 37 => ⟨S128x4096, .i32⟩
  | 38 => ⟨S_, .i32⟩
  | 39 => ⟨S128x4096, .i32⟩
  | 40 => ⟨S128x4096, .i32⟩
  | 41 => ⟨S_, .i32⟩
  | 42 => ⟨S128x4096, .i32⟩
  | 43 => ⟨S128x4096, .i32⟩
  | 44 => ⟨S128x4096, .i32⟩
  | 45 => ⟨S128x4096, .i32⟩
  | 46 => ⟨S128x4096, .i32⟩
  | 47 => ⟨S_, .i32⟩
  | 48 => ⟨S128x4096, .i32⟩
  | 49 => ⟨S128x4096, .i32⟩
  | 50 => ⟨S_, .i32⟩
  | 51 => ⟨S128x4096, .i32⟩
  | 52 => ⟨S128x4096, .i32⟩
  | 53 => ⟨S128x4096, .i32⟩
  | 54 => ⟨S128x4096, .i32⟩
  | 55 => ⟨S128x4096, .i32⟩
  | 56 => ⟨S_, .i32⟩
  | 57 => ⟨S128x4096, .i32⟩
  | 58 => ⟨S128x4096, .i32⟩
  | 59 => ⟨S_, .i32⟩
  | 60 => ⟨S128x4096, .i32⟩
  | 61 => ⟨S128x4096, .i32⟩
  | 62 => ⟨S128x4096, .i32⟩
  | 63 => ⟨S128x4096, .i32⟩
  | 64 => ⟨S128x4096, .i32⟩
  | 65 => ⟨S128x4096, .i32⟩
  | 66 => ⟨S128x4096, .i32⟩
  | 67 => ⟨S128x4096, .i32⟩
  | 68 => ⟨S_, .i32⟩
  | 69 => ⟨S128x4096, .i32⟩
  | 70 => ⟨S128x4096, .i32⟩
  | 71 => ⟨S128x4096, .i32⟩
  | 72 => ⟨S_, .i32⟩
  | 73 => ⟨S128x4096, .i32⟩
  | 74 => ⟨S128x4096, .i32⟩
  | 75 => ⟨S_, .i32⟩
  | 76 => ⟨S128x4096, .i32⟩
  | 77 => ⟨S128x4096, .i32⟩
  | 78 => ⟨S128x4096, .i32⟩
  | 79 => ⟨S128x4096, .i32⟩
  | 80 => ⟨S128x4096, .i32⟩
  | 81 => ⟨S_, .i32⟩
  | 82 => ⟨S128x4096, .i32⟩
  | 83 => ⟨S128x4096, .i32⟩
  | 84 => ⟨S_, .i32⟩
  | 85 => ⟨S128x4096, .i32⟩
  | 86 => ⟨S128x4096, .i32⟩
  | 87 => ⟨S128x4096, .i32⟩
  | 88 => ⟨S128x4096, .i32⟩
  | 89 => ⟨S128x4096, .i32⟩
  | 90 => ⟨S_, .i32⟩
  | 91 => ⟨S128x4096, .i32⟩
  | 92 => ⟨S128x4096, .i32⟩
  | 93 => ⟨S_, .i32⟩
  | 94 => ⟨S128x4096, .i32⟩
  | 95 => ⟨S128x4096, .i32⟩
  | 96 => ⟨S128x4096, .i32⟩
  | 97 => ⟨S128x4096, .i32⟩
  | 98 => ⟨S128x4096, .i32⟩
  | 99 => ⟨S_, .i32⟩
  | 100 => ⟨S128x4096, .i32⟩
  | 101 => ⟨S128x4096, .i32⟩
  | 102 => ⟨S_, .i32⟩
  | 103 => ⟨S128x4096, .i32⟩
  | 104 => ⟨S128x4096, .i32⟩
  | 105 => ⟨S128x4096, .i32⟩
  | 106 => ⟨S128x4096, .i32⟩
  | 107 => ⟨S128x4096, .i32⟩
  | 108 => ⟨S128x4096, .i32⟩
  | 109 => ⟨S128x4096, .i32⟩
  | 110 => ⟨S128x4096, .i32⟩
  | 111 => ⟨S_, .i32⟩
  | 112 => ⟨S128x4096, .i32⟩
  | 113 => ⟨S128x4096, .i32⟩
  | 114 => ⟨S128x4096, .i32⟩
  | 115 => ⟨S_, .i32⟩
  | 116 => ⟨S128x4096, .i32⟩
  | 117 => ⟨S128x4096, .i32⟩
  | 118 => ⟨S_, .i32⟩
  | 119 => ⟨S128x4096, .i32⟩
  | 120 => ⟨S128x4096, .i32⟩
  | 121 => ⟨S128x4096, .i32⟩
  | 122 => ⟨S128x4096, .i32⟩
  | 123 => ⟨S128x4096, .i32⟩
  | 124 => ⟨S_, .i32⟩
  | 125 => ⟨S128x4096, .i32⟩
  | 126 => ⟨S128x4096, .i32⟩
  | 127 => ⟨S_, .i32⟩
  | _ => ⟨S128x4096, .i32⟩

abbrev hbmTy0_16 (i : Nat) : BufTy := match i % 128 with
  | 0 => ⟨S128x4096, .i32⟩
  | 1 => ⟨S128x4096, .i32⟩
  | 2 => ⟨S128x4096, .i32⟩
  | 3 => ⟨S128x4096, .i32⟩
  | 4 => ⟨S128x4096, .i32⟩
  | 5 => ⟨S_, .i32⟩
  | 6 => ⟨S128x4096, .i32⟩
  | 7 => ⟨S128x4096, .i32⟩
  | 8 => ⟨S_, .i32⟩
  | 9 => ⟨S128x4096, .i32⟩
  | 10 => ⟨S128x4096, .i32⟩
  | 11 => ⟨S128x4096, .i32⟩
  | 12 => ⟨S128x4096, .i32⟩
  | 13 => ⟨S128x4096, .i32⟩
  | 14 => ⟨S_, .i32⟩
  | 15 => ⟨S128x4096, .i32⟩
  | 16 => ⟨S128x4096, .i32⟩
  | 17 => ⟨S_, .i32⟩
  | 18 => ⟨S128x4096, .i32⟩
  | 19 => ⟨S128x4096, .i32⟩
  | 20 => ⟨S128x4096, .i32⟩
  | 21 => ⟨S128x4096, .i32⟩
  | 22 => ⟨S128x4096, .i32⟩
  | 23 => ⟨S128x4096, .i32⟩
  | 24 => ⟨S128x4096, .i32⟩
  | 25 => ⟨S128x4096, .i32⟩
  | 26 => ⟨S_, .i32⟩
  | 27 => ⟨S128x4096, .i32⟩
  | 28 => ⟨S128x4096, .i32⟩
  | 29 => ⟨S128x4096, .i32⟩
  | 30 => ⟨S1, .i32⟩
  | 31 => ⟨S_, .i32⟩
  | 32 => ⟨S1, .i32⟩
  | 33 => ⟨S_, .i32⟩
  | 34 => ⟨S128x4096, .i64⟩
  | 35 => ⟨S128x4096, .i64⟩
  | 36 => ⟨S_, .i64⟩
  | 37 => ⟨S128x4096, .i64⟩
  | 38 => ⟨S128x4096, .i64⟩
  | 39 => ⟨S_, .i64⟩
  | 40 => ⟨S128x4096, .i64⟩
  | 41 => ⟨S128x4096, .i64⟩
  | 42 => ⟨S128x4096, .i64⟩
  | 43 => ⟨S_, .i64⟩
  | 44 => ⟨S128x4096, .i64⟩
  | 45 => ⟨S128x4096, .i64⟩
  | 46 => ⟨S128x4096, .i32⟩
  | 47 => ⟨S128x4096, .i32⟩
  | 48 => ⟨S_, .i32⟩
  | 49 => ⟨S_, .i32⟩
  | 50 => ⟨S_, .i32⟩
  | 51 => ⟨S128x4096, .i32⟩
  | 52 => ⟨S128x4096, .i32⟩
  | 53 => ⟨S128x4096, .i32⟩
  | 54 => ⟨S128x4096, .i32⟩
  | 55 => ⟨S128x4096, .i32⟩
  | 56 => ⟨S_, .i32⟩
  | 57 => ⟨S128x4096, .i32⟩
  | 58 => ⟨S128x4096, .i32⟩
  | 59 => ⟨S_, .i32⟩
  | 60 => ⟨S128x4096, .i32⟩
  | 61 => ⟨S128x4096, .i32⟩
  | 62 => ⟨S128x4096, .i32⟩
  | 63 => ⟨S128x4096, .i32⟩
  | 64 => ⟨S128x4096, .i32⟩
  | 65 => ⟨S_, .i32⟩
  | 66 => ⟨S128x4096, .i32⟩
  | 67 => ⟨S128x4096, .i32⟩
  | 68 => ⟨S_, .i32⟩
  | 69 => ⟨S128x4096, .i32⟩
  | 70 => ⟨S128x4096, .i32⟩
  | 71 => ⟨S128x4096, .i32⟩
  | 72 => ⟨S128x4096, .i32⟩
  | 73 => ⟨S128x4096, .i32⟩
  | 74 => ⟨S_, .i32⟩
  | 75 => ⟨S128x4096, .i32⟩
  | 76 => ⟨S128x4096, .i32⟩
  | 77 => ⟨S_, .i32⟩
  | 78 => ⟨S128x4096, .i32⟩
  | 79 => ⟨S128x4096, .i32⟩
  | 80 => ⟨S128x4096, .i32⟩
  | 81 => ⟨S128x4096, .i32⟩
  | 82 => ⟨S128x4096, .i32⟩
  | 83 => ⟨S_, .i32⟩
  | 84 => ⟨S128x4096, .i32⟩
  | 85 => ⟨S128x4096, .i32⟩
  | 86 => ⟨S_, .i32⟩
  | 87 => ⟨S128x4096, .i32⟩
  | 88 => ⟨S128x4096, .i32⟩
  | 89 => ⟨S128x4096, .i32⟩
  | 90 => ⟨S128x4096, .i32⟩
  | 91 => ⟨S128x4096, .i32⟩
  | 92 => ⟨S128x4096, .i32⟩
  | 93 => ⟨S128x4096, .i32⟩
  | 94 => ⟨S128x4096, .i32⟩
  | 95 => ⟨S_, .i32⟩
  | 96 => ⟨S128x4096, .i32⟩
  | 97 => ⟨S128x4096, .i32⟩
  | 98 => ⟨S128x4096, .i32⟩
  | 99 => ⟨S_, .i32⟩
  | 100 => ⟨S128x4096, .i32⟩
  | 101 => ⟨S128x4096, .i32⟩
  | 102 => ⟨S_, .i32⟩
  | 103 => ⟨S128x4096, .i32⟩
  | 104 => ⟨S128x4096, .i32⟩
  | 105 => ⟨S128x4096, .i32⟩
  | 106 => ⟨S128x4096, .i32⟩
  | 107 => ⟨S128x4096, .i32⟩
  | 108 => ⟨S_, .i32⟩
  | 109 => ⟨S128x4096, .i32⟩
  | 110 => ⟨S128x4096, .i32⟩
  | 111 => ⟨S_, .i32⟩
  | 112 => ⟨S128x4096, .i32⟩
  | 113 => ⟨S128x4096, .i32⟩
  | 114 => ⟨S128x4096, .i32⟩
  | 115 => ⟨S128x4096, .i32⟩
  | 116 => ⟨S128x4096, .i32⟩
  | 117 => ⟨S_, .i32⟩
  | 118 => ⟨S128x4096, .i32⟩
  | 119 => ⟨S128x4096, .i32⟩
  | 120 => ⟨S_, .i32⟩
  | 121 => ⟨S128x4096, .i32⟩
  | 122 => ⟨S128x4096, .i32⟩
  | 123 => ⟨S128x4096, .i32⟩
  | 124 => ⟨S128x4096, .i32⟩
  | 125 => ⟨S128x4096, .i32⟩
  | 126 => ⟨S_, .i32⟩
  | 127 => ⟨S128x4096, .i32⟩
  | _ => ⟨S128x4096, .i32⟩

abbrev hbmTy0_17 (i : Nat) : BufTy := match i % 128 with
  | 0 => ⟨S128x4096, .i32⟩
  | 1 => ⟨S_, .i32⟩
  | 2 => ⟨S128x4096, .i32⟩
  | 3 => ⟨S128x4096, .i32⟩
  | 4 => ⟨S128x4096, .i32⟩
  | 5 => ⟨S128x4096, .i32⟩
  | 6 => ⟨S128x4096, .i32⟩
  | 7 => ⟨S128x4096, .i32⟩
  | 8 => ⟨S128x4096, .i32⟩
  | 9 => ⟨S128x4096, .i32⟩
  | 10 => ⟨S_, .i32⟩
  | 11 => ⟨S128x4096, .i32⟩
  | 12 => ⟨S128x4096, .i32⟩
  | 13 => ⟨S128x4096, .i32⟩
  | 14 => ⟨S_, .i32⟩
  | 15 => ⟨S128x4096, .i32⟩
  | 16 => ⟨S128x4096, .i32⟩
  | 17 => ⟨S_, .i32⟩
  | 18 => ⟨S128x4096, .i32⟩
  | 19 => ⟨S128x4096, .i32⟩
  | 20 => ⟨S128x4096, .i32⟩
  | 21 => ⟨S128x4096, .i32⟩
  | 22 => ⟨S128x4096, .i32⟩
  | 23 => ⟨S_, .i32⟩
  | 24 => ⟨S128x4096, .i32⟩
  | 25 => ⟨S128x4096, .i32⟩
  | 26 => ⟨S_, .i32⟩
  | 27 => ⟨S128x4096, .i32⟩
  | 28 => ⟨S128x4096, .i32⟩
  | 29 => ⟨S128x4096, .i32⟩
  | 30 => ⟨S128x4096, .i32⟩
  | 31 => ⟨S128x4096, .i32⟩
  | 32 => ⟨S_, .i32⟩
  | 33 => ⟨S128x4096, .i32⟩
  | 34 => ⟨S128x4096, .i32⟩
  | 35 => ⟨S_, .i32⟩
  | 36 => ⟨S128x4096, .i32⟩
  | 37 => ⟨S128x4096, .i32⟩
  | 38 => ⟨S128x4096, .i32⟩
  | 39 => ⟨S128x4096, .i32⟩
  | 40 => ⟨S128x4096, .i32⟩
  | 41 => ⟨S_, .i32⟩
  | 42 => ⟨S128x4096, .i32⟩
  | 43 => ⟨S128x4096, .i32⟩
  | 44 => ⟨S_, .i32⟩
  | 45 => ⟨S128x4096, .i32⟩
  | 46 => ⟨S128x4096, .i32⟩
  | 47 => ⟨S128x4096, .i32⟩
  | 48 => ⟨S128x4096, .i32⟩
  | 49 => ⟨S128x4096, .i32⟩
  | 50 => ⟨S128x4096, .i32⟩
  | 51 => ⟨S128x4096, .i32⟩
  | 52 => ⟨S128x4096, .i32⟩
  | 53 => ⟨S_, .i32⟩
  | 54 => ⟨S128x4096, .i32⟩
  | 55 => ⟨S128x4096, .i32⟩
  | 56 => ⟨S128x4096, .i32⟩
  | 57 => ⟨S_, .i32⟩
  | 58 => ⟨S128x4096, .i32⟩
  | 59 => ⟨S128x4096, .i32⟩
  | 60 => ⟨S_, .i32⟩
  | 61 => ⟨S128x4096, .i32⟩
  | 62 => ⟨S128x4096, .i32⟩
  | 63 => ⟨S128x4096, .i32⟩
  | 64 => ⟨S128x4096, .i32⟩
  | 65 => ⟨S128x4096, .i32⟩
  | 66 => ⟨S_, .i32⟩
  | 67 => ⟨S128x4096, .i32⟩
  | 68 => ⟨S128x4096, .i32⟩
  | 69 => ⟨S_, .i32⟩
  | 70 => ⟨S128x4096, .i32⟩
  | 71 => ⟨S128x4096, .i32⟩
  | 72 => ⟨S128x4096, .i32⟩
  | 73 => ⟨S128x4096, .i32⟩
  | 74 => ⟨S128x4096, .i32⟩
  | 75 => ⟨S_, .i32⟩
  | 76 => ⟨S128x4096, .i32⟩
  | 77 => ⟨S128x4096, .i32⟩
  | 78 => ⟨S_, .i32⟩
  | 79 => ⟨S128x4096, .i32⟩
  | 80 => ⟨S128x4096, .i32⟩
  | 81 => ⟨S128x4096, .i32⟩
  | 82 => ⟨S128x4096, .i32⟩
  | 83 => ⟨S128x4096, .i32⟩
  | 84 => ⟨S_, .i32⟩
  | 85 => ⟨S128x4096, .i32⟩
  | 86 => ⟨S128x4096, .i32⟩
  | 87 => ⟨S_, .i32⟩
  | 88 => ⟨S128x4096, .i32⟩
  | 89 => ⟨S128x4096, .i32⟩
  | 90 => ⟨S128x4096, .i32⟩
  | 91 => ⟨S128x4096, .i32⟩
  | 92 => ⟨S128x4096, .i32⟩
  | 93 => ⟨S128x4096, .i32⟩
  | 94 => ⟨S128x4096, .i32⟩
  | 95 => ⟨S128x4096, .i32⟩
  | 96 => ⟨S_, .i32⟩
  | 97 => ⟨S128x4096, .i32⟩
  | 98 => ⟨S128x4096, .i32⟩
  | 99 => ⟨S128x4096, .i32⟩
  | 100 => ⟨S_, .i32⟩
  | 101 => ⟨S128x4096, .i32⟩
  | 102 => ⟨S128x4096, .i32⟩
  | 103 => ⟨S_, .i32⟩
  | 104 => ⟨S128x4096, .i32⟩
  | 105 => ⟨S128x4096, .i32⟩
  | 106 => ⟨S128x4096, .i32⟩
  | 107 => ⟨S128x4096, .i32⟩
  | 108 => ⟨S128x4096, .i32⟩
  | 109 => ⟨S_, .i32⟩
  | 110 => ⟨S128x4096, .i32⟩
  | 111 => ⟨S128x4096, .i32⟩
  | 112 => ⟨S_, .i32⟩
  | 113 => ⟨S128x4096, .i32⟩
  | 114 => ⟨S128x4096, .i32⟩
  | 115 => ⟨S128x4096, .i32⟩
  | 116 => ⟨S128x4096, .i32⟩
  | 117 => ⟨S128x4096, .i32⟩
  | 118 => ⟨S_, .i32⟩
  | 119 => ⟨S128x4096, .i32⟩
  | 120 => ⟨S128x4096, .i32⟩
  | 121 => ⟨S_, .i32⟩
  | 122 => ⟨S128x4096, .i32⟩
  | 123 => ⟨S128x4096, .i32⟩
  | 124 => ⟨S128x4096, .i32⟩
  | 125 => ⟨S128x4096, .i32⟩
  | 126 => ⟨S128x4096, .i32⟩
  | 127 => ⟨S_, .i32⟩
  | _ => ⟨S128x4096, .i32⟩

abbrev hbmTy0_18 (i : Nat) : BufTy := match i % 128 with
  | 0 => ⟨S128x4096, .i32⟩
  | 1 => ⟨S128x4096, .i32⟩
  | 2 => ⟨S_, .i32⟩
  | 3 => ⟨S128x4096, .i32⟩
  | 4 => ⟨S128x4096, .i32⟩
  | 5 => ⟨S128x4096, .i32⟩
  | 6 => ⟨S128x4096, .i32⟩
  | 7 => ⟨S128x4096, .i32⟩
  | 8 => ⟨S128x4096, .i32⟩
  | 9 => ⟨S128x4096, .i32⟩
  | 10 => ⟨S128x4096, .i32⟩
  | 11 => ⟨S_, .i32⟩
  | 12 => ⟨S128x4096, .i32⟩
  | 13 => ⟨S128x4096, .i32⟩
  | 14 => ⟨S128x4096, .i32⟩
  | 15 => ⟨S1x1, .i32⟩
  | 16 => ⟨S1x1, .i32⟩
  | 17 => ⟨S1x1, .i1⟩
  | 18 => ⟨S_, .i32⟩
  | 19 => ⟨S1x1, .i32⟩
  | 20 => ⟨S1x1, .i32⟩
  | 21 => ⟨S1x1, .i1⟩
  | 22 => ⟨S1x1, .i1⟩
  | 23 => ⟨S1x1, .i1⟩
  | 24 => ⟨S_, .i32⟩
  | 25 => ⟨S1x1, .i32⟩
  | 26 => ⟨S1x1, .i32⟩
  | 27 => ⟨S1x1, .i32⟩
  | 28 => ⟨S_, .i32⟩
  | 29 => ⟨S1x1, .i32⟩
  | 30 => ⟨S1x1, .i32⟩
  | 31 => ⟨S1x1, .i32⟩
  | 32 => ⟨S1x1, .i32⟩
  | 33 => ⟨S128x4096, .i32⟩
  | 34 => ⟨S128x4096, .i32⟩
  | 35 => ⟨S128x4096, .i32⟩
  | 36 => ⟨S128x4096, .i32⟩
  | 37 => ⟨S128x4096, .i32⟩
  | 38 => ⟨S128x4096, .i32⟩
  | 39 => ⟨S128x4096, .i32⟩
  | 40 => ⟨S128x4096, .i32⟩
  | 41 => ⟨S128x4096, .i32⟩
  | 42 => ⟨S128x4096, .i32⟩
  | 43 => ⟨S128x4096, .i32⟩
  | 44 => ⟨S128x4096, .i32⟩
  | 45 => ⟨S_, .f32⟩
  | 46 => ⟨S128x4096, .f32⟩
  | 47 => ⟨S128x4096, .i1⟩
  | 48 => ⟨S128x4096, .i1⟩
  | 49 => ⟨S_, .i32⟩
  | 50 => ⟨S128x4096, .i32⟩
  | 51 => ⟨S128x4096, .i32⟩
  | 52 => ⟨S_, .f32⟩
  | 53 => ⟨S128x4096, .f32⟩
  | 54 => ⟨S128x4096, .i1⟩
  | 55 => ⟨S128x4096, .i1⟩
  | 56 => ⟨S_, .f32⟩
  | 57 => ⟨S128x4096, .f32⟩
  | 58 => ⟨S128x4096, .i1⟩
  | 59 => ⟨S128x4096, .i1⟩
  | 60 => ⟨S128x4096, .i32⟩
  | _ => ⟨S128x4096, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | 18 => hbmTy0_18 i
  | _ => ⟨S128x4096, .i32⟩

abbrev bufTy : (tb : Table) → Fin (tcTables nBuf tb) → BufTy
  | .hbm, ⟨i, _⟩ => hbmTy i
  | _, _ => ⟨S128x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c : Ref sig .tc := ⟨.hbm, 17, rfl⟩
abbrev main_call0_v5 : Ref sig .tc := ⟨.hbm, 18, rfl⟩
abbrev main_call0_v6 : Ref sig .tc := ⟨.hbm, 19, rfl⟩
abbrev main_call0_c_0 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_call0_v0 : Ref sig .tc := ⟨.hbm, 25, rfl⟩
abbrev main_call0_call0_c : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_c_0 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_c_1 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_call0_v12 : Ref sig .tc := ⟨.hbm, 40, rfl⟩
abbrev main_call0_call0_v13 : Ref sig .tc := ⟨.hbm, 41, rfl⟩
abbrev main_call0_call0_c_2 : Ref sig .tc := ⟨.hbm, 42, rfl⟩
abbrev main_call0_call0_v14 : Ref sig .tc := ⟨.hbm, 43, rfl⟩
abbrev main_call0_call0_v15 : Ref sig .tc := ⟨.hbm, 44, rfl⟩
abbrev main_call0_call0_c_3 : Ref sig .tc := ⟨.hbm, 45, rfl⟩
abbrev main_call0_call0_v16 : Ref sig .tc := ⟨.hbm, 46, rfl⟩
abbrev main_call0_call0_v17 : Ref sig .tc := ⟨.hbm, 47, rfl⟩
abbrev main_call0_call0_v18 : Ref sig .tc := ⟨.hbm, 48, rfl⟩
abbrev main_call0_call0_v19 : Ref sig .tc := ⟨.hbm, 49, rfl⟩
abbrev main_call0_call0_v20 : Ref sig .tc := ⟨.hbm, 50, rfl⟩
abbrev main_call0_call0_c_4 : Ref sig .tc := ⟨.hbm, 51, rfl⟩
abbrev main_call0_call0_v21 : Ref sig .tc := ⟨.hbm, 52, rfl⟩
abbrev main_call0_call0_v22 : Ref sig .tc := ⟨.hbm, 53, rfl⟩
abbrev main_call0_call0_c_5 : Ref sig .tc := ⟨.hbm, 54, rfl⟩
abbrev main_call0_call0_v23 : Ref sig .tc := ⟨.hbm, 55, rfl⟩
abbrev main_call0_call0_v24 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_v27 : Ref sig .tc := ⟨.hbm, 59, rfl⟩
abbrev main_call0_call0_c_6 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_c_7 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_v32 : Ref sig .tc := ⟨.hbm, 66, rfl⟩
abbrev main_call0_call0_v33 : Ref sig .tc := ⟨.hbm, 67, rfl⟩
abbrev main_call0_call0_v34 : Ref sig .tc := ⟨.hbm, 68, rfl⟩
abbrev main_call0_call0_v35 : Ref sig .tc := ⟨.hbm, 69, rfl⟩
abbrev main_call0_call0_v36 : Ref sig .tc := ⟨.hbm, 70, rfl⟩
abbrev main_call0_call0_v37 : Ref sig .tc := ⟨.hbm, 71, rfl⟩
abbrev main_call0_call0_c_8 : Ref sig .tc := ⟨.hbm, 72, rfl⟩
abbrev main_call0_call0_v38 : Ref sig .tc := ⟨.hbm, 73, rfl⟩
abbrev main_call0_call0_v39 : Ref sig .tc := ⟨.hbm, 74, rfl⟩
abbrev main_call0_call0_v40 : Ref sig .tc := ⟨.hbm, 75, rfl⟩
abbrev main_call0_call0_c_9 : Ref sig .tc := ⟨.hbm, 76, rfl⟩
abbrev main_call0_call0_v41 : Ref sig .tc := ⟨.hbm, 77, rfl⟩
abbrev main_call0_call0_v42 : Ref sig .tc := ⟨.hbm, 78, rfl⟩
abbrev main_call0_call0_c_10 : Ref sig .tc := ⟨.hbm, 79, rfl⟩
abbrev main_call0_call0_v43 : Ref sig .tc := ⟨.hbm, 80, rfl⟩
abbrev main_call0_call0_v44 : Ref sig .tc := ⟨.hbm, 81, rfl⟩
abbrev main_call0_call0_v45 : Ref sig .tc := ⟨.hbm, 82, rfl⟩
abbrev main_call0_call0_v46 : Ref sig .tc := ⟨.hbm, 83, rfl⟩
abbrev main_call0_call0_v47 : Ref sig .tc := ⟨.hbm, 84, rfl⟩
abbrev main_call0_call0_c_11 : Ref sig .tc := ⟨.hbm, 85, rfl⟩
abbrev main_call0_call0_v48 : Ref sig .tc := ⟨.hbm, 86, rfl⟩
abbrev main_call0_call0_v49 : Ref sig .tc := ⟨.hbm, 87, rfl⟩
abbrev main_call0_call0_c_12 : Ref sig .tc := ⟨.hbm, 88, rfl⟩
abbrev main_call0_call0_v50 : Ref sig .tc := ⟨.hbm, 89, rfl⟩
abbrev main_call0_call0_v51 : Ref sig .tc := ⟨.hbm, 90, rfl⟩
abbrev main_call0_call0_v52 : Ref sig .tc := ⟨.hbm, 91, rfl⟩
abbrev main_call0_call0_v53 : Ref sig .tc := ⟨.hbm, 92, rfl⟩
abbrev main_call0_call0_v54 : Ref sig .tc := ⟨.hbm, 93, rfl⟩
abbrev main_call0_call0_c_13 : Ref sig .tc := ⟨.hbm, 94, rfl⟩
abbrev main_call0_call0_v55 : Ref sig .tc := ⟨.hbm, 95, rfl⟩
abbrev main_call0_call0_v56 : Ref sig .tc := ⟨.hbm, 96, rfl⟩
abbrev main_call0_call0_c_14 : Ref sig .tc := ⟨.hbm, 97, rfl⟩
abbrev main_call0_call0_v57 : Ref sig .tc := ⟨.hbm, 98, rfl⟩
abbrev main_call0_call0_v58 : Ref sig .tc := ⟨.hbm, 99, rfl⟩
abbrev main_call0_call0_v59 : Ref sig .tc := ⟨.hbm, 100, rfl⟩
abbrev main_call0_call0_v60 : Ref sig .tc := ⟨.hbm, 101, rfl⟩
abbrev main_call0_call0_v61 : Ref sig .tc := ⟨.hbm, 102, rfl⟩
abbrev main_call0_call0_c_15 : Ref sig .tc := ⟨.hbm, 103, rfl⟩
abbrev main_call0_call0_v62 : Ref sig .tc := ⟨.hbm, 104, rfl⟩
abbrev main_call0_call0_v63 : Ref sig .tc := ⟨.hbm, 105, rfl⟩
abbrev main_call0_call0_c_16 : Ref sig .tc := ⟨.hbm, 106, rfl⟩
abbrev main_call0_call0_v64 : Ref sig .tc := ⟨.hbm, 107, rfl⟩
abbrev main_call0_call0_v65 : Ref sig .tc := ⟨.hbm, 108, rfl⟩
abbrev main_call0_call0_v66 : Ref sig .tc := ⟨.hbm, 109, rfl⟩
abbrev main_call0_call0_v67 : Ref sig .tc := ⟨.hbm, 110, rfl⟩
abbrev main_call0_call0_v68 : Ref sig .tc := ⟨.hbm, 111, rfl⟩
abbrev main_call0_call0_v69 : Ref sig .tc := ⟨.hbm, 112, rfl⟩
abbrev main_call0_call0_v70 : Ref sig .tc := ⟨.hbm, 113, rfl⟩
abbrev main_call0_call0_v71 : Ref sig .tc := ⟨.hbm, 114, rfl⟩
abbrev main_call0_call0_c_17 : Ref sig .tc := ⟨.hbm, 115, rfl⟩
abbrev main_call0_call0_v72 : Ref sig .tc := ⟨.hbm, 116, rfl⟩
abbrev main_call0_call0_v73 : Ref sig .tc := ⟨.hbm, 117, rfl⟩
abbrev main_call0_call0_v74 : Ref sig .tc := ⟨.hbm, 118, rfl⟩
abbrev main_call0_call0_c_18 : Ref sig .tc := ⟨.hbm, 119, rfl⟩
abbrev main_call0_call0_v75 : Ref sig .tc := ⟨.hbm, 120, rfl⟩
abbrev main_call0_call0_v76 : Ref sig .tc := ⟨.hbm, 121, rfl⟩
abbrev main_call0_call0_c_19 : Ref sig .tc := ⟨.hbm, 122, rfl⟩
abbrev main_call0_call0_v77 : Ref sig .tc := ⟨.hbm, 123, rfl⟩
abbrev main_call0_call0_v78 : Ref sig .tc := ⟨.hbm, 124, rfl⟩
abbrev main_call0_call0_v79 : Ref sig .tc := ⟨.hbm, 125, rfl⟩
abbrev main_call0_call0_v80 : Ref sig .tc := ⟨.hbm, 126, rfl⟩
abbrev main_call0_call0_v81 : Ref sig .tc := ⟨.hbm, 127, rfl⟩
abbrev main_call0_call0_c_20 : Ref sig .tc := ⟨.hbm, 128, rfl⟩
abbrev main_call0_call0_v82 : Ref sig .tc := ⟨.hbm, 129, rfl⟩
abbrev main_call0_call0_v83 : Ref sig .tc := ⟨.hbm, 130, rfl⟩
abbrev main_call0_call0_c_21 : Ref sig .tc := ⟨.hbm, 131, rfl⟩
abbrev main_call0_call0_v84 : Ref sig .tc := ⟨.hbm, 132, rfl⟩
abbrev main_call0_call0_v85 : Ref sig .tc := ⟨.hbm, 133, rfl⟩
abbrev main_call0_call0_v86 : Ref sig .tc := ⟨.hbm, 134, rfl⟩
abbrev main_call0_call0_v87 : Ref sig .tc := ⟨.hbm, 135, rfl⟩
abbrev main_call0_call0_v88 : Ref sig .tc := ⟨.hbm, 136, rfl⟩
abbrev main_call0_call0_c_22 : Ref sig .tc := ⟨.hbm, 137, rfl⟩
abbrev main_call0_call0_v89 : Ref sig .tc := ⟨.hbm, 138, rfl⟩
abbrev main_call0_call0_v90 : Ref sig .tc := ⟨.hbm, 139, rfl⟩
abbrev main_call0_call0_c_23 : Ref sig .tc := ⟨.hbm, 140, rfl⟩
abbrev main_call0_call0_v91 : Ref sig .tc := ⟨.hbm, 141, rfl⟩
abbrev main_call0_call0_v92 : Ref sig .tc := ⟨.hbm, 142, rfl⟩
abbrev main_call0_call0_v93 : Ref sig .tc := ⟨.hbm, 143, rfl⟩
abbrev main_call0_call0_v94 : Ref sig .tc := ⟨.hbm, 144, rfl⟩
abbrev main_call0_call0_v95 : Ref sig .tc := ⟨.hbm, 145, rfl⟩
abbrev main_call0_call0_c_24 : Ref sig .tc := ⟨.hbm, 146, rfl⟩
abbrev main_call0_call0_v96 : Ref sig .tc := ⟨.hbm, 147, rfl⟩
abbrev main_call0_call0_v97 : Ref sig .tc := ⟨.hbm, 148, rfl⟩
abbrev main_call0_call0_c_25 : Ref sig .tc := ⟨.hbm, 149, rfl⟩
abbrev main_call0_call0_v98 : Ref sig .tc := ⟨.hbm, 150, rfl⟩
abbrev main_call0_call0_v99 : Ref sig .tc := ⟨.hbm, 151, rfl⟩
abbrev main_call0_call0_v100 : Ref sig .tc := ⟨.hbm, 152, rfl⟩
abbrev main_call0_call0_v101 : Ref sig .tc := ⟨.hbm, 153, rfl⟩
abbrev main_call0_call0_v102 : Ref sig .tc := ⟨.hbm, 154, rfl⟩
abbrev main_call0_call0_v103 : Ref sig .tc := ⟨.hbm, 155, rfl⟩
abbrev main_call0_call0_v104 : Ref sig .tc := ⟨.hbm, 156, rfl⟩
abbrev main_call0_call0_v105 : Ref sig .tc := ⟨.hbm, 157, rfl⟩
abbrev main_call0_call0_c_26 : Ref sig .tc := ⟨.hbm, 158, rfl⟩
abbrev main_call0_call0_v106 : Ref sig .tc := ⟨.hbm, 159, rfl⟩
abbrev main_call0_call0_v107 : Ref sig .tc := ⟨.hbm, 160, rfl⟩
abbrev main_call0_call0_v108 : Ref sig .tc := ⟨.hbm, 161, rfl⟩
abbrev main_call0_call0_c_27 : Ref sig .tc := ⟨.hbm, 162, rfl⟩
abbrev main_call0_call0_v109 : Ref sig .tc := ⟨.hbm, 163, rfl⟩
abbrev main_call0_call0_v110 : Ref sig .tc := ⟨.hbm, 164, rfl⟩
abbrev main_call0_call0_c_28 : Ref sig .tc := ⟨.hbm, 165, rfl⟩
abbrev main_call0_call0_v111 : Ref sig .tc := ⟨.hbm, 166, rfl⟩
abbrev main_call0_call0_v112 : Ref sig .tc := ⟨.hbm, 167, rfl⟩
abbrev main_call0_call0_v113 : Ref sig .tc := ⟨.hbm, 168, rfl⟩
abbrev main_call0_call0_v114 : Ref sig .tc := ⟨.hbm, 169, rfl⟩
abbrev main_call0_call0_v115 : Ref sig .tc := ⟨.hbm, 170, rfl⟩
abbrev main_call0_call0_c_29 : Ref sig .tc := ⟨.hbm, 171, rfl⟩
abbrev main_call0_call0_v116 : Ref sig .tc := ⟨.hbm, 172, rfl⟩
abbrev main_call0_call0_v117 : Ref sig .tc := ⟨.hbm, 173, rfl⟩
abbrev main_call0_call0_c_30 : Ref sig .tc := ⟨.hbm, 174, rfl⟩
abbrev main_call0_call0_v118 : Ref sig .tc := ⟨.hbm, 175, rfl⟩
abbrev main_call0_call0_v119 : Ref sig .tc := ⟨.hbm, 176, rfl⟩
abbrev main_call0_call0_v120 : Ref sig .tc := ⟨.hbm, 177, rfl⟩
abbrev main_call0_call0_v121 : Ref sig .tc := ⟨.hbm, 178, rfl⟩
abbrev main_call0_call0_v122 : Ref sig .tc := ⟨.hbm, 179, rfl⟩
abbrev main_call0_call0_c_31 : Ref sig .tc := ⟨.hbm, 180, rfl⟩
abbrev main_call0_call0_v123 : Ref sig .tc := ⟨.hbm, 181, rfl⟩
abbrev main_call0_call0_v124 : Ref sig .tc := ⟨.hbm, 182, rfl⟩
abbrev main_call0_call0_c_32 : Ref sig .tc := ⟨.hbm, 183, rfl⟩
abbrev main_call0_call0_v125 : Ref sig .tc := ⟨.hbm, 184, rfl⟩
abbrev main_call0_call0_v126 : Ref sig .tc := ⟨.hbm, 185, rfl⟩
abbrev main_call0_call0_v127 : Ref sig .tc := ⟨.hbm, 186, rfl⟩
abbrev main_call0_call0_v128 : Ref sig .tc := ⟨.hbm, 187, rfl⟩
abbrev main_call0_call0_v129 : Ref sig .tc := ⟨.hbm, 188, rfl⟩
abbrev main_call0_call0_c_33 : Ref sig .tc := ⟨.hbm, 189, rfl⟩
abbrev main_call0_call0_v130 : Ref sig .tc := ⟨.hbm, 190, rfl⟩
abbrev main_call0_call0_v131 : Ref sig .tc := ⟨.hbm, 191, rfl⟩
abbrev main_call0_call0_c_34 : Ref sig .tc := ⟨.hbm, 192, rfl⟩
abbrev main_call0_call0_v132 : Ref sig .tc := ⟨.hbm, 193, rfl⟩
abbrev main_call0_call0_v133 : Ref sig .tc := ⟨.hbm, 194, rfl⟩
abbrev main_call0_call0_v134 : Ref sig .tc := ⟨.hbm, 195, rfl⟩
abbrev main_call0_call0_v135 : Ref sig .tc := ⟨.hbm, 196, rfl⟩
abbrev main_call0_call0_v136 : Ref sig .tc := ⟨.hbm, 197, rfl⟩
abbrev main_call0_call0_v137 : Ref sig .tc := ⟨.hbm, 198, rfl⟩
abbrev main_call0_call0_v138 : Ref sig .tc := ⟨.hbm, 199, rfl⟩
abbrev main_call0_call0_v139 : Ref sig .tc := ⟨.hbm, 200, rfl⟩
abbrev main_call0_call0_c_35 : Ref sig .tc := ⟨.hbm, 201, rfl⟩
abbrev main_call0_call0_v140 : Ref sig .tc := ⟨.hbm, 202, rfl⟩
abbrev main_call0_call0_v141 : Ref sig .tc := ⟨.hbm, 203, rfl⟩
abbrev main_call0_call0_v142 : Ref sig .tc := ⟨.hbm, 204, rfl⟩
abbrev main_call0_call0_c_36 : Ref sig .tc := ⟨.hbm, 205, rfl⟩
abbrev main_call0_call0_v143 : Ref sig .tc := ⟨.hbm, 206, rfl⟩
abbrev main_call0_call0_v144 : Ref sig .tc := ⟨.hbm, 207, rfl⟩
abbrev main_call0_call0_c_37 : Ref sig .tc := ⟨.hbm, 208, rfl⟩
abbrev main_call0_call0_v145 : Ref sig .tc := ⟨.hbm, 209, rfl⟩
abbrev main_call0_call0_v146 : Ref sig .tc := ⟨.hbm, 210, rfl⟩
abbrev main_call0_call0_v147 : Ref sig .tc := ⟨.hbm, 211, rfl⟩
abbrev main_call0_call0_v148 : Ref sig .tc := ⟨.hbm, 212, rfl⟩
abbrev main_call0_call0_v149 : Ref sig .tc := ⟨.hbm, 213, rfl⟩
abbrev main_call0_call0_c_38 : Ref sig .tc := ⟨.hbm, 214, rfl⟩
abbrev main_call0_call0_v150 : Ref sig .tc := ⟨.hbm, 215, rfl⟩
abbrev main_call0_call0_v151 : Ref sig .tc := ⟨.hbm, 216, rfl⟩
abbrev main_call0_call0_c_39 : Ref sig .tc := ⟨.hbm, 217, rfl⟩
abbrev main_call0_call0_v152 : Ref sig .tc := ⟨.hbm, 218, rfl⟩
abbrev main_call0_call0_v153 : Ref sig .tc := ⟨.hbm, 219, rfl⟩
abbrev main_call0_call0_v154 : Ref sig .tc := ⟨.hbm, 220, rfl⟩
abbrev main_call0_call0_v155 : Ref sig .tc := ⟨.hbm, 221, rfl⟩
abbrev main_call0_call0_v156 : Ref sig .tc := ⟨.hbm, 222, rfl⟩
abbrev main_call0_call0_c_40 : Ref sig .tc := ⟨.hbm, 223, rfl⟩
abbrev main_call0_call0_v157 : Ref sig .tc := ⟨.hbm, 224, rfl⟩
abbrev main_call0_call0_v158 : Ref sig .tc := ⟨.hbm, 225, rfl⟩
abbrev main_call0_call0_c_41 : Ref sig .tc := ⟨.hbm, 226, rfl⟩
abbrev main_call0_call0_v159 : Ref sig .tc := ⟨.hbm, 227, rfl⟩
abbrev main_call0_call0_v160 : Ref sig .tc := ⟨.hbm, 228, rfl⟩
abbrev main_call0_call0_v161 : Ref sig .tc := ⟨.hbm, 229, rfl⟩
abbrev main_call0_call0_v162 : Ref sig .tc := ⟨.hbm, 230, rfl⟩
abbrev main_call0_call0_v163 : Ref sig .tc := ⟨.hbm, 231, rfl⟩
abbrev main_call0_call0_c_42 : Ref sig .tc := ⟨.hbm, 232, rfl⟩
abbrev main_call0_call0_v164 : Ref sig .tc := ⟨.hbm, 233, rfl⟩
abbrev main_call0_call0_v165 : Ref sig .tc := ⟨.hbm, 234, rfl⟩
abbrev main_call0_call0_c_43 : Ref sig .tc := ⟨.hbm, 235, rfl⟩
abbrev main_call0_call0_v166 : Ref sig .tc := ⟨.hbm, 236, rfl⟩
abbrev main_call0_call0_v167 : Ref sig .tc := ⟨.hbm, 237, rfl⟩
abbrev main_call0_call0_v168 : Ref sig .tc := ⟨.hbm, 238, rfl⟩
abbrev main_call0_call0_v169 : Ref sig .tc := ⟨.hbm, 239, rfl⟩
abbrev main_call0_call0_v170 : Ref sig .tc := ⟨.hbm, 240, rfl⟩
abbrev main_call0_v11_0 : Ref sig .tc := ⟨.hbm, 241, rfl⟩
abbrev main_call0_call0_v172 : Ref sig .tc := ⟨.hbm, 242, rfl⟩
abbrev main_call0_call0_v173 : Ref sig .tc := ⟨.hbm, 243, rfl⟩
abbrev main_call0_call0_c_44 : Ref sig .tc := ⟨.hbm, 244, rfl⟩
abbrev main_call0_call0_v174 : Ref sig .tc := ⟨.hbm, 245, rfl⟩
abbrev main_call0_v11_1 : Ref sig .tc := ⟨.hbm, 246, rfl⟩
abbrev main_call0_v12 : Ref sig .tc := ⟨.hbm, 247, rfl⟩
abbrev main_call0_v13 : Ref sig .tc := ⟨.hbm, 248, rfl⟩
abbrev main_v7 : Ref sig .tc := ⟨.hbm, 249, rfl⟩
abbrev main_v8 : Ref sig .tc := ⟨.hbm, 250, rfl⟩
abbrev main_v9 : Ref sig .tc := ⟨.hbm, 251, rfl⟩
abbrev main_v10 : Ref sig .tc := ⟨.hbm, 252, rfl⟩
abbrev main_v11 : Ref sig .tc := ⟨.hbm, 253, rfl⟩
abbrev main_v12 : Ref sig .tc := ⟨.hbm, 254, rfl⟩
abbrev main_v13 : Ref sig .tc := ⟨.hbm, 255, rfl⟩
abbrev main_v14 : Ref sig .tc := ⟨.hbm, 256, rfl⟩
abbrev main_v15 : Ref sig .tc := ⟨.hbm, 257, rfl⟩
abbrev main_cst : Ref sig .tc := ⟨.hbm, 258, rfl⟩
abbrev main_cst_2 : Ref sig .tc := ⟨.hbm, 259, rfl⟩
abbrev main_call1_v0 : Ref sig .tc := ⟨.hbm, 260, rfl⟩
abbrev main_call1_v1 : Ref sig .tc := ⟨.hbm, 261, rfl⟩
abbrev main_call1_v2 : Ref sig .tc := ⟨.hbm, 262, rfl⟩
abbrev main_call1_v3 : Ref sig .tc := ⟨.hbm, 263, rfl⟩
abbrev main_call1_v4 : Ref sig .tc := ⟨.hbm, 264, rfl⟩
abbrev main_call1_v5 : Ref sig .tc := ⟨.hbm, 265, rfl⟩
abbrev main_call1_v6 : Ref sig .tc := ⟨.hbm, 266, rfl⟩
abbrev main_call1_v7 : Ref sig .tc := ⟨.hbm, 267, rfl⟩
abbrev main_call1_v8 : Ref sig .tc := ⟨.hbm, 268, rfl⟩
abbrev main_call1_v9 : Ref sig .tc := ⟨.hbm, 269, rfl⟩
abbrev main_call1_c : Ref sig .tc := ⟨.hbm, 270, rfl⟩
abbrev main_call1_v10 : Ref sig .tc := ⟨.hbm, 271, rfl⟩
abbrev main_call1_v11 : Ref sig .tc := ⟨.hbm, 272, rfl⟩
abbrev main_call1_c_0 : Ref sig .tc := ⟨.hbm, 273, rfl⟩
abbrev main_call1_v12 : Ref sig .tc := ⟨.hbm, 274, rfl⟩
abbrev main_call1_v13 : Ref sig .tc := ⟨.hbm, 275, rfl⟩
abbrev main_call1_v14 : Ref sig .tc := ⟨.hbm, 276, rfl⟩
abbrev main_call1_c_1 : Ref sig .tc := ⟨.hbm, 277, rfl⟩
abbrev main_call1_v15 : Ref sig .tc := ⟨.hbm, 278, rfl⟩
abbrev main_call1_v16 : Ref sig .tc := ⟨.hbm, 279, rfl⟩
abbrev main_call1_v17 : Ref sig .tc := ⟨.hbm, 280, rfl⟩
abbrev main_call1_v18 : Ref sig .tc := ⟨.hbm, 281, rfl⟩
abbrev main_call1_call0_v0 : Ref sig .tc := ⟨.hbm, 282, rfl⟩
abbrev main_call1_call0_c : Ref sig .tc := ⟨.hbm, 283, rfl⟩
abbrev main_call1_call0_v1 : Ref sig .tc := ⟨.hbm, 284, rfl⟩
abbrev main_call1_call0_v2 : Ref sig .tc := ⟨.hbm, 285, rfl⟩
abbrev main_call1_call0_v3 : Ref sig .tc := ⟨.hbm, 286, rfl⟩
abbrev main_call1_call0_v4 : Ref sig .tc := ⟨.hbm, 287, rfl⟩
abbrev main_call1_call0_v5 : Ref sig .tc := ⟨.hbm, 288, rfl⟩
abbrev main_call1_call0_v6 : Ref sig .tc := ⟨.hbm, 289, rfl⟩
abbrev main_call1_call0_c_0 : Ref sig .tc := ⟨.hbm, 290, rfl⟩
abbrev main_call1_call0_v7 : Ref sig .tc := ⟨.hbm, 291, rfl⟩
abbrev main_call1_call0_v8 : Ref sig .tc := ⟨.hbm, 292, rfl⟩
abbrev main_call1_call0_c_1 : Ref sig .tc := ⟨.hbm, 293, rfl⟩
abbrev main_call1_call0_v9 : Ref sig .tc := ⟨.hbm, 294, rfl⟩
abbrev main_call1_call0_v10 : Ref sig .tc := ⟨.hbm, 295, rfl⟩
abbrev main_call1_call0_v11 : Ref sig .tc := ⟨.hbm, 296, rfl⟩
abbrev main_call1_call0_v12 : Ref sig .tc := ⟨.hbm, 297, rfl⟩
abbrev main_call1_call0_v13 : Ref sig .tc := ⟨.hbm, 298, rfl⟩
abbrev main_call1_call0_c_2 : Ref sig .tc := ⟨.hbm, 299, rfl⟩
abbrev main_call1_call0_v14 : Ref sig .tc := ⟨.hbm, 300, rfl⟩
abbrev main_call1_call0_v15 : Ref sig .tc := ⟨.hbm, 301, rfl⟩
abbrev main_call1_call0_c_3 : Ref sig .tc := ⟨.hbm, 302, rfl⟩
abbrev main_call1_call0_v16 : Ref sig .tc := ⟨.hbm, 303, rfl⟩
abbrev main_call1_call0_v17 : Ref sig .tc := ⟨.hbm, 304, rfl⟩
abbrev main_call1_call0_v18 : Ref sig .tc := ⟨.hbm, 305, rfl⟩
abbrev main_call1_call0_v19 : Ref sig .tc := ⟨.hbm, 306, rfl⟩
abbrev main_call1_call0_v20 : Ref sig .tc := ⟨.hbm, 307, rfl⟩
abbrev main_call1_call0_c_4 : Ref sig .tc := ⟨.hbm, 308, rfl⟩
abbrev main_call1_call0_v21 : Ref sig .tc := ⟨.hbm, 309, rfl⟩
abbrev main_call1_call0_v22 : Ref sig .tc := ⟨.hbm, 310, rfl⟩
abbrev main_call1_call0_c_5 : Ref sig .tc := ⟨.hbm, 311, rfl⟩
abbrev main_call1_call0_v23 : Ref sig .tc := ⟨.hbm, 312, rfl⟩
abbrev main_call1_call0_v24 : Ref sig .tc := ⟨.hbm, 313, rfl⟩
abbrev main_call1_call0_v25 : Ref sig .tc := ⟨.hbm, 314, rfl⟩
abbrev main_call1_call0_v26 : Ref sig .tc := ⟨.hbm, 315, rfl⟩
abbrev main_call1_call0_v27 : Ref sig .tc := ⟨.hbm, 316, rfl⟩
abbrev main_call1_call0_c_6 : Ref sig .tc := ⟨.hbm, 317, rfl⟩
abbrev main_call1_call0_v28 : Ref sig .tc := ⟨.hbm, 318, rfl⟩
abbrev main_call1_call0_v29 : Ref sig .tc := ⟨.hbm, 319, rfl⟩
abbrev main_call1_call0_c_7 : Ref sig .tc := ⟨.hbm, 320, rfl⟩
abbrev main_call1_call0_v30 : Ref sig .tc := ⟨.hbm, 321, rfl⟩
abbrev main_call1_call0_v31 : Ref sig .tc := ⟨.hbm, 322, rfl⟩
abbrev main_call1_call0_v32 : Ref sig .tc := ⟨.hbm, 323, rfl⟩
abbrev main_call1_call0_v33 : Ref sig .tc := ⟨.hbm, 324, rfl⟩
abbrev main_call1_call0_v34 : Ref sig .tc := ⟨.hbm, 325, rfl⟩
abbrev main_call1_call0_v35 : Ref sig .tc := ⟨.hbm, 326, rfl⟩
abbrev main_call1_call0_v36 : Ref sig .tc := ⟨.hbm, 327, rfl⟩
abbrev main_call1_call0_v37 : Ref sig .tc := ⟨.hbm, 328, rfl⟩
abbrev main_call1_call0_c_8 : Ref sig .tc := ⟨.hbm, 329, rfl⟩
abbrev main_call1_call0_v38 : Ref sig .tc := ⟨.hbm, 330, rfl⟩
abbrev main_call1_call0_v39 : Ref sig .tc := ⟨.hbm, 331, rfl⟩
abbrev main_call1_call0_v40 : Ref sig .tc := ⟨.hbm, 332, rfl⟩
abbrev main_call1_call0_c_9 : Ref sig .tc := ⟨.hbm, 333, rfl⟩
abbrev main_call1_call0_v41 : Ref sig .tc := ⟨.hbm, 334, rfl⟩
abbrev main_call1_call0_v42 : Ref sig .tc := ⟨.hbm, 335, rfl⟩
abbrev main_call1_call0_c_10 : Ref sig .tc := ⟨.hbm, 336, rfl⟩
abbrev main_call1_call0_v43 : Ref sig .tc := ⟨.hbm, 337, rfl⟩
abbrev main_call1_call0_v44 : Ref sig .tc := ⟨.hbm, 338, rfl⟩
abbrev main_call1_call0_v45 : Ref sig .tc := ⟨.hbm, 339, rfl⟩
abbrev main_call1_call0_v46 : Ref sig .tc := ⟨.hbm, 340, rfl⟩
abbrev main_call1_call0_v47 : Ref sig .tc := ⟨.hbm, 341, rfl⟩
abbrev main_call1_call0_c_11 : Ref sig .tc := ⟨.hbm, 342, rfl⟩
abbrev main_call1_call0_v48 : Ref sig .tc := ⟨.hbm, 343, rfl⟩
abbrev main_call1_call0_v49 : Ref sig .tc := ⟨.hbm, 344, rfl⟩
abbrev main_call1_call0_c_12 : Ref sig .tc := ⟨.hbm, 345, rfl⟩
abbrev main_call1_call0_v50 : Ref sig .tc := ⟨.hbm, 346, rfl⟩
abbrev main_call1_call0_v51 : Ref sig .tc := ⟨.hbm, 347, rfl⟩
abbrev main_call1_call0_v52 : Ref sig .tc := ⟨.hbm, 348, rfl⟩
abbrev main_call1_call0_v53 : Ref sig .tc := ⟨.hbm, 349, rfl⟩
abbrev main_call1_call0_v54 : Ref sig .tc := ⟨.hbm, 350, rfl⟩
abbrev main_call1_call0_c_13 : Ref sig .tc := ⟨.hbm, 351, rfl⟩
abbrev main_call1_call0_v55 : Ref sig .tc := ⟨.hbm, 352, rfl⟩
abbrev main_call1_call0_v56 : Ref sig .tc := ⟨.hbm, 353, rfl⟩
abbrev main_call1_call0_c_14 : Ref sig .tc := ⟨.hbm, 354, rfl⟩
abbrev main_call1_call0_v57 : Ref sig .tc := ⟨.hbm, 355, rfl⟩
abbrev main_call1_call0_v58 : Ref sig .tc := ⟨.hbm, 356, rfl⟩
abbrev main_call1_call0_v59 : Ref sig .tc := ⟨.hbm, 357, rfl⟩
abbrev main_call1_call0_v60 : Ref sig .tc := ⟨.hbm, 358, rfl⟩
abbrev main_call1_call0_v61 : Ref sig .tc := ⟨.hbm, 359, rfl⟩
abbrev main_call1_call0_c_15 : Ref sig .tc := ⟨.hbm, 360, rfl⟩
abbrev main_call1_call0_v62 : Ref sig .tc := ⟨.hbm, 361, rfl⟩
abbrev main_call1_call0_v63 : Ref sig .tc := ⟨.hbm, 362, rfl⟩
abbrev main_call1_call0_c_16 : Ref sig .tc := ⟨.hbm, 363, rfl⟩
abbrev main_call1_call0_v64 : Ref sig .tc := ⟨.hbm, 364, rfl⟩
abbrev main_call1_call0_v65 : Ref sig .tc := ⟨.hbm, 365, rfl⟩
abbrev main_call1_call0_v66 : Ref sig .tc := ⟨.hbm, 366, rfl⟩
abbrev main_call1_call0_v67 : Ref sig .tc := ⟨.hbm, 367, rfl⟩
abbrev main_call1_call0_v68 : Ref sig .tc := ⟨.hbm, 368, rfl⟩
abbrev main_call1_call0_v69 : Ref sig .tc := ⟨.hbm, 369, rfl⟩
abbrev main_call1_call0_v70 : Ref sig .tc := ⟨.hbm, 370, rfl⟩
abbrev main_call1_call0_v71 : Ref sig .tc := ⟨.hbm, 371, rfl⟩
abbrev main_call1_call0_c_17 : Ref sig .tc := ⟨.hbm, 372, rfl⟩
abbrev main_call1_call0_v72 : Ref sig .tc := ⟨.hbm, 373, rfl⟩
abbrev main_call1_call0_v73 : Ref sig .tc := ⟨.hbm, 374, rfl⟩
abbrev main_call1_call0_v74 : Ref sig .tc := ⟨.hbm, 375, rfl⟩
abbrev main_call1_call0_c_18 : Ref sig .tc := ⟨.hbm, 376, rfl⟩
abbrev main_call1_call0_v75 : Ref sig .tc := ⟨.hbm, 377, rfl⟩
abbrev main_call1_call0_v76 : Ref sig .tc := ⟨.hbm, 378, rfl⟩
abbrev main_call1_call0_c_19 : Ref sig .tc := ⟨.hbm, 379, rfl⟩
abbrev main_call1_call0_v77 : Ref sig .tc := ⟨.hbm, 380, rfl⟩
abbrev main_call1_call0_v78 : Ref sig .tc := ⟨.hbm, 381, rfl⟩
abbrev main_call1_call0_v79 : Ref sig .tc := ⟨.hbm, 382, rfl⟩
abbrev main_call1_call0_v80 : Ref sig .tc := ⟨.hbm, 383, rfl⟩
abbrev main_call1_call0_v81 : Ref sig .tc := ⟨.hbm, 384, rfl⟩
abbrev main_call1_call0_c_20 : Ref sig .tc := ⟨.hbm, 385, rfl⟩
abbrev main_call1_call0_v82 : Ref sig .tc := ⟨.hbm, 386, rfl⟩
abbrev main_call1_call0_v83 : Ref sig .tc := ⟨.hbm, 387, rfl⟩
abbrev main_call1_call0_c_21 : Ref sig .tc := ⟨.hbm, 388, rfl⟩
abbrev main_call1_call0_v84 : Ref sig .tc := ⟨.hbm, 389, rfl⟩
abbrev main_call1_call0_v85 : Ref sig .tc := ⟨.hbm, 390, rfl⟩
abbrev main_call1_call0_v86 : Ref sig .tc := ⟨.hbm, 391, rfl⟩
abbrev main_call1_call0_v87 : Ref sig .tc := ⟨.hbm, 392, rfl⟩
abbrev main_call1_call0_v88 : Ref sig .tc := ⟨.hbm, 393, rfl⟩
abbrev main_call1_call0_c_22 : Ref sig .tc := ⟨.hbm, 394, rfl⟩
abbrev main_call1_call0_v89 : Ref sig .tc := ⟨.hbm, 395, rfl⟩
abbrev main_call1_call0_v90 : Ref sig .tc := ⟨.hbm, 396, rfl⟩
abbrev main_call1_call0_c_23 : Ref sig .tc := ⟨.hbm, 397, rfl⟩
abbrev main_call1_call0_v91 : Ref sig .tc := ⟨.hbm, 398, rfl⟩
abbrev main_call1_call0_v92 : Ref sig .tc := ⟨.hbm, 399, rfl⟩
abbrev main_call1_call0_v93 : Ref sig .tc := ⟨.hbm, 400, rfl⟩
abbrev main_call1_call0_v94 : Ref sig .tc := ⟨.hbm, 401, rfl⟩
abbrev main_call1_call0_v95 : Ref sig .tc := ⟨.hbm, 402, rfl⟩
abbrev main_call1_call0_c_24 : Ref sig .tc := ⟨.hbm, 403, rfl⟩
abbrev main_call1_call0_v96 : Ref sig .tc := ⟨.hbm, 404, rfl⟩
abbrev main_call1_call0_v97 : Ref sig .tc := ⟨.hbm, 405, rfl⟩
abbrev main_call1_call0_c_25 : Ref sig .tc := ⟨.hbm, 406, rfl⟩
abbrev main_call1_call0_v98 : Ref sig .tc := ⟨.hbm, 407, rfl⟩
abbrev main_call1_call0_v99 : Ref sig .tc := ⟨.hbm, 408, rfl⟩
abbrev main_call1_call0_v100 : Ref sig .tc := ⟨.hbm, 409, rfl⟩
abbrev main_call1_call0_v101 : Ref sig .tc := ⟨.hbm, 410, rfl⟩
abbrev main_call1_call0_v102 : Ref sig .tc := ⟨.hbm, 411, rfl⟩
abbrev main_call1_call0_v103 : Ref sig .tc := ⟨.hbm, 412, rfl⟩
abbrev main_call1_call0_v104 : Ref sig .tc := ⟨.hbm, 413, rfl⟩
abbrev main_call1_call0_v105 : Ref sig .tc := ⟨.hbm, 414, rfl⟩
abbrev main_call1_call0_c_26 : Ref sig .tc := ⟨.hbm, 415, rfl⟩
abbrev main_call1_call0_v106 : Ref sig .tc := ⟨.hbm, 416, rfl⟩
abbrev main_call1_call0_v107 : Ref sig .tc := ⟨.hbm, 417, rfl⟩
abbrev main_call1_call0_v108 : Ref sig .tc := ⟨.hbm, 418, rfl⟩
abbrev main_call1_call0_c_27 : Ref sig .tc := ⟨.hbm, 419, rfl⟩
abbrev main_call1_call0_v109 : Ref sig .tc := ⟨.hbm, 420, rfl⟩
abbrev main_call1_call0_v110 : Ref sig .tc := ⟨.hbm, 421, rfl⟩
abbrev main_call1_call0_c_28 : Ref sig .tc := ⟨.hbm, 422, rfl⟩
abbrev main_call1_call0_v111 : Ref sig .tc := ⟨.hbm, 423, rfl⟩
abbrev main_call1_call0_v112 : Ref sig .tc := ⟨.hbm, 424, rfl⟩
abbrev main_call1_call0_v113 : Ref sig .tc := ⟨.hbm, 425, rfl⟩
abbrev main_call1_call0_v114 : Ref sig .tc := ⟨.hbm, 426, rfl⟩
abbrev main_call1_call0_v115 : Ref sig .tc := ⟨.hbm, 427, rfl⟩
abbrev main_call1_call0_c_29 : Ref sig .tc := ⟨.hbm, 428, rfl⟩
abbrev main_call1_call0_v116 : Ref sig .tc := ⟨.hbm, 429, rfl⟩
abbrev main_call1_call0_v117 : Ref sig .tc := ⟨.hbm, 430, rfl⟩
abbrev main_call1_call0_c_30 : Ref sig .tc := ⟨.hbm, 431, rfl⟩
abbrev main_call1_call0_v118 : Ref sig .tc := ⟨.hbm, 432, rfl⟩
abbrev main_call1_call0_v119 : Ref sig .tc := ⟨.hbm, 433, rfl⟩
abbrev main_call1_call0_v120 : Ref sig .tc := ⟨.hbm, 434, rfl⟩
abbrev main_call1_call0_v121 : Ref sig .tc := ⟨.hbm, 435, rfl⟩
abbrev main_call1_call0_v122 : Ref sig .tc := ⟨.hbm, 436, rfl⟩
abbrev main_call1_call0_c_31 : Ref sig .tc := ⟨.hbm, 437, rfl⟩
abbrev main_call1_call0_v123 : Ref sig .tc := ⟨.hbm, 438, rfl⟩
abbrev main_call1_call0_v124 : Ref sig .tc := ⟨.hbm, 439, rfl⟩
abbrev main_call1_call0_c_32 : Ref sig .tc := ⟨.hbm, 440, rfl⟩
abbrev main_call1_call0_v125 : Ref sig .tc := ⟨.hbm, 441, rfl⟩
abbrev main_call1_call0_v126 : Ref sig .tc := ⟨.hbm, 442, rfl⟩
abbrev main_call1_call0_v127 : Ref sig .tc := ⟨.hbm, 443, rfl⟩
abbrev main_call1_call0_v128 : Ref sig .tc := ⟨.hbm, 444, rfl⟩
abbrev main_call1_call0_v129 : Ref sig .tc := ⟨.hbm, 445, rfl⟩
abbrev main_call1_call0_c_33 : Ref sig .tc := ⟨.hbm, 446, rfl⟩
abbrev main_call1_call0_v130 : Ref sig .tc := ⟨.hbm, 447, rfl⟩
abbrev main_call1_call0_v131 : Ref sig .tc := ⟨.hbm, 448, rfl⟩
abbrev main_call1_call0_c_34 : Ref sig .tc := ⟨.hbm, 449, rfl⟩
abbrev main_call1_call0_v132 : Ref sig .tc := ⟨.hbm, 450, rfl⟩
abbrev main_call1_call0_v133 : Ref sig .tc := ⟨.hbm, 451, rfl⟩
abbrev main_call1_call0_v134 : Ref sig .tc := ⟨.hbm, 452, rfl⟩
abbrev main_call1_call0_v135 : Ref sig .tc := ⟨.hbm, 453, rfl⟩
abbrev main_call1_call0_v136 : Ref sig .tc := ⟨.hbm, 454, rfl⟩
abbrev main_call1_call0_v137 : Ref sig .tc := ⟨.hbm, 455, rfl⟩
abbrev main_call1_call0_v138 : Ref sig .tc := ⟨.hbm, 456, rfl⟩
abbrev main_call1_call0_v139 : Ref sig .tc := ⟨.hbm, 457, rfl⟩
abbrev main_call1_call0_c_35 : Ref sig .tc := ⟨.hbm, 458, rfl⟩
abbrev main_call1_call0_v140 : Ref sig .tc := ⟨.hbm, 459, rfl⟩
abbrev main_call1_call0_v141 : Ref sig .tc := ⟨.hbm, 460, rfl⟩
abbrev main_call1_call0_v142 : Ref sig .tc := ⟨.hbm, 461, rfl⟩
abbrev main_call1_call0_c_36 : Ref sig .tc := ⟨.hbm, 462, rfl⟩
abbrev main_call1_call0_v143 : Ref sig .tc := ⟨.hbm, 463, rfl⟩
abbrev main_call1_call0_v144 : Ref sig .tc := ⟨.hbm, 464, rfl⟩
abbrev main_call1_call0_c_37 : Ref sig .tc := ⟨.hbm, 465, rfl⟩
abbrev main_call1_call0_v145 : Ref sig .tc := ⟨.hbm, 466, rfl⟩
abbrev main_call1_call0_v146 : Ref sig .tc := ⟨.hbm, 467, rfl⟩
abbrev main_call1_call0_v147 : Ref sig .tc := ⟨.hbm, 468, rfl⟩
abbrev main_call1_call0_v148 : Ref sig .tc := ⟨.hbm, 469, rfl⟩
abbrev main_call1_call0_v149 : Ref sig .tc := ⟨.hbm, 470, rfl⟩
abbrev main_call1_call0_c_38 : Ref sig .tc := ⟨.hbm, 471, rfl⟩
abbrev main_call1_call0_v150 : Ref sig .tc := ⟨.hbm, 472, rfl⟩
abbrev main_call1_call0_v151 : Ref sig .tc := ⟨.hbm, 473, rfl⟩
abbrev main_call1_call0_c_39 : Ref sig .tc := ⟨.hbm, 474, rfl⟩
abbrev main_call1_call0_v152 : Ref sig .tc := ⟨.hbm, 475, rfl⟩
abbrev main_call1_call0_v153 : Ref sig .tc := ⟨.hbm, 476, rfl⟩
abbrev main_call1_call0_v154 : Ref sig .tc := ⟨.hbm, 477, rfl⟩
abbrev main_call1_call0_v155 : Ref sig .tc := ⟨.hbm, 478, rfl⟩
abbrev main_call1_call0_v156 : Ref sig .tc := ⟨.hbm, 479, rfl⟩
abbrev main_call1_call0_c_40 : Ref sig .tc := ⟨.hbm, 480, rfl⟩
abbrev main_call1_call0_v157 : Ref sig .tc := ⟨.hbm, 481, rfl⟩
abbrev main_call1_call0_v158 : Ref sig .tc := ⟨.hbm, 482, rfl⟩
abbrev main_call1_call0_c_41 : Ref sig .tc := ⟨.hbm, 483, rfl⟩
abbrev main_call1_call0_v159 : Ref sig .tc := ⟨.hbm, 484, rfl⟩
abbrev main_call1_call0_v160 : Ref sig .tc := ⟨.hbm, 485, rfl⟩
abbrev main_call1_call0_v161 : Ref sig .tc := ⟨.hbm, 486, rfl⟩
abbrev main_call1_call0_v162 : Ref sig .tc := ⟨.hbm, 487, rfl⟩
abbrev main_call1_call0_v163 : Ref sig .tc := ⟨.hbm, 488, rfl⟩
abbrev main_call1_call0_c_42 : Ref sig .tc := ⟨.hbm, 489, rfl⟩
abbrev main_call1_call0_v164 : Ref sig .tc := ⟨.hbm, 490, rfl⟩
abbrev main_call1_call0_v165 : Ref sig .tc := ⟨.hbm, 491, rfl⟩
abbrev main_call1_call0_c_43 : Ref sig .tc := ⟨.hbm, 492, rfl⟩
abbrev main_call1_call0_v166 : Ref sig .tc := ⟨.hbm, 493, rfl⟩
abbrev main_call1_call0_v167 : Ref sig .tc := ⟨.hbm, 494, rfl⟩
abbrev main_call1_call0_v168 : Ref sig .tc := ⟨.hbm, 495, rfl⟩
abbrev main_call1_call0_v169 : Ref sig .tc := ⟨.hbm, 496, rfl⟩
abbrev main_call1_call0_v170 : Ref sig .tc := ⟨.hbm, 497, rfl⟩
abbrev main_call1_v19_0 : Ref sig .tc := ⟨.hbm, 498, rfl⟩
abbrev main_call1_call0_v172 : Ref sig .tc := ⟨.hbm, 499, rfl⟩
abbrev main_call1_call0_v173 : Ref sig .tc := ⟨.hbm, 500, rfl⟩
abbrev main_call1_call0_c_44 : Ref sig .tc := ⟨.hbm, 501, rfl⟩
abbrev main_call1_call0_v174 : Ref sig .tc := ⟨.hbm, 502, rfl⟩
abbrev main_call1_v19_1 : Ref sig .tc := ⟨.hbm, 503, rfl⟩
abbrev main_call1_v20 : Ref sig .tc := ⟨.hbm, 504, rfl⟩
abbrev main_call1_c_2 : Ref sig .tc := ⟨.hbm, 505, rfl⟩
abbrev main_call1_v21 : Ref sig .tc := ⟨.hbm, 506, rfl⟩
abbrev main_call1_v22 : Ref sig .tc := ⟨.hbm, 507, rfl⟩
abbrev main_call1_c_3 : Ref sig .tc := ⟨.hbm, 508, rfl⟩
abbrev main_call1_v23 : Ref sig .tc := ⟨.hbm, 509, rfl⟩
abbrev main_call1_v24 : Ref sig .tc := ⟨.hbm, 510, rfl⟩
abbrev main_call1_v25 : Ref sig .tc := ⟨.hbm, 511, rfl⟩
abbrev main_call1_cst : Ref sig .tc := ⟨.hbm, 512, rfl⟩
abbrev main_call1_v26 : Ref sig .tc := ⟨.hbm, 513, rfl⟩
abbrev main_call1_v27 : Ref sig .tc := ⟨.hbm, 514, rfl⟩
abbrev main_call1_v28 : Ref sig .tc := ⟨.hbm, 515, rfl⟩
abbrev main_call1_v29 : Ref sig .tc := ⟨.hbm, 516, rfl⟩
abbrev main_call1_v30 : Ref sig .tc := ⟨.hbm, 517, rfl⟩
abbrev main_call1_v31 : Ref sig .tc := ⟨.hbm, 518, rfl⟩
abbrev main_call1_v32 : Ref sig .tc := ⟨.hbm, 519, rfl⟩
abbrev main_call1_v33 : Ref sig .tc := ⟨.hbm, 520, rfl⟩
abbrev main_v16 : Ref sig .tc := ⟨.hbm, 521, rfl⟩
abbrev main_v17 : Ref sig .tc := ⟨.hbm, 522, rfl⟩
abbrev main_v18 : Ref sig .tc := ⟨.hbm, 523, rfl⟩
abbrev main_c_3 : Ref sig .tc := ⟨.hbm, 524, rfl⟩
abbrev main_v19 : Ref sig .tc := ⟨.hbm, 525, rfl⟩
abbrev main_v20 : Ref sig .tc := ⟨.hbm, 526, rfl⟩
abbrev main_v21 : Ref sig .tc := ⟨.hbm, 527, rfl⟩
abbrev main_v22 : Ref sig .tc := ⟨.hbm, 528, rfl⟩
abbrev main_c_4 : Ref sig .tc := ⟨.hbm, 529, rfl⟩
abbrev main_v23 : Ref sig .tc := ⟨.hbm, 530, rfl⟩
abbrev main_c_5 : Ref sig .tc := ⟨.hbm, 531, rfl⟩
abbrev main_v24 : Ref sig .tc := ⟨.hbm, 532, rfl⟩
abbrev main_v25 : Ref sig .tc := ⟨.hbm, 533, rfl⟩
abbrev main_c_6 : Ref sig .tc := ⟨.hbm, 534, rfl⟩
abbrev main_c_7 : Ref sig .tc := ⟨.hbm, 535, rfl⟩
abbrev main_call2_c : Ref sig .tc := ⟨.hbm, 536, rfl⟩
abbrev main_call2_c_0 : Ref sig .tc := ⟨.hbm, 537, rfl⟩
abbrev main_call2_c_1 : Ref sig .tc := ⟨.hbm, 538, rfl⟩
abbrev main_call2_call0_v0 : Ref sig .tc := ⟨.hbm, 539, rfl⟩
abbrev main_call2_v0 : Ref sig .tc := ⟨.hbm, 540, rfl⟩
abbrev main_call2_v1 : Ref sig .tc := ⟨.hbm, 541, rfl⟩
abbrev main_call2_c_2 : Ref sig .tc := ⟨.hbm, 542, rfl⟩
abbrev main_call2_c_3 : Ref sig .tc := ⟨.hbm, 543, rfl⟩
abbrev main_call2_call1_v0 : Ref sig .tc := ⟨.hbm, 544, rfl⟩
abbrev main_call2_v2 : Ref sig .tc := ⟨.hbm, 545, rfl⟩
abbrev main_call2_v3 : Ref sig .tc := ⟨.hbm, 546, rfl⟩
abbrev main_call2_c_4 : Ref sig .tc := ⟨.hbm, 547, rfl⟩
abbrev main_call2_c_5 : Ref sig .tc := ⟨.hbm, 548, rfl⟩
abbrev main_call2_call2_v0 : Ref sig .tc := ⟨.hbm, 549, rfl⟩
abbrev main_call2_v4 : Ref sig .tc := ⟨.hbm, 550, rfl⟩
abbrev main_call2_v5 : Ref sig .tc := ⟨.hbm, 551, rfl⟩
abbrev main_call2_v6 : Ref sig .tc := ⟨.hbm, 552, rfl⟩
abbrev main_call2_v7 : Ref sig .tc := ⟨.hbm, 553, rfl⟩
abbrev main_call2_call3_v0 : Ref sig .tc := ⟨.hbm, 554, rfl⟩
abbrev main_call2_call3_v1 : Ref sig .tc := ⟨.hbm, 555, rfl⟩
abbrev main_call2_call3_v2 : Ref sig .tc := ⟨.hbm, 556, rfl⟩
abbrev main_call2_call3_v3 : Ref sig .tc := ⟨.hbm, 557, rfl⟩
abbrev main_call2_call3_v4 : Ref sig .tc := ⟨.hbm, 558, rfl⟩
abbrev main_call2_call3_c : Ref sig .tc := ⟨.hbm, 559, rfl⟩
abbrev main_call2_call3_v5 : Ref sig .tc := ⟨.hbm, 560, rfl⟩
abbrev main_call2_call3_v6 : Ref sig .tc := ⟨.hbm, 561, rfl⟩
abbrev main_call2_call3_c_0 : Ref sig .tc := ⟨.hbm, 562, rfl⟩
abbrev main_call2_call3_v7 : Ref sig .tc := ⟨.hbm, 563, rfl⟩
abbrev main_call2_call3_v8 : Ref sig .tc := ⟨.hbm, 564, rfl⟩
abbrev main_call2_call3_v9 : Ref sig .tc := ⟨.hbm, 565, rfl⟩
abbrev main_call2_call3_v10 : Ref sig .tc := ⟨.hbm, 566, rfl⟩
abbrev main_call2_call3_call0_v0 : Ref sig .tc := ⟨.hbm, 567, rfl⟩
abbrev main_call2_call3_call0_c : Ref sig .tc := ⟨.hbm, 568, rfl⟩
abbrev main_call2_call3_call0_v1 : Ref sig .tc := ⟨.hbm, 569, rfl⟩
abbrev main_call2_call3_call0_v2 : Ref sig .tc := ⟨.hbm, 570, rfl⟩
abbrev main_call2_call3_call0_v3 : Ref sig .tc := ⟨.hbm, 571, rfl⟩
abbrev main_call2_call3_call0_v4 : Ref sig .tc := ⟨.hbm, 572, rfl⟩
abbrev main_call2_call3_call0_v5 : Ref sig .tc := ⟨.hbm, 573, rfl⟩
abbrev main_call2_call3_call0_v6 : Ref sig .tc := ⟨.hbm, 574, rfl⟩
abbrev main_call2_call3_call0_c_0 : Ref sig .tc := ⟨.hbm, 575, rfl⟩
abbrev main_call2_call3_call0_v7 : Ref sig .tc := ⟨.hbm, 576, rfl⟩
abbrev main_call2_call3_call0_v8 : Ref sig .tc := ⟨.hbm, 577, rfl⟩
abbrev main_call2_call3_call0_c_1 : Ref sig .tc := ⟨.hbm, 578, rfl⟩
abbrev main_call2_call3_call0_v9 : Ref sig .tc := ⟨.hbm, 579, rfl⟩
abbrev main_call2_call3_call0_v10 : Ref sig .tc := ⟨.hbm, 580, rfl⟩
abbrev main_call2_call3_call0_v11 : Ref sig .tc := ⟨.hbm, 581, rfl⟩
abbrev main_call2_call3_call0_v12 : Ref sig .tc := ⟨.hbm, 582, rfl⟩
abbrev main_call2_call3_call0_v13 : Ref sig .tc := ⟨.hbm, 583, rfl⟩
abbrev main_call2_call3_call0_c_2 : Ref sig .tc := ⟨.hbm, 584, rfl⟩
abbrev main_call2_call3_call0_v14 : Ref sig .tc := ⟨.hbm, 585, rfl⟩
abbrev main_call2_call3_call0_v15 : Ref sig .tc := ⟨.hbm, 586, rfl⟩
abbrev main_call2_call3_call0_c_3 : Ref sig .tc := ⟨.hbm, 587, rfl⟩
abbrev main_call2_call3_call0_v16 : Ref sig .tc := ⟨.hbm, 588, rfl⟩
abbrev main_call2_call3_call0_v17 : Ref sig .tc := ⟨.hbm, 589, rfl⟩
abbrev main_call2_call3_call0_v18 : Ref sig .tc := ⟨.hbm, 590, rfl⟩
abbrev main_call2_call3_call0_v19 : Ref sig .tc := ⟨.hbm, 591, rfl⟩
abbrev main_call2_call3_call0_v20 : Ref sig .tc := ⟨.hbm, 592, rfl⟩
abbrev main_call2_call3_call0_c_4 : Ref sig .tc := ⟨.hbm, 593, rfl⟩
abbrev main_call2_call3_call0_v21 : Ref sig .tc := ⟨.hbm, 594, rfl⟩
abbrev main_call2_call3_call0_v22 : Ref sig .tc := ⟨.hbm, 595, rfl⟩
abbrev main_call2_call3_call0_c_5 : Ref sig .tc := ⟨.hbm, 596, rfl⟩
abbrev main_call2_call3_call0_v23 : Ref sig .tc := ⟨.hbm, 597, rfl⟩
abbrev main_call2_call3_call0_v24 : Ref sig .tc := ⟨.hbm, 598, rfl⟩
abbrev main_call2_call3_call0_v25 : Ref sig .tc := ⟨.hbm, 599, rfl⟩
abbrev main_call2_call3_call0_v26 : Ref sig .tc := ⟨.hbm, 600, rfl⟩
abbrev main_call2_call3_call0_v27 : Ref sig .tc := ⟨.hbm, 601, rfl⟩
abbrev main_call2_call3_call0_c_6 : Ref sig .tc := ⟨.hbm, 602, rfl⟩
abbrev main_call2_call3_call0_v28 : Ref sig .tc := ⟨.hbm, 603, rfl⟩
abbrev main_call2_call3_call0_v29 : Ref sig .tc := ⟨.hbm, 604, rfl⟩
abbrev main_call2_call3_call0_c_7 : Ref sig .tc := ⟨.hbm, 605, rfl⟩
abbrev main_call2_call3_call0_v30 : Ref sig .tc := ⟨.hbm, 606, rfl⟩
abbrev main_call2_call3_call0_v31 : Ref sig .tc := ⟨.hbm, 607, rfl⟩
abbrev main_call2_call3_call0_v32 : Ref sig .tc := ⟨.hbm, 608, rfl⟩
abbrev main_call2_call3_call0_v33 : Ref sig .tc := ⟨.hbm, 609, rfl⟩
abbrev main_call2_call3_call0_v34 : Ref sig .tc := ⟨.hbm, 610, rfl⟩
abbrev main_call2_call3_call0_v35 : Ref sig .tc := ⟨.hbm, 611, rfl⟩
abbrev main_call2_call3_call0_v36 : Ref sig .tc := ⟨.hbm, 612, rfl⟩
abbrev main_call2_call3_call0_v37 : Ref sig .tc := ⟨.hbm, 613, rfl⟩
abbrev main_call2_call3_call0_c_8 : Ref sig .tc := ⟨.hbm, 614, rfl⟩
abbrev main_call2_call3_call0_v38 : Ref sig .tc := ⟨.hbm, 615, rfl⟩
abbrev main_call2_call3_call0_v39 : Ref sig .tc := ⟨.hbm, 616, rfl⟩
abbrev main_call2_call3_call0_v40 : Ref sig .tc := ⟨.hbm, 617, rfl⟩
abbrev main_call2_call3_call0_c_9 : Ref sig .tc := ⟨.hbm, 618, rfl⟩
abbrev main_call2_call3_call0_v41 : Ref sig .tc := ⟨.hbm, 619, rfl⟩
abbrev main_call2_call3_call0_v42 : Ref sig .tc := ⟨.hbm, 620, rfl⟩
abbrev main_call2_call3_call0_c_10 : Ref sig .tc := ⟨.hbm, 621, rfl⟩
abbrev main_call2_call3_call0_v43 : Ref sig .tc := ⟨.hbm, 622, rfl⟩
abbrev main_call2_call3_call0_v44 : Ref sig .tc := ⟨.hbm, 623, rfl⟩
abbrev main_call2_call3_call0_v45 : Ref sig .tc := ⟨.hbm, 624, rfl⟩
abbrev main_call2_call3_call0_v46 : Ref sig .tc := ⟨.hbm, 625, rfl⟩
abbrev main_call2_call3_call0_v47 : Ref sig .tc := ⟨.hbm, 626, rfl⟩
abbrev main_call2_call3_call0_c_11 : Ref sig .tc := ⟨.hbm, 627, rfl⟩
abbrev main_call2_call3_call0_v48 : Ref sig .tc := ⟨.hbm, 628, rfl⟩
abbrev main_call2_call3_call0_v49 : Ref sig .tc := ⟨.hbm, 629, rfl⟩
abbrev main_call2_call3_call0_c_12 : Ref sig .tc := ⟨.hbm, 630, rfl⟩
abbrev main_call2_call3_call0_v50 : Ref sig .tc := ⟨.hbm, 631, rfl⟩
abbrev main_call2_call3_call0_v51 : Ref sig .tc := ⟨.hbm, 632, rfl⟩
abbrev main_call2_call3_call0_v52 : Ref sig .tc := ⟨.hbm, 633, rfl⟩
abbrev main_call2_call3_call0_v53 : Ref sig .tc := ⟨.hbm, 634, rfl⟩
abbrev main_call2_call3_call0_v54 : Ref sig .tc := ⟨.hbm, 635, rfl⟩
abbrev main_call2_call3_call0_c_13 : Ref sig .tc := ⟨.hbm, 636, rfl⟩
abbrev main_call2_call3_call0_v55 : Ref sig .tc := ⟨.hbm, 637, rfl⟩
abbrev main_call2_call3_call0_v56 : Ref sig .tc := ⟨.hbm, 638, rfl⟩
abbrev main_call2_call3_call0_c_14 : Ref sig .tc := ⟨.hbm, 639, rfl⟩
abbrev main_call2_call3_call0_v57 : Ref sig .tc := ⟨.hbm, 640, rfl⟩
abbrev main_call2_call3_call0_v58 : Ref sig .tc := ⟨.hbm, 641, rfl⟩
abbrev main_call2_call3_call0_v59 : Ref sig .tc := ⟨.hbm, 642, rfl⟩
abbrev main_call2_call3_call0_v60 : Ref sig .tc := ⟨.hbm, 643, rfl⟩
abbrev main_call2_call3_call0_v61 : Ref sig .tc := ⟨.hbm, 644, rfl⟩
abbrev main_call2_call3_call0_c_15 : Ref sig .tc := ⟨.hbm, 645, rfl⟩
abbrev main_call2_call3_call0_v62 : Ref sig .tc := ⟨.hbm, 646, rfl⟩
abbrev main_call2_call3_call0_v63 : Ref sig .tc := ⟨.hbm, 647, rfl⟩
abbrev main_call2_call3_call0_c_16 : Ref sig .tc := ⟨.hbm, 648, rfl⟩
abbrev main_call2_call3_call0_v64 : Ref sig .tc := ⟨.hbm, 649, rfl⟩
abbrev main_call2_call3_call0_v65 : Ref sig .tc := ⟨.hbm, 650, rfl⟩
abbrev main_call2_call3_call0_v66 : Ref sig .tc := ⟨.hbm, 651, rfl⟩
abbrev main_call2_call3_call0_v67 : Ref sig .tc := ⟨.hbm, 652, rfl⟩
abbrev main_call2_call3_call0_v68 : Ref sig .tc := ⟨.hbm, 653, rfl⟩
abbrev main_call2_call3_call0_v69 : Ref sig .tc := ⟨.hbm, 654, rfl⟩
abbrev main_call2_call3_call0_v70 : Ref sig .tc := ⟨.hbm, 655, rfl⟩
abbrev main_call2_call3_call0_v71 : Ref sig .tc := ⟨.hbm, 656, rfl⟩
abbrev main_call2_call3_call0_c_17 : Ref sig .tc := ⟨.hbm, 657, rfl⟩
abbrev main_call2_call3_call0_v72 : Ref sig .tc := ⟨.hbm, 658, rfl⟩
abbrev main_call2_call3_call0_v73 : Ref sig .tc := ⟨.hbm, 659, rfl⟩
abbrev main_call2_call3_call0_v74 : Ref sig .tc := ⟨.hbm, 660, rfl⟩
abbrev main_call2_call3_call0_c_18 : Ref sig .tc := ⟨.hbm, 661, rfl⟩
abbrev main_call2_call3_call0_v75 : Ref sig .tc := ⟨.hbm, 662, rfl⟩
abbrev main_call2_call3_call0_v76 : Ref sig .tc := ⟨.hbm, 663, rfl⟩
abbrev main_call2_call3_call0_c_19 : Ref sig .tc := ⟨.hbm, 664, rfl⟩
abbrev main_call2_call3_call0_v77 : Ref sig .tc := ⟨.hbm, 665, rfl⟩
abbrev main_call2_call3_call0_v78 : Ref sig .tc := ⟨.hbm, 666, rfl⟩
abbrev main_call2_call3_call0_v79 : Ref sig .tc := ⟨.hbm, 667, rfl⟩
abbrev main_call2_call3_call0_v80 : Ref sig .tc := ⟨.hbm, 668, rfl⟩
abbrev main_call2_call3_call0_v81 : Ref sig .tc := ⟨.hbm, 669, rfl⟩
abbrev main_call2_call3_call0_c_20 : Ref sig .tc := ⟨.hbm, 670, rfl⟩
abbrev main_call2_call3_call0_v82 : Ref sig .tc := ⟨.hbm, 671, rfl⟩
abbrev main_call2_call3_call0_v83 : Ref sig .tc := ⟨.hbm, 672, rfl⟩
abbrev main_call2_call3_call0_c_21 : Ref sig .tc := ⟨.hbm, 673, rfl⟩
abbrev main_call2_call3_call0_v84 : Ref sig .tc := ⟨.hbm, 674, rfl⟩
abbrev main_call2_call3_call0_v85 : Ref sig .tc := ⟨.hbm, 675, rfl⟩
abbrev main_call2_call3_call0_v86 : Ref sig .tc := ⟨.hbm, 676, rfl⟩
abbrev main_call2_call3_call0_v87 : Ref sig .tc := ⟨.hbm, 677, rfl⟩
abbrev main_call2_call3_call0_v88 : Ref sig .tc := ⟨.hbm, 678, rfl⟩
abbrev main_call2_call3_call0_c_22 : Ref sig .tc := ⟨.hbm, 679, rfl⟩
abbrev main_call2_call3_call0_v89 : Ref sig .tc := ⟨.hbm, 680, rfl⟩
abbrev main_call2_call3_call0_v90 : Ref sig .tc := ⟨.hbm, 681, rfl⟩
abbrev main_call2_call3_call0_c_23 : Ref sig .tc := ⟨.hbm, 682, rfl⟩
abbrev main_call2_call3_call0_v91 : Ref sig .tc := ⟨.hbm, 683, rfl⟩
abbrev main_call2_call3_call0_v92 : Ref sig .tc := ⟨.hbm, 684, rfl⟩
abbrev main_call2_call3_call0_v93 : Ref sig .tc := ⟨.hbm, 685, rfl⟩
abbrev main_call2_call3_call0_v94 : Ref sig .tc := ⟨.hbm, 686, rfl⟩
abbrev main_call2_call3_call0_v95 : Ref sig .tc := ⟨.hbm, 687, rfl⟩
abbrev main_call2_call3_call0_c_24 : Ref sig .tc := ⟨.hbm, 688, rfl⟩
abbrev main_call2_call3_call0_v96 : Ref sig .tc := ⟨.hbm, 689, rfl⟩
abbrev main_call2_call3_call0_v97 : Ref sig .tc := ⟨.hbm, 690, rfl⟩
abbrev main_call2_call3_call0_c_25 : Ref sig .tc := ⟨.hbm, 691, rfl⟩
abbrev main_call2_call3_call0_v98 : Ref sig .tc := ⟨.hbm, 692, rfl⟩
abbrev main_call2_call3_call0_v99 : Ref sig .tc := ⟨.hbm, 693, rfl⟩
abbrev main_call2_call3_call0_v100 : Ref sig .tc := ⟨.hbm, 694, rfl⟩
abbrev main_call2_call3_call0_v101 : Ref sig .tc := ⟨.hbm, 695, rfl⟩
abbrev main_call2_call3_call0_v102 : Ref sig .tc := ⟨.hbm, 696, rfl⟩
abbrev main_call2_call3_call0_v103 : Ref sig .tc := ⟨.hbm, 697, rfl⟩
abbrev main_call2_call3_call0_v104 : Ref sig .tc := ⟨.hbm, 698, rfl⟩
abbrev main_call2_call3_call0_v105 : Ref sig .tc := ⟨.hbm, 699, rfl⟩
abbrev main_call2_call3_call0_c_26 : Ref sig .tc := ⟨.hbm, 700, rfl⟩
abbrev main_call2_call3_call0_v106 : Ref sig .tc := ⟨.hbm, 701, rfl⟩
abbrev main_call2_call3_call0_v107 : Ref sig .tc := ⟨.hbm, 702, rfl⟩
abbrev main_call2_call3_call0_v108 : Ref sig .tc := ⟨.hbm, 703, rfl⟩
abbrev main_call2_call3_call0_c_27 : Ref sig .tc := ⟨.hbm, 704, rfl⟩
abbrev main_call2_call3_call0_v109 : Ref sig .tc := ⟨.hbm, 705, rfl⟩
abbrev main_call2_call3_call0_v110 : Ref sig .tc := ⟨.hbm, 706, rfl⟩
abbrev main_call2_call3_call0_c_28 : Ref sig .tc := ⟨.hbm, 707, rfl⟩
abbrev main_call2_call3_call0_v111 : Ref sig .tc := ⟨.hbm, 708, rfl⟩
abbrev main_call2_call3_call0_v112 : Ref sig .tc := ⟨.hbm, 709, rfl⟩
abbrev main_call2_call3_call0_v113 : Ref sig .tc := ⟨.hbm, 710, rfl⟩
abbrev main_call2_call3_call0_v114 : Ref sig .tc := ⟨.hbm, 711, rfl⟩
abbrev main_call2_call3_call0_v115 : Ref sig .tc := ⟨.hbm, 712, rfl⟩
abbrev main_call2_call3_call0_c_29 : Ref sig .tc := ⟨.hbm, 713, rfl⟩
abbrev main_call2_call3_call0_v116 : Ref sig .tc := ⟨.hbm, 714, rfl⟩
abbrev main_call2_call3_call0_v117 : Ref sig .tc := ⟨.hbm, 715, rfl⟩
abbrev main_call2_call3_call0_c_30 : Ref sig .tc := ⟨.hbm, 716, rfl⟩
abbrev main_call2_call3_call0_v118 : Ref sig .tc := ⟨.hbm, 717, rfl⟩
abbrev main_call2_call3_call0_v119 : Ref sig .tc := ⟨.hbm, 718, rfl⟩
abbrev main_call2_call3_call0_v120 : Ref sig .tc := ⟨.hbm, 719, rfl⟩
abbrev main_call2_call3_call0_v121 : Ref sig .tc := ⟨.hbm, 720, rfl⟩
abbrev main_call2_call3_call0_v122 : Ref sig .tc := ⟨.hbm, 721, rfl⟩
abbrev main_call2_call3_call0_c_31 : Ref sig .tc := ⟨.hbm, 722, rfl⟩
abbrev main_call2_call3_call0_v123 : Ref sig .tc := ⟨.hbm, 723, rfl⟩
abbrev main_call2_call3_call0_v124 : Ref sig .tc := ⟨.hbm, 724, rfl⟩
abbrev main_call2_call3_call0_c_32 : Ref sig .tc := ⟨.hbm, 725, rfl⟩
abbrev main_call2_call3_call0_v125 : Ref sig .tc := ⟨.hbm, 726, rfl⟩
abbrev main_call2_call3_call0_v126 : Ref sig .tc := ⟨.hbm, 727, rfl⟩
abbrev main_call2_call3_call0_v127 : Ref sig .tc := ⟨.hbm, 728, rfl⟩
abbrev main_call2_call3_call0_v128 : Ref sig .tc := ⟨.hbm, 729, rfl⟩
abbrev main_call2_call3_call0_v129 : Ref sig .tc := ⟨.hbm, 730, rfl⟩
abbrev main_call2_call3_call0_c_33 : Ref sig .tc := ⟨.hbm, 731, rfl⟩
abbrev main_call2_call3_call0_v130 : Ref sig .tc := ⟨.hbm, 732, rfl⟩
abbrev main_call2_call3_call0_v131 : Ref sig .tc := ⟨.hbm, 733, rfl⟩
abbrev main_call2_call3_call0_c_34 : Ref sig .tc := ⟨.hbm, 734, rfl⟩
abbrev main_call2_call3_call0_v132 : Ref sig .tc := ⟨.hbm, 735, rfl⟩
abbrev main_call2_call3_call0_v133 : Ref sig .tc := ⟨.hbm, 736, rfl⟩
abbrev main_call2_call3_call0_v134 : Ref sig .tc := ⟨.hbm, 737, rfl⟩
abbrev main_call2_call3_call0_v135 : Ref sig .tc := ⟨.hbm, 738, rfl⟩
abbrev main_call2_call3_call0_v136 : Ref sig .tc := ⟨.hbm, 739, rfl⟩
abbrev main_call2_call3_call0_v137 : Ref sig .tc := ⟨.hbm, 740, rfl⟩
abbrev main_call2_call3_call0_v138 : Ref sig .tc := ⟨.hbm, 741, rfl⟩
abbrev main_call2_call3_call0_v139 : Ref sig .tc := ⟨.hbm, 742, rfl⟩
abbrev main_call2_call3_call0_c_35 : Ref sig .tc := ⟨.hbm, 743, rfl⟩
abbrev main_call2_call3_call0_v140 : Ref sig .tc := ⟨.hbm, 744, rfl⟩
abbrev main_call2_call3_call0_v141 : Ref sig .tc := ⟨.hbm, 745, rfl⟩
abbrev main_call2_call3_call0_v142 : Ref sig .tc := ⟨.hbm, 746, rfl⟩
abbrev main_call2_call3_call0_c_36 : Ref sig .tc := ⟨.hbm, 747, rfl⟩
abbrev main_call2_call3_call0_v143 : Ref sig .tc := ⟨.hbm, 748, rfl⟩
abbrev main_call2_call3_call0_v144 : Ref sig .tc := ⟨.hbm, 749, rfl⟩
abbrev main_call2_call3_call0_c_37 : Ref sig .tc := ⟨.hbm, 750, rfl⟩
abbrev main_call2_call3_call0_v145 : Ref sig .tc := ⟨.hbm, 751, rfl⟩
abbrev main_call2_call3_call0_v146 : Ref sig .tc := ⟨.hbm, 752, rfl⟩
abbrev main_call2_call3_call0_v147 : Ref sig .tc := ⟨.hbm, 753, rfl⟩
abbrev main_call2_call3_call0_v148 : Ref sig .tc := ⟨.hbm, 754, rfl⟩
abbrev main_call2_call3_call0_v149 : Ref sig .tc := ⟨.hbm, 755, rfl⟩
abbrev main_call2_call3_call0_c_38 : Ref sig .tc := ⟨.hbm, 756, rfl⟩
abbrev main_call2_call3_call0_v150 : Ref sig .tc := ⟨.hbm, 757, rfl⟩
abbrev main_call2_call3_call0_v151 : Ref sig .tc := ⟨.hbm, 758, rfl⟩
abbrev main_call2_call3_call0_c_39 : Ref sig .tc := ⟨.hbm, 759, rfl⟩
abbrev main_call2_call3_call0_v152 : Ref sig .tc := ⟨.hbm, 760, rfl⟩
abbrev main_call2_call3_call0_v153 : Ref sig .tc := ⟨.hbm, 761, rfl⟩
abbrev main_call2_call3_call0_v154 : Ref sig .tc := ⟨.hbm, 762, rfl⟩
abbrev main_call2_call3_call0_v155 : Ref sig .tc := ⟨.hbm, 763, rfl⟩
abbrev main_call2_call3_call0_v156 : Ref sig .tc := ⟨.hbm, 764, rfl⟩
abbrev main_call2_call3_call0_c_40 : Ref sig .tc := ⟨.hbm, 765, rfl⟩
abbrev main_call2_call3_call0_v157 : Ref sig .tc := ⟨.hbm, 766, rfl⟩
abbrev main_call2_call3_call0_v158 : Ref sig .tc := ⟨.hbm, 767, rfl⟩
abbrev main_call2_call3_call0_c_41 : Ref sig .tc := ⟨.hbm, 768, rfl⟩
abbrev main_call2_call3_call0_v159 : Ref sig .tc := ⟨.hbm, 769, rfl⟩
abbrev main_call2_call3_call0_v160 : Ref sig .tc := ⟨.hbm, 770, rfl⟩
abbrev main_call2_call3_call0_v161 : Ref sig .tc := ⟨.hbm, 771, rfl⟩
abbrev main_call2_call3_call0_v162 : Ref sig .tc := ⟨.hbm, 772, rfl⟩
abbrev main_call2_call3_call0_v163 : Ref sig .tc := ⟨.hbm, 773, rfl⟩
abbrev main_call2_call3_call0_c_42 : Ref sig .tc := ⟨.hbm, 774, rfl⟩
abbrev main_call2_call3_call0_v164 : Ref sig .tc := ⟨.hbm, 775, rfl⟩
abbrev main_call2_call3_call0_v165 : Ref sig .tc := ⟨.hbm, 776, rfl⟩
abbrev main_call2_call3_call0_c_43 : Ref sig .tc := ⟨.hbm, 777, rfl⟩
abbrev main_call2_call3_call0_v166 : Ref sig .tc := ⟨.hbm, 778, rfl⟩
abbrev main_call2_call3_call0_v167 : Ref sig .tc := ⟨.hbm, 779, rfl⟩
abbrev main_call2_call3_call0_v168 : Ref sig .tc := ⟨.hbm, 780, rfl⟩
abbrev main_call2_call3_call0_v169 : Ref sig .tc := ⟨.hbm, 781, rfl⟩
abbrev main_call2_call3_call0_v170 : Ref sig .tc := ⟨.hbm, 782, rfl⟩
abbrev main_call2_call3_v11_0 : Ref sig .tc := ⟨.hbm, 783, rfl⟩
abbrev main_call2_call3_call0_v172 : Ref sig .tc := ⟨.hbm, 784, rfl⟩
abbrev main_call2_call3_call0_v173 : Ref sig .tc := ⟨.hbm, 785, rfl⟩
abbrev main_call2_call3_call0_c_44 : Ref sig .tc := ⟨.hbm, 786, rfl⟩
abbrev main_call2_call3_call0_v174 : Ref sig .tc := ⟨.hbm, 787, rfl⟩
abbrev main_call2_call3_v11_1 : Ref sig .tc := ⟨.hbm, 788, rfl⟩
abbrev main_call2_call3_v12 : Ref sig .tc := ⟨.hbm, 789, rfl⟩
abbrev main_call2_call3_v13 : Ref sig .tc := ⟨.hbm, 790, rfl⟩
abbrev main_call2_v8 : Ref sig .tc := ⟨.hbm, 791, rfl⟩
abbrev main_call2_v9 : Ref sig .tc := ⟨.hbm, 792, rfl⟩
abbrev main_call2_v10 : Ref sig .tc := ⟨.hbm, 793, rfl⟩
abbrev main_call2_v11 : Ref sig .tc := ⟨.hbm, 794, rfl⟩
abbrev main_call2_v12 : Ref sig .tc := ⟨.hbm, 795, rfl⟩
abbrev main_call2_v13 : Ref sig .tc := ⟨.hbm, 796, rfl⟩
abbrev main_call2_v14 : Ref sig .tc := ⟨.hbm, 797, rfl⟩
abbrev main_call2_v15 : Ref sig .tc := ⟨.hbm, 798, rfl⟩
abbrev main_call2_v16 : Ref sig .tc := ⟨.hbm, 799, rfl⟩
abbrev main_call2_v17 : Ref sig .tc := ⟨.hbm, 800, rfl⟩
abbrev main_call2_c_6 : Ref sig .tc := ⟨.hbm, 801, rfl⟩
abbrev main_call2_v18 : Ref sig .tc := ⟨.hbm, 802, rfl⟩
abbrev main_call2_v19 : Ref sig .tc := ⟨.hbm, 803, rfl⟩
abbrev main_call2_c_7 : Ref sig .tc := ⟨.hbm, 804, rfl⟩
abbrev main_call2_v20 : Ref sig .tc := ⟨.hbm, 805, rfl⟩
abbrev main_call2_v21 : Ref sig .tc := ⟨.hbm, 806, rfl⟩
abbrev main_call2_v22 : Ref sig .tc := ⟨.hbm, 807, rfl⟩
abbrev main_call2_v23 : Ref sig .tc := ⟨.hbm, 808, rfl⟩
abbrev main_call2_call4_v0 : Ref sig .tc := ⟨.hbm, 809, rfl⟩
abbrev main_call2_call4_c : Ref sig .tc := ⟨.hbm, 810, rfl⟩
abbrev main_call2_call4_v1 : Ref sig .tc := ⟨.hbm, 811, rfl⟩
abbrev main_call2_call4_v2 : Ref sig .tc := ⟨.hbm, 812, rfl⟩
abbrev main_call2_call4_v3 : Ref sig .tc := ⟨.hbm, 813, rfl⟩
abbrev main_call2_call4_v4 : Ref sig .tc := ⟨.hbm, 814, rfl⟩
abbrev main_call2_call4_v5 : Ref sig .tc := ⟨.hbm, 815, rfl⟩
abbrev main_call2_call4_v6 : Ref sig .tc := ⟨.hbm, 816, rfl⟩
abbrev main_call2_call4_c_0 : Ref sig .tc := ⟨.hbm, 817, rfl⟩
abbrev main_call2_call4_v7 : Ref sig .tc := ⟨.hbm, 818, rfl⟩
abbrev main_call2_call4_v8 : Ref sig .tc := ⟨.hbm, 819, rfl⟩
abbrev main_call2_call4_c_1 : Ref sig .tc := ⟨.hbm, 820, rfl⟩
abbrev main_call2_call4_v9 : Ref sig .tc := ⟨.hbm, 821, rfl⟩
abbrev main_call2_call4_v10 : Ref sig .tc := ⟨.hbm, 822, rfl⟩
abbrev main_call2_call4_v11 : Ref sig .tc := ⟨.hbm, 823, rfl⟩
abbrev main_call2_call4_v12 : Ref sig .tc := ⟨.hbm, 824, rfl⟩
abbrev main_call2_call4_v13 : Ref sig .tc := ⟨.hbm, 825, rfl⟩
abbrev main_call2_call4_c_2 : Ref sig .tc := ⟨.hbm, 826, rfl⟩
abbrev main_call2_call4_v14 : Ref sig .tc := ⟨.hbm, 827, rfl⟩
abbrev main_call2_call4_v15 : Ref sig .tc := ⟨.hbm, 828, rfl⟩
abbrev main_call2_call4_c_3 : Ref sig .tc := ⟨.hbm, 829, rfl⟩
abbrev main_call2_call4_v16 : Ref sig .tc := ⟨.hbm, 830, rfl⟩
abbrev main_call2_call4_v17 : Ref sig .tc := ⟨.hbm, 831, rfl⟩
abbrev main_call2_call4_v18 : Ref sig .tc := ⟨.hbm, 832, rfl⟩
abbrev main_call2_call4_v19 : Ref sig .tc := ⟨.hbm, 833, rfl⟩
abbrev main_call2_call4_v20 : Ref sig .tc := ⟨.hbm, 834, rfl⟩
abbrev main_call2_call4_c_4 : Ref sig .tc := ⟨.hbm, 835, rfl⟩
abbrev main_call2_call4_v21 : Ref sig .tc := ⟨.hbm, 836, rfl⟩
abbrev main_call2_call4_v22 : Ref sig .tc := ⟨.hbm, 837, rfl⟩
abbrev main_call2_call4_c_5 : Ref sig .tc := ⟨.hbm, 838, rfl⟩
abbrev main_call2_call4_v23 : Ref sig .tc := ⟨.hbm, 839, rfl⟩
abbrev main_call2_call4_v24 : Ref sig .tc := ⟨.hbm, 840, rfl⟩
abbrev main_call2_call4_v25 : Ref sig .tc := ⟨.hbm, 841, rfl⟩
abbrev main_call2_call4_v26 : Ref sig .tc := ⟨.hbm, 842, rfl⟩
abbrev main_call2_call4_v27 : Ref sig .tc := ⟨.hbm, 843, rfl⟩
abbrev main_call2_call4_c_6 : Ref sig .tc := ⟨.hbm, 844, rfl⟩
abbrev main_call2_call4_v28 : Ref sig .tc := ⟨.hbm, 845, rfl⟩
abbrev main_call2_call4_v29 : Ref sig .tc := ⟨.hbm, 846, rfl⟩
abbrev main_call2_call4_c_7 : Ref sig .tc := ⟨.hbm, 847, rfl⟩
abbrev main_call2_call4_v30 : Ref sig .tc := ⟨.hbm, 848, rfl⟩
abbrev main_call2_call4_v31 : Ref sig .tc := ⟨.hbm, 849, rfl⟩
abbrev main_call2_call4_v32 : Ref sig .tc := ⟨.hbm, 850, rfl⟩
abbrev main_call2_call4_v33 : Ref sig .tc := ⟨.hbm, 851, rfl⟩
abbrev main_call2_call4_v34 : Ref sig .tc := ⟨.hbm, 852, rfl⟩
abbrev main_call2_call4_v35 : Ref sig .tc := ⟨.hbm, 853, rfl⟩
abbrev main_call2_call4_v36 : Ref sig .tc := ⟨.hbm, 854, rfl⟩
abbrev main_call2_call4_v37 : Ref sig .tc := ⟨.hbm, 855, rfl⟩
abbrev main_call2_call4_c_8 : Ref sig .tc := ⟨.hbm, 856, rfl⟩
abbrev main_call2_call4_v38 : Ref sig .tc := ⟨.hbm, 857, rfl⟩
abbrev main_call2_call4_v39 : Ref sig .tc := ⟨.hbm, 858, rfl⟩
abbrev main_call2_call4_v40 : Ref sig .tc := ⟨.hbm, 859, rfl⟩
abbrev main_call2_call4_c_9 : Ref sig .tc := ⟨.hbm, 860, rfl⟩
abbrev main_call2_call4_v41 : Ref sig .tc := ⟨.hbm, 861, rfl⟩
abbrev main_call2_call4_v42 : Ref sig .tc := ⟨.hbm, 862, rfl⟩
abbrev main_call2_call4_c_10 : Ref sig .tc := ⟨.hbm, 863, rfl⟩
abbrev main_call2_call4_v43 : Ref sig .tc := ⟨.hbm, 864, rfl⟩
abbrev main_call2_call4_v44 : Ref sig .tc := ⟨.hbm, 865, rfl⟩
abbrev main_call2_call4_v45 : Ref sig .tc := ⟨.hbm, 866, rfl⟩
abbrev main_call2_call4_v46 : Ref sig .tc := ⟨.hbm, 867, rfl⟩
abbrev main_call2_call4_v47 : Ref sig .tc := ⟨.hbm, 868, rfl⟩
abbrev main_call2_call4_c_11 : Ref sig .tc := ⟨.hbm, 869, rfl⟩
abbrev main_call2_call4_v48 : Ref sig .tc := ⟨.hbm, 870, rfl⟩
abbrev main_call2_call4_v49 : Ref sig .tc := ⟨.hbm, 871, rfl⟩
abbrev main_call2_call4_c_12 : Ref sig .tc := ⟨.hbm, 872, rfl⟩
abbrev main_call2_call4_v50 : Ref sig .tc := ⟨.hbm, 873, rfl⟩
abbrev main_call2_call4_v51 : Ref sig .tc := ⟨.hbm, 874, rfl⟩
abbrev main_call2_call4_v52 : Ref sig .tc := ⟨.hbm, 875, rfl⟩
abbrev main_call2_call4_v53 : Ref sig .tc := ⟨.hbm, 876, rfl⟩
abbrev main_call2_call4_v54 : Ref sig .tc := ⟨.hbm, 877, rfl⟩
abbrev main_call2_call4_c_13 : Ref sig .tc := ⟨.hbm, 878, rfl⟩
abbrev main_call2_call4_v55 : Ref sig .tc := ⟨.hbm, 879, rfl⟩
abbrev main_call2_call4_v56 : Ref sig .tc := ⟨.hbm, 880, rfl⟩
abbrev main_call2_call4_c_14 : Ref sig .tc := ⟨.hbm, 881, rfl⟩
abbrev main_call2_call4_v57 : Ref sig .tc := ⟨.hbm, 882, rfl⟩
abbrev main_call2_call4_v58 : Ref sig .tc := ⟨.hbm, 883, rfl⟩
abbrev main_call2_call4_v59 : Ref sig .tc := ⟨.hbm, 884, rfl⟩
abbrev main_call2_call4_v60 : Ref sig .tc := ⟨.hbm, 885, rfl⟩
abbrev main_call2_call4_v61 : Ref sig .tc := ⟨.hbm, 886, rfl⟩
abbrev main_call2_call4_c_15 : Ref sig .tc := ⟨.hbm, 887, rfl⟩
abbrev main_call2_call4_v62 : Ref sig .tc := ⟨.hbm, 888, rfl⟩
abbrev main_call2_call4_v63 : Ref sig .tc := ⟨.hbm, 889, rfl⟩
abbrev main_call2_call4_c_16 : Ref sig .tc := ⟨.hbm, 890, rfl⟩
abbrev main_call2_call4_v64 : Ref sig .tc := ⟨.hbm, 891, rfl⟩
abbrev main_call2_call4_v65 : Ref sig .tc := ⟨.hbm, 892, rfl⟩
abbrev main_call2_call4_v66 : Ref sig .tc := ⟨.hbm, 893, rfl⟩
abbrev main_call2_call4_v67 : Ref sig .tc := ⟨.hbm, 894, rfl⟩
abbrev main_call2_call4_v68 : Ref sig .tc := ⟨.hbm, 895, rfl⟩
abbrev main_call2_call4_v69 : Ref sig .tc := ⟨.hbm, 896, rfl⟩
abbrev main_call2_call4_v70 : Ref sig .tc := ⟨.hbm, 897, rfl⟩
abbrev main_call2_call4_v71 : Ref sig .tc := ⟨.hbm, 898, rfl⟩
abbrev main_call2_call4_c_17 : Ref sig .tc := ⟨.hbm, 899, rfl⟩
abbrev main_call2_call4_v72 : Ref sig .tc := ⟨.hbm, 900, rfl⟩
abbrev main_call2_call4_v73 : Ref sig .tc := ⟨.hbm, 901, rfl⟩
abbrev main_call2_call4_v74 : Ref sig .tc := ⟨.hbm, 902, rfl⟩
abbrev main_call2_call4_c_18 : Ref sig .tc := ⟨.hbm, 903, rfl⟩
abbrev main_call2_call4_v75 : Ref sig .tc := ⟨.hbm, 904, rfl⟩
abbrev main_call2_call4_v76 : Ref sig .tc := ⟨.hbm, 905, rfl⟩
abbrev main_call2_call4_c_19 : Ref sig .tc := ⟨.hbm, 906, rfl⟩
abbrev main_call2_call4_v77 : Ref sig .tc := ⟨.hbm, 907, rfl⟩
abbrev main_call2_call4_v78 : Ref sig .tc := ⟨.hbm, 908, rfl⟩
abbrev main_call2_call4_v79 : Ref sig .tc := ⟨.hbm, 909, rfl⟩
abbrev main_call2_call4_v80 : Ref sig .tc := ⟨.hbm, 910, rfl⟩
abbrev main_call2_call4_v81 : Ref sig .tc := ⟨.hbm, 911, rfl⟩
abbrev main_call2_call4_c_20 : Ref sig .tc := ⟨.hbm, 912, rfl⟩
abbrev main_call2_call4_v82 : Ref sig .tc := ⟨.hbm, 913, rfl⟩
abbrev main_call2_call4_v83 : Ref sig .tc := ⟨.hbm, 914, rfl⟩
abbrev main_call2_call4_c_21 : Ref sig .tc := ⟨.hbm, 915, rfl⟩
abbrev main_call2_call4_v84 : Ref sig .tc := ⟨.hbm, 916, rfl⟩
abbrev main_call2_call4_v85 : Ref sig .tc := ⟨.hbm, 917, rfl⟩
abbrev main_call2_call4_v86 : Ref sig .tc := ⟨.hbm, 918, rfl⟩
abbrev main_call2_call4_v87 : Ref sig .tc := ⟨.hbm, 919, rfl⟩
abbrev main_call2_call4_v88 : Ref sig .tc := ⟨.hbm, 920, rfl⟩
abbrev main_call2_call4_c_22 : Ref sig .tc := ⟨.hbm, 921, rfl⟩
abbrev main_call2_call4_v89 : Ref sig .tc := ⟨.hbm, 922, rfl⟩
abbrev main_call2_call4_v90 : Ref sig .tc := ⟨.hbm, 923, rfl⟩
abbrev main_call2_call4_c_23 : Ref sig .tc := ⟨.hbm, 924, rfl⟩
abbrev main_call2_call4_v91 : Ref sig .tc := ⟨.hbm, 925, rfl⟩
abbrev main_call2_call4_v92 : Ref sig .tc := ⟨.hbm, 926, rfl⟩
abbrev main_call2_call4_v93 : Ref sig .tc := ⟨.hbm, 927, rfl⟩
abbrev main_call2_call4_v94 : Ref sig .tc := ⟨.hbm, 928, rfl⟩
abbrev main_call2_call4_v95 : Ref sig .tc := ⟨.hbm, 929, rfl⟩
abbrev main_call2_call4_c_24 : Ref sig .tc := ⟨.hbm, 930, rfl⟩
abbrev main_call2_call4_v96 : Ref sig .tc := ⟨.hbm, 931, rfl⟩
abbrev main_call2_call4_v97 : Ref sig .tc := ⟨.hbm, 932, rfl⟩
abbrev main_call2_call4_c_25 : Ref sig .tc := ⟨.hbm, 933, rfl⟩
abbrev main_call2_call4_v98 : Ref sig .tc := ⟨.hbm, 934, rfl⟩
abbrev main_call2_call4_v99 : Ref sig .tc := ⟨.hbm, 935, rfl⟩
abbrev main_call2_call4_v100 : Ref sig .tc := ⟨.hbm, 936, rfl⟩
abbrev main_call2_call4_v101 : Ref sig .tc := ⟨.hbm, 937, rfl⟩
abbrev main_call2_call4_v102 : Ref sig .tc := ⟨.hbm, 938, rfl⟩
abbrev main_call2_call4_v103 : Ref sig .tc := ⟨.hbm, 939, rfl⟩
abbrev main_call2_call4_v104 : Ref sig .tc := ⟨.hbm, 940, rfl⟩
abbrev main_call2_call4_v105 : Ref sig .tc := ⟨.hbm, 941, rfl⟩
abbrev main_call2_call4_c_26 : Ref sig .tc := ⟨.hbm, 942, rfl⟩
abbrev main_call2_call4_v106 : Ref sig .tc := ⟨.hbm, 943, rfl⟩
abbrev main_call2_call4_v107 : Ref sig .tc := ⟨.hbm, 944, rfl⟩
abbrev main_call2_call4_v108 : Ref sig .tc := ⟨.hbm, 945, rfl⟩
abbrev main_call2_call4_c_27 : Ref sig .tc := ⟨.hbm, 946, rfl⟩
abbrev main_call2_call4_v109 : Ref sig .tc := ⟨.hbm, 947, rfl⟩
abbrev main_call2_call4_v110 : Ref sig .tc := ⟨.hbm, 948, rfl⟩
abbrev main_call2_call4_c_28 : Ref sig .tc := ⟨.hbm, 949, rfl⟩
abbrev main_call2_call4_v111 : Ref sig .tc := ⟨.hbm, 950, rfl⟩
abbrev main_call2_call4_v112 : Ref sig .tc := ⟨.hbm, 951, rfl⟩
abbrev main_call2_call4_v113 : Ref sig .tc := ⟨.hbm, 952, rfl⟩
abbrev main_call2_call4_v114 : Ref sig .tc := ⟨.hbm, 953, rfl⟩
abbrev main_call2_call4_v115 : Ref sig .tc := ⟨.hbm, 954, rfl⟩
abbrev main_call2_call4_c_29 : Ref sig .tc := ⟨.hbm, 955, rfl⟩
abbrev main_call2_call4_v116 : Ref sig .tc := ⟨.hbm, 956, rfl⟩
abbrev main_call2_call4_v117 : Ref sig .tc := ⟨.hbm, 957, rfl⟩
abbrev main_call2_call4_c_30 : Ref sig .tc := ⟨.hbm, 958, rfl⟩
abbrev main_call2_call4_v118 : Ref sig .tc := ⟨.hbm, 959, rfl⟩
abbrev main_call2_call4_v119 : Ref sig .tc := ⟨.hbm, 960, rfl⟩
abbrev main_call2_call4_v120 : Ref sig .tc := ⟨.hbm, 961, rfl⟩
abbrev main_call2_call4_v121 : Ref sig .tc := ⟨.hbm, 962, rfl⟩
abbrev main_call2_call4_v122 : Ref sig .tc := ⟨.hbm, 963, rfl⟩
abbrev main_call2_call4_c_31 : Ref sig .tc := ⟨.hbm, 964, rfl⟩
abbrev main_call2_call4_v123 : Ref sig .tc := ⟨.hbm, 965, rfl⟩
abbrev main_call2_call4_v124 : Ref sig .tc := ⟨.hbm, 966, rfl⟩
abbrev main_call2_call4_c_32 : Ref sig .tc := ⟨.hbm, 967, rfl⟩
abbrev main_call2_call4_v125 : Ref sig .tc := ⟨.hbm, 968, rfl⟩
abbrev main_call2_call4_v126 : Ref sig .tc := ⟨.hbm, 969, rfl⟩
abbrev main_call2_call4_v127 : Ref sig .tc := ⟨.hbm, 970, rfl⟩
abbrev main_call2_call4_v128 : Ref sig .tc := ⟨.hbm, 971, rfl⟩
abbrev main_call2_call4_v129 : Ref sig .tc := ⟨.hbm, 972, rfl⟩
abbrev main_call2_call4_c_33 : Ref sig .tc := ⟨.hbm, 973, rfl⟩
abbrev main_call2_call4_v130 : Ref sig .tc := ⟨.hbm, 974, rfl⟩
abbrev main_call2_call4_v131 : Ref sig .tc := ⟨.hbm, 975, rfl⟩
abbrev main_call2_call4_c_34 : Ref sig .tc := ⟨.hbm, 976, rfl⟩
abbrev main_call2_call4_v132 : Ref sig .tc := ⟨.hbm, 977, rfl⟩
abbrev main_call2_call4_v133 : Ref sig .tc := ⟨.hbm, 978, rfl⟩
abbrev main_call2_call4_v134 : Ref sig .tc := ⟨.hbm, 979, rfl⟩
abbrev main_call2_call4_v135 : Ref sig .tc := ⟨.hbm, 980, rfl⟩
abbrev main_call2_call4_v136 : Ref sig .tc := ⟨.hbm, 981, rfl⟩
abbrev main_call2_call4_v137 : Ref sig .tc := ⟨.hbm, 982, rfl⟩
abbrev main_call2_call4_v138 : Ref sig .tc := ⟨.hbm, 983, rfl⟩
abbrev main_call2_call4_v139 : Ref sig .tc := ⟨.hbm, 984, rfl⟩
abbrev main_call2_call4_c_35 : Ref sig .tc := ⟨.hbm, 985, rfl⟩
abbrev main_call2_call4_v140 : Ref sig .tc := ⟨.hbm, 986, rfl⟩
abbrev main_call2_call4_v141 : Ref sig .tc := ⟨.hbm, 987, rfl⟩
abbrev main_call2_call4_v142 : Ref sig .tc := ⟨.hbm, 988, rfl⟩
abbrev main_call2_call4_c_36 : Ref sig .tc := ⟨.hbm, 989, rfl⟩
abbrev main_call2_call4_v143 : Ref sig .tc := ⟨.hbm, 990, rfl⟩
abbrev main_call2_call4_v144 : Ref sig .tc := ⟨.hbm, 991, rfl⟩
abbrev main_call2_call4_c_37 : Ref sig .tc := ⟨.hbm, 992, rfl⟩
abbrev main_call2_call4_v145 : Ref sig .tc := ⟨.hbm, 993, rfl⟩
abbrev main_call2_call4_v146 : Ref sig .tc := ⟨.hbm, 994, rfl⟩
abbrev main_call2_call4_v147 : Ref sig .tc := ⟨.hbm, 995, rfl⟩
abbrev main_call2_call4_v148 : Ref sig .tc := ⟨.hbm, 996, rfl⟩
abbrev main_call2_call4_v149 : Ref sig .tc := ⟨.hbm, 997, rfl⟩
abbrev main_call2_call4_c_38 : Ref sig .tc := ⟨.hbm, 998, rfl⟩
abbrev main_call2_call4_v150 : Ref sig .tc := ⟨.hbm, 999, rfl⟩
abbrev main_call2_call4_v151 : Ref sig .tc := ⟨.hbm, 1000, rfl⟩
abbrev main_call2_call4_c_39 : Ref sig .tc := ⟨.hbm, 1001, rfl⟩
abbrev main_call2_call4_v152 : Ref sig .tc := ⟨.hbm, 1002, rfl⟩
abbrev main_call2_call4_v153 : Ref sig .tc := ⟨.hbm, 1003, rfl⟩
abbrev main_call2_call4_v154 : Ref sig .tc := ⟨.hbm, 1004, rfl⟩
abbrev main_call2_call4_v155 : Ref sig .tc := ⟨.hbm, 1005, rfl⟩
abbrev main_call2_call4_v156 : Ref sig .tc := ⟨.hbm, 1006, rfl⟩
abbrev main_call2_call4_c_40 : Ref sig .tc := ⟨.hbm, 1007, rfl⟩
abbrev main_call2_call4_v157 : Ref sig .tc := ⟨.hbm, 1008, rfl⟩
abbrev main_call2_call4_v158 : Ref sig .tc := ⟨.hbm, 1009, rfl⟩
abbrev main_call2_call4_c_41 : Ref sig .tc := ⟨.hbm, 1010, rfl⟩
abbrev main_call2_call4_v159 : Ref sig .tc := ⟨.hbm, 1011, rfl⟩
abbrev main_call2_call4_v160 : Ref sig .tc := ⟨.hbm, 1012, rfl⟩
abbrev main_call2_call4_v161 : Ref sig .tc := ⟨.hbm, 1013, rfl⟩
abbrev main_call2_call4_v162 : Ref sig .tc := ⟨.hbm, 1014, rfl⟩
abbrev main_call2_call4_v163 : Ref sig .tc := ⟨.hbm, 1015, rfl⟩
abbrev main_call2_call4_c_42 : Ref sig .tc := ⟨.hbm, 1016, rfl⟩
abbrev main_call2_call4_v164 : Ref sig .tc := ⟨.hbm, 1017, rfl⟩
abbrev main_call2_call4_v165 : Ref sig .tc := ⟨.hbm, 1018, rfl⟩
abbrev main_call2_call4_c_43 : Ref sig .tc := ⟨.hbm, 1019, rfl⟩
abbrev main_call2_call4_v166 : Ref sig .tc := ⟨.hbm, 1020, rfl⟩
abbrev main_call2_call4_v167 : Ref sig .tc := ⟨.hbm, 1021, rfl⟩
abbrev main_call2_call4_v168 : Ref sig .tc := ⟨.hbm, 1022, rfl⟩
abbrev main_call2_call4_v169 : Ref sig .tc := ⟨.hbm, 1023, rfl⟩
abbrev main_call2_call4_v170 : Ref sig .tc := ⟨.hbm, 1024, rfl⟩
abbrev main_call2_v24_0 : Ref sig .tc := ⟨.hbm, 1025, rfl⟩
abbrev main_call2_call4_v172 : Ref sig .tc := ⟨.hbm, 1026, rfl⟩
abbrev main_call2_call4_v173 : Ref sig .tc := ⟨.hbm, 1027, rfl⟩
abbrev main_call2_call4_c_44 : Ref sig .tc := ⟨.hbm, 1028, rfl⟩
abbrev main_call2_call4_v174 : Ref sig .tc := ⟨.hbm, 1029, rfl⟩
abbrev main_call2_v24_1 : Ref sig .tc := ⟨.hbm, 1030, rfl⟩
abbrev main_call2_v25 : Ref sig .tc := ⟨.hbm, 1031, rfl⟩
abbrev main_call2_v26 : Ref sig .tc := ⟨.hbm, 1032, rfl⟩
abbrev main_call2_v27 : Ref sig .tc := ⟨.hbm, 1033, rfl⟩
abbrev main_call2_v28 : Ref sig .tc := ⟨.hbm, 1034, rfl⟩
abbrev main_call2_v29 : Ref sig .tc := ⟨.hbm, 1035, rfl⟩
abbrev main_call2_v30 : Ref sig .tc := ⟨.hbm, 1036, rfl⟩
abbrev main_call2_c_8 : Ref sig .tc := ⟨.hbm, 1037, rfl⟩
abbrev main_call2_v31 : Ref sig .tc := ⟨.hbm, 1038, rfl⟩
abbrev main_call2_v32 : Ref sig .tc := ⟨.hbm, 1039, rfl⟩
abbrev main_call2_c_9 : Ref sig .tc := ⟨.hbm, 1040, rfl⟩
abbrev main_call2_v33 : Ref sig .tc := ⟨.hbm, 1041, rfl⟩
abbrev main_call2_v34 : Ref sig .tc := ⟨.hbm, 1042, rfl⟩
abbrev main_call2_v35 : Ref sig .tc := ⟨.hbm, 1043, rfl⟩
abbrev main_call2_v36 : Ref sig .tc := ⟨.hbm, 1044, rfl⟩
abbrev main_call2_call5_v0 : Ref sig .tc := ⟨.hbm, 1045, rfl⟩
abbrev main_call2_call5_c : Ref sig .tc := ⟨.hbm, 1046, rfl⟩
abbrev main_call2_call5_v1 : Ref sig .tc := ⟨.hbm, 1047, rfl⟩
abbrev main_call2_call5_v2 : Ref sig .tc := ⟨.hbm, 1048, rfl⟩
abbrev main_call2_call5_v3 : Ref sig .tc := ⟨.hbm, 1049, rfl⟩
abbrev main_call2_call5_v4 : Ref sig .tc := ⟨.hbm, 1050, rfl⟩
abbrev main_call2_call5_v5 : Ref sig .tc := ⟨.hbm, 1051, rfl⟩
abbrev main_call2_call5_v6 : Ref sig .tc := ⟨.hbm, 1052, rfl⟩
abbrev main_call2_call5_c_0 : Ref sig .tc := ⟨.hbm, 1053, rfl⟩
abbrev main_call2_call5_v7 : Ref sig .tc := ⟨.hbm, 1054, rfl⟩
abbrev main_call2_call5_v8 : Ref sig .tc := ⟨.hbm, 1055, rfl⟩
abbrev main_call2_call5_c_1 : Ref sig .tc := ⟨.hbm, 1056, rfl⟩
abbrev main_call2_call5_v9 : Ref sig .tc := ⟨.hbm, 1057, rfl⟩
abbrev main_call2_call5_v10 : Ref sig .tc := ⟨.hbm, 1058, rfl⟩
abbrev main_call2_call5_v11 : Ref sig .tc := ⟨.hbm, 1059, rfl⟩
abbrev main_call2_call5_v12 : Ref sig .tc := ⟨.hbm, 1060, rfl⟩
abbrev main_call2_call5_v13 : Ref sig .tc := ⟨.hbm, 1061, rfl⟩
abbrev main_call2_call5_c_2 : Ref sig .tc := ⟨.hbm, 1062, rfl⟩
abbrev main_call2_call5_v14 : Ref sig .tc := ⟨.hbm, 1063, rfl⟩
abbrev main_call2_call5_v15 : Ref sig .tc := ⟨.hbm, 1064, rfl⟩
abbrev main_call2_call5_c_3 : Ref sig .tc := ⟨.hbm, 1065, rfl⟩
abbrev main_call2_call5_v16 : Ref sig .tc := ⟨.hbm, 1066, rfl⟩
abbrev main_call2_call5_v17 : Ref sig .tc := ⟨.hbm, 1067, rfl⟩
abbrev main_call2_call5_v18 : Ref sig .tc := ⟨.hbm, 1068, rfl⟩
abbrev main_call2_call5_v19 : Ref sig .tc := ⟨.hbm, 1069, rfl⟩
abbrev main_call2_call5_v20 : Ref sig .tc := ⟨.hbm, 1070, rfl⟩
abbrev main_call2_call5_c_4 : Ref sig .tc := ⟨.hbm, 1071, rfl⟩
abbrev main_call2_call5_v21 : Ref sig .tc := ⟨.hbm, 1072, rfl⟩
abbrev main_call2_call5_v22 : Ref sig .tc := ⟨.hbm, 1073, rfl⟩
abbrev main_call2_call5_c_5 : Ref sig .tc := ⟨.hbm, 1074, rfl⟩
abbrev main_call2_call5_v23 : Ref sig .tc := ⟨.hbm, 1075, rfl⟩
abbrev main_call2_call5_v24 : Ref sig .tc := ⟨.hbm, 1076, rfl⟩
abbrev main_call2_call5_v25 : Ref sig .tc := ⟨.hbm, 1077, rfl⟩
abbrev main_call2_call5_v26 : Ref sig .tc := ⟨.hbm, 1078, rfl⟩
abbrev main_call2_call5_v27 : Ref sig .tc := ⟨.hbm, 1079, rfl⟩
abbrev main_call2_call5_c_6 : Ref sig .tc := ⟨.hbm, 1080, rfl⟩
abbrev main_call2_call5_v28 : Ref sig .tc := ⟨.hbm, 1081, rfl⟩
abbrev main_call2_call5_v29 : Ref sig .tc := ⟨.hbm, 1082, rfl⟩
abbrev main_call2_call5_c_7 : Ref sig .tc := ⟨.hbm, 1083, rfl⟩
abbrev main_call2_call5_v30 : Ref sig .tc := ⟨.hbm, 1084, rfl⟩
abbrev main_call2_call5_v31 : Ref sig .tc := ⟨.hbm, 1085, rfl⟩
abbrev main_call2_call5_v32 : Ref sig .tc := ⟨.hbm, 1086, rfl⟩
abbrev main_call2_call5_v33 : Ref sig .tc := ⟨.hbm, 1087, rfl⟩
abbrev main_call2_call5_v34 : Ref sig .tc := ⟨.hbm, 1088, rfl⟩
abbrev main_call2_call5_v35 : Ref sig .tc := ⟨.hbm, 1089, rfl⟩
abbrev main_call2_call5_v36 : Ref sig .tc := ⟨.hbm, 1090, rfl⟩
abbrev main_call2_call5_v37 : Ref sig .tc := ⟨.hbm, 1091, rfl⟩
abbrev main_call2_call5_c_8 : Ref sig .tc := ⟨.hbm, 1092, rfl⟩
abbrev main_call2_call5_v38 : Ref sig .tc := ⟨.hbm, 1093, rfl⟩
abbrev main_call2_call5_v39 : Ref sig .tc := ⟨.hbm, 1094, rfl⟩
abbrev main_call2_call5_v40 : Ref sig .tc := ⟨.hbm, 1095, rfl⟩
abbrev main_call2_call5_c_9 : Ref sig .tc := ⟨.hbm, 1096, rfl⟩
abbrev main_call2_call5_v41 : Ref sig .tc := ⟨.hbm, 1097, rfl⟩
abbrev main_call2_call5_v42 : Ref sig .tc := ⟨.hbm, 1098, rfl⟩
abbrev main_call2_call5_c_10 : Ref sig .tc := ⟨.hbm, 1099, rfl⟩
abbrev main_call2_call5_v43 : Ref sig .tc := ⟨.hbm, 1100, rfl⟩
abbrev main_call2_call5_v44 : Ref sig .tc := ⟨.hbm, 1101, rfl⟩
abbrev main_call2_call5_v45 : Ref sig .tc := ⟨.hbm, 1102, rfl⟩
abbrev main_call2_call5_v46 : Ref sig .tc := ⟨.hbm, 1103, rfl⟩
abbrev main_call2_call5_v47 : Ref sig .tc := ⟨.hbm, 1104, rfl⟩
abbrev main_call2_call5_c_11 : Ref sig .tc := ⟨.hbm, 1105, rfl⟩
abbrev main_call2_call5_v48 : Ref sig .tc := ⟨.hbm, 1106, rfl⟩
abbrev main_call2_call5_v49 : Ref sig .tc := ⟨.hbm, 1107, rfl⟩
abbrev main_call2_call5_c_12 : Ref sig .tc := ⟨.hbm, 1108, rfl⟩
abbrev main_call2_call5_v50 : Ref sig .tc := ⟨.hbm, 1109, rfl⟩
abbrev main_call2_call5_v51 : Ref sig .tc := ⟨.hbm, 1110, rfl⟩
abbrev main_call2_call5_v52 : Ref sig .tc := ⟨.hbm, 1111, rfl⟩
abbrev main_call2_call5_v53 : Ref sig .tc := ⟨.hbm, 1112, rfl⟩
abbrev main_call2_call5_v54 : Ref sig .tc := ⟨.hbm, 1113, rfl⟩
abbrev main_call2_call5_c_13 : Ref sig .tc := ⟨.hbm, 1114, rfl⟩
abbrev main_call2_call5_v55 : Ref sig .tc := ⟨.hbm, 1115, rfl⟩
abbrev main_call2_call5_v56 : Ref sig .tc := ⟨.hbm, 1116, rfl⟩
abbrev main_call2_call5_c_14 : Ref sig .tc := ⟨.hbm, 1117, rfl⟩
abbrev main_call2_call5_v57 : Ref sig .tc := ⟨.hbm, 1118, rfl⟩
abbrev main_call2_call5_v58 : Ref sig .tc := ⟨.hbm, 1119, rfl⟩
abbrev main_call2_call5_v59 : Ref sig .tc := ⟨.hbm, 1120, rfl⟩
abbrev main_call2_call5_v60 : Ref sig .tc := ⟨.hbm, 1121, rfl⟩
abbrev main_call2_call5_v61 : Ref sig .tc := ⟨.hbm, 1122, rfl⟩
abbrev main_call2_call5_c_15 : Ref sig .tc := ⟨.hbm, 1123, rfl⟩
abbrev main_call2_call5_v62 : Ref sig .tc := ⟨.hbm, 1124, rfl⟩
abbrev main_call2_call5_v63 : Ref sig .tc := ⟨.hbm, 1125, rfl⟩
abbrev main_call2_call5_c_16 : Ref sig .tc := ⟨.hbm, 1126, rfl⟩
abbrev main_call2_call5_v64 : Ref sig .tc := ⟨.hbm, 1127, rfl⟩
abbrev main_call2_call5_v65 : Ref sig .tc := ⟨.hbm, 1128, rfl⟩
abbrev main_call2_call5_v66 : Ref sig .tc := ⟨.hbm, 1129, rfl⟩
abbrev main_call2_call5_v67 : Ref sig .tc := ⟨.hbm, 1130, rfl⟩
abbrev main_call2_call5_v68 : Ref sig .tc := ⟨.hbm, 1131, rfl⟩
abbrev main_call2_call5_v69 : Ref sig .tc := ⟨.hbm, 1132, rfl⟩
abbrev main_call2_call5_v70 : Ref sig .tc := ⟨.hbm, 1133, rfl⟩
abbrev main_call2_call5_v71 : Ref sig .tc := ⟨.hbm, 1134, rfl⟩
abbrev main_call2_call5_c_17 : Ref sig .tc := ⟨.hbm, 1135, rfl⟩
abbrev main_call2_call5_v72 : Ref sig .tc := ⟨.hbm, 1136, rfl⟩
abbrev main_call2_call5_v73 : Ref sig .tc := ⟨.hbm, 1137, rfl⟩
abbrev main_call2_call5_v74 : Ref sig .tc := ⟨.hbm, 1138, rfl⟩
abbrev main_call2_call5_c_18 : Ref sig .tc := ⟨.hbm, 1139, rfl⟩
abbrev main_call2_call5_v75 : Ref sig .tc := ⟨.hbm, 1140, rfl⟩
abbrev main_call2_call5_v76 : Ref sig .tc := ⟨.hbm, 1141, rfl⟩
abbrev main_call2_call5_c_19 : Ref sig .tc := ⟨.hbm, 1142, rfl⟩
abbrev main_call2_call5_v77 : Ref sig .tc := ⟨.hbm, 1143, rfl⟩
abbrev main_call2_call5_v78 : Ref sig .tc := ⟨.hbm, 1144, rfl⟩
abbrev main_call2_call5_v79 : Ref sig .tc := ⟨.hbm, 1145, rfl⟩
abbrev main_call2_call5_v80 : Ref sig .tc := ⟨.hbm, 1146, rfl⟩
abbrev main_call2_call5_v81 : Ref sig .tc := ⟨.hbm, 1147, rfl⟩
abbrev main_call2_call5_c_20 : Ref sig .tc := ⟨.hbm, 1148, rfl⟩
abbrev main_call2_call5_v82 : Ref sig .tc := ⟨.hbm, 1149, rfl⟩
abbrev main_call2_call5_v83 : Ref sig .tc := ⟨.hbm, 1150, rfl⟩
abbrev main_call2_call5_c_21 : Ref sig .tc := ⟨.hbm, 1151, rfl⟩
abbrev main_call2_call5_v84 : Ref sig .tc := ⟨.hbm, 1152, rfl⟩
abbrev main_call2_call5_v85 : Ref sig .tc := ⟨.hbm, 1153, rfl⟩
abbrev main_call2_call5_v86 : Ref sig .tc := ⟨.hbm, 1154, rfl⟩
abbrev main_call2_call5_v87 : Ref sig .tc := ⟨.hbm, 1155, rfl⟩
abbrev main_call2_call5_v88 : Ref sig .tc := ⟨.hbm, 1156, rfl⟩
abbrev main_call2_call5_c_22 : Ref sig .tc := ⟨.hbm, 1157, rfl⟩
abbrev main_call2_call5_v89 : Ref sig .tc := ⟨.hbm, 1158, rfl⟩
abbrev main_call2_call5_v90 : Ref sig .tc := ⟨.hbm, 1159, rfl⟩
abbrev main_call2_call5_c_23 : Ref sig .tc := ⟨.hbm, 1160, rfl⟩
abbrev main_call2_call5_v91 : Ref sig .tc := ⟨.hbm, 1161, rfl⟩
abbrev main_call2_call5_v92 : Ref sig .tc := ⟨.hbm, 1162, rfl⟩
abbrev main_call2_call5_v93 : Ref sig .tc := ⟨.hbm, 1163, rfl⟩
abbrev main_call2_call5_v94 : Ref sig .tc := ⟨.hbm, 1164, rfl⟩
abbrev main_call2_call5_v95 : Ref sig .tc := ⟨.hbm, 1165, rfl⟩
abbrev main_call2_call5_c_24 : Ref sig .tc := ⟨.hbm, 1166, rfl⟩
abbrev main_call2_call5_v96 : Ref sig .tc := ⟨.hbm, 1167, rfl⟩
abbrev main_call2_call5_v97 : Ref sig .tc := ⟨.hbm, 1168, rfl⟩
abbrev main_call2_call5_c_25 : Ref sig .tc := ⟨.hbm, 1169, rfl⟩
abbrev main_call2_call5_v98 : Ref sig .tc := ⟨.hbm, 1170, rfl⟩
abbrev main_call2_call5_v99 : Ref sig .tc := ⟨.hbm, 1171, rfl⟩
abbrev main_call2_call5_v100 : Ref sig .tc := ⟨.hbm, 1172, rfl⟩
abbrev main_call2_call5_v101 : Ref sig .tc := ⟨.hbm, 1173, rfl⟩
abbrev main_call2_call5_v102 : Ref sig .tc := ⟨.hbm, 1174, rfl⟩
abbrev main_call2_call5_v103 : Ref sig .tc := ⟨.hbm, 1175, rfl⟩
abbrev main_call2_call5_v104 : Ref sig .tc := ⟨.hbm, 1176, rfl⟩
abbrev main_call2_call5_v105 : Ref sig .tc := ⟨.hbm, 1177, rfl⟩
abbrev main_call2_call5_c_26 : Ref sig .tc := ⟨.hbm, 1178, rfl⟩
abbrev main_call2_call5_v106 : Ref sig .tc := ⟨.hbm, 1179, rfl⟩
abbrev main_call2_call5_v107 : Ref sig .tc := ⟨.hbm, 1180, rfl⟩
abbrev main_call2_call5_v108 : Ref sig .tc := ⟨.hbm, 1181, rfl⟩
abbrev main_call2_call5_c_27 : Ref sig .tc := ⟨.hbm, 1182, rfl⟩
abbrev main_call2_call5_v109 : Ref sig .tc := ⟨.hbm, 1183, rfl⟩
abbrev main_call2_call5_v110 : Ref sig .tc := ⟨.hbm, 1184, rfl⟩
abbrev main_call2_call5_c_28 : Ref sig .tc := ⟨.hbm, 1185, rfl⟩
abbrev main_call2_call5_v111 : Ref sig .tc := ⟨.hbm, 1186, rfl⟩
abbrev main_call2_call5_v112 : Ref sig .tc := ⟨.hbm, 1187, rfl⟩
abbrev main_call2_call5_v113 : Ref sig .tc := ⟨.hbm, 1188, rfl⟩
abbrev main_call2_call5_v114 : Ref sig .tc := ⟨.hbm, 1189, rfl⟩
abbrev main_call2_call5_v115 : Ref sig .tc := ⟨.hbm, 1190, rfl⟩
abbrev main_call2_call5_c_29 : Ref sig .tc := ⟨.hbm, 1191, rfl⟩
abbrev main_call2_call5_v116 : Ref sig .tc := ⟨.hbm, 1192, rfl⟩
abbrev main_call2_call5_v117 : Ref sig .tc := ⟨.hbm, 1193, rfl⟩
abbrev main_call2_call5_c_30 : Ref sig .tc := ⟨.hbm, 1194, rfl⟩
abbrev main_call2_call5_v118 : Ref sig .tc := ⟨.hbm, 1195, rfl⟩
abbrev main_call2_call5_v119 : Ref sig .tc := ⟨.hbm, 1196, rfl⟩
abbrev main_call2_call5_v120 : Ref sig .tc := ⟨.hbm, 1197, rfl⟩
abbrev main_call2_call5_v121 : Ref sig .tc := ⟨.hbm, 1198, rfl⟩
abbrev main_call2_call5_v122 : Ref sig .tc := ⟨.hbm, 1199, rfl⟩
abbrev main_call2_call5_c_31 : Ref sig .tc := ⟨.hbm, 1200, rfl⟩
abbrev main_call2_call5_v123 : Ref sig .tc := ⟨.hbm, 1201, rfl⟩
abbrev main_call2_call5_v124 : Ref sig .tc := ⟨.hbm, 1202, rfl⟩
abbrev main_call2_call5_c_32 : Ref sig .tc := ⟨.hbm, 1203, rfl⟩
abbrev main_call2_call5_v125 : Ref sig .tc := ⟨.hbm, 1204, rfl⟩
abbrev main_call2_call5_v126 : Ref sig .tc := ⟨.hbm, 1205, rfl⟩
abbrev main_call2_call5_v127 : Ref sig .tc := ⟨.hbm, 1206, rfl⟩
abbrev main_call2_call5_v128 : Ref sig .tc := ⟨.hbm, 1207, rfl⟩
abbrev main_call2_call5_v129 : Ref sig .tc := ⟨.hbm, 1208, rfl⟩
abbrev main_call2_call5_c_33 : Ref sig .tc := ⟨.hbm, 1209, rfl⟩
abbrev main_call2_call5_v130 : Ref sig .tc := ⟨.hbm, 1210, rfl⟩
abbrev main_call2_call5_v131 : Ref sig .tc := ⟨.hbm, 1211, rfl⟩
abbrev main_call2_call5_c_34 : Ref sig .tc := ⟨.hbm, 1212, rfl⟩
abbrev main_call2_call5_v132 : Ref sig .tc := ⟨.hbm, 1213, rfl⟩
abbrev main_call2_call5_v133 : Ref sig .tc := ⟨.hbm, 1214, rfl⟩
abbrev main_call2_call5_v134 : Ref sig .tc := ⟨.hbm, 1215, rfl⟩
abbrev main_call2_call5_v135 : Ref sig .tc := ⟨.hbm, 1216, rfl⟩
abbrev main_call2_call5_v136 : Ref sig .tc := ⟨.hbm, 1217, rfl⟩
abbrev main_call2_call5_v137 : Ref sig .tc := ⟨.hbm, 1218, rfl⟩
abbrev main_call2_call5_v138 : Ref sig .tc := ⟨.hbm, 1219, rfl⟩
abbrev main_call2_call5_v139 : Ref sig .tc := ⟨.hbm, 1220, rfl⟩
abbrev main_call2_call5_c_35 : Ref sig .tc := ⟨.hbm, 1221, rfl⟩
abbrev main_call2_call5_v140 : Ref sig .tc := ⟨.hbm, 1222, rfl⟩
abbrev main_call2_call5_v141 : Ref sig .tc := ⟨.hbm, 1223, rfl⟩
abbrev main_call2_call5_v142 : Ref sig .tc := ⟨.hbm, 1224, rfl⟩
abbrev main_call2_call5_c_36 : Ref sig .tc := ⟨.hbm, 1225, rfl⟩
abbrev main_call2_call5_v143 : Ref sig .tc := ⟨.hbm, 1226, rfl⟩
abbrev main_call2_call5_v144 : Ref sig .tc := ⟨.hbm, 1227, rfl⟩
abbrev main_call2_call5_c_37 : Ref sig .tc := ⟨.hbm, 1228, rfl⟩
abbrev main_call2_call5_v145 : Ref sig .tc := ⟨.hbm, 1229, rfl⟩
abbrev main_call2_call5_v146 : Ref sig .tc := ⟨.hbm, 1230, rfl⟩
abbrev main_call2_call5_v147 : Ref sig .tc := ⟨.hbm, 1231, rfl⟩
abbrev main_call2_call5_v148 : Ref sig .tc := ⟨.hbm, 1232, rfl⟩
abbrev main_call2_call5_v149 : Ref sig .tc := ⟨.hbm, 1233, rfl⟩
abbrev main_call2_call5_c_38 : Ref sig .tc := ⟨.hbm, 1234, rfl⟩
abbrev main_call2_call5_v150 : Ref sig .tc := ⟨.hbm, 1235, rfl⟩
abbrev main_call2_call5_v151 : Ref sig .tc := ⟨.hbm, 1236, rfl⟩
abbrev main_call2_call5_c_39 : Ref sig .tc := ⟨.hbm, 1237, rfl⟩
abbrev main_call2_call5_v152 : Ref sig .tc := ⟨.hbm, 1238, rfl⟩
abbrev main_call2_call5_v153 : Ref sig .tc := ⟨.hbm, 1239, rfl⟩
abbrev main_call2_call5_v154 : Ref sig .tc := ⟨.hbm, 1240, rfl⟩
abbrev main_call2_call5_v155 : Ref sig .tc := ⟨.hbm, 1241, rfl⟩
abbrev main_call2_call5_v156 : Ref sig .tc := ⟨.hbm, 1242, rfl⟩
abbrev main_call2_call5_c_40 : Ref sig .tc := ⟨.hbm, 1243, rfl⟩
abbrev main_call2_call5_v157 : Ref sig .tc := ⟨.hbm, 1244, rfl⟩
abbrev main_call2_call5_v158 : Ref sig .tc := ⟨.hbm, 1245, rfl⟩
abbrev main_call2_call5_c_41 : Ref sig .tc := ⟨.hbm, 1246, rfl⟩
abbrev main_call2_call5_v159 : Ref sig .tc := ⟨.hbm, 1247, rfl⟩
abbrev main_call2_call5_v160 : Ref sig .tc := ⟨.hbm, 1248, rfl⟩
abbrev main_call2_call5_v161 : Ref sig .tc := ⟨.hbm, 1249, rfl⟩
abbrev main_call2_call5_v162 : Ref sig .tc := ⟨.hbm, 1250, rfl⟩
abbrev main_call2_call5_v163 : Ref sig .tc := ⟨.hbm, 1251, rfl⟩
abbrev main_call2_call5_c_42 : Ref sig .tc := ⟨.hbm, 1252, rfl⟩
abbrev main_call2_call5_v164 : Ref sig .tc := ⟨.hbm, 1253, rfl⟩
abbrev main_call2_call5_v165 : Ref sig .tc := ⟨.hbm, 1254, rfl⟩
abbrev main_call2_call5_c_43 : Ref sig .tc := ⟨.hbm, 1255, rfl⟩
abbrev main_call2_call5_v166 : Ref sig .tc := ⟨.hbm, 1256, rfl⟩
abbrev main_call2_call5_v167 : Ref sig .tc := ⟨.hbm, 1257, rfl⟩
abbrev main_call2_call5_v168 : Ref sig .tc := ⟨.hbm, 1258, rfl⟩
abbrev main_call2_call5_v169 : Ref sig .tc := ⟨.hbm, 1259, rfl⟩
abbrev main_call2_call5_v170 : Ref sig .tc := ⟨.hbm, 1260, rfl⟩
abbrev main_call2_v37_0 : Ref sig .tc := ⟨.hbm, 1261, rfl⟩
abbrev main_call2_call5_v172 : Ref sig .tc := ⟨.hbm, 1262, rfl⟩
abbrev main_call2_call5_v173 : Ref sig .tc := ⟨.hbm, 1263, rfl⟩
abbrev main_call2_call5_c_44 : Ref sig .tc := ⟨.hbm, 1264, rfl⟩
abbrev main_call2_call5_v174 : Ref sig .tc := ⟨.hbm, 1265, rfl⟩
abbrev main_call2_v37_1 : Ref sig .tc := ⟨.hbm, 1266, rfl⟩
abbrev main_call2_v38 : Ref sig .tc := ⟨.hbm, 1267, rfl⟩
abbrev main_call2_v39 : Ref sig .tc := ⟨.hbm, 1268, rfl⟩
abbrev main_call2_v40 : Ref sig .tc := ⟨.hbm, 1269, rfl⟩
abbrev main_call2_v41 : Ref sig .tc := ⟨.hbm, 1270, rfl⟩
abbrev main_call2_c_10 : Ref sig .tc := ⟨.hbm, 1271, rfl⟩
abbrev main_call2_v42 : Ref sig .tc := ⟨.hbm, 1272, rfl⟩
abbrev main_call2_v43 : Ref sig .tc := ⟨.hbm, 1273, rfl⟩
abbrev main_call2_v44 : Ref sig .tc := ⟨.hbm, 1274, rfl⟩
abbrev main_call2_v45 : Ref sig .tc := ⟨.hbm, 1275, rfl⟩
abbrev main_call2_v46 : Ref sig .tc := ⟨.hbm, 1276, rfl⟩
abbrev main_call2_c_11 : Ref sig .tc := ⟨.hbm, 1277, rfl⟩
abbrev main_call2_v47 : Ref sig .tc := ⟨.hbm, 1278, rfl⟩
abbrev main_call2_v48 : Ref sig .tc := ⟨.hbm, 1279, rfl⟩
abbrev main_call2_v49 : Ref sig .tc := ⟨.hbm, 1280, rfl⟩
abbrev main_call2_c_12 : Ref sig .tc := ⟨.hbm, 1281, rfl⟩
abbrev main_call2_v50 : Ref sig .tc := ⟨.hbm, 1282, rfl⟩
abbrev main_call2_v51 : Ref sig .tc := ⟨.hbm, 1283, rfl⟩
abbrev main_call2_v52 : Ref sig .tc := ⟨.hbm, 1284, rfl⟩
abbrev main_call2_v53 : Ref sig .tc := ⟨.hbm, 1285, rfl⟩
abbrev main_call2_v54 : Ref sig .tc := ⟨.hbm, 1286, rfl⟩
abbrev main_call2_v55 : Ref sig .tc := ⟨.hbm, 1287, rfl⟩
abbrev main_call2_v56 : Ref sig .tc := ⟨.hbm, 1288, rfl⟩
abbrev main_call2_v57 : Ref sig .tc := ⟨.hbm, 1289, rfl⟩
abbrev main_call2_v58 : Ref sig .tc := ⟨.hbm, 1290, rfl⟩
abbrev main_call2_v59 : Ref sig .tc := ⟨.hbm, 1291, rfl⟩
abbrev main_call2_v60 : Ref sig .tc := ⟨.hbm, 1292, rfl⟩
abbrev main_call2_v61 : Ref sig .tc := ⟨.hbm, 1293, rfl⟩
abbrev main_call2_v62 : Ref sig .tc := ⟨.hbm, 1294, rfl⟩
abbrev main_call2_v63 : Ref sig .tc := ⟨.hbm, 1295, rfl⟩
abbrev main_call2_v64 : Ref sig .tc := ⟨.hbm, 1296, rfl⟩
abbrev main_v26 : Ref sig .tc := ⟨.hbm, 1297, rfl⟩
abbrev main_call3_v0 : Ref sig .tc := ⟨.hbm, 1298, rfl⟩
abbrev main_call3_v1 : Ref sig .tc := ⟨.hbm, 1299, rfl⟩
abbrev main_call3_v2 : Ref sig .tc := ⟨.hbm, 1300, rfl⟩
abbrev main_call3_v3 : Ref sig .tc := ⟨.hbm, 1301, rfl⟩
abbrev main_v27 : Ref sig .tc := ⟨.hbm, 1302, rfl⟩
abbrev main_v28 : Ref sig .tc := ⟨.hbm, 1303, rfl⟩
abbrev main_v29 : Ref sig .tc := ⟨.hbm, 1304, rfl⟩
abbrev main_v30 : Ref sig .tc := ⟨.hbm, 1305, rfl⟩
abbrev main_v31 : Ref sig .tc := ⟨.hbm, 1306, rfl⟩
abbrev main_c_8 : Ref sig .tc := ⟨.hbm, 1307, rfl⟩
abbrev main_v32 : Ref sig .tc := ⟨.hbm, 1308, rfl⟩
abbrev main_v33 : Ref sig .tc := ⟨.hbm, 1309, rfl⟩
abbrev main_v34 : Ref sig .tc := ⟨.hbm, 1310, rfl⟩
abbrev main_cst_9 : Ref sig .tc := ⟨.hbm, 1311, rfl⟩
abbrev main_cst_10 : Ref sig .tc := ⟨.hbm, 1312, rfl⟩
abbrev main_call5_v0 : Ref sig .tc := ⟨.hbm, 1313, rfl⟩
abbrev main_call5_v1 : Ref sig .tc := ⟨.hbm, 1314, rfl⟩
abbrev main_call5_v2 : Ref sig .tc := ⟨.hbm, 1315, rfl⟩
abbrev main_call5_v3 : Ref sig .tc := ⟨.hbm, 1316, rfl⟩
abbrev main_call5_v4 : Ref sig .tc := ⟨.hbm, 1317, rfl⟩
abbrev main_call5_v5 : Ref sig .tc := ⟨.hbm, 1318, rfl⟩
abbrev main_call5_v6 : Ref sig .tc := ⟨.hbm, 1319, rfl⟩
abbrev main_call5_v7 : Ref sig .tc := ⟨.hbm, 1320, rfl⟩
abbrev main_call5_v8 : Ref sig .tc := ⟨.hbm, 1321, rfl⟩
abbrev main_call5_v9 : Ref sig .tc := ⟨.hbm, 1322, rfl⟩
abbrev main_call5_c : Ref sig .tc := ⟨.hbm, 1323, rfl⟩
abbrev main_call5_v10 : Ref sig .tc := ⟨.hbm, 1324, rfl⟩
abbrev main_call5_v11 : Ref sig .tc := ⟨.hbm, 1325, rfl⟩
abbrev main_call5_c_0 : Ref sig .tc := ⟨.hbm, 1326, rfl⟩
abbrev main_call5_v12 : Ref sig .tc := ⟨.hbm, 1327, rfl⟩
abbrev main_call5_v13 : Ref sig .tc := ⟨.hbm, 1328, rfl⟩
abbrev main_call5_v14 : Ref sig .tc := ⟨.hbm, 1329, rfl⟩
abbrev main_call5_c_1 : Ref sig .tc := ⟨.hbm, 1330, rfl⟩
abbrev main_call5_v15 : Ref sig .tc := ⟨.hbm, 1331, rfl⟩
abbrev main_call5_v16 : Ref sig .tc := ⟨.hbm, 1332, rfl⟩
abbrev main_call5_v17 : Ref sig .tc := ⟨.hbm, 1333, rfl⟩
abbrev main_call5_v18 : Ref sig .tc := ⟨.hbm, 1334, rfl⟩
abbrev main_call5_call0_v0 : Ref sig .tc := ⟨.hbm, 1335, rfl⟩
abbrev main_call5_call0_c : Ref sig .tc := ⟨.hbm, 1336, rfl⟩
abbrev main_call5_call0_v1 : Ref sig .tc := ⟨.hbm, 1337, rfl⟩
abbrev main_call5_call0_v2 : Ref sig .tc := ⟨.hbm, 1338, rfl⟩
abbrev main_call5_call0_v3 : Ref sig .tc := ⟨.hbm, 1339, rfl⟩
abbrev main_call5_call0_v4 : Ref sig .tc := ⟨.hbm, 1340, rfl⟩
abbrev main_call5_call0_v5 : Ref sig .tc := ⟨.hbm, 1341, rfl⟩
abbrev main_call5_call0_v6 : Ref sig .tc := ⟨.hbm, 1342, rfl⟩
abbrev main_call5_call0_c_0 : Ref sig .tc := ⟨.hbm, 1343, rfl⟩
abbrev main_call5_call0_v7 : Ref sig .tc := ⟨.hbm, 1344, rfl⟩
abbrev main_call5_call0_v8 : Ref sig .tc := ⟨.hbm, 1345, rfl⟩
abbrev main_call5_call0_c_1 : Ref sig .tc := ⟨.hbm, 1346, rfl⟩
abbrev main_call5_call0_v9 : Ref sig .tc := ⟨.hbm, 1347, rfl⟩
abbrev main_call5_call0_v10 : Ref sig .tc := ⟨.hbm, 1348, rfl⟩
abbrev main_call5_call0_v11 : Ref sig .tc := ⟨.hbm, 1349, rfl⟩
abbrev main_call5_call0_v12 : Ref sig .tc := ⟨.hbm, 1350, rfl⟩
abbrev main_call5_call0_v13 : Ref sig .tc := ⟨.hbm, 1351, rfl⟩
abbrev main_call5_call0_c_2 : Ref sig .tc := ⟨.hbm, 1352, rfl⟩
abbrev main_call5_call0_v14 : Ref sig .tc := ⟨.hbm, 1353, rfl⟩
abbrev main_call5_call0_v15 : Ref sig .tc := ⟨.hbm, 1354, rfl⟩
abbrev main_call5_call0_c_3 : Ref sig .tc := ⟨.hbm, 1355, rfl⟩
abbrev main_call5_call0_v16 : Ref sig .tc := ⟨.hbm, 1356, rfl⟩
abbrev main_call5_call0_v17 : Ref sig .tc := ⟨.hbm, 1357, rfl⟩
abbrev main_call5_call0_v18 : Ref sig .tc := ⟨.hbm, 1358, rfl⟩
abbrev main_call5_call0_v19 : Ref sig .tc := ⟨.hbm, 1359, rfl⟩
abbrev main_call5_call0_v20 : Ref sig .tc := ⟨.hbm, 1360, rfl⟩
abbrev main_call5_call0_c_4 : Ref sig .tc := ⟨.hbm, 1361, rfl⟩
abbrev main_call5_call0_v21 : Ref sig .tc := ⟨.hbm, 1362, rfl⟩
abbrev main_call5_call0_v22 : Ref sig .tc := ⟨.hbm, 1363, rfl⟩
abbrev main_call5_call0_c_5 : Ref sig .tc := ⟨.hbm, 1364, rfl⟩
abbrev main_call5_call0_v23 : Ref sig .tc := ⟨.hbm, 1365, rfl⟩
abbrev main_call5_call0_v24 : Ref sig .tc := ⟨.hbm, 1366, rfl⟩
abbrev main_call5_call0_v25 : Ref sig .tc := ⟨.hbm, 1367, rfl⟩
abbrev main_call5_call0_v26 : Ref sig .tc := ⟨.hbm, 1368, rfl⟩
abbrev main_call5_call0_v27 : Ref sig .tc := ⟨.hbm, 1369, rfl⟩
abbrev main_call5_call0_c_6 : Ref sig .tc := ⟨.hbm, 1370, rfl⟩
abbrev main_call5_call0_v28 : Ref sig .tc := ⟨.hbm, 1371, rfl⟩
abbrev main_call5_call0_v29 : Ref sig .tc := ⟨.hbm, 1372, rfl⟩
abbrev main_call5_call0_c_7 : Ref sig .tc := ⟨.hbm, 1373, rfl⟩
abbrev main_call5_call0_v30 : Ref sig .tc := ⟨.hbm, 1374, rfl⟩
abbrev main_call5_call0_v31 : Ref sig .tc := ⟨.hbm, 1375, rfl⟩
abbrev main_call5_call0_v32 : Ref sig .tc := ⟨.hbm, 1376, rfl⟩
abbrev main_call5_call0_v33 : Ref sig .tc := ⟨.hbm, 1377, rfl⟩
abbrev main_call5_call0_v34 : Ref sig .tc := ⟨.hbm, 1378, rfl⟩
abbrev main_call5_call0_v35 : Ref sig .tc := ⟨.hbm, 1379, rfl⟩
abbrev main_call5_call0_v36 : Ref sig .tc := ⟨.hbm, 1380, rfl⟩
abbrev main_call5_call0_v37 : Ref sig .tc := ⟨.hbm, 1381, rfl⟩
abbrev main_call5_call0_c_8 : Ref sig .tc := ⟨.hbm, 1382, rfl⟩
abbrev main_call5_call0_v38 : Ref sig .tc := ⟨.hbm, 1383, rfl⟩
abbrev main_call5_call0_v39 : Ref sig .tc := ⟨.hbm, 1384, rfl⟩
abbrev main_call5_call0_v40 : Ref sig .tc := ⟨.hbm, 1385, rfl⟩
abbrev main_call5_call0_c_9 : Ref sig .tc := ⟨.hbm, 1386, rfl⟩
abbrev main_call5_call0_v41 : Ref sig .tc := ⟨.hbm, 1387, rfl⟩
abbrev main_call5_call0_v42 : Ref sig .tc := ⟨.hbm, 1388, rfl⟩
abbrev main_call5_call0_c_10 : Ref sig .tc := ⟨.hbm, 1389, rfl⟩
abbrev main_call5_call0_v43 : Ref sig .tc := ⟨.hbm, 1390, rfl⟩
abbrev main_call5_call0_v44 : Ref sig .tc := ⟨.hbm, 1391, rfl⟩
abbrev main_call5_call0_v45 : Ref sig .tc := ⟨.hbm, 1392, rfl⟩
abbrev main_call5_call0_v46 : Ref sig .tc := ⟨.hbm, 1393, rfl⟩
abbrev main_call5_call0_v47 : Ref sig .tc := ⟨.hbm, 1394, rfl⟩
abbrev main_call5_call0_c_11 : Ref sig .tc := ⟨.hbm, 1395, rfl⟩
abbrev main_call5_call0_v48 : Ref sig .tc := ⟨.hbm, 1396, rfl⟩
abbrev main_call5_call0_v49 : Ref sig .tc := ⟨.hbm, 1397, rfl⟩
abbrev main_call5_call0_c_12 : Ref sig .tc := ⟨.hbm, 1398, rfl⟩
abbrev main_call5_call0_v50 : Ref sig .tc := ⟨.hbm, 1399, rfl⟩
abbrev main_call5_call0_v51 : Ref sig .tc := ⟨.hbm, 1400, rfl⟩
abbrev main_call5_call0_v52 : Ref sig .tc := ⟨.hbm, 1401, rfl⟩
abbrev main_call5_call0_v53 : Ref sig .tc := ⟨.hbm, 1402, rfl⟩
abbrev main_call5_call0_v54 : Ref sig .tc := ⟨.hbm, 1403, rfl⟩
abbrev main_call5_call0_c_13 : Ref sig .tc := ⟨.hbm, 1404, rfl⟩
abbrev main_call5_call0_v55 : Ref sig .tc := ⟨.hbm, 1405, rfl⟩
abbrev main_call5_call0_v56 : Ref sig .tc := ⟨.hbm, 1406, rfl⟩
abbrev main_call5_call0_c_14 : Ref sig .tc := ⟨.hbm, 1407, rfl⟩
abbrev main_call5_call0_v57 : Ref sig .tc := ⟨.hbm, 1408, rfl⟩
abbrev main_call5_call0_v58 : Ref sig .tc := ⟨.hbm, 1409, rfl⟩
abbrev main_call5_call0_v59 : Ref sig .tc := ⟨.hbm, 1410, rfl⟩
abbrev main_call5_call0_v60 : Ref sig .tc := ⟨.hbm, 1411, rfl⟩
abbrev main_call5_call0_v61 : Ref sig .tc := ⟨.hbm, 1412, rfl⟩
abbrev main_call5_call0_c_15 : Ref sig .tc := ⟨.hbm, 1413, rfl⟩
abbrev main_call5_call0_v62 : Ref sig .tc := ⟨.hbm, 1414, rfl⟩
abbrev main_call5_call0_v63 : Ref sig .tc := ⟨.hbm, 1415, rfl⟩
abbrev main_call5_call0_c_16 : Ref sig .tc := ⟨.hbm, 1416, rfl⟩
abbrev main_call5_call0_v64 : Ref sig .tc := ⟨.hbm, 1417, rfl⟩
abbrev main_call5_call0_v65 : Ref sig .tc := ⟨.hbm, 1418, rfl⟩
abbrev main_call5_call0_v66 : Ref sig .tc := ⟨.hbm, 1419, rfl⟩
abbrev main_call5_call0_v67 : Ref sig .tc := ⟨.hbm, 1420, rfl⟩
abbrev main_call5_call0_v68 : Ref sig .tc := ⟨.hbm, 1421, rfl⟩
abbrev main_call5_call0_v69 : Ref sig .tc := ⟨.hbm, 1422, rfl⟩
abbrev main_call5_call0_v70 : Ref sig .tc := ⟨.hbm, 1423, rfl⟩
abbrev main_call5_call0_v71 : Ref sig .tc := ⟨.hbm, 1424, rfl⟩
abbrev main_call5_call0_c_17 : Ref sig .tc := ⟨.hbm, 1425, rfl⟩
abbrev main_call5_call0_v72 : Ref sig .tc := ⟨.hbm, 1426, rfl⟩
abbrev main_call5_call0_v73 : Ref sig .tc := ⟨.hbm, 1427, rfl⟩
abbrev main_call5_call0_v74 : Ref sig .tc := ⟨.hbm, 1428, rfl⟩
abbrev main_call5_call0_c_18 : Ref sig .tc := ⟨.hbm, 1429, rfl⟩
abbrev main_call5_call0_v75 : Ref sig .tc := ⟨.hbm, 1430, rfl⟩
abbrev main_call5_call0_v76 : Ref sig .tc := ⟨.hbm, 1431, rfl⟩
abbrev main_call5_call0_c_19 : Ref sig .tc := ⟨.hbm, 1432, rfl⟩
abbrev main_call5_call0_v77 : Ref sig .tc := ⟨.hbm, 1433, rfl⟩
abbrev main_call5_call0_v78 : Ref sig .tc := ⟨.hbm, 1434, rfl⟩
abbrev main_call5_call0_v79 : Ref sig .tc := ⟨.hbm, 1435, rfl⟩
abbrev main_call5_call0_v80 : Ref sig .tc := ⟨.hbm, 1436, rfl⟩
abbrev main_call5_call0_v81 : Ref sig .tc := ⟨.hbm, 1437, rfl⟩
abbrev main_call5_call0_c_20 : Ref sig .tc := ⟨.hbm, 1438, rfl⟩
abbrev main_call5_call0_v82 : Ref sig .tc := ⟨.hbm, 1439, rfl⟩
abbrev main_call5_call0_v83 : Ref sig .tc := ⟨.hbm, 1440, rfl⟩
abbrev main_call5_call0_c_21 : Ref sig .tc := ⟨.hbm, 1441, rfl⟩
abbrev main_call5_call0_v84 : Ref sig .tc := ⟨.hbm, 1442, rfl⟩
abbrev main_call5_call0_v85 : Ref sig .tc := ⟨.hbm, 1443, rfl⟩
abbrev main_call5_call0_v86 : Ref sig .tc := ⟨.hbm, 1444, rfl⟩
abbrev main_call5_call0_v87 : Ref sig .tc := ⟨.hbm, 1445, rfl⟩
abbrev main_call5_call0_v88 : Ref sig .tc := ⟨.hbm, 1446, rfl⟩
abbrev main_call5_call0_c_22 : Ref sig .tc := ⟨.hbm, 1447, rfl⟩
abbrev main_call5_call0_v89 : Ref sig .tc := ⟨.hbm, 1448, rfl⟩
abbrev main_call5_call0_v90 : Ref sig .tc := ⟨.hbm, 1449, rfl⟩
abbrev main_call5_call0_c_23 : Ref sig .tc := ⟨.hbm, 1450, rfl⟩
abbrev main_call5_call0_v91 : Ref sig .tc := ⟨.hbm, 1451, rfl⟩
abbrev main_call5_call0_v92 : Ref sig .tc := ⟨.hbm, 1452, rfl⟩
abbrev main_call5_call0_v93 : Ref sig .tc := ⟨.hbm, 1453, rfl⟩
abbrev main_call5_call0_v94 : Ref sig .tc := ⟨.hbm, 1454, rfl⟩
abbrev main_call5_call0_v95 : Ref sig .tc := ⟨.hbm, 1455, rfl⟩
abbrev main_call5_call0_c_24 : Ref sig .tc := ⟨.hbm, 1456, rfl⟩
abbrev main_call5_call0_v96 : Ref sig .tc := ⟨.hbm, 1457, rfl⟩
abbrev main_call5_call0_v97 : Ref sig .tc := ⟨.hbm, 1458, rfl⟩
abbrev main_call5_call0_c_25 : Ref sig .tc := ⟨.hbm, 1459, rfl⟩
abbrev main_call5_call0_v98 : Ref sig .tc := ⟨.hbm, 1460, rfl⟩
abbrev main_call5_call0_v99 : Ref sig .tc := ⟨.hbm, 1461, rfl⟩
abbrev main_call5_call0_v100 : Ref sig .tc := ⟨.hbm, 1462, rfl⟩
abbrev main_call5_call0_v101 : Ref sig .tc := ⟨.hbm, 1463, rfl⟩
abbrev main_call5_call0_v102 : Ref sig .tc := ⟨.hbm, 1464, rfl⟩
abbrev main_call5_call0_v103 : Ref sig .tc := ⟨.hbm, 1465, rfl⟩
abbrev main_call5_call0_v104 : Ref sig .tc := ⟨.hbm, 1466, rfl⟩
abbrev main_call5_call0_v105 : Ref sig .tc := ⟨.hbm, 1467, rfl⟩
abbrev main_call5_call0_c_26 : Ref sig .tc := ⟨.hbm, 1468, rfl⟩
abbrev main_call5_call0_v106 : Ref sig .tc := ⟨.hbm, 1469, rfl⟩
abbrev main_call5_call0_v107 : Ref sig .tc := ⟨.hbm, 1470, rfl⟩
abbrev main_call5_call0_v108 : Ref sig .tc := ⟨.hbm, 1471, rfl⟩
abbrev main_call5_call0_c_27 : Ref sig .tc := ⟨.hbm, 1472, rfl⟩
abbrev main_call5_call0_v109 : Ref sig .tc := ⟨.hbm, 1473, rfl⟩
abbrev main_call5_call0_v110 : Ref sig .tc := ⟨.hbm, 1474, rfl⟩
abbrev main_call5_call0_c_28 : Ref sig .tc := ⟨.hbm, 1475, rfl⟩
abbrev main_call5_call0_v111 : Ref sig .tc := ⟨.hbm, 1476, rfl⟩
abbrev main_call5_call0_v112 : Ref sig .tc := ⟨.hbm, 1477, rfl⟩
abbrev main_call5_call0_v113 : Ref sig .tc := ⟨.hbm, 1478, rfl⟩
abbrev main_call5_call0_v114 : Ref sig .tc := ⟨.hbm, 1479, rfl⟩
abbrev main_call5_call0_v115 : Ref sig .tc := ⟨.hbm, 1480, rfl⟩
abbrev main_call5_call0_c_29 : Ref sig .tc := ⟨.hbm, 1481, rfl⟩
abbrev main_call5_call0_v116 : Ref sig .tc := ⟨.hbm, 1482, rfl⟩
abbrev main_call5_call0_v117 : Ref sig .tc := ⟨.hbm, 1483, rfl⟩
abbrev main_call5_call0_c_30 : Ref sig .tc := ⟨.hbm, 1484, rfl⟩
abbrev main_call5_call0_v118 : Ref sig .tc := ⟨.hbm, 1485, rfl⟩
abbrev main_call5_call0_v119 : Ref sig .tc := ⟨.hbm, 1486, rfl⟩
abbrev main_call5_call0_v120 : Ref sig .tc := ⟨.hbm, 1487, rfl⟩
abbrev main_call5_call0_v121 : Ref sig .tc := ⟨.hbm, 1488, rfl⟩
abbrev main_call5_call0_v122 : Ref sig .tc := ⟨.hbm, 1489, rfl⟩
abbrev main_call5_call0_c_31 : Ref sig .tc := ⟨.hbm, 1490, rfl⟩
abbrev main_call5_call0_v123 : Ref sig .tc := ⟨.hbm, 1491, rfl⟩
abbrev main_call5_call0_v124 : Ref sig .tc := ⟨.hbm, 1492, rfl⟩
abbrev main_call5_call0_c_32 : Ref sig .tc := ⟨.hbm, 1493, rfl⟩
abbrev main_call5_call0_v125 : Ref sig .tc := ⟨.hbm, 1494, rfl⟩
abbrev main_call5_call0_v126 : Ref sig .tc := ⟨.hbm, 1495, rfl⟩
abbrev main_call5_call0_v127 : Ref sig .tc := ⟨.hbm, 1496, rfl⟩
abbrev main_call5_call0_v128 : Ref sig .tc := ⟨.hbm, 1497, rfl⟩
abbrev main_call5_call0_v129 : Ref sig .tc := ⟨.hbm, 1498, rfl⟩
abbrev main_call5_call0_c_33 : Ref sig .tc := ⟨.hbm, 1499, rfl⟩
abbrev main_call5_call0_v130 : Ref sig .tc := ⟨.hbm, 1500, rfl⟩
abbrev main_call5_call0_v131 : Ref sig .tc := ⟨.hbm, 1501, rfl⟩
abbrev main_call5_call0_c_34 : Ref sig .tc := ⟨.hbm, 1502, rfl⟩
abbrev main_call5_call0_v132 : Ref sig .tc := ⟨.hbm, 1503, rfl⟩
abbrev main_call5_call0_v133 : Ref sig .tc := ⟨.hbm, 1504, rfl⟩
abbrev main_call5_call0_v134 : Ref sig .tc := ⟨.hbm, 1505, rfl⟩
abbrev main_call5_call0_v135 : Ref sig .tc := ⟨.hbm, 1506, rfl⟩
abbrev main_call5_call0_v136 : Ref sig .tc := ⟨.hbm, 1507, rfl⟩
abbrev main_call5_call0_v137 : Ref sig .tc := ⟨.hbm, 1508, rfl⟩
abbrev main_call5_call0_v138 : Ref sig .tc := ⟨.hbm, 1509, rfl⟩
abbrev main_call5_call0_v139 : Ref sig .tc := ⟨.hbm, 1510, rfl⟩
abbrev main_call5_call0_c_35 : Ref sig .tc := ⟨.hbm, 1511, rfl⟩
abbrev main_call5_call0_v140 : Ref sig .tc := ⟨.hbm, 1512, rfl⟩
abbrev main_call5_call0_v141 : Ref sig .tc := ⟨.hbm, 1513, rfl⟩
abbrev main_call5_call0_v142 : Ref sig .tc := ⟨.hbm, 1514, rfl⟩
abbrev main_call5_call0_c_36 : Ref sig .tc := ⟨.hbm, 1515, rfl⟩
abbrev main_call5_call0_v143 : Ref sig .tc := ⟨.hbm, 1516, rfl⟩
abbrev main_call5_call0_v144 : Ref sig .tc := ⟨.hbm, 1517, rfl⟩
abbrev main_call5_call0_c_37 : Ref sig .tc := ⟨.hbm, 1518, rfl⟩
abbrev main_call5_call0_v145 : Ref sig .tc := ⟨.hbm, 1519, rfl⟩
abbrev main_call5_call0_v146 : Ref sig .tc := ⟨.hbm, 1520, rfl⟩
abbrev main_call5_call0_v147 : Ref sig .tc := ⟨.hbm, 1521, rfl⟩
abbrev main_call5_call0_v148 : Ref sig .tc := ⟨.hbm, 1522, rfl⟩
abbrev main_call5_call0_v149 : Ref sig .tc := ⟨.hbm, 1523, rfl⟩
abbrev main_call5_call0_c_38 : Ref sig .tc := ⟨.hbm, 1524, rfl⟩
abbrev main_call5_call0_v150 : Ref sig .tc := ⟨.hbm, 1525, rfl⟩
abbrev main_call5_call0_v151 : Ref sig .tc := ⟨.hbm, 1526, rfl⟩
abbrev main_call5_call0_c_39 : Ref sig .tc := ⟨.hbm, 1527, rfl⟩
abbrev main_call5_call0_v152 : Ref sig .tc := ⟨.hbm, 1528, rfl⟩
abbrev main_call5_call0_v153 : Ref sig .tc := ⟨.hbm, 1529, rfl⟩
abbrev main_call5_call0_v154 : Ref sig .tc := ⟨.hbm, 1530, rfl⟩
abbrev main_call5_call0_v155 : Ref sig .tc := ⟨.hbm, 1531, rfl⟩
abbrev main_call5_call0_v156 : Ref sig .tc := ⟨.hbm, 1532, rfl⟩
abbrev main_call5_call0_c_40 : Ref sig .tc := ⟨.hbm, 1533, rfl⟩
abbrev main_call5_call0_v157 : Ref sig .tc := ⟨.hbm, 1534, rfl⟩
abbrev main_call5_call0_v158 : Ref sig .tc := ⟨.hbm, 1535, rfl⟩
abbrev main_call5_call0_c_41 : Ref sig .tc := ⟨.hbm, 1536, rfl⟩
abbrev main_call5_call0_v159 : Ref sig .tc := ⟨.hbm, 1537, rfl⟩
abbrev main_call5_call0_v160 : Ref sig .tc := ⟨.hbm, 1538, rfl⟩
abbrev main_call5_call0_v161 : Ref sig .tc := ⟨.hbm, 1539, rfl⟩
abbrev main_call5_call0_v162 : Ref sig .tc := ⟨.hbm, 1540, rfl⟩
abbrev main_call5_call0_v163 : Ref sig .tc := ⟨.hbm, 1541, rfl⟩
abbrev main_call5_call0_c_42 : Ref sig .tc := ⟨.hbm, 1542, rfl⟩
abbrev main_call5_call0_v164 : Ref sig .tc := ⟨.hbm, 1543, rfl⟩
abbrev main_call5_call0_v165 : Ref sig .tc := ⟨.hbm, 1544, rfl⟩
abbrev main_call5_call0_c_43 : Ref sig .tc := ⟨.hbm, 1545, rfl⟩
abbrev main_call5_call0_v166 : Ref sig .tc := ⟨.hbm, 1546, rfl⟩
abbrev main_call5_call0_v167 : Ref sig .tc := ⟨.hbm, 1547, rfl⟩
abbrev main_call5_call0_v168 : Ref sig .tc := ⟨.hbm, 1548, rfl⟩
abbrev main_call5_call0_v169 : Ref sig .tc := ⟨.hbm, 1549, rfl⟩
abbrev main_call5_call0_v170 : Ref sig .tc := ⟨.hbm, 1550, rfl⟩
abbrev main_call5_v19_0 : Ref sig .tc := ⟨.hbm, 1551, rfl⟩
abbrev main_call5_call0_v172 : Ref sig .tc := ⟨.hbm, 1552, rfl⟩
abbrev main_call5_call0_v173 : Ref sig .tc := ⟨.hbm, 1553, rfl⟩
abbrev main_call5_call0_c_44 : Ref sig .tc := ⟨.hbm, 1554, rfl⟩
abbrev main_call5_call0_v174 : Ref sig .tc := ⟨.hbm, 1555, rfl⟩
abbrev main_call5_v19_1 : Ref sig .tc := ⟨.hbm, 1556, rfl⟩
abbrev main_call5_v20 : Ref sig .tc := ⟨.hbm, 1557, rfl⟩
abbrev main_call5_c_2 : Ref sig .tc := ⟨.hbm, 1558, rfl⟩
abbrev main_call5_v21 : Ref sig .tc := ⟨.hbm, 1559, rfl⟩
abbrev main_call5_v22 : Ref sig .tc := ⟨.hbm, 1560, rfl⟩
abbrev main_call5_c_3 : Ref sig .tc := ⟨.hbm, 1561, rfl⟩
abbrev main_call5_v23 : Ref sig .tc := ⟨.hbm, 1562, rfl⟩
abbrev main_call5_v24 : Ref sig .tc := ⟨.hbm, 1563, rfl⟩
abbrev main_call5_v25 : Ref sig .tc := ⟨.hbm, 1564, rfl⟩
abbrev main_call5_cst : Ref sig .tc := ⟨.hbm, 1565, rfl⟩
abbrev main_call5_v26 : Ref sig .tc := ⟨.hbm, 1566, rfl⟩
abbrev main_call5_v27 : Ref sig .tc := ⟨.hbm, 1567, rfl⟩
abbrev main_call5_v28 : Ref sig .tc := ⟨.hbm, 1568, rfl⟩
abbrev main_call5_v29 : Ref sig .tc := ⟨.hbm, 1569, rfl⟩
abbrev main_call5_v30 : Ref sig .tc := ⟨.hbm, 1570, rfl⟩
abbrev main_call5_v31 : Ref sig .tc := ⟨.hbm, 1571, rfl⟩
abbrev main_call5_v32 : Ref sig .tc := ⟨.hbm, 1572, rfl⟩
abbrev main_call5_v33 : Ref sig .tc := ⟨.hbm, 1573, rfl⟩
abbrev main_v35 : Ref sig .tc := ⟨.hbm, 1574, rfl⟩
abbrev main_c_11 : Ref sig .tc := ⟨.hbm, 1575, rfl⟩
abbrev main_c_12 : Ref sig .tc := ⟨.hbm, 1576, rfl⟩
abbrev main_call6_c : Ref sig .tc := ⟨.hbm, 1577, rfl⟩
abbrev main_call6_c_0 : Ref sig .tc := ⟨.hbm, 1578, rfl⟩
abbrev main_call6_c_1 : Ref sig .tc := ⟨.hbm, 1579, rfl⟩
abbrev main_call6_call0_v0 : Ref sig .tc := ⟨.hbm, 1580, rfl⟩
abbrev main_call6_v0 : Ref sig .tc := ⟨.hbm, 1581, rfl⟩
abbrev main_call6_v1 : Ref sig .tc := ⟨.hbm, 1582, rfl⟩
abbrev main_call6_c_2 : Ref sig .tc := ⟨.hbm, 1583, rfl⟩
abbrev main_call6_c_3 : Ref sig .tc := ⟨.hbm, 1584, rfl⟩
abbrev main_call6_call1_v0 : Ref sig .tc := ⟨.hbm, 1585, rfl⟩
abbrev main_call6_v2 : Ref sig .tc := ⟨.hbm, 1586, rfl⟩
abbrev main_call6_v3 : Ref sig .tc := ⟨.hbm, 1587, rfl⟩
abbrev main_call6_c_4 : Ref sig .tc := ⟨.hbm, 1588, rfl⟩
abbrev main_call6_c_5 : Ref sig .tc := ⟨.hbm, 1589, rfl⟩
abbrev main_call6_call2_v0 : Ref sig .tc := ⟨.hbm, 1590, rfl⟩
abbrev main_call6_v4 : Ref sig .tc := ⟨.hbm, 1591, rfl⟩
abbrev main_call6_v5 : Ref sig .tc := ⟨.hbm, 1592, rfl⟩
abbrev main_call6_v6 : Ref sig .tc := ⟨.hbm, 1593, rfl⟩
abbrev main_call6_v7 : Ref sig .tc := ⟨.hbm, 1594, rfl⟩
abbrev main_call6_call3_v0 : Ref sig .tc := ⟨.hbm, 1595, rfl⟩
abbrev main_call6_call3_v1 : Ref sig .tc := ⟨.hbm, 1596, rfl⟩
abbrev main_call6_call3_v2 : Ref sig .tc := ⟨.hbm, 1597, rfl⟩
abbrev main_call6_call3_v3 : Ref sig .tc := ⟨.hbm, 1598, rfl⟩
abbrev main_call6_call3_v4 : Ref sig .tc := ⟨.hbm, 1599, rfl⟩
abbrev main_call6_call3_c : Ref sig .tc := ⟨.hbm, 1600, rfl⟩
abbrev main_call6_call3_v5 : Ref sig .tc := ⟨.hbm, 1601, rfl⟩
abbrev main_call6_call3_v6 : Ref sig .tc := ⟨.hbm, 1602, rfl⟩
abbrev main_call6_call3_c_0 : Ref sig .tc := ⟨.hbm, 1603, rfl⟩
abbrev main_call6_call3_v7 : Ref sig .tc := ⟨.hbm, 1604, rfl⟩
abbrev main_call6_call3_v8 : Ref sig .tc := ⟨.hbm, 1605, rfl⟩
abbrev main_call6_call3_v9 : Ref sig .tc := ⟨.hbm, 1606, rfl⟩
abbrev main_call6_call3_v10 : Ref sig .tc := ⟨.hbm, 1607, rfl⟩
abbrev main_call6_call3_call0_v0 : Ref sig .tc := ⟨.hbm, 1608, rfl⟩
abbrev main_call6_call3_call0_c : Ref sig .tc := ⟨.hbm, 1609, rfl⟩
abbrev main_call6_call3_call0_v1 : Ref sig .tc := ⟨.hbm, 1610, rfl⟩
abbrev main_call6_call3_call0_v2 : Ref sig .tc := ⟨.hbm, 1611, rfl⟩
abbrev main_call6_call3_call0_v3 : Ref sig .tc := ⟨.hbm, 1612, rfl⟩
abbrev main_call6_call3_call0_v4 : Ref sig .tc := ⟨.hbm, 1613, rfl⟩
abbrev main_call6_call3_call0_v5 : Ref sig .tc := ⟨.hbm, 1614, rfl⟩
abbrev main_call6_call3_call0_v6 : Ref sig .tc := ⟨.hbm, 1615, rfl⟩
abbrev main_call6_call3_call0_c_0 : Ref sig .tc := ⟨.hbm, 1616, rfl⟩
abbrev main_call6_call3_call0_v7 : Ref sig .tc := ⟨.hbm, 1617, rfl⟩
abbrev main_call6_call3_call0_v8 : Ref sig .tc := ⟨.hbm, 1618, rfl⟩
abbrev main_call6_call3_call0_c_1 : Ref sig .tc := ⟨.hbm, 1619, rfl⟩
abbrev main_call6_call3_call0_v9 : Ref sig .tc := ⟨.hbm, 1620, rfl⟩
abbrev main_call6_call3_call0_v10 : Ref sig .tc := ⟨.hbm, 1621, rfl⟩
abbrev main_call6_call3_call0_v11 : Ref sig .tc := ⟨.hbm, 1622, rfl⟩
abbrev main_call6_call3_call0_v12 : Ref sig .tc := ⟨.hbm, 1623, rfl⟩
abbrev main_call6_call3_call0_v13 : Ref sig .tc := ⟨.hbm, 1624, rfl⟩
abbrev main_call6_call3_call0_c_2 : Ref sig .tc := ⟨.hbm, 1625, rfl⟩
abbrev main_call6_call3_call0_v14 : Ref sig .tc := ⟨.hbm, 1626, rfl⟩
abbrev main_call6_call3_call0_v15 : Ref sig .tc := ⟨.hbm, 1627, rfl⟩
abbrev main_call6_call3_call0_c_3 : Ref sig .tc := ⟨.hbm, 1628, rfl⟩
abbrev main_call6_call3_call0_v16 : Ref sig .tc := ⟨.hbm, 1629, rfl⟩
abbrev main_call6_call3_call0_v17 : Ref sig .tc := ⟨.hbm, 1630, rfl⟩
abbrev main_call6_call3_call0_v18 : Ref sig .tc := ⟨.hbm, 1631, rfl⟩
abbrev main_call6_call3_call0_v19 : Ref sig .tc := ⟨.hbm, 1632, rfl⟩
abbrev main_call6_call3_call0_v20 : Ref sig .tc := ⟨.hbm, 1633, rfl⟩
abbrev main_call6_call3_call0_c_4 : Ref sig .tc := ⟨.hbm, 1634, rfl⟩
abbrev main_call6_call3_call0_v21 : Ref sig .tc := ⟨.hbm, 1635, rfl⟩
abbrev main_call6_call3_call0_v22 : Ref sig .tc := ⟨.hbm, 1636, rfl⟩
abbrev main_call6_call3_call0_c_5 : Ref sig .tc := ⟨.hbm, 1637, rfl⟩
abbrev main_call6_call3_call0_v23 : Ref sig .tc := ⟨.hbm, 1638, rfl⟩
abbrev main_call6_call3_call0_v24 : Ref sig .tc := ⟨.hbm, 1639, rfl⟩
abbrev main_call6_call3_call0_v25 : Ref sig .tc := ⟨.hbm, 1640, rfl⟩
abbrev main_call6_call3_call0_v26 : Ref sig .tc := ⟨.hbm, 1641, rfl⟩
abbrev main_call6_call3_call0_v27 : Ref sig .tc := ⟨.hbm, 1642, rfl⟩
abbrev main_call6_call3_call0_c_6 : Ref sig .tc := ⟨.hbm, 1643, rfl⟩
abbrev main_call6_call3_call0_v28 : Ref sig .tc := ⟨.hbm, 1644, rfl⟩
abbrev main_call6_call3_call0_v29 : Ref sig .tc := ⟨.hbm, 1645, rfl⟩
abbrev main_call6_call3_call0_c_7 : Ref sig .tc := ⟨.hbm, 1646, rfl⟩
abbrev main_call6_call3_call0_v30 : Ref sig .tc := ⟨.hbm, 1647, rfl⟩
abbrev main_call6_call3_call0_v31 : Ref sig .tc := ⟨.hbm, 1648, rfl⟩
abbrev main_call6_call3_call0_v32 : Ref sig .tc := ⟨.hbm, 1649, rfl⟩
abbrev main_call6_call3_call0_v33 : Ref sig .tc := ⟨.hbm, 1650, rfl⟩
abbrev main_call6_call3_call0_v34 : Ref sig .tc := ⟨.hbm, 1651, rfl⟩
abbrev main_call6_call3_call0_v35 : Ref sig .tc := ⟨.hbm, 1652, rfl⟩
abbrev main_call6_call3_call0_v36 : Ref sig .tc := ⟨.hbm, 1653, rfl⟩
abbrev main_call6_call3_call0_v37 : Ref sig .tc := ⟨.hbm, 1654, rfl⟩
abbrev main_call6_call3_call0_c_8 : Ref sig .tc := ⟨.hbm, 1655, rfl⟩
abbrev main_call6_call3_call0_v38 : Ref sig .tc := ⟨.hbm, 1656, rfl⟩
abbrev main_call6_call3_call0_v39 : Ref sig .tc := ⟨.hbm, 1657, rfl⟩
abbrev main_call6_call3_call0_v40 : Ref sig .tc := ⟨.hbm, 1658, rfl⟩
abbrev main_call6_call3_call0_c_9 : Ref sig .tc := ⟨.hbm, 1659, rfl⟩
abbrev main_call6_call3_call0_v41 : Ref sig .tc := ⟨.hbm, 1660, rfl⟩
abbrev main_call6_call3_call0_v42 : Ref sig .tc := ⟨.hbm, 1661, rfl⟩
abbrev main_call6_call3_call0_c_10 : Ref sig .tc := ⟨.hbm, 1662, rfl⟩
abbrev main_call6_call3_call0_v43 : Ref sig .tc := ⟨.hbm, 1663, rfl⟩
abbrev main_call6_call3_call0_v44 : Ref sig .tc := ⟨.hbm, 1664, rfl⟩
abbrev main_call6_call3_call0_v45 : Ref sig .tc := ⟨.hbm, 1665, rfl⟩
abbrev main_call6_call3_call0_v46 : Ref sig .tc := ⟨.hbm, 1666, rfl⟩
abbrev main_call6_call3_call0_v47 : Ref sig .tc := ⟨.hbm, 1667, rfl⟩
abbrev main_call6_call3_call0_c_11 : Ref sig .tc := ⟨.hbm, 1668, rfl⟩
abbrev main_call6_call3_call0_v48 : Ref sig .tc := ⟨.hbm, 1669, rfl⟩
abbrev main_call6_call3_call0_v49 : Ref sig .tc := ⟨.hbm, 1670, rfl⟩
abbrev main_call6_call3_call0_c_12 : Ref sig .tc := ⟨.hbm, 1671, rfl⟩
abbrev main_call6_call3_call0_v50 : Ref sig .tc := ⟨.hbm, 1672, rfl⟩
abbrev main_call6_call3_call0_v51 : Ref sig .tc := ⟨.hbm, 1673, rfl⟩
abbrev main_call6_call3_call0_v52 : Ref sig .tc := ⟨.hbm, 1674, rfl⟩
abbrev main_call6_call3_call0_v53 : Ref sig .tc := ⟨.hbm, 1675, rfl⟩
abbrev main_call6_call3_call0_v54 : Ref sig .tc := ⟨.hbm, 1676, rfl⟩
abbrev main_call6_call3_call0_c_13 : Ref sig .tc := ⟨.hbm, 1677, rfl⟩
abbrev main_call6_call3_call0_v55 : Ref sig .tc := ⟨.hbm, 1678, rfl⟩
abbrev main_call6_call3_call0_v56 : Ref sig .tc := ⟨.hbm, 1679, rfl⟩
abbrev main_call6_call3_call0_c_14 : Ref sig .tc := ⟨.hbm, 1680, rfl⟩
abbrev main_call6_call3_call0_v57 : Ref sig .tc := ⟨.hbm, 1681, rfl⟩
abbrev main_call6_call3_call0_v58 : Ref sig .tc := ⟨.hbm, 1682, rfl⟩
abbrev main_call6_call3_call0_v59 : Ref sig .tc := ⟨.hbm, 1683, rfl⟩
abbrev main_call6_call3_call0_v60 : Ref sig .tc := ⟨.hbm, 1684, rfl⟩
abbrev main_call6_call3_call0_v61 : Ref sig .tc := ⟨.hbm, 1685, rfl⟩
abbrev main_call6_call3_call0_c_15 : Ref sig .tc := ⟨.hbm, 1686, rfl⟩
abbrev main_call6_call3_call0_v62 : Ref sig .tc := ⟨.hbm, 1687, rfl⟩
abbrev main_call6_call3_call0_v63 : Ref sig .tc := ⟨.hbm, 1688, rfl⟩
abbrev main_call6_call3_call0_c_16 : Ref sig .tc := ⟨.hbm, 1689, rfl⟩
abbrev main_call6_call3_call0_v64 : Ref sig .tc := ⟨.hbm, 1690, rfl⟩
abbrev main_call6_call3_call0_v65 : Ref sig .tc := ⟨.hbm, 1691, rfl⟩
abbrev main_call6_call3_call0_v66 : Ref sig .tc := ⟨.hbm, 1692, rfl⟩
abbrev main_call6_call3_call0_v67 : Ref sig .tc := ⟨.hbm, 1693, rfl⟩
abbrev main_call6_call3_call0_v68 : Ref sig .tc := ⟨.hbm, 1694, rfl⟩
abbrev main_call6_call3_call0_v69 : Ref sig .tc := ⟨.hbm, 1695, rfl⟩
abbrev main_call6_call3_call0_v70 : Ref sig .tc := ⟨.hbm, 1696, rfl⟩
abbrev main_call6_call3_call0_v71 : Ref sig .tc := ⟨.hbm, 1697, rfl⟩
abbrev main_call6_call3_call0_c_17 : Ref sig .tc := ⟨.hbm, 1698, rfl⟩
abbrev main_call6_call3_call0_v72 : Ref sig .tc := ⟨.hbm, 1699, rfl⟩
abbrev main_call6_call3_call0_v73 : Ref sig .tc := ⟨.hbm, 1700, rfl⟩
abbrev main_call6_call3_call0_v74 : Ref sig .tc := ⟨.hbm, 1701, rfl⟩
abbrev main_call6_call3_call0_c_18 : Ref sig .tc := ⟨.hbm, 1702, rfl⟩
abbrev main_call6_call3_call0_v75 : Ref sig .tc := ⟨.hbm, 1703, rfl⟩
abbrev main_call6_call3_call0_v76 : Ref sig .tc := ⟨.hbm, 1704, rfl⟩
abbrev main_call6_call3_call0_c_19 : Ref sig .tc := ⟨.hbm, 1705, rfl⟩
abbrev main_call6_call3_call0_v77 : Ref sig .tc := ⟨.hbm, 1706, rfl⟩
abbrev main_call6_call3_call0_v78 : Ref sig .tc := ⟨.hbm, 1707, rfl⟩
abbrev main_call6_call3_call0_v79 : Ref sig .tc := ⟨.hbm, 1708, rfl⟩
abbrev main_call6_call3_call0_v80 : Ref sig .tc := ⟨.hbm, 1709, rfl⟩
abbrev main_call6_call3_call0_v81 : Ref sig .tc := ⟨.hbm, 1710, rfl⟩
abbrev main_call6_call3_call0_c_20 : Ref sig .tc := ⟨.hbm, 1711, rfl⟩
abbrev main_call6_call3_call0_v82 : Ref sig .tc := ⟨.hbm, 1712, rfl⟩
abbrev main_call6_call3_call0_v83 : Ref sig .tc := ⟨.hbm, 1713, rfl⟩
abbrev main_call6_call3_call0_c_21 : Ref sig .tc := ⟨.hbm, 1714, rfl⟩
abbrev main_call6_call3_call0_v84 : Ref sig .tc := ⟨.hbm, 1715, rfl⟩
abbrev main_call6_call3_call0_v85 : Ref sig .tc := ⟨.hbm, 1716, rfl⟩
abbrev main_call6_call3_call0_v86 : Ref sig .tc := ⟨.hbm, 1717, rfl⟩
abbrev main_call6_call3_call0_v87 : Ref sig .tc := ⟨.hbm, 1718, rfl⟩
abbrev main_call6_call3_call0_v88 : Ref sig .tc := ⟨.hbm, 1719, rfl⟩
abbrev main_call6_call3_call0_c_22 : Ref sig .tc := ⟨.hbm, 1720, rfl⟩
abbrev main_call6_call3_call0_v89 : Ref sig .tc := ⟨.hbm, 1721, rfl⟩
abbrev main_call6_call3_call0_v90 : Ref sig .tc := ⟨.hbm, 1722, rfl⟩
abbrev main_call6_call3_call0_c_23 : Ref sig .tc := ⟨.hbm, 1723, rfl⟩
abbrev main_call6_call3_call0_v91 : Ref sig .tc := ⟨.hbm, 1724, rfl⟩
abbrev main_call6_call3_call0_v92 : Ref sig .tc := ⟨.hbm, 1725, rfl⟩
abbrev main_call6_call3_call0_v93 : Ref sig .tc := ⟨.hbm, 1726, rfl⟩
abbrev main_call6_call3_call0_v94 : Ref sig .tc := ⟨.hbm, 1727, rfl⟩
abbrev main_call6_call3_call0_v95 : Ref sig .tc := ⟨.hbm, 1728, rfl⟩
abbrev main_call6_call3_call0_c_24 : Ref sig .tc := ⟨.hbm, 1729, rfl⟩
abbrev main_call6_call3_call0_v96 : Ref sig .tc := ⟨.hbm, 1730, rfl⟩
abbrev main_call6_call3_call0_v97 : Ref sig .tc := ⟨.hbm, 1731, rfl⟩
abbrev main_call6_call3_call0_c_25 : Ref sig .tc := ⟨.hbm, 1732, rfl⟩
abbrev main_call6_call3_call0_v98 : Ref sig .tc := ⟨.hbm, 1733, rfl⟩
abbrev main_call6_call3_call0_v99 : Ref sig .tc := ⟨.hbm, 1734, rfl⟩
abbrev main_call6_call3_call0_v100 : Ref sig .tc := ⟨.hbm, 1735, rfl⟩
abbrev main_call6_call3_call0_v101 : Ref sig .tc := ⟨.hbm, 1736, rfl⟩
abbrev main_call6_call3_call0_v102 : Ref sig .tc := ⟨.hbm, 1737, rfl⟩
abbrev main_call6_call3_call0_v103 : Ref sig .tc := ⟨.hbm, 1738, rfl⟩
abbrev main_call6_call3_call0_v104 : Ref sig .tc := ⟨.hbm, 1739, rfl⟩
abbrev main_call6_call3_call0_v105 : Ref sig .tc := ⟨.hbm, 1740, rfl⟩
abbrev main_call6_call3_call0_c_26 : Ref sig .tc := ⟨.hbm, 1741, rfl⟩
abbrev main_call6_call3_call0_v106 : Ref sig .tc := ⟨.hbm, 1742, rfl⟩
abbrev main_call6_call3_call0_v107 : Ref sig .tc := ⟨.hbm, 1743, rfl⟩
abbrev main_call6_call3_call0_v108 : Ref sig .tc := ⟨.hbm, 1744, rfl⟩
abbrev main_call6_call3_call0_c_27 : Ref sig .tc := ⟨.hbm, 1745, rfl⟩
abbrev main_call6_call3_call0_v109 : Ref sig .tc := ⟨.hbm, 1746, rfl⟩
abbrev main_call6_call3_call0_v110 : Ref sig .tc := ⟨.hbm, 1747, rfl⟩
abbrev main_call6_call3_call0_c_28 : Ref sig .tc := ⟨.hbm, 1748, rfl⟩
abbrev main_call6_call3_call0_v111 : Ref sig .tc := ⟨.hbm, 1749, rfl⟩
abbrev main_call6_call3_call0_v112 : Ref sig .tc := ⟨.hbm, 1750, rfl⟩
abbrev main_call6_call3_call0_v113 : Ref sig .tc := ⟨.hbm, 1751, rfl⟩
abbrev main_call6_call3_call0_v114 : Ref sig .tc := ⟨.hbm, 1752, rfl⟩
abbrev main_call6_call3_call0_v115 : Ref sig .tc := ⟨.hbm, 1753, rfl⟩
abbrev main_call6_call3_call0_c_29 : Ref sig .tc := ⟨.hbm, 1754, rfl⟩
abbrev main_call6_call3_call0_v116 : Ref sig .tc := ⟨.hbm, 1755, rfl⟩
abbrev main_call6_call3_call0_v117 : Ref sig .tc := ⟨.hbm, 1756, rfl⟩
abbrev main_call6_call3_call0_c_30 : Ref sig .tc := ⟨.hbm, 1757, rfl⟩
abbrev main_call6_call3_call0_v118 : Ref sig .tc := ⟨.hbm, 1758, rfl⟩
abbrev main_call6_call3_call0_v119 : Ref sig .tc := ⟨.hbm, 1759, rfl⟩
abbrev main_call6_call3_call0_v120 : Ref sig .tc := ⟨.hbm, 1760, rfl⟩
abbrev main_call6_call3_call0_v121 : Ref sig .tc := ⟨.hbm, 1761, rfl⟩
abbrev main_call6_call3_call0_v122 : Ref sig .tc := ⟨.hbm, 1762, rfl⟩
abbrev main_call6_call3_call0_c_31 : Ref sig .tc := ⟨.hbm, 1763, rfl⟩
abbrev main_call6_call3_call0_v123 : Ref sig .tc := ⟨.hbm, 1764, rfl⟩
abbrev main_call6_call3_call0_v124 : Ref sig .tc := ⟨.hbm, 1765, rfl⟩
abbrev main_call6_call3_call0_c_32 : Ref sig .tc := ⟨.hbm, 1766, rfl⟩
abbrev main_call6_call3_call0_v125 : Ref sig .tc := ⟨.hbm, 1767, rfl⟩
abbrev main_call6_call3_call0_v126 : Ref sig .tc := ⟨.hbm, 1768, rfl⟩
abbrev main_call6_call3_call0_v127 : Ref sig .tc := ⟨.hbm, 1769, rfl⟩
abbrev main_call6_call3_call0_v128 : Ref sig .tc := ⟨.hbm, 1770, rfl⟩
abbrev main_call6_call3_call0_v129 : Ref sig .tc := ⟨.hbm, 1771, rfl⟩
abbrev main_call6_call3_call0_c_33 : Ref sig .tc := ⟨.hbm, 1772, rfl⟩
abbrev main_call6_call3_call0_v130 : Ref sig .tc := ⟨.hbm, 1773, rfl⟩
abbrev main_call6_call3_call0_v131 : Ref sig .tc := ⟨.hbm, 1774, rfl⟩
abbrev main_call6_call3_call0_c_34 : Ref sig .tc := ⟨.hbm, 1775, rfl⟩
abbrev main_call6_call3_call0_v132 : Ref sig .tc := ⟨.hbm, 1776, rfl⟩
abbrev main_call6_call3_call0_v133 : Ref sig .tc := ⟨.hbm, 1777, rfl⟩
abbrev main_call6_call3_call0_v134 : Ref sig .tc := ⟨.hbm, 1778, rfl⟩
abbrev main_call6_call3_call0_v135 : Ref sig .tc := ⟨.hbm, 1779, rfl⟩
abbrev main_call6_call3_call0_v136 : Ref sig .tc := ⟨.hbm, 1780, rfl⟩
abbrev main_call6_call3_call0_v137 : Ref sig .tc := ⟨.hbm, 1781, rfl⟩
abbrev main_call6_call3_call0_v138 : Ref sig .tc := ⟨.hbm, 1782, rfl⟩
abbrev main_call6_call3_call0_v139 : Ref sig .tc := ⟨.hbm, 1783, rfl⟩
abbrev main_call6_call3_call0_c_35 : Ref sig .tc := ⟨.hbm, 1784, rfl⟩
abbrev main_call6_call3_call0_v140 : Ref sig .tc := ⟨.hbm, 1785, rfl⟩
abbrev main_call6_call3_call0_v141 : Ref sig .tc := ⟨.hbm, 1786, rfl⟩
abbrev main_call6_call3_call0_v142 : Ref sig .tc := ⟨.hbm, 1787, rfl⟩
abbrev main_call6_call3_call0_c_36 : Ref sig .tc := ⟨.hbm, 1788, rfl⟩
abbrev main_call6_call3_call0_v143 : Ref sig .tc := ⟨.hbm, 1789, rfl⟩
abbrev main_call6_call3_call0_v144 : Ref sig .tc := ⟨.hbm, 1790, rfl⟩
abbrev main_call6_call3_call0_c_37 : Ref sig .tc := ⟨.hbm, 1791, rfl⟩
abbrev main_call6_call3_call0_v145 : Ref sig .tc := ⟨.hbm, 1792, rfl⟩
abbrev main_call6_call3_call0_v146 : Ref sig .tc := ⟨.hbm, 1793, rfl⟩
abbrev main_call6_call3_call0_v147 : Ref sig .tc := ⟨.hbm, 1794, rfl⟩
abbrev main_call6_call3_call0_v148 : Ref sig .tc := ⟨.hbm, 1795, rfl⟩
abbrev main_call6_call3_call0_v149 : Ref sig .tc := ⟨.hbm, 1796, rfl⟩
abbrev main_call6_call3_call0_c_38 : Ref sig .tc := ⟨.hbm, 1797, rfl⟩
abbrev main_call6_call3_call0_v150 : Ref sig .tc := ⟨.hbm, 1798, rfl⟩
abbrev main_call6_call3_call0_v151 : Ref sig .tc := ⟨.hbm, 1799, rfl⟩
abbrev main_call6_call3_call0_c_39 : Ref sig .tc := ⟨.hbm, 1800, rfl⟩
abbrev main_call6_call3_call0_v152 : Ref sig .tc := ⟨.hbm, 1801, rfl⟩
abbrev main_call6_call3_call0_v153 : Ref sig .tc := ⟨.hbm, 1802, rfl⟩
abbrev main_call6_call3_call0_v154 : Ref sig .tc := ⟨.hbm, 1803, rfl⟩
abbrev main_call6_call3_call0_v155 : Ref sig .tc := ⟨.hbm, 1804, rfl⟩
abbrev main_call6_call3_call0_v156 : Ref sig .tc := ⟨.hbm, 1805, rfl⟩
abbrev main_call6_call3_call0_c_40 : Ref sig .tc := ⟨.hbm, 1806, rfl⟩
abbrev main_call6_call3_call0_v157 : Ref sig .tc := ⟨.hbm, 1807, rfl⟩
abbrev main_call6_call3_call0_v158 : Ref sig .tc := ⟨.hbm, 1808, rfl⟩
abbrev main_call6_call3_call0_c_41 : Ref sig .tc := ⟨.hbm, 1809, rfl⟩
abbrev main_call6_call3_call0_v159 : Ref sig .tc := ⟨.hbm, 1810, rfl⟩
abbrev main_call6_call3_call0_v160 : Ref sig .tc := ⟨.hbm, 1811, rfl⟩
abbrev main_call6_call3_call0_v161 : Ref sig .tc := ⟨.hbm, 1812, rfl⟩
abbrev main_call6_call3_call0_v162 : Ref sig .tc := ⟨.hbm, 1813, rfl⟩
abbrev main_call6_call3_call0_v163 : Ref sig .tc := ⟨.hbm, 1814, rfl⟩
abbrev main_call6_call3_call0_c_42 : Ref sig .tc := ⟨.hbm, 1815, rfl⟩
abbrev main_call6_call3_call0_v164 : Ref sig .tc := ⟨.hbm, 1816, rfl⟩
abbrev main_call6_call3_call0_v165 : Ref sig .tc := ⟨.hbm, 1817, rfl⟩
abbrev main_call6_call3_call0_c_43 : Ref sig .tc := ⟨.hbm, 1818, rfl⟩
abbrev main_call6_call3_call0_v166 : Ref sig .tc := ⟨.hbm, 1819, rfl⟩
abbrev main_call6_call3_call0_v167 : Ref sig .tc := ⟨.hbm, 1820, rfl⟩
abbrev main_call6_call3_call0_v168 : Ref sig .tc := ⟨.hbm, 1821, rfl⟩
abbrev main_call6_call3_call0_v169 : Ref sig .tc := ⟨.hbm, 1822, rfl⟩
abbrev main_call6_call3_call0_v170 : Ref sig .tc := ⟨.hbm, 1823, rfl⟩
abbrev main_call6_call3_v11_0 : Ref sig .tc := ⟨.hbm, 1824, rfl⟩
abbrev main_call6_call3_call0_v172 : Ref sig .tc := ⟨.hbm, 1825, rfl⟩
abbrev main_call6_call3_call0_v173 : Ref sig .tc := ⟨.hbm, 1826, rfl⟩
abbrev main_call6_call3_call0_c_44 : Ref sig .tc := ⟨.hbm, 1827, rfl⟩
abbrev main_call6_call3_call0_v174 : Ref sig .tc := ⟨.hbm, 1828, rfl⟩
abbrev main_call6_call3_v11_1 : Ref sig .tc := ⟨.hbm, 1829, rfl⟩
abbrev main_call6_call3_v12 : Ref sig .tc := ⟨.hbm, 1830, rfl⟩
abbrev main_call6_call3_v13 : Ref sig .tc := ⟨.hbm, 1831, rfl⟩
abbrev main_call6_v8 : Ref sig .tc := ⟨.hbm, 1832, rfl⟩
abbrev main_call6_v9 : Ref sig .tc := ⟨.hbm, 1833, rfl⟩
abbrev main_call6_v10 : Ref sig .tc := ⟨.hbm, 1834, rfl⟩
abbrev main_call6_v11 : Ref sig .tc := ⟨.hbm, 1835, rfl⟩
abbrev main_call6_v12 : Ref sig .tc := ⟨.hbm, 1836, rfl⟩
abbrev main_call6_v13 : Ref sig .tc := ⟨.hbm, 1837, rfl⟩
abbrev main_call6_v14 : Ref sig .tc := ⟨.hbm, 1838, rfl⟩
abbrev main_call6_v15 : Ref sig .tc := ⟨.hbm, 1839, rfl⟩
abbrev main_call6_v16 : Ref sig .tc := ⟨.hbm, 1840, rfl⟩
abbrev main_call6_v17 : Ref sig .tc := ⟨.hbm, 1841, rfl⟩
abbrev main_call6_v18 : Ref sig .tc := ⟨.hbm, 1842, rfl⟩
abbrev main_call6_c_6 : Ref sig .tc := ⟨.hbm, 1843, rfl⟩
abbrev main_call6_v19 : Ref sig .tc := ⟨.hbm, 1844, rfl⟩
abbrev main_call6_v20 : Ref sig .tc := ⟨.hbm, 1845, rfl⟩
abbrev main_call6_c_7 : Ref sig .tc := ⟨.hbm, 1846, rfl⟩
abbrev main_call6_v21 : Ref sig .tc := ⟨.hbm, 1847, rfl⟩
abbrev main_call6_v22 : Ref sig .tc := ⟨.hbm, 1848, rfl⟩
abbrev main_call6_v23 : Ref sig .tc := ⟨.hbm, 1849, rfl⟩
abbrev main_call6_c_8 : Ref sig .tc := ⟨.hbm, 1850, rfl⟩
abbrev main_call6_v24 : Ref sig .tc := ⟨.hbm, 1851, rfl⟩
abbrev main_call6_v25 : Ref sig .tc := ⟨.hbm, 1852, rfl⟩
abbrev main_call6_v26 : Ref sig .tc := ⟨.hbm, 1853, rfl⟩
abbrev main_call6_v27 : Ref sig .tc := ⟨.hbm, 1854, rfl⟩
abbrev main_call6_call4_v0 : Ref sig .tc := ⟨.hbm, 1855, rfl⟩
abbrev main_call6_call4_c : Ref sig .tc := ⟨.hbm, 1856, rfl⟩
abbrev main_call6_call4_v1 : Ref sig .tc := ⟨.hbm, 1857, rfl⟩
abbrev main_call6_call4_v2 : Ref sig .tc := ⟨.hbm, 1858, rfl⟩
abbrev main_call6_call4_v3 : Ref sig .tc := ⟨.hbm, 1859, rfl⟩
abbrev main_call6_call4_v4 : Ref sig .tc := ⟨.hbm, 1860, rfl⟩
abbrev main_call6_call4_v5 : Ref sig .tc := ⟨.hbm, 1861, rfl⟩
abbrev main_call6_call4_v6 : Ref sig .tc := ⟨.hbm, 1862, rfl⟩
abbrev main_call6_call4_c_0 : Ref sig .tc := ⟨.hbm, 1863, rfl⟩
abbrev main_call6_call4_v7 : Ref sig .tc := ⟨.hbm, 1864, rfl⟩
abbrev main_call6_call4_v8 : Ref sig .tc := ⟨.hbm, 1865, rfl⟩
abbrev main_call6_call4_c_1 : Ref sig .tc := ⟨.hbm, 1866, rfl⟩
abbrev main_call6_call4_v9 : Ref sig .tc := ⟨.hbm, 1867, rfl⟩
abbrev main_call6_call4_v10 : Ref sig .tc := ⟨.hbm, 1868, rfl⟩
abbrev main_call6_call4_v11 : Ref sig .tc := ⟨.hbm, 1869, rfl⟩
abbrev main_call6_call4_v12 : Ref sig .tc := ⟨.hbm, 1870, rfl⟩
abbrev main_call6_call4_v13 : Ref sig .tc := ⟨.hbm, 1871, rfl⟩
abbrev main_call6_call4_c_2 : Ref sig .tc := ⟨.hbm, 1872, rfl⟩
abbrev main_call6_call4_v14 : Ref sig .tc := ⟨.hbm, 1873, rfl⟩
abbrev main_call6_call4_v15 : Ref sig .tc := ⟨.hbm, 1874, rfl⟩
abbrev main_call6_call4_c_3 : Ref sig .tc := ⟨.hbm, 1875, rfl⟩
abbrev main_call6_call4_v16 : Ref sig .tc := ⟨.hbm, 1876, rfl⟩
abbrev main_call6_call4_v17 : Ref sig .tc := ⟨.hbm, 1877, rfl⟩
abbrev main_call6_call4_v18 : Ref sig .tc := ⟨.hbm, 1878, rfl⟩
abbrev main_call6_call4_v19 : Ref sig .tc := ⟨.hbm, 1879, rfl⟩
abbrev main_call6_call4_v20 : Ref sig .tc := ⟨.hbm, 1880, rfl⟩
abbrev main_call6_call4_c_4 : Ref sig .tc := ⟨.hbm, 1881, rfl⟩
abbrev main_call6_call4_v21 : Ref sig .tc := ⟨.hbm, 1882, rfl⟩
abbrev main_call6_call4_v22 : Ref sig .tc := ⟨.hbm, 1883, rfl⟩
abbrev main_call6_call4_c_5 : Ref sig .tc := ⟨.hbm, 1884, rfl⟩
abbrev main_call6_call4_v23 : Ref sig .tc := ⟨.hbm, 1885, rfl⟩
abbrev main_call6_call4_v24 : Ref sig .tc := ⟨.hbm, 1886, rfl⟩
abbrev main_call6_call4_v25 : Ref sig .tc := ⟨.hbm, 1887, rfl⟩
abbrev main_call6_call4_v26 : Ref sig .tc := ⟨.hbm, 1888, rfl⟩
abbrev main_call6_call4_v27 : Ref sig .tc := ⟨.hbm, 1889, rfl⟩
abbrev main_call6_call4_c_6 : Ref sig .tc := ⟨.hbm, 1890, rfl⟩
abbrev main_call6_call4_v28 : Ref sig .tc := ⟨.hbm, 1891, rfl⟩
abbrev main_call6_call4_v29 : Ref sig .tc := ⟨.hbm, 1892, rfl⟩
abbrev main_call6_call4_c_7 : Ref sig .tc := ⟨.hbm, 1893, rfl⟩
abbrev main_call6_call4_v30 : Ref sig .tc := ⟨.hbm, 1894, rfl⟩
abbrev main_call6_call4_v31 : Ref sig .tc := ⟨.hbm, 1895, rfl⟩
abbrev main_call6_call4_v32 : Ref sig .tc := ⟨.hbm, 1896, rfl⟩
abbrev main_call6_call4_v33 : Ref sig .tc := ⟨.hbm, 1897, rfl⟩
abbrev main_call6_call4_v34 : Ref sig .tc := ⟨.hbm, 1898, rfl⟩
abbrev main_call6_call4_v35 : Ref sig .tc := ⟨.hbm, 1899, rfl⟩
abbrev main_call6_call4_v36 : Ref sig .tc := ⟨.hbm, 1900, rfl⟩
abbrev main_call6_call4_v37 : Ref sig .tc := ⟨.hbm, 1901, rfl⟩
abbrev main_call6_call4_c_8 : Ref sig .tc := ⟨.hbm, 1902, rfl⟩
abbrev main_call6_call4_v38 : Ref sig .tc := ⟨.hbm, 1903, rfl⟩
abbrev main_call6_call4_v39 : Ref sig .tc := ⟨.hbm, 1904, rfl⟩
abbrev main_call6_call4_v40 : Ref sig .tc := ⟨.hbm, 1905, rfl⟩
abbrev main_call6_call4_c_9 : Ref sig .tc := ⟨.hbm, 1906, rfl⟩
abbrev main_call6_call4_v41 : Ref sig .tc := ⟨.hbm, 1907, rfl⟩
abbrev main_call6_call4_v42 : Ref sig .tc := ⟨.hbm, 1908, rfl⟩
abbrev main_call6_call4_c_10 : Ref sig .tc := ⟨.hbm, 1909, rfl⟩
abbrev main_call6_call4_v43 : Ref sig .tc := ⟨.hbm, 1910, rfl⟩
abbrev main_call6_call4_v44 : Ref sig .tc := ⟨.hbm, 1911, rfl⟩
abbrev main_call6_call4_v45 : Ref sig .tc := ⟨.hbm, 1912, rfl⟩
abbrev main_call6_call4_v46 : Ref sig .tc := ⟨.hbm, 1913, rfl⟩
abbrev main_call6_call4_v47 : Ref sig .tc := ⟨.hbm, 1914, rfl⟩
abbrev main_call6_call4_c_11 : Ref sig .tc := ⟨.hbm, 1915, rfl⟩
abbrev main_call6_call4_v48 : Ref sig .tc := ⟨.hbm, 1916, rfl⟩
abbrev main_call6_call4_v49 : Ref sig .tc := ⟨.hbm, 1917, rfl⟩
abbrev main_call6_call4_c_12 : Ref sig .tc := ⟨.hbm, 1918, rfl⟩
abbrev main_call6_call4_v50 : Ref sig .tc := ⟨.hbm, 1919, rfl⟩
abbrev main_call6_call4_v51 : Ref sig .tc := ⟨.hbm, 1920, rfl⟩
abbrev main_call6_call4_v52 : Ref sig .tc := ⟨.hbm, 1921, rfl⟩
abbrev main_call6_call4_v53 : Ref sig .tc := ⟨.hbm, 1922, rfl⟩
abbrev main_call6_call4_v54 : Ref sig .tc := ⟨.hbm, 1923, rfl⟩
abbrev main_call6_call4_c_13 : Ref sig .tc := ⟨.hbm, 1924, rfl⟩
abbrev main_call6_call4_v55 : Ref sig .tc := ⟨.hbm, 1925, rfl⟩
abbrev main_call6_call4_v56 : Ref sig .tc := ⟨.hbm, 1926, rfl⟩
abbrev main_call6_call4_c_14 : Ref sig .tc := ⟨.hbm, 1927, rfl⟩
abbrev main_call6_call4_v57 : Ref sig .tc := ⟨.hbm, 1928, rfl⟩
abbrev main_call6_call4_v58 : Ref sig .tc := ⟨.hbm, 1929, rfl⟩
abbrev main_call6_call4_v59 : Ref sig .tc := ⟨.hbm, 1930, rfl⟩
abbrev main_call6_call4_v60 : Ref sig .tc := ⟨.hbm, 1931, rfl⟩
abbrev main_call6_call4_v61 : Ref sig .tc := ⟨.hbm, 1932, rfl⟩
abbrev main_call6_call4_c_15 : Ref sig .tc := ⟨.hbm, 1933, rfl⟩
abbrev main_call6_call4_v62 : Ref sig .tc := ⟨.hbm, 1934, rfl⟩
abbrev main_call6_call4_v63 : Ref sig .tc := ⟨.hbm, 1935, rfl⟩
abbrev main_call6_call4_c_16 : Ref sig .tc := ⟨.hbm, 1936, rfl⟩
abbrev main_call6_call4_v64 : Ref sig .tc := ⟨.hbm, 1937, rfl⟩
abbrev main_call6_call4_v65 : Ref sig .tc := ⟨.hbm, 1938, rfl⟩
abbrev main_call6_call4_v66 : Ref sig .tc := ⟨.hbm, 1939, rfl⟩
abbrev main_call6_call4_v67 : Ref sig .tc := ⟨.hbm, 1940, rfl⟩
abbrev main_call6_call4_v68 : Ref sig .tc := ⟨.hbm, 1941, rfl⟩
abbrev main_call6_call4_v69 : Ref sig .tc := ⟨.hbm, 1942, rfl⟩
abbrev main_call6_call4_v70 : Ref sig .tc := ⟨.hbm, 1943, rfl⟩
abbrev main_call6_call4_v71 : Ref sig .tc := ⟨.hbm, 1944, rfl⟩
abbrev main_call6_call4_c_17 : Ref sig .tc := ⟨.hbm, 1945, rfl⟩
abbrev main_call6_call4_v72 : Ref sig .tc := ⟨.hbm, 1946, rfl⟩
abbrev main_call6_call4_v73 : Ref sig .tc := ⟨.hbm, 1947, rfl⟩
abbrev main_call6_call4_v74 : Ref sig .tc := ⟨.hbm, 1948, rfl⟩
abbrev main_call6_call4_c_18 : Ref sig .tc := ⟨.hbm, 1949, rfl⟩
abbrev main_call6_call4_v75 : Ref sig .tc := ⟨.hbm, 1950, rfl⟩
abbrev main_call6_call4_v76 : Ref sig .tc := ⟨.hbm, 1951, rfl⟩
abbrev main_call6_call4_c_19 : Ref sig .tc := ⟨.hbm, 1952, rfl⟩
abbrev main_call6_call4_v77 : Ref sig .tc := ⟨.hbm, 1953, rfl⟩
abbrev main_call6_call4_v78 : Ref sig .tc := ⟨.hbm, 1954, rfl⟩
abbrev main_call6_call4_v79 : Ref sig .tc := ⟨.hbm, 1955, rfl⟩
abbrev main_call6_call4_v80 : Ref sig .tc := ⟨.hbm, 1956, rfl⟩
abbrev main_call6_call4_v81 : Ref sig .tc := ⟨.hbm, 1957, rfl⟩
abbrev main_call6_call4_c_20 : Ref sig .tc := ⟨.hbm, 1958, rfl⟩
abbrev main_call6_call4_v82 : Ref sig .tc := ⟨.hbm, 1959, rfl⟩
abbrev main_call6_call4_v83 : Ref sig .tc := ⟨.hbm, 1960, rfl⟩
abbrev main_call6_call4_c_21 : Ref sig .tc := ⟨.hbm, 1961, rfl⟩
abbrev main_call6_call4_v84 : Ref sig .tc := ⟨.hbm, 1962, rfl⟩
abbrev main_call6_call4_v85 : Ref sig .tc := ⟨.hbm, 1963, rfl⟩
abbrev main_call6_call4_v86 : Ref sig .tc := ⟨.hbm, 1964, rfl⟩
abbrev main_call6_call4_v87 : Ref sig .tc := ⟨.hbm, 1965, rfl⟩
abbrev main_call6_call4_v88 : Ref sig .tc := ⟨.hbm, 1966, rfl⟩
abbrev main_call6_call4_c_22 : Ref sig .tc := ⟨.hbm, 1967, rfl⟩
abbrev main_call6_call4_v89 : Ref sig .tc := ⟨.hbm, 1968, rfl⟩
abbrev main_call6_call4_v90 : Ref sig .tc := ⟨.hbm, 1969, rfl⟩
abbrev main_call6_call4_c_23 : Ref sig .tc := ⟨.hbm, 1970, rfl⟩
abbrev main_call6_call4_v91 : Ref sig .tc := ⟨.hbm, 1971, rfl⟩
abbrev main_call6_call4_v92 : Ref sig .tc := ⟨.hbm, 1972, rfl⟩
abbrev main_call6_call4_v93 : Ref sig .tc := ⟨.hbm, 1973, rfl⟩
abbrev main_call6_call4_v94 : Ref sig .tc := ⟨.hbm, 1974, rfl⟩
abbrev main_call6_call4_v95 : Ref sig .tc := ⟨.hbm, 1975, rfl⟩
abbrev main_call6_call4_c_24 : Ref sig .tc := ⟨.hbm, 1976, rfl⟩
abbrev main_call6_call4_v96 : Ref sig .tc := ⟨.hbm, 1977, rfl⟩
abbrev main_call6_call4_v97 : Ref sig .tc := ⟨.hbm, 1978, rfl⟩
abbrev main_call6_call4_c_25 : Ref sig .tc := ⟨.hbm, 1979, rfl⟩
abbrev main_call6_call4_v98 : Ref sig .tc := ⟨.hbm, 1980, rfl⟩
abbrev main_call6_call4_v99 : Ref sig .tc := ⟨.hbm, 1981, rfl⟩
abbrev main_call6_call4_v100 : Ref sig .tc := ⟨.hbm, 1982, rfl⟩
abbrev main_call6_call4_v101 : Ref sig .tc := ⟨.hbm, 1983, rfl⟩
abbrev main_call6_call4_v102 : Ref sig .tc := ⟨.hbm, 1984, rfl⟩
abbrev main_call6_call4_v103 : Ref sig .tc := ⟨.hbm, 1985, rfl⟩
abbrev main_call6_call4_v104 : Ref sig .tc := ⟨.hbm, 1986, rfl⟩
abbrev main_call6_call4_v105 : Ref sig .tc := ⟨.hbm, 1987, rfl⟩
abbrev main_call6_call4_c_26 : Ref sig .tc := ⟨.hbm, 1988, rfl⟩
abbrev main_call6_call4_v106 : Ref sig .tc := ⟨.hbm, 1989, rfl⟩
abbrev main_call6_call4_v107 : Ref sig .tc := ⟨.hbm, 1990, rfl⟩
abbrev main_call6_call4_v108 : Ref sig .tc := ⟨.hbm, 1991, rfl⟩
abbrev main_call6_call4_c_27 : Ref sig .tc := ⟨.hbm, 1992, rfl⟩
abbrev main_call6_call4_v109 : Ref sig .tc := ⟨.hbm, 1993, rfl⟩
abbrev main_call6_call4_v110 : Ref sig .tc := ⟨.hbm, 1994, rfl⟩
abbrev main_call6_call4_c_28 : Ref sig .tc := ⟨.hbm, 1995, rfl⟩
abbrev main_call6_call4_v111 : Ref sig .tc := ⟨.hbm, 1996, rfl⟩
abbrev main_call6_call4_v112 : Ref sig .tc := ⟨.hbm, 1997, rfl⟩
abbrev main_call6_call4_v113 : Ref sig .tc := ⟨.hbm, 1998, rfl⟩
abbrev main_call6_call4_v114 : Ref sig .tc := ⟨.hbm, 1999, rfl⟩
abbrev main_call6_call4_v115 : Ref sig .tc := ⟨.hbm, 2000, rfl⟩
abbrev main_call6_call4_c_29 : Ref sig .tc := ⟨.hbm, 2001, rfl⟩
abbrev main_call6_call4_v116 : Ref sig .tc := ⟨.hbm, 2002, rfl⟩
abbrev main_call6_call4_v117 : Ref sig .tc := ⟨.hbm, 2003, rfl⟩
abbrev main_call6_call4_c_30 : Ref sig .tc := ⟨.hbm, 2004, rfl⟩
abbrev main_call6_call4_v118 : Ref sig .tc := ⟨.hbm, 2005, rfl⟩
abbrev main_call6_call4_v119 : Ref sig .tc := ⟨.hbm, 2006, rfl⟩
abbrev main_call6_call4_v120 : Ref sig .tc := ⟨.hbm, 2007, rfl⟩
abbrev main_call6_call4_v121 : Ref sig .tc := ⟨.hbm, 2008, rfl⟩
abbrev main_call6_call4_v122 : Ref sig .tc := ⟨.hbm, 2009, rfl⟩
abbrev main_call6_call4_c_31 : Ref sig .tc := ⟨.hbm, 2010, rfl⟩
abbrev main_call6_call4_v123 : Ref sig .tc := ⟨.hbm, 2011, rfl⟩
abbrev main_call6_call4_v124 : Ref sig .tc := ⟨.hbm, 2012, rfl⟩
abbrev main_call6_call4_c_32 : Ref sig .tc := ⟨.hbm, 2013, rfl⟩
abbrev main_call6_call4_v125 : Ref sig .tc := ⟨.hbm, 2014, rfl⟩
abbrev main_call6_call4_v126 : Ref sig .tc := ⟨.hbm, 2015, rfl⟩
abbrev main_call6_call4_v127 : Ref sig .tc := ⟨.hbm, 2016, rfl⟩
abbrev main_call6_call4_v128 : Ref sig .tc := ⟨.hbm, 2017, rfl⟩
abbrev main_call6_call4_v129 : Ref sig .tc := ⟨.hbm, 2018, rfl⟩
abbrev main_call6_call4_c_33 : Ref sig .tc := ⟨.hbm, 2019, rfl⟩
abbrev main_call6_call4_v130 : Ref sig .tc := ⟨.hbm, 2020, rfl⟩
abbrev main_call6_call4_v131 : Ref sig .tc := ⟨.hbm, 2021, rfl⟩
abbrev main_call6_call4_c_34 : Ref sig .tc := ⟨.hbm, 2022, rfl⟩
abbrev main_call6_call4_v132 : Ref sig .tc := ⟨.hbm, 2023, rfl⟩
abbrev main_call6_call4_v133 : Ref sig .tc := ⟨.hbm, 2024, rfl⟩
abbrev main_call6_call4_v134 : Ref sig .tc := ⟨.hbm, 2025, rfl⟩
abbrev main_call6_call4_v135 : Ref sig .tc := ⟨.hbm, 2026, rfl⟩
abbrev main_call6_call4_v136 : Ref sig .tc := ⟨.hbm, 2027, rfl⟩
abbrev main_call6_call4_v137 : Ref sig .tc := ⟨.hbm, 2028, rfl⟩
abbrev main_call6_call4_v138 : Ref sig .tc := ⟨.hbm, 2029, rfl⟩
abbrev main_call6_call4_v139 : Ref sig .tc := ⟨.hbm, 2030, rfl⟩
abbrev main_call6_call4_c_35 : Ref sig .tc := ⟨.hbm, 2031, rfl⟩
abbrev main_call6_call4_v140 : Ref sig .tc := ⟨.hbm, 2032, rfl⟩
abbrev main_call6_call4_v141 : Ref sig .tc := ⟨.hbm, 2033, rfl⟩
abbrev main_call6_call4_v142 : Ref sig .tc := ⟨.hbm, 2034, rfl⟩
abbrev main_call6_call4_c_36 : Ref sig .tc := ⟨.hbm, 2035, rfl⟩
abbrev main_call6_call4_v143 : Ref sig .tc := ⟨.hbm, 2036, rfl⟩
abbrev main_call6_call4_v144 : Ref sig .tc := ⟨.hbm, 2037, rfl⟩
abbrev main_call6_call4_c_37 : Ref sig .tc := ⟨.hbm, 2038, rfl⟩
abbrev main_call6_call4_v145 : Ref sig .tc := ⟨.hbm, 2039, rfl⟩
abbrev main_call6_call4_v146 : Ref sig .tc := ⟨.hbm, 2040, rfl⟩
abbrev main_call6_call4_v147 : Ref sig .tc := ⟨.hbm, 2041, rfl⟩
abbrev main_call6_call4_v148 : Ref sig .tc := ⟨.hbm, 2042, rfl⟩
abbrev main_call6_call4_v149 : Ref sig .tc := ⟨.hbm, 2043, rfl⟩
abbrev main_call6_call4_c_38 : Ref sig .tc := ⟨.hbm, 2044, rfl⟩
abbrev main_call6_call4_v150 : Ref sig .tc := ⟨.hbm, 2045, rfl⟩
abbrev main_call6_call4_v151 : Ref sig .tc := ⟨.hbm, 2046, rfl⟩
abbrev main_call6_call4_c_39 : Ref sig .tc := ⟨.hbm, 2047, rfl⟩
abbrev main_call6_call4_v152 : Ref sig .tc := ⟨.hbm, 2048, rfl⟩
abbrev main_call6_call4_v153 : Ref sig .tc := ⟨.hbm, 2049, rfl⟩
abbrev main_call6_call4_v154 : Ref sig .tc := ⟨.hbm, 2050, rfl⟩
abbrev main_call6_call4_v155 : Ref sig .tc := ⟨.hbm, 2051, rfl⟩
abbrev main_call6_call4_v156 : Ref sig .tc := ⟨.hbm, 2052, rfl⟩
abbrev main_call6_call4_c_40 : Ref sig .tc := ⟨.hbm, 2053, rfl⟩
abbrev main_call6_call4_v157 : Ref sig .tc := ⟨.hbm, 2054, rfl⟩
abbrev main_call6_call4_v158 : Ref sig .tc := ⟨.hbm, 2055, rfl⟩
abbrev main_call6_call4_c_41 : Ref sig .tc := ⟨.hbm, 2056, rfl⟩
abbrev main_call6_call4_v159 : Ref sig .tc := ⟨.hbm, 2057, rfl⟩
abbrev main_call6_call4_v160 : Ref sig .tc := ⟨.hbm, 2058, rfl⟩
abbrev main_call6_call4_v161 : Ref sig .tc := ⟨.hbm, 2059, rfl⟩
abbrev main_call6_call4_v162 : Ref sig .tc := ⟨.hbm, 2060, rfl⟩
abbrev main_call6_call4_v163 : Ref sig .tc := ⟨.hbm, 2061, rfl⟩
abbrev main_call6_call4_c_42 : Ref sig .tc := ⟨.hbm, 2062, rfl⟩
abbrev main_call6_call4_v164 : Ref sig .tc := ⟨.hbm, 2063, rfl⟩
abbrev main_call6_call4_v165 : Ref sig .tc := ⟨.hbm, 2064, rfl⟩
abbrev main_call6_call4_c_43 : Ref sig .tc := ⟨.hbm, 2065, rfl⟩
abbrev main_call6_call4_v166 : Ref sig .tc := ⟨.hbm, 2066, rfl⟩
abbrev main_call6_call4_v167 : Ref sig .tc := ⟨.hbm, 2067, rfl⟩
abbrev main_call6_call4_v168 : Ref sig .tc := ⟨.hbm, 2068, rfl⟩
abbrev main_call6_call4_v169 : Ref sig .tc := ⟨.hbm, 2069, rfl⟩
abbrev main_call6_call4_v170 : Ref sig .tc := ⟨.hbm, 2070, rfl⟩
abbrev main_call6_v28_0 : Ref sig .tc := ⟨.hbm, 2071, rfl⟩
abbrev main_call6_call4_v172 : Ref sig .tc := ⟨.hbm, 2072, rfl⟩
abbrev main_call6_call4_v173 : Ref sig .tc := ⟨.hbm, 2073, rfl⟩
abbrev main_call6_call4_c_44 : Ref sig .tc := ⟨.hbm, 2074, rfl⟩
abbrev main_call6_call4_v174 : Ref sig .tc := ⟨.hbm, 2075, rfl⟩
abbrev main_call6_v28_1 : Ref sig .tc := ⟨.hbm, 2076, rfl⟩
abbrev main_call6_v29 : Ref sig .tc := ⟨.hbm, 2077, rfl⟩
abbrev main_call6_v30 : Ref sig .tc := ⟨.hbm, 2078, rfl⟩
abbrev main_call6_v31 : Ref sig .tc := ⟨.hbm, 2079, rfl⟩
abbrev main_call6_v32 : Ref sig .tc := ⟨.hbm, 2080, rfl⟩
abbrev main_call6_v33 : Ref sig .tc := ⟨.hbm, 2081, rfl⟩
abbrev main_call6_v34 : Ref sig .tc := ⟨.hbm, 2082, rfl⟩
abbrev main_call6_v35 : Ref sig .tc := ⟨.hbm, 2083, rfl⟩
abbrev main_call6_c_9 : Ref sig .tc := ⟨.hbm, 2084, rfl⟩
abbrev main_call6_v36 : Ref sig .tc := ⟨.hbm, 2085, rfl⟩
abbrev main_call6_v37 : Ref sig .tc := ⟨.hbm, 2086, rfl⟩
abbrev main_call6_c_10 : Ref sig .tc := ⟨.hbm, 2087, rfl⟩
abbrev main_call6_v38 : Ref sig .tc := ⟨.hbm, 2088, rfl⟩
abbrev main_call6_v39 : Ref sig .tc := ⟨.hbm, 2089, rfl⟩
abbrev main_call6_v40 : Ref sig .tc := ⟨.hbm, 2090, rfl⟩
abbrev main_call6_c_11 : Ref sig .tc := ⟨.hbm, 2091, rfl⟩
abbrev main_call6_v41 : Ref sig .tc := ⟨.hbm, 2092, rfl⟩
abbrev main_call6_v42 : Ref sig .tc := ⟨.hbm, 2093, rfl⟩
abbrev main_call6_v43 : Ref sig .tc := ⟨.hbm, 2094, rfl⟩
abbrev main_call6_v44 : Ref sig .tc := ⟨.hbm, 2095, rfl⟩
abbrev main_call6_call5_v0 : Ref sig .tc := ⟨.hbm, 2096, rfl⟩
abbrev main_call6_call5_c : Ref sig .tc := ⟨.hbm, 2097, rfl⟩
abbrev main_call6_call5_v1 : Ref sig .tc := ⟨.hbm, 2098, rfl⟩
abbrev main_call6_call5_v2 : Ref sig .tc := ⟨.hbm, 2099, rfl⟩
abbrev main_call6_call5_v3 : Ref sig .tc := ⟨.hbm, 2100, rfl⟩
abbrev main_call6_call5_v4 : Ref sig .tc := ⟨.hbm, 2101, rfl⟩
abbrev main_call6_call5_v5 : Ref sig .tc := ⟨.hbm, 2102, rfl⟩
abbrev main_call6_call5_v6 : Ref sig .tc := ⟨.hbm, 2103, rfl⟩
abbrev main_call6_call5_c_0 : Ref sig .tc := ⟨.hbm, 2104, rfl⟩
abbrev main_call6_call5_v7 : Ref sig .tc := ⟨.hbm, 2105, rfl⟩
abbrev main_call6_call5_v8 : Ref sig .tc := ⟨.hbm, 2106, rfl⟩
abbrev main_call6_call5_c_1 : Ref sig .tc := ⟨.hbm, 2107, rfl⟩
abbrev main_call6_call5_v9 : Ref sig .tc := ⟨.hbm, 2108, rfl⟩
abbrev main_call6_call5_v10 : Ref sig .tc := ⟨.hbm, 2109, rfl⟩
abbrev main_call6_call5_v11 : Ref sig .tc := ⟨.hbm, 2110, rfl⟩
abbrev main_call6_call5_v12 : Ref sig .tc := ⟨.hbm, 2111, rfl⟩
abbrev main_call6_call5_v13 : Ref sig .tc := ⟨.hbm, 2112, rfl⟩
abbrev main_call6_call5_c_2 : Ref sig .tc := ⟨.hbm, 2113, rfl⟩
abbrev main_call6_call5_v14 : Ref sig .tc := ⟨.hbm, 2114, rfl⟩
abbrev main_call6_call5_v15 : Ref sig .tc := ⟨.hbm, 2115, rfl⟩
abbrev main_call6_call5_c_3 : Ref sig .tc := ⟨.hbm, 2116, rfl⟩
abbrev main_call6_call5_v16 : Ref sig .tc := ⟨.hbm, 2117, rfl⟩
abbrev main_call6_call5_v17 : Ref sig .tc := ⟨.hbm, 2118, rfl⟩
abbrev main_call6_call5_v18 : Ref sig .tc := ⟨.hbm, 2119, rfl⟩
abbrev main_call6_call5_v19 : Ref sig .tc := ⟨.hbm, 2120, rfl⟩
abbrev main_call6_call5_v20 : Ref sig .tc := ⟨.hbm, 2121, rfl⟩
abbrev main_call6_call5_c_4 : Ref sig .tc := ⟨.hbm, 2122, rfl⟩
abbrev main_call6_call5_v21 : Ref sig .tc := ⟨.hbm, 2123, rfl⟩
abbrev main_call6_call5_v22 : Ref sig .tc := ⟨.hbm, 2124, rfl⟩
abbrev main_call6_call5_c_5 : Ref sig .tc := ⟨.hbm, 2125, rfl⟩
abbrev main_call6_call5_v23 : Ref sig .tc := ⟨.hbm, 2126, rfl⟩
abbrev main_call6_call5_v24 : Ref sig .tc := ⟨.hbm, 2127, rfl⟩
abbrev main_call6_call5_v25 : Ref sig .tc := ⟨.hbm, 2128, rfl⟩
abbrev main_call6_call5_v26 : Ref sig .tc := ⟨.hbm, 2129, rfl⟩
abbrev main_call6_call5_v27 : Ref sig .tc := ⟨.hbm, 2130, rfl⟩
abbrev main_call6_call5_c_6 : Ref sig .tc := ⟨.hbm, 2131, rfl⟩
abbrev main_call6_call5_v28 : Ref sig .tc := ⟨.hbm, 2132, rfl⟩
abbrev main_call6_call5_v29 : Ref sig .tc := ⟨.hbm, 2133, rfl⟩
abbrev main_call6_call5_c_7 : Ref sig .tc := ⟨.hbm, 2134, rfl⟩
abbrev main_call6_call5_v30 : Ref sig .tc := ⟨.hbm, 2135, rfl⟩
abbrev main_call6_call5_v31 : Ref sig .tc := ⟨.hbm, 2136, rfl⟩
abbrev main_call6_call5_v32 : Ref sig .tc := ⟨.hbm, 2137, rfl⟩
abbrev main_call6_call5_v33 : Ref sig .tc := ⟨.hbm, 2138, rfl⟩
abbrev main_call6_call5_v34 : Ref sig .tc := ⟨.hbm, 2139, rfl⟩
abbrev main_call6_call5_v35 : Ref sig .tc := ⟨.hbm, 2140, rfl⟩
abbrev main_call6_call5_v36 : Ref sig .tc := ⟨.hbm, 2141, rfl⟩
abbrev main_call6_call5_v37 : Ref sig .tc := ⟨.hbm, 2142, rfl⟩
abbrev main_call6_call5_c_8 : Ref sig .tc := ⟨.hbm, 2143, rfl⟩
abbrev main_call6_call5_v38 : Ref sig .tc := ⟨.hbm, 2144, rfl⟩
abbrev main_call6_call5_v39 : Ref sig .tc := ⟨.hbm, 2145, rfl⟩
abbrev main_call6_call5_v40 : Ref sig .tc := ⟨.hbm, 2146, rfl⟩
abbrev main_call6_call5_c_9 : Ref sig .tc := ⟨.hbm, 2147, rfl⟩
abbrev main_call6_call5_v41 : Ref sig .tc := ⟨.hbm, 2148, rfl⟩
abbrev main_call6_call5_v42 : Ref sig .tc := ⟨.hbm, 2149, rfl⟩
abbrev main_call6_call5_c_10 : Ref sig .tc := ⟨.hbm, 2150, rfl⟩
abbrev main_call6_call5_v43 : Ref sig .tc := ⟨.hbm, 2151, rfl⟩
abbrev main_call6_call5_v44 : Ref sig .tc := ⟨.hbm, 2152, rfl⟩
abbrev main_call6_call5_v45 : Ref sig .tc := ⟨.hbm, 2153, rfl⟩
abbrev main_call6_call5_v46 : Ref sig .tc := ⟨.hbm, 2154, rfl⟩
abbrev main_call6_call5_v47 : Ref sig .tc := ⟨.hbm, 2155, rfl⟩
abbrev main_call6_call5_c_11 : Ref sig .tc := ⟨.hbm, 2156, rfl⟩
abbrev main_call6_call5_v48 : Ref sig .tc := ⟨.hbm, 2157, rfl⟩
abbrev main_call6_call5_v49 : Ref sig .tc := ⟨.hbm, 2158, rfl⟩
abbrev main_call6_call5_c_12 : Ref sig .tc := ⟨.hbm, 2159, rfl⟩
abbrev main_call6_call5_v50 : Ref sig .tc := ⟨.hbm, 2160, rfl⟩
abbrev main_call6_call5_v51 : Ref sig .tc := ⟨.hbm, 2161, rfl⟩
abbrev main_call6_call5_v52 : Ref sig .tc := ⟨.hbm, 2162, rfl⟩
abbrev main_call6_call5_v53 : Ref sig .tc := ⟨.hbm, 2163, rfl⟩
abbrev main_call6_call5_v54 : Ref sig .tc := ⟨.hbm, 2164, rfl⟩
abbrev main_call6_call5_c_13 : Ref sig .tc := ⟨.hbm, 2165, rfl⟩
abbrev main_call6_call5_v55 : Ref sig .tc := ⟨.hbm, 2166, rfl⟩
abbrev main_call6_call5_v56 : Ref sig .tc := ⟨.hbm, 2167, rfl⟩
abbrev main_call6_call5_c_14 : Ref sig .tc := ⟨.hbm, 2168, rfl⟩
abbrev main_call6_call5_v57 : Ref sig .tc := ⟨.hbm, 2169, rfl⟩
abbrev main_call6_call5_v58 : Ref sig .tc := ⟨.hbm, 2170, rfl⟩
abbrev main_call6_call5_v59 : Ref sig .tc := ⟨.hbm, 2171, rfl⟩
abbrev main_call6_call5_v60 : Ref sig .tc := ⟨.hbm, 2172, rfl⟩
abbrev main_call6_call5_v61 : Ref sig .tc := ⟨.hbm, 2173, rfl⟩
abbrev main_call6_call5_c_15 : Ref sig .tc := ⟨.hbm, 2174, rfl⟩
abbrev main_call6_call5_v62 : Ref sig .tc := ⟨.hbm, 2175, rfl⟩
abbrev main_call6_call5_v63 : Ref sig .tc := ⟨.hbm, 2176, rfl⟩
abbrev main_call6_call5_c_16 : Ref sig .tc := ⟨.hbm, 2177, rfl⟩
abbrev main_call6_call5_v64 : Ref sig .tc := ⟨.hbm, 2178, rfl⟩
abbrev main_call6_call5_v65 : Ref sig .tc := ⟨.hbm, 2179, rfl⟩
abbrev main_call6_call5_v66 : Ref sig .tc := ⟨.hbm, 2180, rfl⟩
abbrev main_call6_call5_v67 : Ref sig .tc := ⟨.hbm, 2181, rfl⟩
abbrev main_call6_call5_v68 : Ref sig .tc := ⟨.hbm, 2182, rfl⟩
abbrev main_call6_call5_v69 : Ref sig .tc := ⟨.hbm, 2183, rfl⟩
abbrev main_call6_call5_v70 : Ref sig .tc := ⟨.hbm, 2184, rfl⟩
abbrev main_call6_call5_v71 : Ref sig .tc := ⟨.hbm, 2185, rfl⟩
abbrev main_call6_call5_c_17 : Ref sig .tc := ⟨.hbm, 2186, rfl⟩
abbrev main_call6_call5_v72 : Ref sig .tc := ⟨.hbm, 2187, rfl⟩
abbrev main_call6_call5_v73 : Ref sig .tc := ⟨.hbm, 2188, rfl⟩
abbrev main_call6_call5_v74 : Ref sig .tc := ⟨.hbm, 2189, rfl⟩
abbrev main_call6_call5_c_18 : Ref sig .tc := ⟨.hbm, 2190, rfl⟩
abbrev main_call6_call5_v75 : Ref sig .tc := ⟨.hbm, 2191, rfl⟩
abbrev main_call6_call5_v76 : Ref sig .tc := ⟨.hbm, 2192, rfl⟩
abbrev main_call6_call5_c_19 : Ref sig .tc := ⟨.hbm, 2193, rfl⟩
abbrev main_call6_call5_v77 : Ref sig .tc := ⟨.hbm, 2194, rfl⟩
abbrev main_call6_call5_v78 : Ref sig .tc := ⟨.hbm, 2195, rfl⟩
abbrev main_call6_call5_v79 : Ref sig .tc := ⟨.hbm, 2196, rfl⟩
abbrev main_call6_call5_v80 : Ref sig .tc := ⟨.hbm, 2197, rfl⟩
abbrev main_call6_call5_v81 : Ref sig .tc := ⟨.hbm, 2198, rfl⟩
abbrev main_call6_call5_c_20 : Ref sig .tc := ⟨.hbm, 2199, rfl⟩
abbrev main_call6_call5_v82 : Ref sig .tc := ⟨.hbm, 2200, rfl⟩
abbrev main_call6_call5_v83 : Ref sig .tc := ⟨.hbm, 2201, rfl⟩
abbrev main_call6_call5_c_21 : Ref sig .tc := ⟨.hbm, 2202, rfl⟩
abbrev main_call6_call5_v84 : Ref sig .tc := ⟨.hbm, 2203, rfl⟩
abbrev main_call6_call5_v85 : Ref sig .tc := ⟨.hbm, 2204, rfl⟩
abbrev main_call6_call5_v86 : Ref sig .tc := ⟨.hbm, 2205, rfl⟩
abbrev main_call6_call5_v87 : Ref sig .tc := ⟨.hbm, 2206, rfl⟩
abbrev main_call6_call5_v88 : Ref sig .tc := ⟨.hbm, 2207, rfl⟩
abbrev main_call6_call5_c_22 : Ref sig .tc := ⟨.hbm, 2208, rfl⟩
abbrev main_call6_call5_v89 : Ref sig .tc := ⟨.hbm, 2209, rfl⟩
abbrev main_call6_call5_v90 : Ref sig .tc := ⟨.hbm, 2210, rfl⟩
abbrev main_call6_call5_c_23 : Ref sig .tc := ⟨.hbm, 2211, rfl⟩
abbrev main_call6_call5_v91 : Ref sig .tc := ⟨.hbm, 2212, rfl⟩
abbrev main_call6_call5_v92 : Ref sig .tc := ⟨.hbm, 2213, rfl⟩
abbrev main_call6_call5_v93 : Ref sig .tc := ⟨.hbm, 2214, rfl⟩
abbrev main_call6_call5_v94 : Ref sig .tc := ⟨.hbm, 2215, rfl⟩
abbrev main_call6_call5_v95 : Ref sig .tc := ⟨.hbm, 2216, rfl⟩
abbrev main_call6_call5_c_24 : Ref sig .tc := ⟨.hbm, 2217, rfl⟩
abbrev main_call6_call5_v96 : Ref sig .tc := ⟨.hbm, 2218, rfl⟩
abbrev main_call6_call5_v97 : Ref sig .tc := ⟨.hbm, 2219, rfl⟩
abbrev main_call6_call5_c_25 : Ref sig .tc := ⟨.hbm, 2220, rfl⟩
abbrev main_call6_call5_v98 : Ref sig .tc := ⟨.hbm, 2221, rfl⟩
abbrev main_call6_call5_v99 : Ref sig .tc := ⟨.hbm, 2222, rfl⟩
abbrev main_call6_call5_v100 : Ref sig .tc := ⟨.hbm, 2223, rfl⟩
abbrev main_call6_call5_v101 : Ref sig .tc := ⟨.hbm, 2224, rfl⟩
abbrev main_call6_call5_v102 : Ref sig .tc := ⟨.hbm, 2225, rfl⟩
abbrev main_call6_call5_v103 : Ref sig .tc := ⟨.hbm, 2226, rfl⟩
abbrev main_call6_call5_v104 : Ref sig .tc := ⟨.hbm, 2227, rfl⟩
abbrev main_call6_call5_v105 : Ref sig .tc := ⟨.hbm, 2228, rfl⟩
abbrev main_call6_call5_c_26 : Ref sig .tc := ⟨.hbm, 2229, rfl⟩
abbrev main_call6_call5_v106 : Ref sig .tc := ⟨.hbm, 2230, rfl⟩
abbrev main_call6_call5_v107 : Ref sig .tc := ⟨.hbm, 2231, rfl⟩
abbrev main_call6_call5_v108 : Ref sig .tc := ⟨.hbm, 2232, rfl⟩
abbrev main_call6_call5_c_27 : Ref sig .tc := ⟨.hbm, 2233, rfl⟩
abbrev main_call6_call5_v109 : Ref sig .tc := ⟨.hbm, 2234, rfl⟩
abbrev main_call6_call5_v110 : Ref sig .tc := ⟨.hbm, 2235, rfl⟩
abbrev main_call6_call5_c_28 : Ref sig .tc := ⟨.hbm, 2236, rfl⟩
abbrev main_call6_call5_v111 : Ref sig .tc := ⟨.hbm, 2237, rfl⟩
abbrev main_call6_call5_v112 : Ref sig .tc := ⟨.hbm, 2238, rfl⟩
abbrev main_call6_call5_v113 : Ref sig .tc := ⟨.hbm, 2239, rfl⟩
abbrev main_call6_call5_v114 : Ref sig .tc := ⟨.hbm, 2240, rfl⟩
abbrev main_call6_call5_v115 : Ref sig .tc := ⟨.hbm, 2241, rfl⟩
abbrev main_call6_call5_c_29 : Ref sig .tc := ⟨.hbm, 2242, rfl⟩
abbrev main_call6_call5_v116 : Ref sig .tc := ⟨.hbm, 2243, rfl⟩
abbrev main_call6_call5_v117 : Ref sig .tc := ⟨.hbm, 2244, rfl⟩
abbrev main_call6_call5_c_30 : Ref sig .tc := ⟨.hbm, 2245, rfl⟩
abbrev main_call6_call5_v118 : Ref sig .tc := ⟨.hbm, 2246, rfl⟩
abbrev main_call6_call5_v119 : Ref sig .tc := ⟨.hbm, 2247, rfl⟩
abbrev main_call6_call5_v120 : Ref sig .tc := ⟨.hbm, 2248, rfl⟩
abbrev main_call6_call5_v121 : Ref sig .tc := ⟨.hbm, 2249, rfl⟩
abbrev main_call6_call5_v122 : Ref sig .tc := ⟨.hbm, 2250, rfl⟩
abbrev main_call6_call5_c_31 : Ref sig .tc := ⟨.hbm, 2251, rfl⟩
abbrev main_call6_call5_v123 : Ref sig .tc := ⟨.hbm, 2252, rfl⟩
abbrev main_call6_call5_v124 : Ref sig .tc := ⟨.hbm, 2253, rfl⟩
abbrev main_call6_call5_c_32 : Ref sig .tc := ⟨.hbm, 2254, rfl⟩
abbrev main_call6_call5_v125 : Ref sig .tc := ⟨.hbm, 2255, rfl⟩
abbrev main_call6_call5_v126 : Ref sig .tc := ⟨.hbm, 2256, rfl⟩
abbrev main_call6_call5_v127 : Ref sig .tc := ⟨.hbm, 2257, rfl⟩
abbrev main_call6_call5_v128 : Ref sig .tc := ⟨.hbm, 2258, rfl⟩
abbrev main_call6_call5_v129 : Ref sig .tc := ⟨.hbm, 2259, rfl⟩
abbrev main_call6_call5_c_33 : Ref sig .tc := ⟨.hbm, 2260, rfl⟩
abbrev main_call6_call5_v130 : Ref sig .tc := ⟨.hbm, 2261, rfl⟩
abbrev main_call6_call5_v131 : Ref sig .tc := ⟨.hbm, 2262, rfl⟩
abbrev main_call6_call5_c_34 : Ref sig .tc := ⟨.hbm, 2263, rfl⟩
abbrev main_call6_call5_v132 : Ref sig .tc := ⟨.hbm, 2264, rfl⟩
abbrev main_call6_call5_v133 : Ref sig .tc := ⟨.hbm, 2265, rfl⟩
abbrev main_call6_call5_v134 : Ref sig .tc := ⟨.hbm, 2266, rfl⟩
abbrev main_call6_call5_v135 : Ref sig .tc := ⟨.hbm, 2267, rfl⟩
abbrev main_call6_call5_v136 : Ref sig .tc := ⟨.hbm, 2268, rfl⟩
abbrev main_call6_call5_v137 : Ref sig .tc := ⟨.hbm, 2269, rfl⟩
abbrev main_call6_call5_v138 : Ref sig .tc := ⟨.hbm, 2270, rfl⟩
abbrev main_call6_call5_v139 : Ref sig .tc := ⟨.hbm, 2271, rfl⟩
abbrev main_call6_call5_c_35 : Ref sig .tc := ⟨.hbm, 2272, rfl⟩
abbrev main_call6_call5_v140 : Ref sig .tc := ⟨.hbm, 2273, rfl⟩
abbrev main_call6_call5_v141 : Ref sig .tc := ⟨.hbm, 2274, rfl⟩
abbrev main_call6_call5_v142 : Ref sig .tc := ⟨.hbm, 2275, rfl⟩
abbrev main_call6_call5_c_36 : Ref sig .tc := ⟨.hbm, 2276, rfl⟩
abbrev main_call6_call5_v143 : Ref sig .tc := ⟨.hbm, 2277, rfl⟩
abbrev main_call6_call5_v144 : Ref sig .tc := ⟨.hbm, 2278, rfl⟩
abbrev main_call6_call5_c_37 : Ref sig .tc := ⟨.hbm, 2279, rfl⟩
abbrev main_call6_call5_v145 : Ref sig .tc := ⟨.hbm, 2280, rfl⟩
abbrev main_call6_call5_v146 : Ref sig .tc := ⟨.hbm, 2281, rfl⟩
abbrev main_call6_call5_v147 : Ref sig .tc := ⟨.hbm, 2282, rfl⟩
abbrev main_call6_call5_v148 : Ref sig .tc := ⟨.hbm, 2283, rfl⟩
abbrev main_call6_call5_v149 : Ref sig .tc := ⟨.hbm, 2284, rfl⟩
abbrev main_call6_call5_c_38 : Ref sig .tc := ⟨.hbm, 2285, rfl⟩
abbrev main_call6_call5_v150 : Ref sig .tc := ⟨.hbm, 2286, rfl⟩
abbrev main_call6_call5_v151 : Ref sig .tc := ⟨.hbm, 2287, rfl⟩
abbrev main_call6_call5_c_39 : Ref sig .tc := ⟨.hbm, 2288, rfl⟩
abbrev main_call6_call5_v152 : Ref sig .tc := ⟨.hbm, 2289, rfl⟩
abbrev main_call6_call5_v153 : Ref sig .tc := ⟨.hbm, 2290, rfl⟩
abbrev main_call6_call5_v154 : Ref sig .tc := ⟨.hbm, 2291, rfl⟩
abbrev main_call6_call5_v155 : Ref sig .tc := ⟨.hbm, 2292, rfl⟩
abbrev main_call6_call5_v156 : Ref sig .tc := ⟨.hbm, 2293, rfl⟩
abbrev main_call6_call5_c_40 : Ref sig .tc := ⟨.hbm, 2294, rfl⟩
abbrev main_call6_call5_v157 : Ref sig .tc := ⟨.hbm, 2295, rfl⟩
abbrev main_call6_call5_v158 : Ref sig .tc := ⟨.hbm, 2296, rfl⟩
abbrev main_call6_call5_c_41 : Ref sig .tc := ⟨.hbm, 2297, rfl⟩
abbrev main_call6_call5_v159 : Ref sig .tc := ⟨.hbm, 2298, rfl⟩
abbrev main_call6_call5_v160 : Ref sig .tc := ⟨.hbm, 2299, rfl⟩
abbrev main_call6_call5_v161 : Ref sig .tc := ⟨.hbm, 2300, rfl⟩
abbrev main_call6_call5_v162 : Ref sig .tc := ⟨.hbm, 2301, rfl⟩
abbrev main_call6_call5_v163 : Ref sig .tc := ⟨.hbm, 2302, rfl⟩
abbrev main_call6_call5_c_42 : Ref sig .tc := ⟨.hbm, 2303, rfl⟩
abbrev main_call6_call5_v164 : Ref sig .tc := ⟨.hbm, 2304, rfl⟩
abbrev main_call6_call5_v165 : Ref sig .tc := ⟨.hbm, 2305, rfl⟩
abbrev main_call6_call5_c_43 : Ref sig .tc := ⟨.hbm, 2306, rfl⟩
abbrev main_call6_call5_v166 : Ref sig .tc := ⟨.hbm, 2307, rfl⟩
abbrev main_call6_call5_v167 : Ref sig .tc := ⟨.hbm, 2308, rfl⟩
abbrev main_call6_call5_v168 : Ref sig .tc := ⟨.hbm, 2309, rfl⟩
abbrev main_call6_call5_v169 : Ref sig .tc := ⟨.hbm, 2310, rfl⟩
abbrev main_call6_call5_v170 : Ref sig .tc := ⟨.hbm, 2311, rfl⟩
abbrev main_call6_v45_0 : Ref sig .tc := ⟨.hbm, 2312, rfl⟩
abbrev main_call6_call5_v172 : Ref sig .tc := ⟨.hbm, 2313, rfl⟩
abbrev main_call6_call5_v173 : Ref sig .tc := ⟨.hbm, 2314, rfl⟩
abbrev main_call6_call5_c_44 : Ref sig .tc := ⟨.hbm, 2315, rfl⟩
abbrev main_call6_call5_v174 : Ref sig .tc := ⟨.hbm, 2316, rfl⟩
abbrev main_call6_v45_1 : Ref sig .tc := ⟨.hbm, 2317, rfl⟩
abbrev main_call6_v46 : Ref sig .tc := ⟨.hbm, 2318, rfl⟩
abbrev main_call6_v47 : Ref sig .tc := ⟨.hbm, 2319, rfl⟩
abbrev main_call6_v48 : Ref sig .tc := ⟨.hbm, 2320, rfl⟩
abbrev main_call6_v49 : Ref sig .tc := ⟨.hbm, 2321, rfl⟩
abbrev main_call6_c_12 : Ref sig .tc := ⟨.hbm, 2322, rfl⟩
abbrev main_call6_v50 : Ref sig .tc := ⟨.hbm, 2323, rfl⟩
abbrev main_call6_v51 : Ref sig .tc := ⟨.hbm, 2324, rfl⟩
abbrev main_call6_v52 : Ref sig .tc := ⟨.hbm, 2325, rfl⟩
abbrev main_call6_v53 : Ref sig .tc := ⟨.hbm, 2326, rfl⟩
abbrev main_call6_v54 : Ref sig .tc := ⟨.hbm, 2327, rfl⟩
abbrev main_call6_c_13 : Ref sig .tc := ⟨.hbm, 2328, rfl⟩
abbrev main_call6_v55 : Ref sig .tc := ⟨.hbm, 2329, rfl⟩
abbrev main_call6_v56 : Ref sig .tc := ⟨.hbm, 2330, rfl⟩
abbrev main_call6_v57 : Ref sig .tc := ⟨.hbm, 2331, rfl⟩
abbrev main_call6_c_14 : Ref sig .tc := ⟨.hbm, 2332, rfl⟩
abbrev main_call6_v58 : Ref sig .tc := ⟨.hbm, 2333, rfl⟩
abbrev main_call6_v59 : Ref sig .tc := ⟨.hbm, 2334, rfl⟩
abbrev main_call6_v60 : Ref sig .tc := ⟨.hbm, 2335, rfl⟩
abbrev main_call6_v61 : Ref sig .tc := ⟨.hbm, 2336, rfl⟩
abbrev main_call6_v62 : Ref sig .tc := ⟨.hbm, 2337, rfl⟩
abbrev main_call6_v63 : Ref sig .tc := ⟨.hbm, 2338, rfl⟩
abbrev main_call6_v64 : Ref sig .tc := ⟨.hbm, 2339, rfl⟩
abbrev main_call6_v65 : Ref sig .tc := ⟨.hbm, 2340, rfl⟩
abbrev main_call6_v66 : Ref sig .tc := ⟨.hbm, 2341, rfl⟩
abbrev main_call6_v67 : Ref sig .tc := ⟨.hbm, 2342, rfl⟩
abbrev main_call6_v68 : Ref sig .tc := ⟨.hbm, 2343, rfl⟩
abbrev main_call6_v69 : Ref sig .tc := ⟨.hbm, 2344, rfl⟩
abbrev main_call6_v70 : Ref sig .tc := ⟨.hbm, 2345, rfl⟩
abbrev main_call6_v71 : Ref sig .tc := ⟨.hbm, 2346, rfl⟩
abbrev main_call6_v72 : Ref sig .tc := ⟨.hbm, 2347, rfl⟩
abbrev main_v36 : Ref sig .tc := ⟨.hbm, 2348, rfl⟩
abbrev main_cst_13 : Ref sig .tc := ⟨.hbm, 2349, rfl⟩
abbrev main_v37 : Ref sig .tc := ⟨.hbm, 2350, rfl⟩
abbrev main_v38 : Ref sig .tc := ⟨.hbm, 2351, rfl⟩
abbrev main_v39 : Ref sig .tc := ⟨.hbm, 2352, rfl⟩
abbrev main_c_14 : Ref sig .tc := ⟨.hbm, 2353, rfl⟩
abbrev main_call7_v0 : Ref sig .tc := ⟨.hbm, 2354, rfl⟩
abbrev main_v40 : Ref sig .tc := ⟨.hbm, 2355, rfl⟩
abbrev main_cst_15 : Ref sig .tc := ⟨.hbm, 2356, rfl⟩
abbrev main_v41 : Ref sig .tc := ⟨.hbm, 2357, rfl⟩
abbrev main_v42 : Ref sig .tc := ⟨.hbm, 2358, rfl⟩
abbrev main_v43 : Ref sig .tc := ⟨.hbm, 2359, rfl⟩
abbrev main_cst_16 : Ref sig .tc := ⟨.hbm, 2360, rfl⟩
abbrev main_v44 : Ref sig .tc := ⟨.hbm, 2361, rfl⟩
abbrev main_v45 : Ref sig .tc := ⟨.hbm, 2362, rfl⟩
abbrev main_v46 : Ref sig .tc := ⟨.hbm, 2363, rfl⟩
abbrev main_v47 : Ref sig .tc := ⟨.hbm, 2364, rfl⟩

abbrev nD : Nat := 1
abbrev τ : Topo := Topo.v7x

variable {F : FTy → Type} [FloatOps F]
-- ==== Proof.Line.lean ====
/- A straight line of host operations in which every buffer is written once, read back as equations. -/
module

public import Idealize.ShloMosaic.Lib.StableHlo.Run
public import Idealize.ShloMosaic.Lib.StableHlo.RunHlo

@[expose] public section

noncomputable section

namespace Cert.Masker

open Idealize.ShloMosaic Idealize.ShloMosaic.TcCoe Idealize.SL.Sem

variable {τ : Topo} {sig : RefSig} {Val : EltTy → Type} {T Tx Ta Tb Tc Ty : BufTy}

/-- The contents a valuation gives a typed reference, at the reference's own type. -/
def rd (V : Valuation τ sig Val) (x : StableHlo.TRef sig T) : T.Contents Val := x.ofBuf (V (x.ref : DevRef τ sig))

/-- One host operation with one result, together with the buffers it names and the equation between
    its result and its operands. -/
structure Stm (τ : Topo) (sig : RefSig) (Val : EltTy → Type) where
  /-- The operation. -/
  op : HloOp τ sig Val
  /-- The result's buffer. -/
  out : Ref sig .tc
  /-- The operands' buffers. -/
  ins : List (Ref sig .tc)
  /-- The equation. -/
  eqn : Valuation τ sig Val → Prop
  writes_eq : op.writes = {(out : DevRef τ sig)}
  bufs_sub : op.bufs ⊆ StableHlo.tcRefs τ sig
  fresh_eq : op.fresh = ∅
  /-- The result depends on the operands alone. -/
  local_ins : ∀ V W : Valuation τ sig Val, (∀ x ∈ ins, V (x : DevRef τ sig) = W (x : DevRef τ sig)) →
    op.result V (out : DevRef τ sig) = op.result W (out : DevRef τ sig)
  /-- A valuation the operation leaves as it is satisfies the equation. -/
  sound : ∀ V : Valuation τ sig Val, op.result V (out : DevRef τ sig) = V (out : DevRef τ sig) → eqn V

namespace Stm

theorem rd_of_eq (V : Valuation τ sig Val) (y : StableHlo.TRef sig Ty) (v : Ty.Contents Val)
    (h : y.toBuf v = V (y.ref : DevRef τ sig)) : rd V y = v := by
  unfold rd; rw [← h]; simp [StableHlo.TRef.ofBuf, StableHlo.TRef.toBuf]

/-- A constant. -/
def nul (y : StableHlo.TRef sig Ty) (v : Ty.Contents Val) : Stm τ sig Val where
  op := StableHlo.TRef.nullary y v
  out := y.ref
  ins := []
  eqn V := rd V y = v
  writes_eq := rfl
  bufs_sub := StableHlo.nullary_bufs_sub _ _ _
  fresh_eq := rfl
  local_ins V W _ := by rw [StableHlo.nullary_result, StableHlo.nullary_result]
  sound V h := by rw [StableHlo.nullary_result] at h; exact rd_of_eq V y _ h

/-- An operation of one operand. -/
def un (x : StableHlo.TRef sig Tx) (y : StableHlo.TRef sig Ty) (f : Tx.Contents Val → Ty.Contents Val) : Stm τ sig Val where
  op := StableHlo.TRef.unary x y f
  out := y.ref
  ins := [x.ref]
  eqn V := rd V y = f (rd V x)
  writes_eq := rfl
  bufs_sub := StableHlo.unary_bufs_sub _ _ _ _ _
  fresh_eq := rfl
  local_ins V W h := by rw [StableHlo.unary_result, StableHlo.unary_result, h x.ref (by simp)]
  sound V h := by rw [StableHlo.unary_result] at h; exact rd_of_eq V y _ h

/-- An operation of two operands. -/
def bin (a : StableHlo.TRef sig Ta) (b : StableHlo.TRef sig Tb) (y : StableHlo.TRef sig Ty)
    (f : Ta.Contents Val → Tb.Contents Val → Ty.Contents Val) : Stm τ sig Val where
  op := StableHlo.TRef.binary a b y f
  out := y.ref
  ins := [a.ref, b.ref]
  eqn V := rd V y = f (rd V a) (rd V b)
  writes_eq := rfl
  bufs_sub := StableHlo.binary_bufs_sub _ _ _ _ _ _ _
  fresh_eq := rfl
  local_ins V W h := by
    rw [StableHlo.binary_result, StableHlo.binary_result, h a.ref (by simp), h b.ref (by simp)]
  sound V h := by rw [StableHlo.binary_result] at h; exact rd_of_eq V y _ h

/-- An operation of three operands. -/
def ter (c : StableHlo.TRef sig Tc) (a : StableHlo.TRef sig Ta) (b : StableHlo.TRef sig Tb) (y : StableHlo.TRef sig Ty)
    (f : Tc.Contents Val → Ta.Contents Val → Tb.Contents Val → Ty.Contents Val) : Stm τ sig Val where
  op := StableHlo.TRef.ternary c a b y f
  out := y.ref
  ins := [c.ref, a.ref, b.ref]
  eqn V := rd V y = f (rd V c) (rd V a) (rd V b)
  writes_eq := rfl
  bufs_sub := StableHlo.ternary_bufs_sub _ _ _ _ _ _ _ _ _
  fresh_eq := rfl
  local_ins V W h := by
    rw [StableHlo.ternary_result, StableHlo.ternary_result, h c.ref (by simp), h a.ref (by simp), h b.ref (by simp)]
  sound V h := by rw [StableHlo.ternary_result] at h; exact rd_of_eq V y _ h

theorem reshape_sound (x : StableHlo.TRef sig Tx) (y : StableHlo.TRef sig Ty) (he : Tx.elt = Ty.elt)
    (hn : Tx.shape.ShapeCasts Ty.shape) (V : Valuation τ sig Val)
    (h : (StableHlo.TRef.reshape x y he hn : HloOp τ sig Val).result V (y.ref : DevRef τ sig) = V (y.ref : DevRef τ sig)) :
    rd V y = fun i => he ▸ shapeCast Ty.shape (rd V x) hn i := by
  rw [StableHlo.reshape_result] at h
  unfold rd
  rw [← h]
  obtain ⟨x, hx, _, _⟩ := x
  obtain ⟨y, hy, _, _⟩ := y
  subst hx; subst hy
  rfl

/-- A change of shape. -/
def rsh (x : StableHlo.TRef sig Tx) (y : StableHlo.TRef sig Ty) (he : Tx.elt = Ty.elt)
    (hn : Tx.shape.ShapeCasts Ty.shape) : Stm τ sig Val where
  op := StableHlo.TRef.reshape x y he hn
  out := y.ref
  ins := [x.ref]
  eqn V := rd V y = fun i => he ▸ shapeCast Ty.shape (rd V x) hn i
  writes_eq := rfl
  bufs_sub := StableHlo.reshape_bufs_sub _ _ _ _ _ _
  fresh_eq := rfl
  local_ins V W h := by rw [StableHlo.reshape_result, StableHlo.reshape_result, h x.ref (by simp)]
  sound V h := reshape_sound x y he hn V h

end Stm

/-- The operations of a list of statements. -/
abbrev opsOf (l : List (Stm τ sig Val)) : List (HloOp τ sig Val) := l.map Stm.op

/-- Every equation of the list holds. -/
def Holds (V : Valuation τ sig Val) : List (Stm τ sig Val) → Prop
  | [] => True
  | s :: l => s.eqn V ∧ Holds V l

theorem holds_append (V : Valuation τ sig Val) (l l' : List (Stm τ sig Val)) :
    Holds V (l ++ l') ↔ Holds V l ∧ Holds V l' := by
  induction l with
  | nil => simp [Holds]
  | cons s l ih => simp [Holds, ih, and_assoc]

/-- The position of a buffer in its table. -/
def pos (r : Ref sig .tc) : Nat := r.idx.val

/-- The statements write the buffers from position `n` on, one after the other, and read only buffers before the one
    they write; the result is the first position after them. -/
def scan : Nat → List (Stm τ sig Val) → Option Nat
  | n, [] => some n
  | n, s :: l => if (pos s.out == n && s.ins.all fun x => Nat.blt (pos x) n) = true then scan (n + 1) l else none

theorem scan_append (n k : Nat) (l l' : List (Stm τ sig Val)) (h : scan n l = some k) :
    scan n (l ++ l') = scan k l' := by
  induction l generalizing n with
  | nil => cases h; rfl
  | cons s l ih =>
    simp only [scan] at h
    simp only [List.cons_append, scan]
    split at h
    · rename_i hc; rw [if_pos hc]; exact ih _ h
    · cases h

theorem ne_of_pos {x y : Ref sig .tc} (h : pos x ≠ pos y) : (x : DevRef τ sig) ≠ (y : DevRef τ sig) :=
  StableHlo.devRef_ne_of_ne fun e => h (e ▸ rfl)

theorem result_other (s : Stm τ sig Val) (V : Valuation τ sig Val) (x : Ref sig .tc) (h : pos x ≠ pos s.out) :
    s.op.result V (x : DevRef τ sig) = V (x : DevRef τ sig) :=
  s.op.result_of_not_mem V (by rw [s.writes_eq, Finset.mem_singleton]; exact ne_of_pos h)

/-- A buffer before the first one written keeps its contents. -/
theorem after_before (l : List (Stm τ sig Val)) (n k : Nat) (hs : scan n l = some k) (V : Valuation τ sig Val)
    (x : Ref sig .tc) (hx : pos x < n) :
    StableHlo.after (opsOf l) V (x : DevRef τ sig) = V (x : DevRef τ sig) := by
  induction l generalizing n V with
  | nil => rfl
  | cons s l ih =>
    simp only [scan] at hs
    split at hs
    · rename_i hc
      simp only [Bool.and_eq_true, beq_iff_eq] at hc
      show StableHlo.after (opsOf l) (s.op.result V) (x : DevRef τ sig) = _
      rw [ih (n + 1) hs _ (by omega), result_other s V x (by omega)]
    · cases hs

/-- After the whole line every statement's equation holds. -/
theorem after_holds (l : List (Stm τ sig Val)) (n k : Nat) (hs : scan n l = some k) (V : Valuation τ sig Val) :
    Holds (StableHlo.after (opsOf l) V) l := by
  induction l generalizing n V with
  | nil => trivial
  | cons s l ih =>
    simp only [scan] at hs
    split at hs
    · rename_i hc
      simp only [Bool.and_eq_true, beq_iff_eq, List.all_eq_true, Nat.blt_eq] at hc
      refine ⟨s.sound _ ?_, ih (n + 1) hs _⟩
      show s.op.result (StableHlo.after (opsOf l) (s.op.result V)) _ = StableHlo.after (opsOf l) (s.op.result V) _
      rw [after_before l (n + 1) k hs (s.op.result V) s.out (by omega)]
      refine s.local_ins _ _ fun x hx => ?_
      have hlt := hc.2 x hx
      rw [after_before l (n + 1) k hs (s.op.result V) x (by omega), result_other s V x (by omega)]
    · cases hs

theorem forall_bufs (l : List (Stm τ sig Val)) : (opsOf l).Forall fun op => op.bufs ⊆ StableHlo.tcRefs τ sig := by
  rw [List.forall_iff_forall_mem]
  intro op h
  obtain ⟨s, -, rfl⟩ := List.mem_map.1 h
  exact s.bufs_sub

theorem forall_fresh (l : List (Stm τ sig Val)) : ∀ op ∈ opsOf l, op.fresh = ∅ := by
  intro op h
  obtain ⟨s, -, rfl⟩ := List.mem_map.1 h
  exact s.fresh_eq

end Cert.Masker

end
-- ==== Proof.Threefry.lean ====
/- The reference's random bits: the line of operations one call of the generator runs, over any shape, and what it
   computes at each index. -/
module

public import proofs.«01_k».proof.Proof.Gen.ReferenceIdeal
public import proofs.«01_k».proof.Proof.Line
public import Idealize.ShloMosaic.PureOps.Ideal

@[expose] public section

noncomputable section

namespace Cert.Masker

open Cert.ReferenceIdeal Idealize.ShloMosaic Idealize.ShloMosaic.TcCoe Idealize.SL.Sem

/-- A statement of the reference. -/
abbrev St := Stm τ sig (Elt Ideal)
/-- Contents of the reference's buffers. -/
abbrev Vl := Valuation τ sig (Elt Ideal)
/-- A reference to an array of words. -/
abbrev Wd (S : Shape) := StableHlo.TRef sig ⟨S, .i32⟩

/-- The word at an index. -/
abbrev wd {S : Shape} (V : Vl) (x : Wd S) (i : S.Idx) : BitVec 32 := rd V x i

/-- The one index of a scalar. -/
abbrev o_ : S_.Idx := fun a => a.elim0

theorem idx_S_ (i : S_.Idx) : i = o_ := funext fun a => a.elim0

/-! ## The generator on one pair of words -/

/-- One round on a pair: the sum, and the sum against the second word turned left by `n` (`m = 32 - n`). -/
def rndB (n m : BitVec 32) (s : BitVec 32 × BitVec 32) : BitVec 32 × BitVec 32 :=
  (s.1 + s.2, (s.1 + s.2) ^^^ (s.2 <<< n ||| s.2 >>> m))

/-- A key added to a pair, with the group's number. -/
def injB (a b n : BitVec 32) (s : BitVec 32 × BitVec 32) : BitVec 32 × BitVec 32 := (s.1 + a, s.2 + b + n)

/-- The four rounds of an odd group. -/
def oddB (s : BitVec 32 × BitVec 32) : BitVec 32 × BitVec 32 := rndB 6 26 (rndB 26 6 (rndB 15 17 (rndB 13 19 s)))

/-- The four rounds of an even group. -/
def evenB (s : BitVec 32 × BitVec 32) : BitVec 32 × BitVec 32 := rndB 24 8 (rndB 16 16 (rndB 29 3 (rndB 17 15 s)))

/-- The third key word. -/
def key3 (a b : BitVec 32) : BitVec 32 := a ^^^ b ^^^ 466688986#32

/-- The generator: twenty rounds in five groups, a pair of key words added after each. -/
def threefry (a b x y : BitVec 32) : BitVec 32 × BitVec 32 :=
  injB (key3 a b) a 5 <| oddB <| injB b (key3 a b) 4 <| evenB <| injB a b 3 <| oddB <|
    injB (key3 a b) a 2 <| evenB <| injB b (key3 a b) 1 <| oddB (x + a, y + b)

/-! ## One round as statements -/

/-- The buffers of one round. -/
structure Rnd (S : Shape) where
  (p : Wd S) (k : Wd S_) (b s : Wd S) (k' : Wd S_) (b' s' o q : Wd S)

variable {S : Shape}

/-- The statements of one round. -/
def Rnd.stms (R : Rnd S) (hb : S_.BroadcastsInDim S (![] : Fin 0 → Fin S.rank)) (x y : Wd S) (n m : BitVec 32) : List St :=
  [.bin x y R.p addi, .nul R.k (constantI S_ 32 n), .un R.k R.b (broadcastInDim S ![] hb), .bin y R.b R.s Host.shli,
   .nul R.k' (constantI S_ 32 m), .un R.k' R.b' (broadcastInDim S ![] hb), .bin y R.b' R.s' Host.shrui,
   .bin R.s R.s' R.o ori, .bin R.p R.o R.q xori]

theorem host_shli {w : Nat} (x y : BitVec w) (h : y.toNat < w) : IntOp.shli .host x y = x <<< y := by
  unfold IntOp.shli; rw [if_pos h]
theorem host_shrui {w : Nat} (x y : BitVec w) (h : y.toNat < w) : IntOp.shrui .host x y = x >>> y := by
  unfold IntOp.shrui; rw [if_pos h]

/-- What one round leaves. -/
theorem Rnd.spec (R : Rnd S) (hb) (x y : Wd S) (n m : BitVec 32) (V : Vl) (h : Holds V (R.stms hb x y n m))
    (hn : n.toNat < 32) (hm : m.toNat < 32) (i : S.Idx) :
    (wd V R.p i, wd V R.q i) = rndB n m (wd V x i, wd V y i) := by
  obtain ⟨e1, e2, e3, e4, e5, e6, e7, e8, e9, -⟩ := h
  have e1 : rd V R.p = addi (rd V x) (rd V y) := e1
  have e2 : rd V R.k = constantI S_ 32 n := e2
  have e3 : rd V R.b = broadcastInDim S ![] hb (rd V R.k) := e3
  have e4 : rd V R.s = Host.shli (rd V y) (rd V R.b) := e4
  have e5 : rd V R.k' = constantI S_ 32 m := e5
  have e6 : rd V R.b' = broadcastInDim S ![] hb (rd V R.k') := e6
  have e7 : rd V R.s' = Host.shrui (rd V y) (rd V R.b') := e7
  have e8 : rd V R.o = ori (rd V R.s) (rd V R.s') := e8
  have e9 : rd V R.q = xori (rd V R.p) (rd V R.o) := e9
  rw [e2] at e3
  rw [e5] at e6
  rw [e3] at e4
  rw [e6] at e7
  rw [e4, e7] at e8
  rw [e1, e8] at e9
  have f4 : IntOp.shli .host (wd V y i) n = wd V y i <<< n := host_shli _ _ hn
  have f7 : IntOp.shrui .host (wd V y i) m = wd V y i >>> m := host_shrui _ _ hm
  unfold wd at *
  rw [e1, e9]
  show (rd V x i + rd V y i, (rd V x i + rd V y i) ^^^ (IntOp.shli .host (rd V y i) n ||| IntOp.shrui .host (rd V y i) m)) = _
  rw [f4, f7]
  rfl

/-- The buffers of one addition of keys. -/
structure Inj (S : Shape) where
  (a p b q : Wd S) (k : Wd S_) (c r : Wd S)

/-- The statements of one addition of keys. -/
def Inj.stms (J : Inj S) (hb : S_.BroadcastsInDim S (![] : Fin 0 → Fin S.rank)) (x y : Wd S) (ka kb : Wd S_) (n : BitVec 32) :
    List St :=
  [.un ka J.a (broadcastInDim S ![] hb), .bin x J.a J.p addi, .un kb J.b (broadcastInDim S ![] hb), .bin y J.b J.q addi,
   .nul J.k (constantI S_ 32 n), .un J.k J.c (broadcastInDim S ![] hb), .bin J.q J.c J.r addi]

/-- A scalar laid over a shape is the scalar at every index. -/
theorem bcast_at {α : Type} (hb : S_.BroadcastsInDim S (![] : Fin 0 → Fin S.rank)) (f : S_.Idx → α) (i : S.Idx) :
    broadcastInDim S ![] hb f i = f o_ := congrArg f (idx_S_ _)

/-- What one addition of keys leaves. -/
theorem Inj.spec (J : Inj S) (hb) (x y : Wd S) (ka kb : Wd S_) (n : BitVec 32) (V : Vl)
    (h : Holds V (J.stms hb x y ka kb n)) (i : S.Idx) :
    (wd V J.p i, wd V J.r i) = injB (wd V ka o_) (wd V kb o_) n (wd V x i, wd V y i) := by
  obtain ⟨e1, e2, e3, e4, e5, e6, e7, -⟩ := h
  have e1 : rd V J.a = broadcastInDim S ![] hb (rd V ka) := e1
  have e2 : rd V J.p = addi (rd V x) (rd V J.a) := e2
  have e3 : rd V J.b = broadcastInDim S ![] hb (rd V kb) := e3
  have e4 : rd V J.q = addi (rd V y) (rd V J.b) := e4
  have e5 : rd V J.k = constantI S_ 32 n := e5
  have e6 : rd V J.c = broadcastInDim S ![] hb (rd V J.k) := e6
  have e7 : rd V J.r = addi (rd V J.q) (rd V J.c) := e7
  have f1 : rd V J.a i = rd V ka o_ := by rw [e1]; exact bcast_at hb _ i
  have f3 : rd V J.b i = rd V kb o_ := by rw [e3]; exact bcast_at hb _ i
  unfold wd
  rw [e7, e6, e5, e4, e2]
  show (rd V x i + rd V J.a i, rd V y i + rd V J.b i + n) = _
  rw [f1, f3]
  rfl

/-! ## A group, and the whole line -/

/-- The buffers of a group: four rounds and an addition of keys. -/
structure Grp (S : Shape) where
  (r1 r2 r3 r4 : Rnd S) (j : Inj S)

/-- The statements of a group with the turns `n1 … n4`. -/
def Grp.stms (G : Grp S) (hb : S_.BroadcastsInDim S (![] : Fin 0 → Fin S.rank)) (x y : Wd S) (ka kb : Wd S_)
    (n1 m1 n2 m2 n3 m3 n4 m4 n : BitVec 32) : List St :=
  G.r1.stms hb x y n1 m1 ++ (G.r2.stms hb G.r1.p G.r1.q n2 m2 ++ (G.r3.stms hb G.r2.p G.r2.q n3 m3 ++
    (G.r4.stms hb G.r3.p G.r3.q n4 m4 ++ G.j.stms hb G.r4.p G.r4.q ka kb n)))

/-- The odd groups' statements. -/
abbrev Grp.odd (G : Grp S) (hb : S_.BroadcastsInDim S (![] : Fin 0 → Fin S.rank)) (x y : Wd S) (ka kb : Wd S_)
    (n : BitVec 32) : List St := G.stms hb x y ka kb 13 19 15 17 26 6 6 26 n
/-- The even groups' statements. -/
abbrev Grp.even (G : Grp S) (hb : S_.BroadcastsInDim S (![] : Fin 0 → Fin S.rank)) (x y : Wd S) (ka kb : Wd S_)
    (n : BitVec 32) : List St := G.stms hb x y ka kb 17 15 29 3 16 16 24 8 n

theorem Grp.odd_spec (G : Grp S) (hb) (x y : Wd S) (ka kb : Wd S_) (n : BitVec 32) (V : Vl)
    (h : Holds V (G.odd hb x y ka kb n)) (i : S.Idx) :
    (wd V G.j.p i, wd V G.j.r i) = injB (wd V ka o_) (wd V kb o_) n (oddB (wd V x i, wd V y i)) := by
  simp only [Grp.odd, Grp.stms, holds_append] at h
  obtain ⟨h1, h2, h3, h4, h5⟩ := h
  rw [Inj.spec _ _ _ _ _ _ _ _ h5, Rnd.spec _ _ _ _ _ _ _ h4 (by decide) (by decide),
    Rnd.spec _ _ _ _ _ _ _ h3 (by decide) (by decide), Rnd.spec _ _ _ _ _ _ _ h2 (by decide) (by decide),
    Rnd.spec _ _ _ _ _ _ _ h1 (by decide) (by decide)]
  rfl

theorem Grp.even_spec (G : Grp S) (hb) (x y : Wd S) (ka kb : Wd S_) (n : BitVec 32) (V : Vl)
    (h : Holds V (G.even hb x y ka kb n)) (i : S.Idx) :
    (wd V G.j.p i, wd V G.j.r i) = injB (wd V ka o_) (wd V kb o_) n (evenB (wd V x i, wd V y i)) := by
  simp only [Grp.even, Grp.stms, holds_append] at h
  obtain ⟨h1, h2, h3, h4, h5⟩ := h
  rw [Inj.spec _ _ _ _ _ _ _ _ h5, Rnd.spec _ _ _ _ _ _ _ h4 (by decide) (by decide),
    Rnd.spec _ _ _ _ _ _ _ h3 (by decide) (by decide), Rnd.spec _ _ _ _ _ _ _ h2 (by decide) (by decide),
    Rnd.spec _ _ _ _ _ _ _ h1 (by decide) (by decide)]
  rfl

/-- The buffers of one call of the generator. -/
structure Tfr (S : Shape) where
  (v0 c v1 : Wd S_) (v2 v3 v4 v5 : Wd S) (g1 g2 g3 g4 g5 : Grp S)

/-- The statements of one call of the generator. -/
def Tfr.stms (T : Tfr S) (hb : S_.BroadcastsInDim S (![] : Fin 0 → Fin S.rank)) (a b : Wd S_) (x y : Wd S) : List St :=
  [.bin a b T.v0 xori, .nul T.c (constantI S_ 32 466688986#32), .bin T.v0 T.c T.v1 xori,
   .un a T.v2 (broadcastInDim S ![] hb), .bin x T.v2 T.v3 addi, .un b T.v4 (broadcastInDim S ![] hb), .bin y T.v4 T.v5 addi] ++
  (T.g1.odd hb T.v3 T.v5 b T.v1 1 ++ (T.g2.even hb T.g1.j.p T.g1.j.r T.v1 a 2 ++ (T.g3.odd hb T.g2.j.p T.g2.j.r a b 3 ++
    (T.g4.even hb T.g3.j.p T.g3.j.r b T.v1 4 ++ T.g5.odd hb T.g4.j.p T.g4.j.r T.v1 a 5))))

/-- What one call of the generator leaves. -/
theorem Tfr.spec (T : Tfr S) (hb) (a b : Wd S_) (x y : Wd S) (V : Vl) (h : Holds V (T.stms hb a b x y)) (i : S.Idx) :
    (wd V T.g5.j.p i, wd V T.g5.j.r i) = threefry (wd V a o_) (wd V b o_) (wd V x i) (wd V y i) := by
  simp only [Tfr.stms, holds_append] at h
  obtain ⟨h0, h1, h2, h3, h4, h5⟩ := h
  obtain ⟨e1, e2, e3, e4, e5, e6, e7, -⟩ := h0
  have e1 : rd V T.v0 = xori (rd V a) (rd V b) := e1
  have e2 : rd V T.c = constantI S_ 32 466688986#32 := e2
  have e3 : rd V T.v1 = xori (rd V T.v0) (rd V T.c) := e3
  have e4 : rd V T.v2 = broadcastInDim S ![] hb (rd V a) := e4
  have e5 : rd V T.v3 = addi (rd V x) (rd V T.v2) := e5
  have e6 : rd V T.v4 = broadcastInDim S ![] hb (rd V b) := e6
  have e7 : rd V T.v5 = addi (rd V y) (rd V T.v4) := e7
  have k3 : wd V T.v1 o_ = key3 (wd V a o_) (wd V b o_) := by unfold wd; rw [e3, e2, e1]; rfl
  have f4 : rd V T.v2 i = rd V a o_ := by rw [e4]; exact bcast_at hb _ i
  have f6 : rd V T.v4 i = rd V b o_ := by rw [e6]; exact bcast_at hb _ i
  have p : wd V T.v3 i = wd V x i + wd V a o_ := by
    unfold wd; rw [e5]; show rd V x i + rd V T.v2 i = _; rw [f4]
  have q : wd V T.v5 i = wd V y i + wd V b o_ := by
    unfold wd; rw [e7]; show rd V y i + rd V T.v4 i = _; rw [f6]
  rw [Grp.odd_spec _ _ _ _ _ _ _ _ h5, Grp.even_spec _ _ _ _ _ _ _ _ h4, Grp.odd_spec _ _ _ _ _ _ _ _ h3,
    Grp.even_spec _ _ _ _ _ _ _ _ h2, Grp.odd_spec _ _ _ _ _ _ _ _ h1, k3, p, q]
  rfl

end Cert.Masker

end
-- ==== Proof.Statements.lean ====
/- The reference's functions, each as a list of statements, and the whole program as one list. -/
module

public import proofs.«01_k».proof.Proof.Generators

@[expose] public section

set_option maxHeartbeats 4000000

noncomputable section

namespace Cert.Masker

open Cert.ReferenceIdeal Cert.ReferenceIdeal.Facts₀ Idealize.ShloMosaic Idealize.ShloMosaic.TcCoe Idealize.SL.Sem Idealize.ShloMosaic.StableHlo

theorem opsOf_append (l l' : List St) : opsOf (l ++ l') = opsOf l ++ opsOf l' := List.map_append

/-- The statements of splitting a key in four. -/
def split4L (arg0 : StableHlo.TRef sig ⟨S2, .i32⟩) (φ : fn_threefry_split.Bufs) : List St :=
   [.un arg0 φ.v0 (extractStridedSlice S1 ![0] · slices_S2_S1_0),
    .rsh φ.v0 φ.v1 (rfl : (.i32 : EltTy) = .i32) shapeCasts_S1_S_,
    .un arg0 φ.v2 (extractStridedSlice S1 ![1] · slices_S2_S1_1),
    .rsh φ.v2 φ.v3 (rfl : (.i32 : EltTy) = .i32) shapeCasts_S1_S_,
    .nul φ.v4 (iotaInDim S4 64 0),
    .nul φ.c (constantI S_ 64 1#64),
    .un φ.c φ.v5 (broadcastInDim S4 ![] bcast_S_S4),
    .bin φ.v5 φ.v4 φ.v6 muli,
    .nul φ.c_0 (constantI S_ 64 32#64),
    .un φ.c_0 φ.v7 (broadcastInDim S4 ![] bcast_S_S4),
    .bin φ.v6 φ.v7 φ.v8 Host.shrui,
    .un φ.v6 φ.v9 (trunci 32 · natLt_32_64),
    .un φ.v8 φ.v10 (trunci 32 · natLt_32_64)] ++
   ((tfr φ.call0).stms bcast_S_S4 φ.v1 φ.v3 φ.v10 φ.v9 ++
   ([.un φ.call0.v171 φ.v12 (broadcastInDim S4x1 ![0] bcast_S4_S4x1_0),
    .un φ.call0.v175 φ.v13 (broadcastInDim S4x1 ![0] bcast_S4_S4x1_0),
    .bin φ.v12 φ.v13 φ.v14 (fun a b => concatenate S4x2 1 [⟨S4x1, a⟩, ⟨S4x1, b⟩] concatenates_S4x1_S4x1_S4x2_d1)]))

theorem split4L_seq (arg0 : StableHlo.TRef sig ⟨S2, .i32⟩) (φ : fn_threefry_split.Bufs) :
    fn_threefry_split.body (F := Ideal) arg0 φ = seq (opsOf (split4L arg0 φ)) := by
  rw [split4L]
  simp only [opsOf_append, seq_append, ← tfr_seq]
  rfl

/-- The statements of uniform numbers. -/
def uniformL (arg0 : StableHlo.TRef sig ⟨S2, .i32⟩) (arg1 : StableHlo.TRef sig ⟨S_, .f32⟩) (arg2 : StableHlo.TRef sig ⟨S_, .f32⟩) (φ : fn_uniform.Bufs) : List St :=
   [.un arg1 φ.v0 id,
    .un arg2 φ.v1 id,
    .un φ.v0 φ.v2 (broadcastInDim S1x1 ![] bcast_S_S1x1),
    .un φ.v1 φ.v3 (broadcastInDim S1x1 ![] bcast_S_S1x1),
    .un arg0 φ.v4 (extractStridedSlice S1 ![0] · slices_S2_S1_0),
    .rsh φ.v4 φ.v5 (rfl : (.i32 : EltTy) = .i32) shapeCasts_S1_S_,
    .un arg0 φ.v6 (extractStridedSlice S1 ![1] · slices_S2_S1_1),
    .rsh φ.v6 φ.v7 (rfl : (.i32 : EltTy) = .i32) shapeCasts_S1_S_,
    .nul φ.v8 (iotaInDim S128x4096 64 0),
    .nul φ.v9 (iotaInDim S128x4096 64 1),
    .nul φ.c (constantI S_ 64 4096#64),
    .un φ.c φ.v10 (broadcastInDim S128x4096 ![] bcast_S_S128x4096),
    .bin φ.v10 φ.v8 φ.v11 muli,
    .nul φ.c_0 (constantI S_ 64 1#64),
    .un φ.c_0 φ.v12 (broadcastInDim S128x4096 ![] bcast_S_S128x4096),
    .bin φ.v12 φ.v9 φ.v13 muli,
    .bin φ.v11 φ.v13 φ.v14 addi,
    .nul φ.c_1 (constantI S_ 64 32#64),
    .un φ.c_1 φ.v15 (broadcastInDim S128x4096 ![] bcast_S_S128x4096),
    .bin φ.v14 φ.v15 φ.v16 Host.shrui,
    .un φ.v14 φ.v17 (trunci 32 · natLt_32_64),
    .un φ.v16 φ.v18 (trunci 32 · natLt_32_64)] ++
   ((tfr_0 φ.call0).stms bcast_S_S128x4096 φ.v5 φ.v7 φ.v18 φ.v17 ++
   ([.bin φ.call0.v171 φ.call0.v175 φ.v20 xori,
    .nul φ.c_2 (constantI S_ 32 9#32),
    .un φ.c_2 φ.v21 (broadcastInDim S128x4096 ![] bcast_S_S128x4096),
    .bin φ.v20 φ.v21 φ.v22 Host.shrui,
    .nul φ.c_3 (constantI S_ 32 1065353216#32),
    .un φ.c_3 φ.v23 (broadcastInDim S128x4096 ![] bcast_S_S128x4096),
    .bin φ.v22 φ.v23 φ.v24 ori,
    .un φ.v24 φ.v25 (bitcastToFloat (F := Ideal) .f32),
    .nul φ.cst (constant (F := Ideal) S_ .f32 0x3F800000#32),
    .un φ.cst φ.v26 (broadcastInDim S128x4096 ![] bcast_S_S128x4096),
    .bin φ.v25 φ.v26 φ.v27 (subf (F := Ideal) (φ := .f32)),
    .bin φ.v3 φ.v2 φ.v28 (subf (F := Ideal) (φ := .f32)),
    .un φ.v28 φ.v29 (broadcastInDim S128x4096 ![0, 1] bcast_S1x1_S128x4096_0_1),
    .bin φ.v27 φ.v29 φ.v30 (mulf (F := Ideal) (φ := .f32)),
    .un φ.v2 φ.v31 (broadcastInDim S128x4096 ![0, 1] bcast_S1x1_S128x4096_0_1),
    .bin φ.v30 φ.v31 φ.v32 (addf (F := Ideal) (φ := .f32)),
    .un φ.v2 φ.v33 (broadcastInDim S128x4096 ![0, 1] bcast_S1x1_S128x4096_0_1),
    .bin φ.v33 φ.v32 φ.v34 (maximumf (F := Ideal) (φ := .f32))]))

theorem uniformL_seq (arg0 : StableHlo.TRef sig ⟨S2, .i32⟩) (arg1 : StableHlo.TRef sig ⟨S_, .f32⟩) (arg2 : StableHlo.TRef sig ⟨S_, .f32⟩) (φ : fn_uniform.Bufs) :
    fn_uniform.body (F := Ideal) arg0 arg1 arg2 φ = seq (opsOf (uniformL arg0 arg1 arg2 φ)) := by
  rw [uniformL]
  simp only [opsOf_append, seq_append, ← tfr_0_seq]
  rfl

/-- The statements of clipping a scalar. -/
def clipL (arg0 : StableHlo.TRef sig ⟨S_, .i32⟩) (arg1 : StableHlo.TRef sig ⟨S_, .i32⟩) (arg2 : StableHlo.TRef sig ⟨S_, .i32⟩) (φ : fn_clip.Bufs) : List St :=
   [.bin arg1 arg0 φ.v0 maxsi,
    .bin arg2 φ.v0 φ.v1 minsi]

theorem clipL_seq (arg0 : StableHlo.TRef sig ⟨S_, .i32⟩) (arg1 : StableHlo.TRef sig ⟨S_, .i32⟩) (arg2 : StableHlo.TRef sig ⟨S_, .i32⟩) (φ : fn_clip.Bufs) :
    fn_clip.body (F := Ideal) arg0 arg1 arg2 φ = seq (opsOf (clipL arg0 arg1 arg2 φ)) := rfl

/-- The statements of clipping a scalar. -/
def clip1L (arg0 : StableHlo.TRef sig ⟨S_, .i32⟩) (arg1 : StableHlo.TRef sig ⟨S_, .i32⟩) (arg2 : StableHlo.TRef sig ⟨S_, .i32⟩) (φ : fn_clip_1.Bufs) : List St :=
   [.bin arg1 arg0 φ.v0 maxsi,
    .bin arg2 φ.v0 φ.v1 minsi]

theorem clip1L_seq (arg0 : StableHlo.TRef sig ⟨S_, .i32⟩) (arg1 : StableHlo.TRef sig ⟨S_, .i32⟩) (arg2 : StableHlo.TRef sig ⟨S_, .i32⟩) (φ : fn_clip_1.Bufs) :
    fn_clip_1.body (F := Ideal) arg0 arg1 arg2 φ = seq (opsOf (clip1L arg0 arg1 arg2 φ)) := rfl

/-- The statements of splitting a key in two. -/
def split2L (arg0 : StableHlo.TRef sig ⟨S2, .i32⟩) (φ : fn_threefry_split_2.Bufs) : List St :=
   [.un arg0 φ.v0 (extractStridedSlice S1 ![0] · slices_S2_S1_0),
    .rsh φ.v0 φ.v1 (rfl : (.i32 : EltTy) = .i32) shapeCasts_S1_S_,
    .un arg0 φ.v2 (extractStridedSlice S1 ![1] · slices_S2_S1_1),
    .rsh φ.v2 φ.v3 (rfl : (.i32 : EltTy) = .i32) shapeCasts_S1_S_,
    .nul φ.v4 (iotaInDim S2 64 0),
    .nul φ.c (constantI S_ 64 1#64),
    .un φ.c φ.v5 (broadcastInDim S2 ![] bcast_S_S2),
    .bin φ.v5 φ.v4 φ.v6 muli,
    .nul φ.c_0 (constantI S_ 64 32#64),
    .un φ.c_0 φ.v7 (broadcastInDim S2 ![] bcast_S_S2),
    .bin φ.v6 φ.v7 φ.v8 Host.shrui,
    .un φ.v6 φ.v9 (trunci 32 · natLt_32_64),
    .un φ.v8 φ.v10 (trunci 32 · natLt_32_64)] ++
   ((tfr_3 φ.call0).stms bcast_S_S2 φ.v1 φ.v3 φ.v10 φ.v9 ++
   ([.un φ.call0.v171 φ.v12 (broadcastInDim S2x1 ![0] bcast_S2_S2x1_0),
    .un φ.call0.v175 φ.v13 (broadcastInDim S2x1 ![0] bcast_S2_S2x1_0),
    .bin φ.v12 φ.v13 φ.v14 (fun a b => concatenate S2x2 1 [⟨S2x1, a⟩, ⟨S2x1, b⟩] concatenates_S2x1_S2x1_S2x2_d1)]))

theorem split2L_seq (arg0 : StableHlo.TRef sig ⟨S2, .i32⟩) (φ : fn_threefry_split_2.Bufs) :
    fn_threefry_split_2.body (F := Ideal) arg0 φ = seq (opsOf (split2L arg0 φ)) := by
  rw [split2L]
  simp only [opsOf_append, seq_append, ← tfr_3_seq]
  rfl

/-- The statements of a random position per row. -/
def randintL (arg0 : StableHlo.TRef sig ⟨S2, .i32⟩) (arg1 : StableHlo.TRef sig ⟨S_, .i32⟩) (arg2 : StableHlo.TRef sig ⟨S_, .i32⟩) (φ : fn_randint.Bufs) : List St :=
   [.nul φ.c (constantI S_ 32 2147483647#32),
    .nul φ.c_0 (constantI S_ 32 2147483648#32),
    .nul φ.c_1 (constantI S_ 32 2147483647#32)] ++
   (clipL φ.c φ.c_0 φ.c_1 φ.call0 ++
   ([.bin arg2 φ.call0.v1 φ.v1 (cmpi .sgt),
    .nul φ.c_2 (constantI S_ 32 2147483648#32),
    .nul φ.c_3 (constantI S_ 32 2147483647#32)] ++
   (clip1L arg1 φ.c_2 φ.c_3 φ.call1 ++
   ([.un φ.call1.v1 φ.v3 id,
    .nul φ.c_4 (constantI S_ 32 2147483648#32),
    .nul φ.c_5 (constantI S_ 32 2147483647#32)] ++
   (clip1L arg2 φ.c_4 φ.c_5 φ.call2 ++
   ([.un φ.call2.v1 φ.v5 id,
    .un φ.v3 φ.v6 (broadcastInDim S1 ![] bcast_S_S1),
    .un φ.v5 φ.v7 (broadcastInDim S1 ![] bcast_S_S1)] ++
   (split2L arg0 φ.call3 ++
   ([.un φ.call3.v14 φ.v9 (extractStridedSlice S1x2 ![0, 0] · slices_S2x2_S1x2_0_0),
    .rsh φ.v9 φ.v10 (rfl : (.i32 : EltTy) = .i32) shapeCasts_S1x2_S2,
    .un φ.call3.v14 φ.v11 (extractStridedSlice S1x2 ![1, 0] · slices_S2x2_S1x2_1_0),
    .rsh φ.v11 φ.v12 (rfl : (.i32 : EltTy) = .i32) shapeCasts_S1x2_S2,
    .un φ.v10 φ.v13 (extractStridedSlice S1 ![0] · slices_S2_S1_0),
    .rsh φ.v13 φ.v14 (rfl : (.i32 : EltTy) = .i32) shapeCasts_S1_S_,
    .un φ.v10 φ.v15 (extractStridedSlice S1 ![1] · slices_S2_S1_1),
    .rsh φ.v15 φ.v16 (rfl : (.i32 : EltTy) = .i32) shapeCasts_S1_S_,
    .nul φ.v17 (iotaInDim S128 64 0),
    .nul φ.c_6 (constantI S_ 64 1#64),
    .un φ.c_6 φ.v18 (broadcastInDim S128 ![] bcast_S_S128),
    .bin φ.v18 φ.v17 φ.v19 muli,
    .nul φ.c_7 (constantI S_ 64 32#64),
    .un φ.c_7 φ.v20 (broadcastInDim S128 ![] bcast_S_S128),
    .bin φ.v19 φ.v20 φ.v21 Host.shrui,
    .un φ.v19 φ.v22 (trunci 32 · natLt_32_64),
    .un φ.v21 φ.v23 (trunci 32 · natLt_32_64)] ++
   ((tfr_4 φ.call4).stms bcast_S_S128 φ.v14 φ.v16 φ.v23 φ.v22 ++
   ([.bin φ.call4.v171 φ.call4.v175 φ.v25 xori,
    .un φ.v12 φ.v26 (extractStridedSlice S1 ![0] · slices_S2_S1_0),
    .rsh φ.v26 φ.v27 (rfl : (.i32 : EltTy) = .i32) shapeCasts_S1_S_,
    .un φ.v12 φ.v28 (extractStridedSlice S1 ![1] · slices_S2_S1_1),
    .rsh φ.v28 φ.v29 (rfl : (.i32 : EltTy) = .i32) shapeCasts_S1_S_,
    .nul φ.v30 (iotaInDim S128 64 0),
    .nul φ.c_8 (constantI S_ 64 1#64),
    .un φ.c_8 φ.v31 (broadcastInDim S128 ![] bcast_S_S128),
    .bin φ.v31 φ.v30 φ.v32 muli,
    .nul φ.c_9 (constantI S_ 64 32#64),
    .un φ.c_9 φ.v33 (broadcastInDim S128 ![] bcast_S_S128),
    .bin φ.v32 φ.v33 φ.v34 Host.shrui,
    .un φ.v32 φ.v35 (trunci 32 · natLt_32_64),
    .un φ.v34 φ.v36 (trunci 32 · natLt_32_64)] ++
   ((tfr_4 φ.call5).stms bcast_S_S128 φ.v27 φ.v29 φ.v36 φ.v35 ++
   ([.bin φ.call5.v171 φ.call5.v175 φ.v38 xori,
    .bin φ.v7 φ.v6 φ.v39 subi,
    .un φ.v39 φ.v40 id,
    .bin φ.v7 φ.v6 φ.v41 (cmpi .sle),
    .nul φ.c_10 (constantI S_ 32 1#32),
    .un φ.c_10 φ.v42 (broadcastInDim S1 ![] bcast_S_S1),
    .ter φ.v41 φ.v42 φ.v40 φ.v43 select,
    .bin φ.v7 φ.v6 φ.v44 (cmpi .sgt),
    .un φ.v1 φ.v45 (broadcastInDim S1 ![] bcast_S_S1),
    .bin φ.v45 φ.v44 φ.v46 andi,
    .nul φ.c_11 (constantI S_ 32 1#32),
    .un φ.c_11 φ.v47 (broadcastInDim S1 ![] bcast_S_S1),
    .bin φ.v43 φ.v47 φ.v48 addi,
    .ter φ.v46 φ.v48 φ.v43 φ.v49 select,
    .nul φ.c_12 (constantI S_ 32 65536#32),
    .un φ.c_12 φ.v50 (broadcastInDim S1 ![] bcast_S_S1),
    .bin φ.v50 φ.v49 φ.v51 Host.remui,
    .bin φ.v51 φ.v51 φ.v52 muli,
    .bin φ.v52 φ.v49 φ.v53 Host.remui,
    .un φ.v49 φ.v54 (broadcastInDim S128 ![0] bcast_S1_S128_0),
    .bin φ.v25 φ.v54 φ.v55 Host.remui,
    .un φ.v53 φ.v56 (broadcastInDim S128 ![0] bcast_S1_S128_0),
    .bin φ.v55 φ.v56 φ.v57 muli,
    .un φ.v49 φ.v58 (broadcastInDim S128 ![0] bcast_S1_S128_0),
    .bin φ.v38 φ.v58 φ.v59 Host.remui,
    .bin φ.v57 φ.v59 φ.v60 addi,
    .un φ.v49 φ.v61 (broadcastInDim S128 ![0] bcast_S1_S128_0),
    .bin φ.v60 φ.v61 φ.v62 Host.remui,
    .un φ.v62 φ.v63 id,
    .un φ.v6 φ.v64 (broadcastInDim S128 ![0] bcast_S1_S128_0),
    .bin φ.v64 φ.v63 φ.v65 addi]))))))))))))

theorem randintL_seq (arg0 : StableHlo.TRef sig ⟨S2, .i32⟩) (arg1 : StableHlo.TRef sig ⟨S_, .i32⟩) (arg2 : StableHlo.TRef sig ⟨S_, .i32⟩) (φ : fn_randint.Bufs) :
    fn_randint.body (F := Ideal) arg0 arg1 arg2 φ = seq (opsOf (randintL arg0 arg1 arg2 φ)) := by
  rw [randintL]
  simp only [opsOf_append, seq_append, ← clip1L_seq, ← clipL_seq, ← split2L_seq, ← tfr_4_seq]
  rfl

/-- The statements of the one-hot rows. -/
def oneHotL (arg0 : StableHlo.TRef sig ⟨S128, .i32⟩) (φ : fn_one_hot.Bufs) : List St :=
   [.un arg0 φ.v0 (broadcastInDim S128x1 ![0] bcast_S128_S128x1_0),
    .nul φ.v1 (iotaInDim S1x4096 32 1),
    .un φ.v0 φ.v2 (broadcastInDim S128x4096 ![0, 1] bcast_S128x1_S128x4096_0_1),
    .un φ.v1 φ.v3 (broadcastInDim S128x4096 ![0, 1] bcast_S1x4096_S128x4096_0_1),
    .bin φ.v2 φ.v3 φ.v4 (cmpi .eq)]

theorem oneHotL_seq (arg0 : StableHlo.TRef sig ⟨S128, .i32⟩) (φ : fn_one_hot.Bufs) :
    fn_one_hot.body (F := Ideal) arg0 φ = seq (opsOf (oneHotL arg0 φ)) := rfl

/-- The statements of a choice. -/
def whereL (arg0 : StableHlo.TRef sig ⟨S128x4096, .i1⟩) (arg1 : StableHlo.TRef sig ⟨S128x4096, .i32⟩) (arg2 : StableHlo.TRef sig ⟨S128x4096, .i32⟩) (φ : fn_where.Bufs) : List St :=
   [.ter arg0 arg1 arg2 φ.v0 select]

theorem whereL_seq (arg0 : StableHlo.TRef sig ⟨S128x4096, .i1⟩) (arg1 : StableHlo.TRef sig ⟨S128x4096, .i32⟩) (arg2 : StableHlo.TRef sig ⟨S128x4096, .i32⟩) (φ : fn_where.Bufs) :
    fn_where.body (F := Ideal) arg0 arg1 arg2 φ = seq (opsOf (whereL arg0 arg1 arg2 φ)) := rfl

/-- The statements of random tokens. -/
def randint5L (arg0 : StableHlo.TRef sig ⟨S2, .i32⟩) (arg1 : StableHlo.TRef sig ⟨S_, .i32⟩) (arg2 : StableHlo.TRef sig ⟨S_, .i32⟩) (φ : fn_randint_5.Bufs) : List St :=
   [.nul φ.c (constantI S_ 32 2147483647#32),
    .nul φ.c_0 (constantI S_ 32 2147483648#32),
    .nul φ.c_1 (constantI S_ 32 2147483647#32)] ++
   (clipL φ.c φ.c_0 φ.c_1 φ.call0 ++
   ([.bin arg2 φ.call0.v1 φ.v1 (cmpi .sgt),
    .nul φ.c_2 (constantI S_ 32 2147483648#32),
    .nul φ.c_3 (constantI S_ 32 2147483647#32)] ++
   (clip1L arg1 φ.c_2 φ.c_3 φ.call1 ++
   ([.un φ.call1.v1 φ.v3 id,
    .nul φ.c_4 (constantI S_ 32 2147483648#32),
    .nul φ.c_5 (constantI S_ 32 2147483647#32)] ++
   (clip1L arg2 φ.c_4 φ.c_5 φ.call2 ++
   ([.un φ.call2.v1 φ.v5 id,
    .un φ.v3 φ.v6 (broadcastInDim S1x1 ![] bcast_S_S1x1),
    .un φ.v5 φ.v7 (broadcastInDim S1x1 ![] bcast_S_S1x1)] ++
   (split2L arg0 φ.call3 ++
   ([.un φ.call3.v14 φ.v9 (extractStridedSlice S1x2 ![0, 0] · slices_S2x2_S1x2_0_0),
    .rsh φ.v9 φ.v10 (rfl : (.i32 : EltTy) = .i32) shapeCasts_S1x2_S2,
    .un φ.call3.v14 φ.v11 (extractStridedSlice S1x2 ![1, 0] · slices_S2x2_S1x2_1_0),
    .rsh φ.v11 φ.v12 (rfl : (.i32 : EltTy) = .i32) shapeCasts_S1x2_S2,
    .un φ.v10 φ.v13 (extractStridedSlice S1 ![0] · slices_S2_S1_0),
    .rsh φ.v13 φ.v14 (rfl : (.i32 : EltTy) = .i32) shapeCasts_S1_S_,
    .un φ.v10 φ.v15 (extractStridedSlice S1 ![1] · slices_S2_S1_1),
    .rsh φ.v15 φ.v16 (rfl : (.i32 : EltTy) = .i32) shapeCasts_S1_S_,
    .nul φ.v17 (iotaInDim S128x4096 64 0),
    .nul φ.v18 (iotaInDim S128x4096 64 1),
    .nul φ.c_6 (constantI S_ 64 4096#64),
    .un φ.c_6 φ.v19 (broadcastInDim S128x4096 ![] bcast_S_S128x4096),
    .bin φ.v19 φ.v17 φ.v20 muli,
    .nul φ.c_7 (constantI S_ 64 1#64),
    .un φ.c_7 φ.v21 (broadcastInDim S128x4096 ![] bcast_S_S128x4096),
    .bin φ.v21 φ.v18 φ.v22 muli,
    .bin φ.v20 φ.v22 φ.v23 addi,
    .nul φ.c_8 (constantI S_ 64 32#64),
    .un φ.c_8 φ.v24 (broadcastInDim S128x4096 ![] bcast_S_S128x4096),
    .bin φ.v23 φ.v24 φ.v25 Host.shrui,
    .un φ.v23 φ.v26 (trunci 32 · natLt_32_64),
    .un φ.v25 φ.v27 (trunci 32 · natLt_32_64)] ++
   ((tfr_0 φ.call4).stms bcast_S_S128x4096 φ.v14 φ.v16 φ.v27 φ.v26 ++
   ([.bin φ.call4.v171 φ.call4.v175 φ.v29 xori,
    .un φ.v12 φ.v30 (extractStridedSlice S1 ![0] · slices_S2_S1_0),
    .rsh φ.v30 φ.v31 (rfl : (.i32 : EltTy) = .i32) shapeCasts_S1_S_,
    .un φ.v12 φ.v32 (extractStridedSlice S1 ![1] · slices_S2_S1_1),
    .rsh φ.v32 φ.v33 (rfl : (.i32 : EltTy) = .i32) shapeCasts_S1_S_,
    .nul φ.v34 (iotaInDim S128x4096 64 0),
    .nul φ.v35 (iotaInDim S128x4096 64 1),
    .nul φ.c_9 (constantI S_ 64 4096#64),
    .un φ.c_9 φ.v36 (broadcastInDim S128x4096 ![] bcast_S_S128x4096),
    .bin φ.v36 φ.v34 φ.v37 muli,
    .nul φ.c_10 (constantI S_ 64 1#64),
    .un φ.c_10 φ.v38 (broadcastInDim S128x4096 ![] bcast_S_S128x4096),
    .bin φ.v38 φ.v35 φ.v39 muli,
    .bin φ.v37 φ.v39 φ.v40 addi,
    .nul φ.c_11 (constantI S_ 64 32#64),
    .un φ.c_11 φ.v41 (broadcastInDim S128x4096 ![] bcast_S_S128x4096),
    .bin φ.v40 φ.v41 φ.v42 Host.shrui,
    .un φ.v40 φ.v43 (trunci 32 · natLt_32_64),
    .un φ.v42 φ.v44 (trunci 32 · natLt_32_64)] ++
   ((tfr_0 φ.call5).stms bcast_S_S128x4096 φ.v31 φ.v33 φ.v44 φ.v43 ++
   ([.bin φ.call5.v171 φ.call5.v175 φ.v46 xori,
    .bin φ.v7 φ.v6 φ.v47 subi,
    .un φ.v47 φ.v48 id,
    .bin φ.v7 φ.v6 φ.v49 (cmpi .sle),
    .nul φ.c_12 (constantI S_ 32 1#32),
    .un φ.c_12 φ.v50 (broadcastInDim S1x1 ![] bcast_S_S1x1),
    .ter φ.v49 φ.v50 φ.v48 φ.v51 select,
    .bin φ.v7 φ.v6 φ.v52 (cmpi .sgt),
    .un φ.v1 φ.v53 (broadcastInDim S1x1 ![] bcast_S_S1x1),
    .bin φ.v53 φ.v52 φ.v54 andi,
    .nul φ.c_13 (constantI S_ 32 1#32),
    .un φ.c_13 φ.v55 (broadcastInDim S1x1 ![] bcast_S_S1x1),
    .bin φ.v51 φ.v55 φ.v56 addi,
    .ter φ.v54 φ.v56 φ.v51 φ.v57 select,
    .nul φ.c_14 (constantI S_ 32 65536#32),
    .un φ.c_14 φ.v58 (broadcastInDim S1x1 ![] bcast_S_S1x1),
    .bin φ.v58 φ.v57 φ.v59 Host.remui,
    .bin φ.v59 φ.v59 φ.v60 muli,
    .bin φ.v60 φ.v57 φ.v61 Host.remui,
    .un φ.v57 φ.v62 (broadcastInDim S128x4096 ![0, 1] bcast_S1x1_S128x4096_0_1),
    .bin φ.v29 φ.v62 φ.v63 Host.remui,
    .un φ.v61 φ.v64 (broadcastInDim S128x4096 ![0, 1] bcast_S1x1_S128x4096_0_1),
    .bin φ.v63 φ.v64 φ.v65 muli,
    .un φ.v57 φ.v66 (broadcastInDim S128x4096 ![0, 1] bcast_S1x1_S128x4096_0_1),
    .bin φ.v46 φ.v66 φ.v67 Host.remui,
    .bin φ.v65 φ.v67 φ.v68 addi,
    .un φ.v57 φ.v69 (broadcastInDim S128x4096 ![0, 1] bcast_S1x1_S128x4096_0_1),
    .bin φ.v68 φ.v69 φ.v70 Host.remui,
    .un φ.v70 φ.v71 id,
    .un φ.v6 φ.v72 (broadcastInDim S128x4096 ![0, 1] bcast_S1x1_S128x4096_0_1),
    .bin φ.v72 φ.v71 φ.v73 addi]))))))))))))

theorem randint5L_seq (arg0 : StableHlo.TRef sig ⟨S2, .i32⟩) (arg1 : StableHlo.TRef sig ⟨S_, .i32⟩) (arg2 : StableHlo.TRef sig ⟨S_, .i32⟩) (φ : fn_randint_5.Bufs) :
    fn_randint_5.body (F := Ideal) arg0 arg1 arg2 φ = seq (opsOf (randint5L arg0 arg1 arg2 φ)) := by
  rw [randint5L]
  simp only [opsOf_append, seq_append, ← clip1L_seq, ← clipL_seq, ← split2L_seq, ← tfr_0_seq]
  rfl

/-- The statements of a choice. -/
def where6L (arg0 : StableHlo.TRef sig ⟨S128x4096, .i1⟩) (arg1 : StableHlo.TRef sig ⟨S_, .i32⟩) (arg2 : StableHlo.TRef sig ⟨S128x4096, .i32⟩) (φ : fn_where_6.Bufs) : List St :=
   [.un arg1 φ.v0 (broadcastInDim S128x4096 ![] bcast_S_S128x4096),
    .ter arg0 φ.v0 arg2 φ.v1 select]

theorem where6L_seq (arg0 : StableHlo.TRef sig ⟨S128x4096, .i1⟩) (arg1 : StableHlo.TRef sig ⟨S_, .i32⟩) (arg2 : StableHlo.TRef sig ⟨S128x4096, .i32⟩) (φ : fn_where_6.Bufs) :
    fn_where_6.body (F := Ideal) arg0 arg1 arg2 φ = seq (opsOf (where6L arg0 arg1 arg2 φ)) := rfl

/-- The statements of a choice. -/
def where7L (arg0 : StableHlo.TRef sig ⟨S128x4096, .i1⟩) (arg1 : StableHlo.TRef sig ⟨S128x4096, .i32⟩) (arg2 : StableHlo.TRef sig ⟨S128x4096, .i32⟩) (φ : fn_where_7.Bufs) : List St :=
   [.ter arg0 arg1 arg2 φ.v0 select]

theorem where7L_seq (arg0 : StableHlo.TRef sig ⟨S128x4096, .i1⟩) (arg1 : StableHlo.TRef sig ⟨S128x4096, .i32⟩) (arg2 : StableHlo.TRef sig ⟨S128x4096, .i32⟩) (φ : fn_where_7.Bufs) :
    fn_where_7.body (F := Ideal) arg0 arg1 arg2 φ = seq (opsOf (where7L arg0 arg1 arg2 φ)) := rfl

/-- The statements of the reference. -/
def mainL : List St :=
   [.nul (.of main_c) (constantI S_ 32 42#32),
    .nul (.of main_c_0) (constantI S_ 32 32#32),
    .bin (.of main_c) (.of main_c_0) (.of main_v0) (Host.shrui : (⟨S_, .i32⟩ : BufTy).Contents (Elt Ideal) → (⟨S_, .i32⟩ : BufTy).Contents (Elt Ideal) → (⟨S_, .i32⟩ : BufTy).Contents (Elt Ideal)),
    .un (.of main_v0) (.of main_v1) (id : (⟨S_, .i32⟩ : BufTy).Contents (Elt Ideal) → (⟨S_, .i32⟩ : BufTy).Contents (Elt Ideal)),
    .un (.of main_v1) (.of main_v2) (broadcastInDim S1 ![] bcast_S_S1 : (⟨S_, .i32⟩ : BufTy).Contents (Elt Ideal) → (⟨S1, .i32⟩ : BufTy).Contents (Elt Ideal)),
    .nul (.of main_c_1) (constantI S_ 32 4294967295#32),
    .bin (.of main_c) (.of main_c_1) (.of main_v3) (andi : (⟨S_, .i32⟩ : BufTy).Contents (Elt Ideal) → (⟨S_, .i32⟩ : BufTy).Contents (Elt Ideal) → (⟨S_, .i32⟩ : BufTy).Contents (Elt Ideal)),
    .un (.of main_v3) (.of main_v4) (id : (⟨S_, .i32⟩ : BufTy).Contents (Elt Ideal) → (⟨S_, .i32⟩ : BufTy).Contents (Elt Ideal)),
    .un (.of main_v4) (.of main_v5) (broadcastInDim S1 ![] bcast_S_S1 : (⟨S_, .i32⟩ : BufTy).Contents (Elt Ideal) → (⟨S1, .i32⟩ : BufTy).Contents (Elt Ideal)),
    .bin (.of main_v2) (.of main_v5) (.of main_v6) ((fun a b => concatenate S2 0 [⟨S1, a⟩, ⟨S1, b⟩] concatenates_S1_S1_S2_d0) : (⟨S1, .i32⟩ : BufTy).Contents (Elt Ideal) → (⟨S1, .i32⟩ : BufTy).Contents (Elt Ideal) → (⟨S2, .i32⟩ : BufTy).Contents (Elt Ideal))] ++
   (split4L (.of main_v6) main_call0 ++
   ([.un (.of main_v7) (.of main_v8) ((extractStridedSlice S1x2 ![0, 0] · slices_S4x2_S1x2_0_0) : (⟨S4x2, .i32⟩ : BufTy).Contents (Elt Ideal) → (⟨S1x2, .i32⟩ : BufTy).Contents (Elt Ideal)),
    .rsh (.of main_v8) (.of main_v9) (rfl : (.i32 : EltTy) = .i32) shapeCasts_S1x2_S2,
    .un (.of main_v7) (.of main_v10) ((extractStridedSlice S1x2 ![1, 0] · slices_S4x2_S1x2_1_0) : (⟨S4x2, .i32⟩ : BufTy).Contents (Elt Ideal) → (⟨S1x2, .i32⟩ : BufTy).Contents (Elt Ideal)),
    .rsh (.of main_v10) (.of main_v11) (rfl : (.i32 : EltTy) = .i32) shapeCasts_S1x2_S2,
    .un (.of main_v7) (.of main_v12) ((extractStridedSlice S1x2 ![2, 0] · slices_S4x2_S1x2_2_0) : (⟨S4x2, .i32⟩ : BufTy).Contents (Elt Ideal) → (⟨S1x2, .i32⟩ : BufTy).Contents (Elt Ideal)),
    .rsh (.of main_v12) (.of main_v13) (rfl : (.i32 : EltTy) = .i32) shapeCasts_S1x2_S2,
    .un (.of main_v7) (.of main_v14) ((extractStridedSlice S1x2 ![3, 0] · slices_S4x2_S1x2_3_0) : (⟨S4x2, .i32⟩ : BufTy).Contents (Elt Ideal) → (⟨S1x2, .i32⟩ : BufTy).Contents (Elt Ideal)),
    .rsh (.of main_v14) (.of main_v15) (rfl : (.i32 : EltTy) = .i32) shapeCasts_S1x2_S2,
    .nul (.of main_cst) (constant (F := Ideal) S_ .f32 0x00000000#32),
    .nul (.of main_cst_2) (constant (F := Ideal) S_ .f32 0x3F800000#32)] ++
   (uniformL (.of main_v9) (.of main_cst) (.of main_cst_2) main_call1 ++
   ([.un (.of main_arg1) (.of main_v17) (broadcastInDim S128x4096 ![] bcast_S_S128x4096 : (⟨S_, .f32⟩ : BufTy).Contents (Elt Ideal) → (⟨S128x4096, .f32⟩ : BufTy).Contents (Elt Ideal)),
    .bin (.of main_v16) (.of main_v17) (.of main_v18) (cmpf (F := Ideal) (φ := .f32) .olt : (⟨S128x4096, .f32⟩ : BufTy).Contents (Elt Ideal) → (⟨S128x4096, .f32⟩ : BufTy).Contents (Elt Ideal) → (⟨S128x4096, .i1⟩ : BufTy).Contents (Elt Ideal)),
    .nul (.of main_c_3) (constantI S_ 32 0#32),
    .un (.of main_c_3) (.of main_v19) (broadcastInDim S128x4096 ![] bcast_S_S128x4096 : (⟨S_, .i32⟩ : BufTy).Contents (Elt Ideal) → (⟨S128x4096, .i32⟩ : BufTy).Contents (Elt Ideal)),
    .bin (.of main_arg0) (.of main_v19) (.of main_v20) (cmpi .ne : (⟨S128x4096, .i32⟩ : BufTy).Contents (Elt Ideal) → (⟨S128x4096, .i32⟩ : BufTy).Contents (Elt Ideal) → (⟨S128x4096, .i1⟩ : BufTy).Contents (Elt Ideal)),
    .bin (.of main_v18) (.of main_v20) (.of main_v21) (andi : (⟨S128x4096, .i1⟩ : BufTy).Contents (Elt Ideal) → (⟨S128x4096, .i1⟩ : BufTy).Contents (Elt Ideal) → (⟨S128x4096, .i1⟩ : BufTy).Contents (Elt Ideal)),
    .un (.of main_v21) (.of main_v22) ((extui 32 · natLt_1_32) : (⟨S128x4096, .i1⟩ : BufTy).Contents (Elt Ideal) → (⟨S128x4096, .i32⟩ : BufTy).Contents (Elt Ideal)),
    .nul (.of main_c_4) (constantI S_ 32 0#32),
    .bin (.of main_v22) (.of main_c_4) (.of main_v23) ((fun x v => Host.reduce IntOp.addi x v reducesTo_S128x4096_S128_d1 h_S_) : (⟨S128x4096, .i32⟩ : BufTy).Contents (Elt Ideal) → (⟨S_, .i32⟩ : BufTy).Contents (Elt Ideal) → (⟨S128, .i32⟩ : BufTy).Contents (Elt Ideal)),
    .nul (.of main_c_5) (constantI S_ 32 0#32),
    .un (.of main_c_5) (.of main_v24) (broadcastInDim S128 ![] bcast_S_S128 : (⟨S_, .i32⟩ : BufTy).Contents (Elt Ideal) → (⟨S128, .i32⟩ : BufTy).Contents (Elt Ideal)),
    .bin (.of main_v23) (.of main_v24) (.of main_v25) (cmpi .eq : (⟨S128, .i32⟩ : BufTy).Contents (Elt Ideal) → (⟨S128, .i32⟩ : BufTy).Contents (Elt Ideal) → (⟨S128, .i1⟩ : BufTy).Contents (Elt Ideal)),
    .nul (.of main_c_6) (constantI S_ 32 0#32),
    .nul (.of main_c_7) (constantI S_ 32 4096#32)] ++
   (randintL (.of main_v11) (.of main_c_6) (.of main_c_7) main_call2 ++
   (oneHotL (.of main_v26) main_call3 ++
   ([.un (.of main_v25) (.of main_v28) (broadcastInDim S128x1 ![0] bcast_S128_S128x1_0 : (⟨S128, .i1⟩ : BufTy).Contents (Elt Ideal) → (⟨S128x1, .i1⟩ : BufTy).Contents (Elt Ideal)),
    .un (.of main_v28) (.of main_v29) (broadcastInDim S128x4096 ![0, 1] bcast_S128x1_S128x4096_0_1 : (⟨S128x1, .i1⟩ : BufTy).Contents (Elt Ideal) → (⟨S128x4096, .i1⟩ : BufTy).Contents (Elt Ideal)),
    .bin (.of main_v29) (.of main_v27) (.of main_v30) (andi : (⟨S128x4096, .i1⟩ : BufTy).Contents (Elt Ideal) → (⟨S128x4096, .i1⟩ : BufTy).Contents (Elt Ideal) → (⟨S128x4096, .i1⟩ : BufTy).Contents (Elt Ideal)),
    .bin (.of main_v21) (.of main_v30) (.of main_v31) (ori : (⟨S128x4096, .i1⟩ : BufTy).Contents (Elt Ideal) → (⟨S128x4096, .i1⟩ : BufTy).Contents (Elt Ideal) → (⟨S128x4096, .i1⟩ : BufTy).Contents (Elt Ideal)),
    .nul (.of main_c_8) (constantI S_ 32 1#32),
    .un (.of main_c_8) (.of main_v32) (broadcastInDim S128x4096 ![] bcast_S_S128x4096 : (⟨S_, .i32⟩ : BufTy).Contents (Elt Ideal) → (⟨S128x4096, .i32⟩ : BufTy).Contents (Elt Ideal)),
    .un (.of main_v32) (.of main_v33) (negi : (⟨S128x4096, .i32⟩ : BufTy).Contents (Elt Ideal) → (⟨S128x4096, .i32⟩ : BufTy).Contents (Elt Ideal))] ++
   (whereL (.of main_v31) (.of main_arg0) (.of main_v33) main_call4 ++
   ([.nul (.of main_cst_9) (constant (F := Ideal) S_ .f32 0x00000000#32),
    .nul (.of main_cst_10) (constant (F := Ideal) S_ .f32 0x3F800000#32)] ++
   (uniformL (.of main_v13) (.of main_cst_9) (.of main_cst_10) main_call5 ++
   ([.nul (.of main_c_11) (constantI S_ 32 999#32),
    .nul (.of main_c_12) (constantI S_ 32 30522#32)] ++
   (randint5L (.of main_v15) (.of main_c_11) (.of main_c_12) main_call6 ++
   ([.nul (.of main_cst_13) (constant (F := Ideal) S_ .f32 0x3F4CCCCD#32),
    .un (.of main_cst_13) (.of main_v37) (broadcastInDim S128x4096 ![] bcast_S_S128x4096 : (⟨S_, .f32⟩ : BufTy).Contents (Elt Ideal) → (⟨S128x4096, .f32⟩ : BufTy).Contents (Elt Ideal)),
    .bin (.of main_v35) (.of main_v37) (.of main_v38) (cmpf (F := Ideal) (φ := .f32) .olt : (⟨S128x4096, .f32⟩ : BufTy).Contents (Elt Ideal) → (⟨S128x4096, .f32⟩ : BufTy).Contents (Elt Ideal) → (⟨S128x4096, .i1⟩ : BufTy).Contents (Elt Ideal)),
    .bin (.of main_v31) (.of main_v38) (.of main_v39) (andi : (⟨S128x4096, .i1⟩ : BufTy).Contents (Elt Ideal) → (⟨S128x4096, .i1⟩ : BufTy).Contents (Elt Ideal) → (⟨S128x4096, .i1⟩ : BufTy).Contents (Elt Ideal)),
    .nul (.of main_c_14) (constantI S_ 32 103#32)] ++
   (where6L (.of main_v39) (.of main_c_14) (.of main_arg0) main_call7 ++
   ([.nul (.of main_cst_15) (constant (F := Ideal) S_ .f32 0x3F4CCCCD#32),
    .un (.of main_cst_15) (.of main_v41) (broadcastInDim S128x4096 ![] bcast_S_S128x4096 : (⟨S_, .f32⟩ : BufTy).Contents (Elt Ideal) → (⟨S128x4096, .f32⟩ : BufTy).Contents (Elt Ideal)),
    .bin (.of main_v35) (.of main_v41) (.of main_v42) (cmpf (F := Ideal) (φ := .f32) .oge : (⟨S128x4096, .f32⟩ : BufTy).Contents (Elt Ideal) → (⟨S128x4096, .f32⟩ : BufTy).Contents (Elt Ideal) → (⟨S128x4096, .i1⟩ : BufTy).Contents (Elt Ideal)),
    .bin (.of main_v31) (.of main_v42) (.of main_v43) (andi : (⟨S128x4096, .i1⟩ : BufTy).Contents (Elt Ideal) → (⟨S128x4096, .i1⟩ : BufTy).Contents (Elt Ideal) → (⟨S128x4096, .i1⟩ : BufTy).Contents (Elt Ideal)),
    .nul (.of main_cst_16) (constant (F := Ideal) S_ .f32 0x3F666666#32),
    .un (.of main_cst_16) (.of main_v44) (broadcastInDim S128x4096 ![] bcast_S_S128x4096 : (⟨S_, .f32⟩ : BufTy).Contents (Elt Ideal) → (⟨S128x4096, .f32⟩ : BufTy).Contents (Elt Ideal)),
    .bin (.of main_v35) (.of main_v44) (.of main_v45) (cmpf (F := Ideal) (φ := .f32) .olt : (⟨S128x4096, .f32⟩ : BufTy).Contents (Elt Ideal) → (⟨S128x4096, .f32⟩ : BufTy).Contents (Elt Ideal) → (⟨S128x4096, .i1⟩ : BufTy).Contents (Elt Ideal)),
    .bin (.of main_v43) (.of main_v45) (.of main_v46) (andi : (⟨S128x4096, .i1⟩ : BufTy).Contents (Elt Ideal) → (⟨S128x4096, .i1⟩ : BufTy).Contents (Elt Ideal) → (⟨S128x4096, .i1⟩ : BufTy).Contents (Elt Ideal))] ++
   (where7L (.of main_v46) (.of main_v36) (.of main_v40) main_call8))))))))))))))))

end Cert.Masker

end
-- ==== Proof.Whole.lean ====
/- The reference's whole program as the list of its statements, run in order. -/
module

public import proofs.«01_k».proof.Proof.Statements

@[expose] public section

set_option maxRecDepth 20000

noncomputable section

namespace Cert.Masker

open Cert.ReferenceIdeal Cert.ReferenceIdeal.Facts₀ Idealize.ShloMosaic Idealize.ShloMosaic.TcCoe Idealize.SL.Sem Idealize.ShloMosaic.StableHlo

theorem opsOf_cons (s : St) (l : List St) : opsOf (s :: l) = s.op :: opsOf l := rfl

theorem opsOf_nil : opsOf ([] : List St) = [] := rfl

/-- The statement that counts each row's candidates, whatever the sum is taken to be. -/
theorem count_op (f : (⟨S128x4096, .i32⟩ : BufTy).Contents (Elt Ideal) → (⟨S_, .i32⟩ : BufTy).Contents (Elt Ideal) →
    (⟨S128, .i32⟩ : BufTy).Contents (Elt Ideal)) :
    (Stm.bin (.of main_v22) (.of main_c_4) (.of main_v23) f : St).op = StableHlo.binary main_v22 main_c_4 main_v23 f := rfl

/-- The reference is its list of statements. -/
theorem mainL_seq (d : Dev nD) : main (F := Ideal) d = seq (opsOf mainL) := by
  simp only [main, main_part0, main_part1, mainL, opsOf_append, opsOf_cons, opsOf_nil, seq_append, seq, bind_assoc, count_op,
    pure_bind, split4L_seq, uniformL_seq, randintL_seq, oneHotL_seq, whereL_seq, randint5L_seq, where6L_seq, where7L_seq]
  repeat (refine congr (congrArg _ ?_) (funext fun _ => ?_); rfl)
  rfl

end Cert.Masker

end
-- ==== Proof.Run.lean ====
/- The reference's run: every statement's equation holds of the memory it ends with, and its arguments are kept. -/
module

public import proofs.«01_k».proof.Proof.Whole
public import Idealize.ShloMosaic.Lib.Quiescent

@[expose] public section

set_option maxRecDepth 100000

noncomputable section

namespace Cert.Masker

open Cert.ReferenceIdeal Cert.ReferenceIdeal.Facts₀ Idealize.ShloMosaic Idealize.ShloMosaic.TcCoe Idealize.SL.Sem Idealize.ShloMosaic.StableHlo

/-- The statements write the buffers after the two arguments in order, each reading earlier buffers only. -/
theorem mainL_scan : scan 2 mainL = some 2365 := by decide +kernel

theorem no_scoped_buffer : (Finset.univ.filter fun b : Ref sig .tc => b.isScoped) = ∅ := by decide +kernel

theorem no_scoped_semaphore : (Finset.univ.filter fun sm : SemLoc sig => sm.isScoped .tc) = ∅ := by decide

/-- What the reference leaves in its memory, read from the memory `m` it starts with. -/
def final (m : (ℓ : Loc nD τ sig) → Buf (Elt Ideal) ℓ) (c : Dev nD) : Vl := after (opsOf mainL) (launchContents m c)

/-- Of what the reference leaves, every statement's equation holds. -/
theorem final_holds (m : (ℓ : Loc nD τ sig) → Buf (Elt Ideal) ℓ) (c : Dev nD) : Holds (final m c) mainL :=
  after_holds mainL 2 2365 mainL_scan _

theorem final_arg0 (m : (ℓ : Loc nD τ sig) → Buf (Elt Ideal) ℓ) (c : Dev nD) :
    final m c (main_arg0 : DevRef τ sig) = m ((c.tc : Thread nD τ).loc main_arg0) :=
  after_before mainL 2 2365 mainL_scan _ main_arg0 (by decide)

theorem final_arg1 (m : (ℓ : Loc nD τ sig) → Buf (Elt Ideal) ℓ) (c : Dev nD) :
    final m c (main_arg1 : DevRef τ sig) = m ((c.tc : Thread nD τ).loc main_arg1) :=
  after_before mainL 2 2365 mainL_scan _ main_arg1 (by decide)

/-- The reference ends with every buffer as `final` says and every semaphore at zero. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ (c : Dev nD) (b : Ref sig .tc), r.2.mem ((c.tc : Thread nD τ).loc b) = final m c (b : DevRef τ sig))
        ∧ r.2.sem = fun _ => 0 :=
  (θ_run defs _ _).mono (fun r h => ⟨h, sem_eq_zero_of_no_sems rfl r.2⟩)
    (run_seq no_scoped_buffer no_scoped_semaphore defs main (fun _ => opsOf mainL) mainL_seq (fun _ => forall_bufs mainL) m ρ
      (fun _ => forall_fresh mainL))

/-- The reference's frame: it ends, with its arguments kept and every semaphore at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
        ∧ r.2.sem = fun _ => 0 :=
  (θ_run defs _ _).mono (fun _ h => ⟨fun c => ⟨(h.1 c main_arg0).trans (final_arg0 m c), (h.1 c main_arg1).trans (final_arg1 m c)⟩, h.2⟩)
    (run m ρ)

end Cert.Masker

end
-- ==== Proof.Keys.lean ====
/- What the reference's splitting of keys leaves, and the places its counts name. -/
module

public import proofs.«01_k».proof.Proof.Statements
public import Idealize.ShloMosaic.Lib.Pipeline.Value

@[expose] public section

noncomputable section

namespace Cert.Masker

open Cert.ReferenceIdeal Cert.ReferenceIdeal.Facts₀ Idealize.ShloMosaic Idealize.ShloMosaic.TcCoe Idealize.SL.Sem

section Equations
variable {τ : Topo} {sg : RefSig} {Val : EltTy → Type} {Tx Ta Tb Tc Ty : BufTy} (V : Valuation τ sg Val)

theorem holds_cons (s : Stm τ sg Val) (l : List (Stm τ sg Val)) : Holds V (s :: l) = (s.eqn V ∧ Holds V l) := rfl
theorem holds_nil : Holds V ([] : List (Stm τ sg Val)) = True := rfl
theorem nul_eqn (y : StableHlo.TRef sg Ty) (v : Ty.Contents Val) : (Stm.nul y v).eqn V = (rd V y = v) := rfl
theorem un_eqn (x : StableHlo.TRef sg Tx) (y : StableHlo.TRef sg Ty) (f : Tx.Contents Val → Ty.Contents Val) :
    (Stm.un x y f).eqn V = (rd V y = f (rd V x)) := rfl
theorem bin_eqn (a : StableHlo.TRef sg Ta) (b : StableHlo.TRef sg Tb) (y : StableHlo.TRef sg Ty)
    (f : Ta.Contents Val → Tb.Contents Val → Ty.Contents Val) : (Stm.bin a b y f).eqn V = (rd V y = f (rd V a) (rd V b)) := rfl
theorem ter_eqn (c : StableHlo.TRef sg Tc) (a : StableHlo.TRef sg Ta) (b : StableHlo.TRef sg Tb) (y : StableHlo.TRef sg Ty)
    (f : Tc.Contents Val → Ta.Contents Val → Tb.Contents Val → Ty.Contents Val) :
    (Stm.ter c a b y f).eqn V = (rd V y = f (rd V c) (rd V a) (rd V b)) := rfl
theorem rsh_eqn (x : StableHlo.TRef sg Tx) (y : StableHlo.TRef sg Ty) (he : Tx.elt = Ty.elt)
    (hn : Tx.shape.ShapeCasts Ty.shape) :
    (Stm.rsh x y he hn).eqn V = (rd V y = fun i => he ▸ shapeCast Ty.shape (rd V x) hn i) := rfl
end Equations

/-- The first place of a key. -/
abbrev i0 : S2.Idx := fun a => ⟨0, by fin_cases a; decide⟩
/-- The second place of a key. -/
abbrev i1 : S2.Idx := fun a => ⟨1, by fin_cases a; decide⟩

/-- The two words of a key. -/
def IsKey (V : Vl) (x : Wd S2) (a b : BitVec 32) : Prop := wd V x i0 = a ∧ wd V x i1 = b

theorem idx_S1 (j : S1.Idx) (a : Fin 1) : (j a).val = 0 := by
  have := (j a).isLt; fin_cases a; exact Nat.lt_one_iff.1 this

/-- The first word of a key, taken out as a scalar. -/
theorem half_0 (x : S2.Idx → BitVec 32) (o : S_.Idx) :
    shapeCast S_ (extractStridedSlice S1 ![0] x slices_S2_S1_0) shapeCasts_S1_S_ o = x i0 := by
  refine extractStridedSlice_apply _ x slices_S2_S1_0 _ i0 fun a => ?_
  fin_cases a
  show 0 = 0 + _
  rw [idx_S1]

/-- The second word of a key, taken out as a scalar. -/
theorem half_1 (x : S2.Idx → BitVec 32) (o : S_.Idx) :
    shapeCast S_ (extractStridedSlice S1 ![1] x slices_S2_S1_1) shapeCasts_S1_S_ o = x i1 := by
  refine extractStridedSlice_apply _ x slices_S2_S1_1 _ i1 fun a => ?_
  fin_cases a
  show 1 = 1 + _
  rw [idx_S1]

/-- The row of a split's result that a shape cast and a slice take out. -/
theorem row_at {S : Shape} {d : Fin 2 → Nat} (hS : S = ⟨2, d⟩) (off : Fin S.rank → Nat) (x : S.Idx → BitVec 32) (hs : S.Slices off S1x2) (i : S2.Idx)
    (k : S.Idx) (hk : ∀ a : Fin S.rank, (k a).val = off a + if a.val = 0 then 0 else (i 0).val) :
    shapeCast S2 (extractStridedSlice S1x2 off x hs) shapeCasts_S1x2_S2 i = x k := by
  rw [shapeCast_apply (k := Shape.pair (d := ![1, 2]) (0 : Fin 1) (i 0))]
  · subst hS
    refine extractStridedSlice_apply _ x hs _ k fun a => ?_
    rw [hk]
    fin_cases a <;> rfl
  · have := (i 0).isLt
    have h : (i 0).val = 0 ∨ (i 0).val = 1 := by
      have : (i 0).val < 2 := this
      omega
    obtain h | h := h
    · have : i = i0 := funext fun a => Fin.ext (by fin_cases a; exact h)
      subst this; rfl
    · have : i = i1 := funext fun a => Fin.ext (by fin_cases a; exact h)
      subst this; rfl

/-- A number below `2^32` counted in 64 bits and cut to a word. -/
theorem cut (n : Nat) : (BitVec.ofNat 64 n).setWidth 32 = BitVec.ofNat 32 n := by
  apply BitVec.eq_of_toNat_eq
  simp only [BitVec.toNat_setWidth, BitVec.toNat_ofNat]
  omega

/-- The high word of a small count is nothing. -/
theorem high (n : Nat) (h : n < 2 ^ 32) : (IntOp.shrui .host (BitVec.ofNat 64 n) 32#64).setWidth 32 = 0#32 := by
  rw [host_shrui _ _ (by decide)]
  apply BitVec.eq_of_toNat_eq
  have e : (BitVec.ofNat 64 n >>> 32#64).toNat = (n % 2 ^ 64) >>> 32 := rfl
  rw [BitVec.toNat_setWidth, e, Nat.shiftRight_eq_div_pow]
  show _ = 0
  omega

theorem one_mul_ofNat (n : Nat) : IntOp.muli 1#64 (BitVec.ofNat 64 n) = BitVec.ofNat 64 n := by
  show 1#64 * _ = _
  rw [BitVec.one_mul]

/-- The count of a place in a table of 4096 columns. -/
theorem count_place (r c : Nat) :
    IntOp.addi (IntOp.muli 4096#64 (BitVec.ofNat 64 r)) (IntOp.muli 1#64 (BitVec.ofNat 64 c)) = BitVec.ofNat 64 (4096 * r + c) := by
  rw [one_mul_ofNat]
  show 4096#64 * _ + _ = _
  rw [BitVec.ofNat_add, BitVec.ofNat_mul]

/-- Two columns side by side, at a row. -/
theorem columns {n : Nat} (p q : (⟨1, ![n]⟩ : Shape).Idx → BitVec 32)
    (hb : (⟨1, ![n]⟩ : Shape).BroadcastsInDim (⟨2, ![n, 1]⟩ : Shape) (![0] : Fin 1 → Fin 2))
    (hc : Shape.Concatenates [⟨2, ![n, 1]⟩, ⟨2, ![n, 1]⟩] (⟨2, ![n, 2]⟩ : Shape) (1 : Fin 2)) (r : Fin n)
    (j : (⟨1, ![n]⟩ : Shape).Idx) (hj : (j 0).val = r.val) :
    concatenate (⟨2, ![n, 2]⟩ : Shape) (1 : Fin 2) [⟨⟨2, ![n, 1]⟩, broadcastInDim ⟨2, ![n, 1]⟩ ![0] hb p⟩, ⟨⟨2, ![n, 1]⟩, broadcastInDim ⟨2, ![n, 1]⟩ ![0] hb q⟩] hc
        (Shape.pair (d := ![n, 2]) r (0 : Fin 2)) = p j ∧
    concatenate (⟨2, ![n, 2]⟩ : Shape) (1 : Fin 2) [⟨⟨2, ![n, 1]⟩, broadcastInDim ⟨2, ![n, 1]⟩ ![0] hb p⟩, ⟨⟨2, ![n, 1]⟩, broadcastInDim ⟨2, ![n, 1]⟩ ![0] hb q⟩] hc
        (Shape.pair (d := ![n, 2]) r (1 : Fin 2)) = q j := by
  have hb' : ∀ f : (⟨1, ![n]⟩ : Shape).Idx → BitVec 32,
      broadcastInDim (⟨2, ![n, 1]⟩ : Shape) ![0] hb f (Shape.pair (d := ![n, 1]) r (0 : Fin 1)) = f j := fun f =>
    broadcastInDim_apply _ hb f _ j fun a => by
      fin_cases a
      have := r.isLt
      show (j 0).val = if n = 1 then 0 else r.val
      rw [hj]
      split <;> omega
  constructor
  · refine (concatenate_pair_apply_left (t := ⟨2, ![n, 2]⟩) (1 : Fin 2) _ _ hc _ rfl (Shape.pair (d := ![n, 1]) r (0 : Fin 1)) ?_).trans (hb' p)
    intro b; fin_cases b <;> rfl
  · refine (concatenate_pair_apply_right (t := ⟨2, ![n, 2]⟩) (1 : Fin 2) _ _ hc _ rfl rfl (Shape.pair (d := ![n, 1]) r (0 : Fin 1)) ?_ ?_).trans (hb' q)
    · intro b hne; fin_cases b
      · rfl
      · exact absurd rfl hne
    · rfl

theorem val_lt_S4 (i : S4.Idx) : (i 0).val < 4 := (i 0).isLt

/-- Rows of a split in four. -/
theorem split4_spec (V : Vl) (arg0 : Wd S2) (φ : fn_threefry_split.Bufs) (h : Holds V (split4L arg0 φ)) (r : Fin 4) :
    wd V φ.v14 (Shape.pair (d := ![4, 2]) r (0 : Fin 2)) = (threefry (wd V arg0 i0) (wd V arg0 i1) 0 (BitVec.ofNat 32 r.val)).1 ∧
    wd V φ.v14 (Shape.pair (d := ![4, 2]) r (1 : Fin 2)) = (threefry (wd V arg0 i0) (wd V arg0 i1) 0 (BitVec.ofNat 32 r.val)).2 := by
  simp only [split4L, holds_append] at h
  obtain ⟨h0, h1, h2⟩ := h
  have T := Tfr.spec _ _ _ _ _ _ _ h1 (fun a => ⟨r.val, by fin_cases a; exact r.isLt⟩)
  simp only [holds_cons, holds_nil, nul_eqn, un_eqn, bin_eqn, rsh_eqn] at h0 h2
  obtain ⟨e0, e1, e2, e3, e4, e5, e6, e7, e8, e9, e10, e11, e12, -⟩ := h0
  obtain ⟨f0, f1, f2, -⟩ := h2
  have a0 : wd V φ.v1 o_ = wd V arg0 i0 := by unfold wd; rw [e1, e0]; exact half_0 _ _
  have a1 : wd V φ.v3 o_ = wd V arg0 i1 := by unfold wd; rw [e3, e2]; exact half_1 _ _
  have lo : ∀ i, wd V φ.v9 i = BitVec.ofNat 32 (i 0).val := fun i => by
    unfold wd; rw [e11, e7, e6, e5, e4]
    exact (congrArg (BitVec.setWidth 32) (one_mul_ofNat _)).trans (cut _)
  have hi : ∀ i, wd V φ.v10 i = 0#32 := fun i => by
    unfold wd; rw [e12, e10, e9, e8, e7, e6, e5, e4]
    refine (congrArg (fun n => BitVec.setWidth 32 (IntOp.shrui .host n 32#64)) (one_mul_ofNat _)).trans (high _ ?_)
    have := val_lt_S4 i
    omega
  rw [a0, a1, lo, hi] at T
  unfold wd
  rw [f2, f1, f0]
  have C := columns (rd V φ.call0.v171) (rd V φ.call0.v175) bcast_S4_S4x1_0 concatenates_S4x1_S4x1_S4x2_d1 r (fun a => ⟨r.val, by fin_cases a; exact r.isLt⟩) rfl
  exact ⟨C.1.trans (congrArg Prod.fst T), C.2.trans (congrArg Prod.snd T)⟩

/-- Rows of a split in two. -/
theorem split2_spec (V : Vl) (arg0 : Wd S2) (φ : fn_threefry_split_2.Bufs) (h : Holds V (split2L arg0 φ)) (r : Fin 2) :
    wd V φ.v14 (Shape.pair (d := ![2, 2]) r (0 : Fin 2)) = (threefry (wd V arg0 i0) (wd V arg0 i1) 0 (BitVec.ofNat 32 r.val)).1 ∧
    wd V φ.v14 (Shape.pair (d := ![2, 2]) r (1 : Fin 2)) = (threefry (wd V arg0 i0) (wd V arg0 i1) 0 (BitVec.ofNat 32 r.val)).2 := by
  simp only [split2L, holds_append] at h
  obtain ⟨h0, h1, h2⟩ := h
  have T := Tfr.spec _ _ _ _ _ _ _ h1 (fun a => ⟨r.val, by fin_cases a; exact r.isLt⟩)
  simp only [holds_cons, holds_nil, nul_eqn, un_eqn, bin_eqn, rsh_eqn] at h0 h2
  obtain ⟨e0, e1, e2, e3, e4, e5, e6, e7, e8, e9, e10, e11, e12, -⟩ := h0
  obtain ⟨f0, f1, f2, -⟩ := h2
  have a0 : wd V φ.v1 o_ = wd V arg0 i0 := by unfold wd; rw [e1, e0]; exact half_0 _ _
  have a1 : wd V φ.v3 o_ = wd V arg0 i1 := by unfold wd; rw [e3, e2]; exact half_1 _ _
  have lo : ∀ i, wd V φ.v9 i = BitVec.ofNat 32 (i 0).val := fun i => by
    unfold wd; rw [e11, e7, e6, e5, e4]
    exact (congrArg (BitVec.setWidth 32) (one_mul_ofNat _)).trans (cut _)
  have hi : ∀ i, wd V φ.v10 i = 0#32 := fun i => by
    unfold wd; rw [e12, e10, e9, e8, e7, e6, e5, e4]
    refine (congrArg (fun n => BitVec.setWidth 32 (IntOp.shrui .host n 32#64)) (one_mul_ofNat _)).trans (high _ ?_)
    have : (i 0).val < 2 := (i 0).isLt
    omega
  rw [a0, a1, lo, hi] at T
  unfold wd
  rw [f2, f1, f0]
  have C := columns (rd V φ.call0.v171) (rd V φ.call0.v175) bcast_S2_S2x1_0 concatenates_S2x1_S2x1_S2x2_d1 r (fun a => ⟨r.val, by fin_cases a; exact r.isLt⟩) rfl
  exact ⟨C.1.trans (congrArg Prod.fst T), C.2.trans (congrArg Prod.snd T)⟩

end Cert.Masker

end
-- ==== Proof.Model.lean ====
/- The random numbers in natural numbers: what the reference draws at each place of the batch, in a form that Lean
   computes with, and what the kernel's tables should hold. -/
module

public import proofs.«01_k».proof.Proof.Threefry

@[expose] public section

namespace Cert.Masker

/-- One round on two numbers below `2^32`, the second turned left by `r`; `k` goes on with the pair. -/
def rndN {α : Type} (k : Nat → Nat → α) (r : Nat) (a b : Nat) : α :=
  (fun s => (fun t => k s (Nat.xor s (Nat.land (Nat.lor t (Nat.shiftRight t 32)) 4294967295))) (Nat.shiftLeft b r))
    (Nat.land (Nat.add a b) 4294967295)

/-- Two key words added to two numbers below `2^32`. -/
def injN {α : Type} (k : Nat → Nat → α) (p q : Nat) (a b : Nat) : α :=
  k (Nat.land (Nat.add a p) 4294967295) (Nat.land (Nat.add b q) 4294967295)

/-- An odd group of rounds, and its keys. -/
def oddN {α : Type} (p q : Nat) (k : Nat → Nat → α) : Nat → Nat → α := rndN (rndN (rndN (rndN (injN k p q) 6) 26) 15) 13

/-- An even group of rounds, and its keys. -/
def evenN {α : Type} (p q : Nat) (k : Nat → Nat → α) : Nat → Nat → α := rndN (rndN (rndN (rndN (injN k p q) 24) 16) 29) 17

/-- The generator with the key words `a`, `b`, `c`. -/
def tfN {α : Type} (k : Nat → Nat → α) (a b c : Nat) (x y : Nat) : α :=
  injN (oddN b (Nat.add c 1) (evenN c (Nat.add a 2) (oddN a (Nat.add b 3) (evenN b (Nat.add c 4) (oddN c (Nat.add a 5) k))))) a b x y

theorem land_mask (n : Nat) : Nat.land n 4294967295 = n % 2 ^ 32 := Nat.and_two_pow_sub_one_eq_mod n 32

theorem turn (b n m : BitVec 32) (h : n.toNat + m.toNat = 32) :
    Nat.land (Nat.lor (Nat.shiftLeft b.toNat n.toNat) (Nat.shiftRight (Nat.shiftLeft b.toNat n.toNat) 32)) 4294967295
      = (b <<< n ||| b >>> m).toNat := by
  have e : Nat.shiftRight (Nat.shiftLeft b.toNat n.toNat) 32 = b.toNat >>> m.toNat := by
    show (b.toNat <<< n.toNat) >>> 32 = _
    refine (congrArg ((b.toNat <<< n.toNat) >>> ·) h.symm).trans ?_
    show (b.toNat <<< n.toNat) >>> (n.toNat + m.toNat) = _
    rw [Nat.shiftRight_add, Nat.shiftLeft_shiftRight]
  rw [e, land_mask, BitVec.toNat_or, BitVec.shiftLeft_eq', BitVec.ushiftRight_eq', BitVec.toNat_shiftLeft, BitVec.toNat_ushiftRight]
  show (b.toNat <<< n.toNat ||| b.toNat >>> m.toNat) % 2 ^ 32 = _
  rw [Nat.or_mod_two_pow, Nat.mod_eq_of_lt (a := b.toNat >>> m.toNat)]
  exact Nat.lt_of_le_of_lt (Nat.shiftRight_le _ _) b.isLt

theorem rndN_eq {α : Type} (k : Nat → Nat → α) (n m a b : BitVec 32) (h : n.toNat + m.toNat = 32) :
    rndN k n.toNat a.toNat b.toNat = k (rndB n m (a, b)).1.toNat (rndB n m (a, b)).2.toNat := by
  have e : Nat.land (Nat.add a.toNat b.toNat) 4294967295 = (a + b).toNat := by
    rw [land_mask, BitVec.toNat_add]; rfl
  show k _ _ = k _ _
  rw [e, turn b n m h]
  show _ = k (a + b).toNat ((a + b) ^^^ (b <<< n ||| b >>> m)).toNat
  rw [BitVec.toNat_xor]
  rfl

theorem injN_eq {α : Type} (k : Nat → Nat → α) (p q n a b : BitVec 32) (qn : Nat) (hq : qn % 2 ^ 32 = (q + n).toNat) :
    injN k p.toNat qn a.toNat b.toNat = k (injB p q n (a, b)).1.toNat (injB p q n (a, b)).2.toNat := by
  have e : Nat.land (Nat.add a.toNat p.toNat) 4294967295 = (a + p).toNat := by
    rw [land_mask, BitVec.toNat_add]; rfl
  have f : Nat.land (Nat.add b.toNat qn) 4294967295 = (b + q + n).toNat := by
    rw [land_mask, BitVec.add_assoc, BitVec.toNat_add, ← hq]
    show (b.toNat + qn) % _ = _
    omega
  unfold injN
  rw [e, f]
  rfl

theorem oddN_eq {α : Type} (k : Nat → Nat → α) (p q n : BitVec 32) (s : BitVec 32 × BitVec 32) (qn : Nat)
    (hq : qn % 2 ^ 32 = (q + n).toNat) :
    oddN p.toNat qn k s.1.toNat s.2.toNat = k (injB p q n (oddB s)).1.toNat (injB p q n (oddB s)).2.toNat := by
  unfold oddN oddB
  rw [show (13 : Nat) = (13 : BitVec 32).toNat from rfl, rndN_eq _ 13 19 _ _ rfl,
    show (15 : Nat) = (15 : BitVec 32).toNat from rfl, rndN_eq _ 15 17 _ _ rfl,
    show (26 : Nat) = (26 : BitVec 32).toNat from rfl, rndN_eq _ 26 6 _ _ rfl,
    show (6 : Nat) = (6 : BitVec 32).toNat from rfl, rndN_eq _ 6 26 _ _ rfl, injN_eq _ _ q n _ _ _ hq]

theorem evenN_eq {α : Type} (k : Nat → Nat → α) (p q n : BitVec 32) (s : BitVec 32 × BitVec 32) (qn : Nat)
    (hq : qn % 2 ^ 32 = (q + n).toNat) :
    evenN p.toNat qn k s.1.toNat s.2.toNat = k (injB p q n (evenB s)).1.toNat (injB p q n (evenB s)).2.toNat := by
  unfold evenN evenB
  rw [show (17 : Nat) = (17 : BitVec 32).toNat from rfl, rndN_eq _ 17 15 _ _ rfl,
    show (29 : Nat) = (29 : BitVec 32).toNat from rfl, rndN_eq _ 29 3 _ _ rfl,
    show (16 : Nat) = (16 : BitVec 32).toNat from rfl, rndN_eq _ 16 16 _ _ rfl,
    show (24 : Nat) = (24 : BitVec 32).toNat from rfl, rndN_eq _ 24 8 _ _ rfl, injN_eq _ _ q n _ _ _ hq]

theorem add_key (q : BitVec 32) (n : Nat) : Nat.add q.toNat n % 2 ^ 32 = (q + BitVec.ofNat 32 n).toNat := by
  rw [BitVec.toNat_add, BitVec.toNat_ofNat]
  show (q.toNat + n) % _ = _
  omega

/-- The generator in natural numbers is the generator. -/
theorem tfN_eq {α : Type} (k : Nat → Nat → α) (a b x y : BitVec 32) :
    tfN k a.toNat b.toNat (key3 a b).toNat x.toNat y.toNat = k (threefry a b x y).1.toNat (threefry a b x y).2.toNat := by
  have z : injB a b 0 (x, y) = (x + a, y + b) := congrArg (Prod.mk (x + a)) (BitVec.add_zero (y + b))
  unfold tfN threefry
  rw [injN_eq _ a b 0 x y _ ((Nat.mod_eq_of_lt b.isLt).trans (congrArg BitVec.toNat (BitVec.add_zero b)).symm), z, oddN_eq _ b (key3 a b) 1 _ _ (add_key _ 1),
    evenN_eq _ (key3 a b) a 2 _ _ (add_key _ 2), oddN_eq _ a b 3 _ _ (add_key _ 3), evenN_eq _ b (key3 a b) 4 _ _ (add_key _ 4),
    oddN_eq _ (key3 a b) a 5 _ _ (add_key _ 5)]

/-- The random word that the key `a`, `b` gives at place `i`. -/
def bitsB (a b : BitVec 32) (i : Nat) : BitVec 32 :=
  (threefry a b 0 (BitVec.ofNat 32 i)).1 ^^^ (threefry a b 0 (BitVec.ofNat 32 i)).2

/-- The same in natural numbers. -/
def bitsN (a b c i : Nat) : Nat := tfN Nat.xor a b c 0 i

theorem bitsN_eq (a b : BitVec 32) (i : Nat) (h : i < 2 ^ 32) : bitsN a.toNat b.toNat (key3 a b).toNat i = (bitsB a b i).toNat := by
  have e : i = (BitVec.ofNat 32 i).toNat := by rw [BitVec.toNat_ofNat]; exact (Nat.mod_eq_of_lt h).symm
  unfold bitsN bitsB
  rw [BitVec.toNat_xor]
  conv_lhs => rw [e]
  exact tfN_eq Nat.xor a b 0 _

end Cert.Masker

end
-- ==== Proof.Draws.lean ====
/- What the reference's functions of random numbers leave at each place. -/
module

public import proofs.«01_k».proof.Proof.Keys
public import proofs.«01_k».proof.Proof.Model

@[expose] public section

set_option maxHeartbeats 1000000

noncomputable section

namespace Cert.Masker

open Cert.ReferenceIdeal Cert.ReferenceIdeal.Facts₀ Idealize.ShloMosaic Idealize.ShloMosaic.TcCoe Idealize.SL.Sem

/-- The number of a place in the batch. -/
abbrev place (i : S128x4096.Idx) : Nat := 4096 * (i 0).val + (i 1).val

theorem place_lt (i : S128x4096.Idx) : place i < 524288 := by
  have h0 : (i 0).val < 128 := (i 0).isLt
  have h1 : (i 1).val < 4096 := (i 1).isLt
  unfold place; omega

/-- The bits one call of the generator and the sum of its two words leave, at the counts of a table. -/
theorem bits_at {S : Shape} (V : Vl) (T : Tfr S) (hb) (k : Wd S2) (x0 x1 : Wd S_) (hi lo : Wd S) (a b : BitVec 32) (hk : IsKey V k a b)
    (h0 : wd V x0 o_ = wd V k i0) (h1 : wd V x1 o_ = wd V k i1) (h : Holds V (T.stms hb x0 x1 hi lo)) (i : S.Idx) (n : Nat)
    (hhi : wd V hi i = 0#32) (hlo : wd V lo i = BitVec.ofNat 32 n) :
    wd V T.g5.j.p i ^^^ wd V T.g5.j.r i = bitsB a b n := by
  have t := Tfr.spec T hb x0 x1 hi lo V h i
  rw [h0, h1, hk.1, hk.2, hhi, hlo] at t
  unfold bitsB
  exact congr (congrArg _ (congrArg Prod.fst t)) (congrArg Prod.snd t)

/-- A uniform number of the reference as a function of its random bits. -/
def draw (w : BitVec 32) : EReal :=
  max (Ideal.ofBits .f32 0x00000000#32)
    ((Ideal.ofBits .f32 (w >>> 9 ||| 1065353216#32) - Ideal.ofBits .f32 0x3F800000#32)
      * (Ideal.ofBits .f32 0x3F800000#32 - Ideal.ofBits .f32 0x00000000#32) + Ideal.ofBits .f32 0x00000000#32)

theorem uniform_spec (V : Vl) (arg0 : Wd S2) (arg1 arg2 : StableHlo.TRef sig ⟨S_, .f32⟩) (φ : fn_uniform.Bufs)
    (h : Holds V (uniformL arg0 arg1 arg2 φ)) (a b : BitVec 32) (hk : IsKey V arg0 a b)
    (hlo : rd V arg1 = constant (F := Ideal) S_ .f32 0x00000000#32) (hhi : rd V arg2 = constant (F := Ideal) S_ .f32 0x3F800000#32)
    (i : S128x4096.Idx) : rd V φ.v34 i = draw (bitsB a b (place i)) := by
  simp only [uniformL, holds_append] at h
  obtain ⟨h0, h1, h2⟩ := h
  simp only [holds_cons, holds_nil, nul_eqn, un_eqn, bin_eqn, rsh_eqn, id] at h0 h2
  obtain ⟨e0, e1, e2, e3, e4, e5, e6, e7, e8, e9, ec, e10, e11, ec0, e12, e13, e14, ec1, e15, e16, e17, e18, -⟩ := h0
  obtain ⟨f20, fc2, f21, f22, fc3, f23, f24, f25, fcst, f26, f27, f28, f29, f30, f31, f32, f33, f34, -⟩ := h2
  have c14 : rd V φ.v14 i = BitVec.ofNat 64 (place i) := by
    rw [e14, e11, e10, ec, e8, e13, e12, ec0, e9]; exact count_place _ _
  have lo : wd V φ.v17 i = BitVec.ofNat 32 (place i) := by
    unfold wd; rw [e17]; exact (congrArg (BitVec.setWidth 32) c14).trans (cut _)
  have hi : wd V φ.v18 i = 0#32 := by
    unfold wd; rw [e18, e16, e15, ec1]
    exact (congrArg (fun n => BitVec.setWidth 32 (IntOp.shrui .host n 32#64)) c14).trans
      (high _ (Nat.lt_trans (place_lt i) (by decide)))
  have B := bits_at V _ _ arg0 _ _ _ _ a b hk
    (by unfold wd; rw [e5, e4]; exact half_0 _ _) (by unfold wd; rw [e7, e6]; exact half_1 _ _) h1 i _ hi lo
  have g20 : rd V φ.v20 i = bitsB a b (place i) := by rw [f20]; exact B
  have g22 : rd V φ.v22 i = bitsB a b (place i) >>> 9 := by
    rw [f22, f21, fc2]
    exact (congrArg (fun w => IntOp.shrui .host w 9#32) g20).trans (host_shrui _ _ (by decide))
  have g24 : rd V φ.v24 i = bitsB a b (place i) >>> 9 ||| 1065353216#32 := by
    rw [f24, f23, fc3]
    exact congrArg (fun w => IntOp.ori w 1065353216#32) g22
  rw [f34, f33, f32, f31, f30, f29, f28, f27, f26, fcst, f25, e2, e3, e0, e1, hlo, hhi]
  exact congrArg (fun w => max (Ideal.ofBits .f32 0x00000000#32)
    ((Ideal.ofBits .f32 w - Ideal.ofBits .f32 0x3F800000#32)
      * (Ideal.ofBits .f32 0x3F800000#32 - Ideal.ofBits .f32 0x00000000#32) + Ideal.ofBits .f32 0x00000000#32)) g24

/-- A row's value spread over its columns. -/
theorem spread_row {α : Type} (f : S128.Idx → α) (i : S128x4096.Idx) (j : S128.Idx) (hj : (j 0).val = (i 0).val) :
    broadcastInDim S128x4096 ![0, 1] bcast_S128x1_S128x4096_0_1 (broadcastInDim S128x1 ![0] bcast_S128_S128x1_0 f) i = f j := by
  refine (broadcastInDim_apply _ _ _ i (Shape.pair (d := ![128, 1]) (i 0) (0 : Fin 1)) fun a => ?_).trans
    (broadcastInDim_apply _ _ _ _ j fun a => ?_)
  · fin_cases a <;> rfl
  · fin_cases a; exact hj

theorem one_hot_spec (V : Vl) (arg0 : Wd S128) (φ : fn_one_hot.Bufs) (h : Holds V (oneHotL arg0 φ)) (i : S128x4096.Idx) (j : S128.Idx)
    (hj : (j 0).val = (i 0).val) : rd V φ.v4 i = IntOp.cmpi .eq (wd V arg0 j) (BitVec.ofNat 32 (i 1).val) := by
  simp only [oneHotL, holds_cons, holds_nil, nul_eqn, un_eqn, bin_eqn] at h
  obtain ⟨e0, e1, e2, e3, e4, -⟩ := h
  rw [e4, e3, e2, e1, e0]
  exact congrArg (fun w => IntOp.cmpi .eq w (BitVec.ofNat 32 (i 1).val)) (spread_row _ i j hj)

/-- The two keys a key is split into. -/
def sub (a b : BitVec 32) (r : Nat) : BitVec 32 × BitVec 32 := threefry a b 0 (BitVec.ofNat 32 r)

/-- The value a random integer of the reference takes from its two random words: `span` values from `lo` on. -/
def pickInt (lo span mult h l : BitVec 32) : BitVec 32 :=
  IntOp.addi lo (IntOp.remui .host (IntOp.addi (IntOp.muli (IntOp.remui .host h span) mult) (IntOp.remui .host l span)) span)

/-- A row of a split in two is a key. -/
theorem key_row2 (V : Vl) (x : StableHlo.TRef sig ⟨S2x2, .i32⟩) (y : StableHlo.TRef sig ⟨S1x2, .i32⟩) (z : Wd S2) (off : Fin 2 → Nat) (hs : S2x2.Slices off S1x2)
    (r : Fin 2) (hoff : off = ![r.val, 0]) (e1 : rd V y = extractStridedSlice S1x2 off (rd V x) hs)
    (e2 : rd V z = fun i => shapeCast S2 (rd V y) shapeCasts_S1x2_S2 i) :
    IsKey V z (rd V x (Shape.pair (d := ![2, 2]) r (0 : Fin 2))) (rd V x (Shape.pair (d := ![2, 2]) r (1 : Fin 2))) := by
  subst hoff
  constructor <;> unfold wd <;> rw [e2, e1]
  · exact row_at rfl _ _ hs i0 (Shape.pair (d := ![2, 2]) r (0 : Fin 2)) fun a => by fin_cases a <;> rfl
  · exact row_at rfl _ _ hs i1 (Shape.pair (d := ![2, 2]) r (1 : Fin 2)) fun a => by fin_cases a <;> rfl

/-- A row of a split in four is a key. -/
theorem key_row4 (V : Vl) (x : StableHlo.TRef sig ⟨S4x2, .i32⟩) (y : StableHlo.TRef sig ⟨S1x2, .i32⟩) (z : Wd S2) (off : Fin 2 → Nat) (hs : S4x2.Slices off S1x2)
    (r : Fin 4) (hoff : off = ![r.val, 0]) (e1 : rd V y = extractStridedSlice S1x2 off (rd V x) hs)
    (e2 : rd V z = fun i => shapeCast S2 (rd V y) shapeCasts_S1x2_S2 i) :
    IsKey V z (rd V x (Shape.pair (d := ![4, 2]) r (0 : Fin 2))) (rd V x (Shape.pair (d := ![4, 2]) r (1 : Fin 2))) := by
  subst hoff
  constructor <;> unfold wd <;> rw [e2, e1]
  · exact row_at rfl _ _ hs i0 (Shape.pair (d := ![4, 2]) r (0 : Fin 2)) fun a => by fin_cases a <;> rfl
  · exact row_at rfl _ _ hs i1 (Shape.pair (d := ![4, 2]) r (1 : Fin 2)) fun a => by fin_cases a <;> rfl

theorem select_off (c : BitVec 1) (h : ¬ c = 1#1) (x y : BitVec 32) : Scalar.select c x y = y := if_neg h

theorem select_guard (c : BitVec 1) (x y : BitVec 32) : Scalar.select (IntOp.andi 0#1 c) x y = y := by
  have e : IntOp.andi 0#1 c = 0#1 := BitVec.zero_and
  rw [e]; exact if_neg (by decide)

theorem randint_spec (V : Vl) (arg0 : Wd S2) (arg1 arg2 : Wd S_) (φ : fn_randint.Bufs) (h : Holds V (randintL arg0 arg1 arg2 φ)) (a b : BitVec 32)
    (hk : IsKey V arg0 a b) (hlo : rd V arg1 = constantI S_ 32 0#32) (hhi : rd V arg2 = constantI S_ 32 4096#32) (i : S128.Idx) :
    wd V φ.v65 i = pickInt 0#32 4096#32 0#32 (bitsB (sub a b 0).1 (sub a b 0).2 ((i 0).val))
      (bitsB (sub a b 1).1 (sub a b 1).2 ((i 0).val)) := by
  simp only [randintL, holds_append] at h
  obtain ⟨g0, g1, g2, g3, g4, g5, g6, g7, g8, g9, g10, g11, g12⟩ := h
  have r0 := split2_spec V _ _ g7 0
  have r1 := split2_spec V _ _ g7 1
  rw [hk.1, hk.2] at r0 r1
  simp only [clipL, clip1L, holds_cons, holds_nil, nul_eqn, un_eqn, bin_eqn, ter_eqn, rsh_eqn, id] at g0 g1 g2 g3 g4 g5 g6 g8 g10 g12
  obtain ⟨c, c_0, c_1, -⟩ := g0
  obtain ⟨x0, x1, -⟩ := g1
  obtain ⟨v1, c_2, c_3, -⟩ := g2
  obtain ⟨y0, y1, -⟩ := g3
  obtain ⟨v3, c_4, c_5, -⟩ := g4
  obtain ⟨z0, z1, -⟩ := g5
  obtain ⟨v5, v6, v7, -⟩ := g6
  obtain ⟨pv9, pv10, pv11, pv12, pv13, pv14, pv15, pv16, pv17, pc_6, pv18, pv19, pc_7, pv20, pv21, pv22, pv23, -⟩ := g8
  obtain ⟨qv25, qv26, qv27, qv28, qv29, qv30, qc_8, qv31, qv32, qc_9, qv33, qv34, qv35, qv36, -⟩ := g10
  obtain ⟨wv38, wv39, wv40, wv41, wc_10, wv42, wv43, wv44, wv45, wv46, wc_11, wv47, wv48, wv49, wc_12, wv50, wv51, wv52, wv53, wv54, wv55, wv56, wv57, wv58, wv59, wv60, wv61, wv62, wv63, wv64, wv65, -⟩ := g12
  have cA : rd V φ.v19 i = BitVec.ofNat 64 ((i 0).val) := by
    rw [pv19, pv18, pc_6, pv17]; exact one_mul_ofNat _
  have lA : wd V φ.v22 i = BitVec.ofNat 32 ((i 0).val) := by
    unfold wd; rw [pv22]; exact (congrArg (BitVec.setWidth 32) cA).trans (cut _)
  have hA : wd V φ.v23 i = 0#32 := by
    unfold wd; rw [pv23, pv21, pv20, pc_7]
    exact (congrArg (fun n => BitVec.setWidth 32 (IntOp.shrui .host n 32#64)) cA).trans
      (high _ (Nat.lt_trans ((show (i 0).val < 128 from (i 0).isLt)) (by decide)))
  have kA := key_row2 V _ _ φ.v10 _ _ 0 rfl pv9 pv10
  rw [show rd V φ.call3.v14 _ = _ from r0.1, show rd V φ.call3.v14 _ = _ from r0.2] at kA
  have BA := bits_at V _ _ φ.v10 _ _ _ _ _ _ kA
    (by unfold wd; rw [pv14, pv13]; exact half_0 _ _) (by unfold wd; rw [pv16, pv15]; exact half_1 _ _) g9 i _ hA lA
  have cB : rd V φ.v32 i = BitVec.ofNat 64 ((i 0).val) := by
    rw [qv32, qv31, qc_8, qv30]; exact one_mul_ofNat _
  have lB : wd V φ.v35 i = BitVec.ofNat 32 ((i 0).val) := by
    unfold wd; rw [qv35]; exact (congrArg (BitVec.setWidth 32) cB).trans (cut _)
  have hB : wd V φ.v36 i = 0#32 := by
    unfold wd; rw [qv36, qv34, qv33, qc_9]
    exact (congrArg (fun n => BitVec.setWidth 32 (IntOp.shrui .host n 32#64)) cB).trans
      (high _ (Nat.lt_trans ((show (i 0).val < 128 from (i 0).isLt)) (by decide)))
  have kB := key_row2 V _ _ φ.v12 _ _ 1 rfl pv11 pv12
  rw [show rd V φ.call3.v14 _ = _ from r1.1, show rd V φ.call3.v14 _ = _ from r1.2] at kB
  have BB := bits_at V _ _ φ.v12 _ _ _ _ _ _ kB
    (by unfold wd; rw [qv27, qv26]; exact half_0 _ _) (by unfold wd; rw [qv29, qv28]; exact half_1 _ _) g11 i _ hB lB
  have gh : rd V φ.v25 i = bitsB (sub a b 0).1 (sub a b 0).2 ((i 0).val) := by rw [qv25]; exact BA
  have gl : rd V φ.v38 i = bitsB (sub a b 1).1 (sub a b 1).2 ((i 0).val) := by rw [wv38]; exact BB
  have lo : rd V φ.v6 = constantI S1 32 0#32 := by
    rw [v6, v3, y1, y0, c_2, c_3, hlo]; exact funext fun _ => (by decide +kernel : IntOp.minsi 2147483647#32 (IntOp.maxsi 2147483648#32 0#32) = 0#32)
  have up : rd V φ.v7 = constantI S1 32 4096#32 := by
    rw [v7, v5, z1, z0, c_4, c_5, hhi]; exact funext fun _ => (by decide +kernel : IntOp.minsi 2147483647#32 (IntOp.maxsi 2147483648#32 4096#32) = 4096#32)
  have guard : rd V φ.v1 = constantI S_ 1 0#1 := by
    rw [v1, x1, x0, c, c_0, c_1, hhi]; exact funext fun _ => (by decide +kernel : IntOp.cmpi .sgt 4096#32 (IntOp.minsi 2147483647#32 (IntOp.maxsi 2147483648#32 2147483647#32)) = 0#1)
  have span : rd V φ.v49 = constantI S1 32 4096#32 := by
    rw [wv49, wv46, wv45, guard, wv44, wv43, wv41, wv40, wv39, lo, up]; funext j
    exact (select_guard _ _ _).trans ((select_off (IntOp.cmpi .sle 4096#32 0#32) (by decide) (rd V φ.v42 j) (IntOp.subi 4096#32 0#32)).trans (by decide : IntOp.subi 4096#32 0#32 = 4096#32))
  have mult : rd V φ.v53 = constantI S1 32 0#32 := by
    rw [wv53, wv52, wv51, span, wv50, wc_12]; funext j
    show IntOp.remui .host (IntOp.muli (IntOp.remui .host 65536#32 4096#32) (IntOp.remui .host 65536#32 4096#32)) 4096#32 = 0#32
    decide
  unfold wd
  rw [wv65, wv64, wv63, wv62, wv61, wv60, wv59, wv58, wv57, wv56, wv55, wv54, mult, span, lo]
  exact congr (congrArg (pickInt 0#32 4096#32 0#32) gh) gl

theorem randint5_spec (V : Vl) (arg0 : Wd S2) (arg1 arg2 : Wd S_) (φ : fn_randint_5.Bufs) (h : Holds V (randint5L arg0 arg1 arg2 φ)) (a b : BitVec 32)
    (hk : IsKey V arg0 a b) (hlo : rd V arg1 = constantI S_ 32 999#32) (hhi : rd V arg2 = constantI S_ 32 30522#32) (i : S128x4096.Idx) :
    wd V φ.v73 i = pickInt 999#32 29523#32 20302#32 (bitsB (sub a b 0).1 (sub a b 0).2 (place i))
      (bitsB (sub a b 1).1 (sub a b 1).2 (place i)) := by
  simp only [randint5L, holds_append] at h
  obtain ⟨g0, g1, g2, g3, g4, g5, g6, g7, g8, g9, g10, g11, g12⟩ := h
  have r0 := split2_spec V _ _ g7 0
  have r1 := split2_spec V _ _ g7 1
  rw [hk.1, hk.2] at r0 r1
  simp only [clipL, clip1L, holds_cons, holds_nil, nul_eqn, un_eqn, bin_eqn, ter_eqn, rsh_eqn, id] at g0 g1 g2 g3 g4 g5 g6 g8 g10 g12
  obtain ⟨c, c_0, c_1, -⟩ := g0
  obtain ⟨x0, x1, -⟩ := g1
  obtain ⟨v1, c_2, c_3, -⟩ := g2
  obtain ⟨y0, y1, -⟩ := g3
  obtain ⟨v3, c_4, c_5, -⟩ := g4
  obtain ⟨z0, z1, -⟩ := g5
  obtain ⟨v5, v6, v7, -⟩ := g6
  obtain ⟨pv9, pv10, pv11, pv12, pv13, pv14, pv15, pv16, pv17, pv18, pc_6, pv19, pv20, pc_7, pv21, pv22, pv23, pc_8, pv24, pv25, pv26, pv27, -⟩ := g8
  obtain ⟨qv29, qv30, qv31, qv32, qv33, qv34, qv35, qc_9, qv36, qv37, qc_10, qv38, qv39, qv40, qc_11, qv41, qv42, qv43, qv44, -⟩ := g10
  obtain ⟨wv46, wv47, wv48, wv49, wc_12, wv50, wv51, wv52, wv53, wv54, wc_13, wv55, wv56, wv57, wc_14, wv58, wv59, wv60, wv61, wv62, wv63, wv64, wv65, wv66, wv67, wv68, wv69, wv70, wv71, wv72, wv73, -⟩ := g12
  have cA : rd V φ.v23 i = BitVec.ofNat 64 (place i) := by
    rw [pv23, pv20, pv19, pc_6, pv17, pv22, pv21, pc_7, pv18]; exact count_place _ _
  have lA : wd V φ.v26 i = BitVec.ofNat 32 (place i) := by
    unfold wd; rw [pv26]; exact (congrArg (BitVec.setWidth 32) cA).trans (cut _)
  have hA : wd V φ.v27 i = 0#32 := by
    unfold wd; rw [pv27, pv25, pv24, pc_8]
    exact (congrArg (fun n => BitVec.setWidth 32 (IntOp.shrui .host n 32#64)) cA).trans
      (high _ (Nat.lt_trans (place_lt i) (by decide)))
  have kA := key_row2 V _ _ φ.v10 _ _ 0 rfl pv9 pv10
  rw [show rd V φ.call3.v14 _ = _ from r0.1, show rd V φ.call3.v14 _ = _ from r0.2] at kA
  have BA := bits_at V _ _ φ.v10 _ _ _ _ _ _ kA
    (by unfold wd; rw [pv14, pv13]; exact half_0 _ _) (by unfold wd; rw [pv16, pv15]; exact half_1 _ _) g9 i _ hA lA
  have cB : rd V φ.v40 i = BitVec.ofNat 64 (place i) := by
    rw [qv40, qv37, qv36, qc_9, qv34, qv39, qv38, qc_10, qv35]; exact count_place _ _
  have lB : wd V φ.v43 i = BitVec.ofNat 32 (place i) := by
    unfold wd; rw [qv43]; exact (congrArg (BitVec.setWidth 32) cB).trans (cut _)
  have hB : wd V φ.v44 i = 0#32 := by
    unfold wd; rw [qv44, qv42, qv41, qc_11]
    exact (congrArg (fun n => BitVec.setWidth 32 (IntOp.shrui .host n 32#64)) cB).trans
      (high _ (Nat.lt_trans (place_lt i) (by decide)))
  have kB := key_row2 V _ _ φ.v12 _ _ 1 rfl pv11 pv12
  rw [show rd V φ.call3.v14 _ = _ from r1.1, show rd V φ.call3.v14 _ = _ from r1.2] at kB
  have BB := bits_at V _ _ φ.v12 _ _ _ _ _ _ kB
    (by unfold wd; rw [qv31, qv30]; exact half_0 _ _) (by unfold wd; rw [qv33, qv32]; exact half_1 _ _) g11 i _ hB lB
  have gh : rd V φ.v29 i = bitsB (sub a b 0).1 (sub a b 0).2 (place i) := by rw [qv29]; exact BA
  have gl : rd V φ.v46 i = bitsB (sub a b 1).1 (sub a b 1).2 (place i) := by rw [wv46]; exact BB
  have lo : rd V φ.v6 = constantI S1x1 32 999#32 := by
    rw [v6, v3, y1, y0, c_2, c_3, hlo]; exact funext fun _ => (by decide +kernel : IntOp.minsi 2147483647#32 (IntOp.maxsi 2147483648#32 999#32) = 999#32)
  have up : rd V φ.v7 = constantI S1x1 32 30522#32 := by
    rw [v7, v5, z1, z0, c_4, c_5, hhi]; exact funext fun _ => (by decide +kernel : IntOp.minsi 2147483647#32 (IntOp.maxsi 2147483648#32 30522#32) = 30522#32)
  have guard : rd V φ.v1 = constantI S_ 1 0#1 := by
    rw [v1, x1, x0, c, c_0, c_1, hhi]; exact funext fun _ => (by decide +kernel : IntOp.cmpi .sgt 30522#32 (IntOp.minsi 2147483647#32 (IntOp.maxsi 2147483648#32 2147483647#32)) = 0#1)
  have span : rd V φ.v57 = constantI S1x1 32 29523#32 := by
    rw [wv57, wv54, wv53, guard, wv52, wv51, wv49, wv48, wv47, lo, up]; funext j
    exact (select_guard _ _ _).trans ((select_off (IntOp.cmpi .sle 30522#32 999#32) (by decide) (rd V φ.v50 j) (IntOp.subi 30522#32 999#32)).trans (by decide : IntOp.subi 30522#32 999#32 = 29523#32))
  have mult : rd V φ.v61 = constantI S1x1 32 20302#32 := by
    rw [wv61, wv60, wv59, span, wv58, wc_14]; funext j
    show IntOp.remui .host (IntOp.muli (IntOp.remui .host 65536#32 29523#32) (IntOp.remui .host 65536#32 29523#32)) 29523#32 = 20302#32
    decide
  unfold wd
  rw [wv73, wv72, wv71, wv70, wv69, wv68, wv67, wv66, wv65, wv64, wv63, wv62, mult, span, lo]
  exact congr (congrArg (pickInt 999#32 29523#32 20302#32) gh) gl

end Cert.Masker

end
-- ==== Proof.Floats.lean ====
/- The reference's uniform numbers as real numbers, and their comparisons with the probabilities. -/
module

public import proofs.«01_k».proof.Proof.Draws
import Mathlib.Tactic.NormNum
import Mathlib.Tactic.Linarith

@[expose] public section

noncomputable section

namespace Cert.Masker

open Idealize.ShloMosaic

/-- The word of a number from one to two with the fraction `m`. -/
theorem fraction_word (w : BitVec 32) : (w >>> 9 ||| 1065353216#32).toNat = 1065353216 + (w >>> 9).toNat := by
  have hm : (w >>> 9).toNat < 2 ^ 23 := by
    have e : (w >>> 9).toNat = w.toNat / 2 ^ 9 := by rw [BitVec.toNat_ushiftRight, Nat.shiftRight_eq_div_pow]
    have := w.isLt
    omega
  have e : (1065353216#32).toNat = 127 <<< 23 := by decide
  rw [BitVec.toNat_or, e, Nat.or_comm, ← Nat.shiftLeft_add_eq_or_of_lt hm]
  exact congrArg (· + (w >>> 9).toNat) (by decide : 127 <<< 23 = 1065353216)

theorem frac_lt (w : BitVec 32) : (w >>> 9).toNat < 2 ^ 23 := by
  have e : (w >>> 9).toNat = w.toNat / 2 ^ 9 := by rw [BitVec.toNat_ushiftRight, Nat.shiftRight_eq_div_pow]
  have := w.isLt
  omega

/-- The number from one to two whose fraction the first 23 bits of a word are. -/
theorem ofBits_fraction (w : BitVec 32) :
    Ideal.ofBits .f32 (w >>> 9 ||| 1065353216#32) = (((2 ^ 23 + (w >>> 9).toNat : Nat) / 2 ^ 23 : ℝ) : EReal) := by
  have hm := frac_lt w
  have hu := fraction_word w
  generalize (w >>> 9 ||| 1065353216#32) = u at hu
  generalize (w >>> 9).toNat = m at hm hu
  have ex : (u.extractLsb' 23 8).toNat = 127 := by
    rw [BitVec.extractLsb'_toNat, Nat.shiftRight_eq_div_pow]; omega
  have fr : (u.extractLsb' 0 23).toNat = m := by
    rw [BitVec.extractLsb'_toNat, Nat.shiftRight_eq_div_pow]; omega
  have ng : u.extractLsb' 31 1 = 0#1 := by
    apply BitVec.eq_of_toNat_eq
    rw [BitVec.extractLsb'_toNat, Nat.shiftRight_eq_div_pow]
    show _ = 0
    omega
  show Ideal.ieee 8 23 u = _
  unfold Ideal.ieee
  simp only [ex, fr, ng]
  rw [if_neg (by norm_num), if_neg (by norm_num)]
  refine congrArg Real.toEReal ?_
  norm_num
  ring

theorem ofBits_zero : Ideal.ofBits .f32 0x00000000#32 = ((0 : ℝ) : EReal) := by simp [Ideal.ofBits, Ideal.ieee]
theorem ofBits_one : Ideal.ofBits .f32 0x3F800000#32 = ((1 : ℝ) : EReal) := by
  simp [Ideal.ofBits, Ideal.ieee, -EReal.coe_mul]; norm_num
theorem ofBits_pick : Ideal.ofBits .f32 0x3E19999A#32 = ((10066330 / 2 ^ 26 : ℝ) : EReal) := by
  simp [Ideal.ofBits, Ideal.ieee, -EReal.coe_mul]; norm_num
theorem ofBits_mask : Ideal.ofBits .f32 0x3F4CCCCD#32 = ((13421773 / 2 ^ 24 : ℝ) : EReal) := by
  simp [Ideal.ofBits, Ideal.ieee, -EReal.coe_mul]; norm_num
theorem ofBits_keep : Ideal.ofBits .f32 0x3F666666#32 = ((15099494 / 2 ^ 24 : ℝ) : EReal) := by
  simp [Ideal.ofBits, Ideal.ieee, -EReal.coe_mul]; norm_num

/-- A uniform number is its first 23 random bits over `2^23`. -/
theorem draw_eq (w : BitVec 32) : draw w = (((w >>> 9).toNat / 2 ^ 23 : ℝ) : EReal) := by
  unfold draw
  rw [ofBits_fraction, ofBits_zero, ofBits_one, ← EReal.coe_sub, ← EReal.coe_sub, ← EReal.coe_mul, ← EReal.coe_add]
  have e : ((2 ^ 23 + (w >>> 9).toNat : Nat) / 2 ^ 23 - 1 : ℝ) * ((1 : ℝ) - (0 : ℝ)) + (0 : ℝ) = ((w >>> 9).toNat / 2 ^ 23 : ℝ) := by
    push_cast; ring
  rw [e]
  apply max_eq_right
  rw [EReal.coe_le_coe_iff]
  positivity

/-- A uniform number is below a number `t / 2^k` just when its bits are below `T`. -/
theorem draw_lt (w : BitVec 32) (t : ℝ) (T : Nat) (h : ∀ m : Nat, (m / 2 ^ 23 : ℝ) < t ↔ m < T) :
    draw w < (t : EReal) ↔ (w >>> 9).toNat < T := by
  rw [draw_eq, EReal.coe_lt_coe_iff, h]

theorem pick_bound (m : Nat) : (m / 2 ^ 23 : ℝ) < 10066330 / 2 ^ 26 ↔ m < 1258292 := by
  have e : (m / 2 ^ 23 : ℝ) < 10066330 / 2 ^ 26 ↔ ((8 * m : Nat) : ℝ) < (10066330 : Nat) := by
    rw [div_lt_div_iff₀ (by norm_num) (by norm_num)]; push_cast
    constructor <;> intro h <;> nlinarith
  rw [e, Nat.cast_lt]; omega

theorem mask_bound (m : Nat) : (m / 2 ^ 23 : ℝ) < 13421773 / 2 ^ 24 ↔ m < 6710887 := by
  have e : (m / 2 ^ 23 : ℝ) < 13421773 / 2 ^ 24 ↔ ((2 * m : Nat) : ℝ) < (13421773 : Nat) := by
    rw [div_lt_div_iff₀ (by norm_num) (by norm_num)]; push_cast
    constructor <;> intro h <;> nlinarith
  rw [e, Nat.cast_lt]; omega

theorem keep_bound (m : Nat) : (m / 2 ^ 23 : ℝ) < 15099494 / 2 ^ 24 ↔ m < 7549747 := by
  have e : (m / 2 ^ 23 : ℝ) < 15099494 / 2 ^ 24 ↔ ((2 * m : Nat) : ℝ) < (15099494 : Nat) := by
    rw [div_lt_div_iff₀ (by norm_num) (by norm_num)]; push_cast
    constructor <;> intro h <;> nlinarith
  rw [e, Nat.cast_lt]; omega

theorem cmp_pick (w : BitVec 32) :
    Ideal.cmp .olt (draw w) (Ideal.ofBits .f32 0x3E19999A#32) = BitVec.ofBool (decide ((w >>> 9).toNat < 1258292)) := by
  unfold Ideal.cmp; rw [ofBits_pick]
  exact congrArg BitVec.ofBool (decide_eq_decide.2 (draw_lt w _ _ pick_bound))

theorem cmp_mask (w : BitVec 32) :
    Ideal.cmp .olt (draw w) (Ideal.ofBits .f32 0x3F4CCCCD#32) = BitVec.ofBool (decide ((w >>> 9).toNat < 6710887)) := by
  unfold Ideal.cmp; rw [ofBits_mask]
  exact congrArg BitVec.ofBool (decide_eq_decide.2 (draw_lt w _ _ mask_bound))

theorem cmp_other (w : BitVec 32) :
    Ideal.cmp .oge (draw w) (Ideal.ofBits .f32 0x3F4CCCCD#32) = BitVec.ofBool (decide ¬ (w >>> 9).toNat < 6710887) := by
  unfold Ideal.cmp; rw [ofBits_mask]
  exact congrArg BitVec.ofBool (decide_eq_decide.2 (not_lt.symm.trans (not_congr (draw_lt w _ _ mask_bound))))

theorem cmp_keep (w : BitVec 32) :
    Ideal.cmp .olt (draw w) (Ideal.ofBits .f32 0x3F666666#32) = BitVec.ofBool (decide ((w >>> 9).toNat < 7549747)) := by
  unfold Ideal.cmp; rw [ofBits_keep]
  exact congrArg BitVec.ofBool (decide_eq_decide.2 (draw_lt w _ _ keep_bound))

end Cert.Masker

end
-- ==== Proof.Tables.lean ====
/- The words that the kernel's tables should hold, place by place, and the two tables that it stores. -/
module

public import proofs.«01_k».proof.KernelIdeal
public import proofs.«01_k».proof.Proof.Model

@[expose] public section

set_option maxRecDepth 100000

noncomputable section

namespace Cert.Masker

open Cert.KernelIdeal

/-- The first 23 bits drawn at place `i` for the choice of candidates. -/
def pickN (i : Nat) : Nat := Nat.shiftRight (bitsN 1832780943 270669613 1724713080 i) 9

/-- The first 23 bits drawn at place `i` for the choice of a replacement. -/
def kindN (i : Nat) : Nat := Nat.shiftRight (bitsN 2465931498 255383827 2249384483 i) 9

/-- The random token drawn at place `i`. -/
def tokenN (i : Nat) : Nat :=
  Nat.add 999 (Nat.mod (Nat.add (Nat.mul (Nat.mod (bitsN 2463158877 4047937370 2017941213 i) 29523) 20302)
    (Nat.mod (bitsN 1914800406 1741898942 237229682 i) 29523)) 29523)

/-- The replacement at place `i` as a 16-bit word: the mask token, a random token, or -2, which keeps the token. -/
def replN (i : Nat) : Nat :=
  cond (Nat.blt (kindN i) 6710887) 103 (cond (Nat.blt (kindN i) 7549747) (tokenN i) 65534)

/-- The 16-bit word for place `i`: the replacement at a candidate, -1 elsewhere. -/
def auxN (i : Nat) : Nat := cond (Nat.blt (pickN i) 1258292) (replN i) 65535

/-- The word that the kernel's large table should hold at place `i`. -/
def word (i : Nat) : BitVec 16 := BitVec.ofNat 16 (auxN i)

/-- The position that is forced in row `r`. -/
def posN (r : Nat) : Nat := Nat.mod (bitsN 2350016172 1168365246 3529550792 r) 4096

/-- The replacement at place `i` as a word of 32 bits. -/
def wideN (i : Nat) : Nat :=
  cond (Nat.blt (kindN i) 6710887) 103 (cond (Nat.blt (kindN i) 7549747) (tokenN i) 4294967294)

/-- The stored forced positions. -/
theorem forced_at : ∀ r : Fin 128, lit3 r = BitVec.ofNat 32 (posN r.val) := by decide +kernel

/-- The stored replacements at the forced positions. -/
theorem forced_word_at : ∀ r : Fin 128, lit4 r = BitVec.ofNat 32 (wideN (4096 * r.val + posN r.val)) := by decide +kernel

end Cert.Masker

end
-- ==== Proof.Meaning.lean ====
/- What the masker computes at each place: the random choices in natural numbers, and the two results from them. -/
module

public import proofs.«01_k».proof.Proof.Draws
public import proofs.«01_k».proof.Proof.Floats
public import proofs.«01_k».proof.Proof.Tables

@[expose] public section

noncomputable section

namespace Cert.Masker

open Cert.ReferenceIdeal Idealize.ShloMosaic Idealize.SL.Sem

/-- The place is among those that the masker picks. -/
def picked (n : Nat) : Bool := Nat.blt (pickN n) 1258292
/-- A picked place takes the mask's token. -/
def early (n : Nat) : Bool := Nat.blt (kindN n) 6710887
/-- A picked place does not keep its token. -/
def late (n : Nat) : Bool := Nat.blt (kindN n) 7549747

/-- The place is picked and holds a token. -/
def cand (tok : S128x4096.Idx → BitVec 32) (i : S128x4096.Idx) : Bool := picked (place i) && (tok i != 0#32)

/-- No place of the row is picked and holds a token. -/
def bare (tok : S128x4096.Idx → BitVec 32) (r : Fin 128) : Bool :=
  decide (∀ c : Fin 4096, cand tok (Shape.pair (d := ![128, 4096]) r c) = false)

/-- The place is masked: a candidate, or the one place of a row without candidates. -/
def chosen (tok : S128x4096.Idx → BitVec 32) (i : S128x4096.Idx) : Bool :=
  cand tok i || (bare tok (i 0) && (BitVec.ofNat 32 (posN (i 0).val) == BitVec.ofNat 32 (i 1).val))

/-- What a masked place holding `w` takes. -/
def fresh (n : Nat) (w : BitVec 32) : BitVec 32 := cond (early n) 103#32 (cond (late n) (BitVec.ofNat 32 (tokenN n)) w)

/-- The first result. -/
def filled (tok : S128x4096.Idx → BitVec 32) (i : S128x4096.Idx) : BitVec 32 := cond (chosen tok i) (fresh (place i) (tok i)) (tok i)

/-- The second result. -/
def label (tok : S128x4096.Idx → BitVec 32) (i : S128x4096.Idx) : BitVec 32 := cond (chosen tok i) (tok i) 4294967295#32

/-! ## Bits -/

theorem ofBool_and (a b : Bool) : IntOp.andi (BitVec.ofBool a) (BitVec.ofBool b) = BitVec.ofBool (a && b) := by
  cases a <;> cases b <;> rfl

theorem ofBool_or (a b : Bool) : IntOp.ori (BitVec.ofBool a) (BitVec.ofBool b) = BitVec.ofBool (a || b) := by
  cases a <;> cases b <;> rfl

theorem select_ofBool {α : Type} (c : Bool) (x y : α) : Scalar.select (BitVec.ofBool c) x y = cond c x y := by
  cases c <;> rfl

theorem ofBool_one (c : Bool) : BitVec.ofBool c = 1#1 ↔ c = true := by cases c <;> decide

theorem decide_blt (a b : Nat) : decide (a < b) = Nat.blt a b := by
  rw [Bool.eq_iff_iff, decide_eq_true_iff, Nat.blt_eq]

theorem decide_not_blt (a b : Nat) : decide (¬ a < b) = !Nat.blt a b := by
  rw [decide_not, decide_blt]

/-! ## The words of the generator, as numbers -/

theorem bits_num (a b : BitVec 32) (p q c : Nat) (hp : a.toNat = p) (hq : b.toNat = q) (hc : (key3 a b).toNat = c) (i : Nat)
    (h : i < 2 ^ 32) : (bitsB a b i).toNat = bitsN p q c i := by
  subst hp; subst hq; subst hc; exact (bitsN_eq a b i h).symm

theorem pick_num (i : Nat) (h : i < 2 ^ 32) : (bitsB 1832780943#32 270669613#32 i >>> 9).toNat = pickN i := by
  rw [BitVec.toNat_ushiftRight, bits_num _ _ 1832780943 270669613 1724713080 rfl rfl (by decide +kernel) i h]
  unfold pickN
  generalize bitsN 1832780943 270669613 1724713080 i = x
  rfl

theorem kind_num (i : Nat) (h : i < 2 ^ 32) : (bitsB 2465931498#32 255383827#32 i >>> 9).toNat = kindN i := by
  rw [BitVec.toNat_ushiftRight, bits_num _ _ 2465931498 255383827 2249384483 rfl rfl (by decide +kernel) i h]
  unfold kindN
  generalize bitsN 2465931498 255383827 2249384483 i = x
  rfl

theorem toNat_remui (x y : BitVec 32) (h : y ≠ 0) : (IntOp.remui .host x y).toNat = x.toNat % y.toNat := by
  unfold IntOp.remui; rw [if_neg h]; exact BitVec.toNat_umod

theorem pickInt_pos (h l : BitVec 32) (n : Nat) (e : l.toNat = n) : pickInt 0#32 4096#32 0#32 h l = BitVec.ofNat 32 (Nat.mod n 4096) := by
  subst e
  apply BitVec.eq_of_toNat_eq
  unfold pickInt IntOp.addi IntOp.muli
  rw [BitVec.zero_add, BitVec.mul_zero, BitVec.zero_add, toNat_remui _ _ (by decide), toNat_remui _ _ (by decide), BitVec.toNat_ofNat]
  show l.toNat % 4096 % 4096 = (l.toNat % 4096) % 2 ^ 32
  omega

theorem pickInt_token (h l : BitVec 32) (x y : Nat) (e : h.toNat = x) (f : l.toNat = y) :
    pickInt 999#32 29523#32 20302#32 h l
      = BitVec.ofNat 32 (Nat.add 999 (Nat.mod (Nat.add (Nat.mul (Nat.mod x 29523) 20302) (Nat.mod y 29523)) 29523)) := by
  apply BitVec.eq_of_toNat_eq
  unfold pickInt IntOp.addi IntOp.muli
  rw [BitVec.toNat_add, toNat_remui _ _ (by decide), BitVec.toNat_add, BitVec.toNat_mul, toNat_remui _ _ (by decide), toNat_remui _ _ (by decide), e, f,
    BitVec.toNat_ofNat]
  show (999 + ((x % 29523 * 20302) % 2 ^ 32 + y % 29523) % 2 ^ 32 % 29523) % 2 ^ 32 = (999 + (x % 29523 * 20302 + y % 29523) % 29523) % 2 ^ 32
  have hx := Nat.mod_lt x (show 29523 > 0 by decide)
  have hy := Nat.mod_lt y (show 29523 > 0 by decide)
  rw [Nat.mod_eq_of_lt (a := x % 29523 * 20302) (by omega), Nat.mod_eq_of_lt (a := x % 29523 * 20302 + y % 29523) (by omega)]

theorem pos_num (h : BitVec 32) (r : Nat) (hr : r < 2 ^ 32) :
    pickInt 0#32 4096#32 0#32 h (bitsB 2350016172#32 1168365246#32 r) = BitVec.ofNat 32 (posN r) :=
  pickInt_pos h _ _ (bits_num 2350016172#32 1168365246#32 2350016172 1168365246 3529550792 rfl rfl (by decide +kernel) r hr)

theorem token_num (i : Nat) (hi : i < 2 ^ 32) :
    pickInt 999#32 29523#32 20302#32 (bitsB 2463158877#32 4047937370#32 i) (bitsB 1914800406#32 1741898942#32 i) = BitVec.ofNat 32 (tokenN i) :=
  pickInt_token _ _ _ _
    (bits_num 2463158877#32 4047937370#32 2463158877 4047937370 2017941213 rfl rfl (by decide +kernel) i hi)
    (bits_num 1914800406#32 1741898942#32 1914800406 1741898942 237229682 rfl rfl (by decide +kernel) i hi)

theorem tokenN_lt (i : Nat) : tokenN i < 30522 ∧ 999 ≤ tokenN i := by
  unfold tokenN
  generalize bitsN 2463158877 4047937370 2017941213 i = x
  generalize bitsN 1914800406 1741898942 237229682 i = y
  show 999 + (x % 29523 * 20302 + y % 29523) % 29523 < 30522 ∧ 999 ≤ 999 + (x % 29523 * 20302 + y % 29523) % 29523
  omega

end Cert.Masker

end
-- ==== Proof.Reference.lean ====
/- What the reference leaves in its two results, place by place. -/
module

public import proofs.«01_k».proof.Proof.Meaning
public import proofs.«01_k».proof.Proof.Run
public import Idealize.ShloMosaic.Lib.IndicatorCount
public import Idealize.ShloMosaic.PureOps.Reduce

@[expose] public section

set_option maxRecDepth 10000

noncomputable section

namespace Cert.Masker

open Cert.ReferenceIdeal Cert.ReferenceIdeal.Facts₀ Idealize.ShloMosaic Idealize.ShloMosaic.TcCoe Idealize.SL.Sem

/-- Two words side by side are a key. -/
theorem key_pair (V : Vl) (z : Wd S2) (p q : S1.Idx → BitVec 32) (x y : BitVec 32) (hp : ∀ j, p j = x) (hq : ∀ j, q j = y)
    (e : rd V z = concatenate S2 0 [⟨S1, p⟩, ⟨S1, q⟩] concatenates_S1_S1_S2_d0) : IsKey V z x y := by
  constructor <;> unfold wd <;> rw [e]
  · exact (concatenate_pair_apply_left (t := S2) 0 p q concatenates_S1_S1_S2_d0 i0 rfl (fun a => ⟨0, by fin_cases a; decide⟩) fun b => by fin_cases b; rfl).trans (hp _)
  · refine (concatenate_pair_apply_right (t := S2) 0 p q concatenates_S1_S1_S2_d0 i1 rfl rfl (fun a => ⟨0, by fin_cases a; decide⟩) (fun b hb => ?_) ?_).trans (hq _)
    · fin_cases b; exact absurd rfl hb
    · rfl

theorem reduces_row : S128x4096.Reduces [1] S128 := by decide

/-- A place of a row, put together from the row and the column. -/
theorem lift_row (j : S128.Idx) (k : Fin 4096) : reduces_row.lift j k = Shape.pair (d := ![128, 4096]) (j 0) k := by
  funext a
  fin_cases a <;> rfl

/-- A count of columns is zero when no column counts. -/
theorem zero_count (p : Fin 4096 → Bool) :
    IntOp.cmpi .eq (BitVec.ofNat 32 ((Finset.univ : Finset (Fin 4096)).filter fun k => BitVec.ofBool (p k) = 1#1).card) 0#32
      = BitVec.ofBool (decide (∀ c, p c = false)) := by
  refine congrArg BitVec.ofBool ?_
  have small := Finset.card_filter_le (Finset.univ : Finset (Fin 4096)) fun k => BitVec.ofBool (p k) = 1#1
  rw [Finset.card_univ, Fintype.card_fin] at small
  rw [Bool.eq_iff_iff, beq_iff_eq, decide_eq_true_iff]
  constructor
  · intro h
    have z := congrArg BitVec.toNat h
    rw [BitVec.toNat_ofNat, Nat.mod_eq_of_lt (Nat.lt_of_le_of_lt small (by decide : 4096 < 2 ^ 32))] at z
    have z' := Finset.card_eq_zero.1 z
    intro c
    exact Bool.eq_false_iff.2 fun t => (Finset.filter_eq_empty_iff.1 z' (Finset.mem_univ c)) ((ofBool_one _).2 t)
  · intro h
    rw [Finset.filter_eq_empty_iff.2 fun k _ t => absurd ((ofBool_one _).1 t) (by rw [h k]; decide)]
    rfl

/-- The count of a row's candidates is zero when there is none. -/
theorem row_empty (x : S128x4096.Idx → BitVec 32) (tok : S128x4096.Idx → BitVec 32)
    (hx : ∀ i, x i = (BitVec.ofBool (cand tok i)).setWidth 32) (init : S_.Idx → BitVec 32) (hi : init = fun _ => 0#32) (j : S128.Idx) :
    IntOp.cmpi .eq (Host.reduce IntOp.addi x init reducesTo_S128x4096_S128_d1 h_S_ j) 0#32 = BitVec.ofBool (bare tok (j 0)) := by
  subst hi
  have e : x ∘ reduces_row.lift j = fun k : Fin 4096 => (BitVec.ofBool (cand tok (Shape.pair (d := ![128, 4096]) (j 0) k))).setWidth 32 :=
    funext fun k => (hx _).trans (congrArg (fun p => (BitVec.ofBool (cand tok p)).setWidth 32) (lift_row j k))
  refine Eq.trans (congrArg (fun w => IntOp.cmpi .eq w 0#32) ?_) (zero_count fun k => cand tok (Shape.pair (d := ![128, 4096]) (j 0) k))
  refine (Host.reduce_eq_fold_single IntOp.addi x (fun _ => 0#32) reducesTo_S128x4096_S128_d1 reduces_row h_S_ j).trans ?_
  refine (congrArg (fun g => (Finset.univ : Finset (Fin 4096)).fold IntOp.addi (0#32) g) e).trans ?_
  exact IndicatorCount.fold_addi_setWidth_eq_card _ _

/-- The place of a row among the rows. -/
abbrev row (r : Fin 128) : S128.Idx := fun a => ⟨r.val, by fin_cases a; exact r.isLt⟩

theorem fill_cases (c e l : Bool) (x w : BitVec 32) :
    cond ((c && !e) && l) x (cond (c && e) 103#32 w) = cond c (cond e 103#32 (cond l x w)) w := by
  cases c <;> cases e <;> cases l <;> rfl

theorem pos_word (r : Nat) (hr : r < 128) :
    pickInt 0#32 4096#32 0#32 (bitsB (sub 64467757#32 2916123636#32 0).1 (sub 64467757#32 2916123636#32 0).2 r)
      (bitsB (sub 64467757#32 2916123636#32 1).1 (sub 64467757#32 2916123636#32 1).2 r) = BitVec.ofNat 32 (posN r) := by
  have e : sub 64467757#32 2916123636#32 1 = (2350016172#32, 1168365246#32) := by decide +kernel
  rw [e]
  exact pos_num _ _ (Nat.lt_trans hr (by decide))

theorem token_word (n : Nat) (hn : n < 2 ^ 32) :
    pickInt 999#32 29523#32 20302#32 (bitsB (sub 3134548294#32 894150801#32 0).1 (sub 3134548294#32 894150801#32 0).2 n)
      (bitsB (sub 3134548294#32 894150801#32 1).1 (sub 3134548294#32 894150801#32 1).2 n) = BitVec.ofNat 32 (tokenN n) := by
  have e : sub 3134548294#32 894150801#32 0 = (2463158877#32, 4047937370#32) := by decide +kernel
  have f : sub 3134548294#32 894150801#32 1 = (1914800406#32, 1741898942#32) := by decide +kernel
  rw [e, f]
  exact token_num _ hn

/-- The two results of the reference, when it is asked for a mask probability of 0.15. -/
theorem reference_value (V : Vl) (h : Holds V mainL)
    (hp : rd V (.of main_arg1 : StableHlo.TRef sig ⟨S_, .f32⟩) o_ = Ideal.ofBits .f32 0x3E19999A#32) (i : S128x4096.Idx) :
    rd V (.of main_v47 : Wd S128x4096) i = filled (rd V (.of main_arg0 : Wd S128x4096)) i
    ∧ rd V (.of main_v34 : Wd S128x4096) i = label (rd V (.of main_arg0 : Wd S128x4096)) i := by
  simp only [mainL, holds_append] at h
  obtain ⟨h0, g0, h1, g1, h2, g2, g3, h3, g4, h4, g5, h5, g6, h6, g7, h7, g8⟩ := h
  simp only [whereL, where6L, where7L, holds_cons, holds_nil, nul_eqn, un_eqn, bin_eqn, ter_eqn, rsh_eqn, id] at h0 h1 h2 h3 g4 h4 h5 h6 g7 h7 g8
  obtain ⟨c, c_0, v0, v1, v2, c_1, v3, v4, v5, v6, -⟩ := h0
  obtain ⟨v8, v9, v10, v11, v12, v13, v14, v15, cst, cst_2, -⟩ := h1
  obtain ⟨v17, v18, c_3, v19, v20, v21, v22, c_4, v23, c_5, v24, v25, c_6, c_7, -⟩ := h2
  obtain ⟨v28, v29, v30, v31, c_8, v32, v33, -⟩ := h3
  obtain ⟨v34, -⟩ := g4
  obtain ⟨cst_9, cst_10, -⟩ := h4
  obtain ⟨c_11, c_12, -⟩ := h5
  obtain ⟨cst_13, v37, v38, v39, c_14, -⟩ := h6
  obtain ⟨w40, v40, -⟩ := g7
  obtain ⟨cst_15, v41, v42, v43, cst_16, v44, v45, v46, -⟩ := h7
  obtain ⟨v47, -⟩ := g8
  have key := key_pair V _ _ _ 0#32 42#32 (fun j => by rw [v2, v1, v0, c, c_0]; show IntOp.shrui .host 42#32 32#32 = 0#32; decide)
    (fun j => by rw [v5, v4, v3, c, c_1]; show IntOp.andi 42#32 4294967295#32 = 42#32; decide) v6
  have s0 := split4_spec V _ _ g0 0
  have s1 := split4_spec V _ _ g0 1
  have s2 := split4_spec V _ _ g0 2
  have s3 := split4_spec V _ _ g0 3
  rw [key.1, key.2] at s0 s1 s2 s3
  have t0 : threefry 0#32 42#32 0 (BitVec.ofNat 32 0) = (1832780943#32, 270669613#32) := by decide +kernel
  have t1 : threefry 0#32 42#32 0 (BitVec.ofNat 32 1) = (64467757#32, 2916123636#32) := by decide +kernel
  have t2 : threefry 0#32 42#32 0 (BitVec.ofNat 32 2) = (2465931498#32, 255383827#32) := by decide +kernel
  have t3 : threefry 0#32 42#32 0 (BitVec.ofNat 32 3) = (3134548294#32, 894150801#32) := by decide +kernel
  have k1 : IsKey V (.of main_v9) 1832780943#32 270669613#32 := by
    have k := key_row4 V (.of main_v7) (.of main_v8) (.of main_v9) _ _ 0 rfl v8 v9
    exact ⟨k.1.trans (s0.1.trans (congrArg Prod.fst t0)), k.2.trans (s0.2.trans (congrArg Prod.snd t0))⟩
  have k2 : IsKey V (.of main_v11) 64467757#32 2916123636#32 := by
    have k := key_row4 V (.of main_v7) (.of main_v10) (.of main_v11) _ _ 1 rfl v10 v11
    exact ⟨k.1.trans (s1.1.trans (congrArg Prod.fst t1)), k.2.trans (s1.2.trans (congrArg Prod.snd t1))⟩
  have k3 : IsKey V (.of main_v13) 2465931498#32 255383827#32 := by
    have k := key_row4 V (.of main_v7) (.of main_v12) (.of main_v13) _ _ 2 rfl v12 v13
    exact ⟨k.1.trans (s2.1.trans (congrArg Prod.fst t2)), k.2.trans (s2.2.trans (congrArg Prod.snd t2))⟩
  have k4 : IsKey V (.of main_v15) 3134548294#32 894150801#32 := by
    have k := key_row4 V (.of main_v7) (.of main_v14) (.of main_v15) _ _ 3 rfl v14 v15
    exact ⟨k.1.trans (s3.1.trans (congrArg Prod.fst t3)), k.2.trans (s3.2.trans (congrArg Prod.snd t3))⟩
  have hs := fun i : S128x4096.Idx => Nat.lt_trans (place_lt i) (by decide : 524288 < 2 ^ 32)
  have d16 : ∀ i, rd V (.of main_v16 : StableHlo.TRef sig ⟨S128x4096, .f32⟩) i = draw (bitsB 1832780943#32 270669613#32 (place i)) :=
    fun i => uniform_spec V _ _ _ main_call1 g1 _ _ k1 cst cst_2 i
  have d35 : ∀ i, rd V (.of main_v35 : StableHlo.TRef sig ⟨S128x4096, .f32⟩) i = draw (bitsB 2465931498#32 255383827#32 (place i)) :=
    fun i => uniform_spec V _ _ _ main_call5 g5 _ _ k3 cst_9 cst_10 i
  have p18 : ∀ i, rd V (.of main_v18 : StableHlo.TRef sig ⟨S128x4096, .i1⟩) i = BitVec.ofBool (picked (place i)) := fun i => by
    rw [v18, v17]
    refine (congr (congrArg (Ideal.cmp .olt) (d16 i)) ((bcast_at bcast_S_S128x4096 _ i).trans hp)).trans ((cmp_pick _).trans ?_)
    rw [pick_num _ (hs i), decide_blt]; rfl
  have p38 : ∀ i, rd V (.of main_v38 : StableHlo.TRef sig ⟨S128x4096, .i1⟩) i = BitVec.ofBool (early (place i)) := fun i => by
    rw [v38, v37, cst_13]
    refine (congrArg (fun w => Ideal.cmp .olt w (Ideal.ofBits .f32 0x3F4CCCCD#32)) (d35 i)).trans ((cmp_mask _).trans ?_)
    rw [kind_num _ (hs i), decide_blt]; rfl
  have p42 : ∀ i, rd V (.of main_v42 : StableHlo.TRef sig ⟨S128x4096, .i1⟩) i = BitVec.ofBool (!early (place i)) := fun i => by
    rw [v42, v41, cst_15]
    refine (congrArg (fun w => Ideal.cmp .oge w (Ideal.ofBits .f32 0x3F4CCCCD#32)) (d35 i)).trans ((cmp_other _).trans ?_)
    rw [kind_num _ (hs i), decide_not_blt]; rfl
  have p45 : ∀ i, rd V (.of main_v45 : StableHlo.TRef sig ⟨S128x4096, .i1⟩) i = BitVec.ofBool (late (place i)) := fun i => by
    rw [v45, v44, cst_16]
    refine (congrArg (fun w => Ideal.cmp .olt w (Ideal.ofBits .f32 0x3F666666#32)) (d35 i)).trans ((cmp_keep _).trans ?_)
    rw [kind_num _ (hs i), decide_blt]; rfl
  have p21 : ∀ i, rd V (.of main_v21 : StableHlo.TRef sig ⟨S128x4096, .i1⟩) i = BitVec.ofBool (cand (rd V (.of main_arg0 : Wd S128x4096)) i) := fun i => by
    rw [v21, v20, v19, c_3]
    exact (congrArg (fun w => IntOp.andi w (BitVec.ofBool (rd V (.of main_arg0 : Wd S128x4096) i != 0#32))) (p18 i)).trans (ofBool_and _ _)
  have p25 : ∀ j, rd V (.of main_v25 : StableHlo.TRef sig ⟨S128, .i1⟩) j = BitVec.ofBool (bare (rd V (.of main_arg0 : Wd S128x4096)) (j 0)) := fun j => by
    rw [v25, v24, v23, c_5]
    refine row_empty _ _ (fun i => ?_) _ c_4 j
    rw [v22]; exact congrArg (BitVec.setWidth 32) (p21 i)
  have p27 : ∀ i, rd V (.of main_v27 : StableHlo.TRef sig ⟨S128x4096, .i1⟩) i
      = BitVec.ofBool (BitVec.ofNat 32 (posN (i 0).val) == BitVec.ofNat 32 (i 1).val) := fun i => by
    have o := one_hot_spec V _ main_call3 g3 i (row (i 0)) rfl
    have q := randint_spec V _ _ _ main_call2 g2 _ _ k2 c_6 c_7 (row (i 0))
    have q' : wd V (.of main_v26 : Wd S128) (row (i 0)) = BitVec.ofNat 32 (posN (i 0).val) := by
      exact q.trans (pos_word _ (i 0).isLt)
    exact o.trans (congrArg (fun w => IntOp.cmpi .eq w (BitVec.ofNat 32 (i 1).val)) q')
  have p31 : ∀ i, rd V (.of main_v31 : StableHlo.TRef sig ⟨S128x4096, .i1⟩) i = BitVec.ofBool (chosen (rd V (.of main_arg0 : Wd S128x4096)) i) := fun i => by
    have p29 : rd V (.of main_v29 : StableHlo.TRef sig ⟨S128x4096, .i1⟩) i = BitVec.ofBool (bare (rd V (.of main_arg0 : Wd S128x4096)) (i 0)) := by
      rw [v29, v28]; exact (spread_row _ i (row (i 0)) rfl).trans (p25 (row (i 0)))
    rw [v31, v30]
    refine (congr (congrArg IntOp.ori (p21 i)) ((congr (congrArg IntOp.andi p29) (p27 i)).trans (ofBool_and _ _))).trans (ofBool_or _ _)
  have p36 : wd V (.of main_v36 : Wd S128x4096) i = BitVec.ofNat 32 (tokenN (place i)) := by
    exact (randint5_spec V _ _ _ main_call6 g6 _ _ k4 c_11 c_12 i).trans (token_word _ (hs i))
  constructor
  · have p40 : rd V (.of main_v40 : Wd S128x4096) i = cond (chosen (rd V (.of main_arg0 : Wd S128x4096)) i && early (place i)) 103#32
        (rd V (.of main_arg0 : Wd S128x4096) i) := by
      refine (congrFun v40 i).trans ?_
      have p39 : rd V (.of main_v39 : StableHlo.TRef sig ⟨S128x4096, .i1⟩) i
          = BitVec.ofBool (chosen (rd V (.of main_arg0 : Wd S128x4096)) i && early (place i)) := by
        rw [v39]; exact (congr (congrArg IntOp.andi (p31 i)) (p38 i)).trans (ofBool_and _ _)
      refine (congrArg (fun b => Scalar.select b _ _) p39).trans ((select_ofBool _ _ _).trans ?_)
      rw [w40, c_14]; rfl
    have p46 : rd V (.of main_v46 : StableHlo.TRef sig ⟨S128x4096, .i1⟩) i
        = BitVec.ofBool ((chosen (rd V (.of main_arg0 : Wd S128x4096)) i && !early (place i)) && late (place i)) := by
      rw [v46, v43]
      exact (congr (congrArg IntOp.andi ((congr (congrArg IntOp.andi (p31 i)) (p42 i)).trans (ofBool_and _ _))) (p45 i)).trans (ofBool_and _ _)
    refine (congrFun v47 i).trans ?_
    refine (congrArg (fun b => Scalar.select b _ _) p46).trans ((select_ofBool _ _ _).trans ?_)
    refine (congr (congrArg (cond _) p36) p40).trans ?_
    exact fill_cases _ _ _ _ _
  · refine (congrFun v34 i).trans ?_
    refine (congrArg (fun b => Scalar.select b _ _) (p31 i)).trans ((select_ofBool _ _ _).trans ?_)
    rw [v33, v32, c_8]; rfl

end Cert.Masker

end
-- ==== Proof.Body.lean ====
/- What the kernel's body leaves in a block of its two results, from the blocks it reads. -/
module

public import proofs.«01_k».proof.Proof.Meaning
public import proofs.«01_k».proof.Proof.Gen.KernelIdeal.Skeleton
public import Idealize.ShloMosaic.PureOps.Ideal.Laws
public import Idealize.ShloMosaic.Lib.Pipeline.Value

@[expose] public section

set_option maxRecDepth 10000

noncomputable section

namespace Cert.Masker

open Cert.KernelIdeal Cert.KernelIdeal.Gen Idealize.ShloMosaic Idealize.SL.Sem

/-! ## The stored words -/

theorem word_cases (e l : Bool) (t : Nat) (ht : t < 30522) :
    (BitVec.ofNat 16 (cond e 103 (cond l t 65534))).signExtend 32 = BitVec.ofNat 32 (cond e 103 (cond l t 4294967294)) := by
  cases e
  · cases l
    · exact (by decide : (65534#16).signExtend 32 = 4294967294#32)
    · apply BitVec.eq_of_toNat_eq
      show ((BitVec.ofNat 16 t).signExtend 32).toNat = (BitVec.ofNat 32 t).toNat
      have small : (BitVec.ofNat 16 t).toNat = t := by rw [BitVec.toNat_ofNat]; omega
      have hm : (BitVec.ofNat 16 t).msb = false := by
        rw [BitVec.msb_eq_decide, decide_eq_false_iff_not, small]; omega
      rw [BitVec.signExtend_eq_setWidth_of_msb_false hm, BitVec.toNat_setWidth, small, BitVec.toNat_ofNat]
  · exact (by decide : (103#16).signExtend 32 = 103#32)

theorem wide_cases (e l : Bool) (t : Nat) (ht : t < 30522) (w : BitVec 32) :
    cond ((0#32).sle (BitVec.ofNat 32 (cond e 103 (cond l t 4294967294)))) (BitVec.ofNat 32 (cond e 103 (cond l t 4294967294))) w
      = cond e 103#32 (cond l (BitVec.ofNat 32 t) w) := by
  cases e
  · cases l
    · rfl
    · have : (0#32).sle (BitVec.ofNat 32 t) = true := by
        rw [BitVec.sle_iff_toInt_le, BitVec.toInt_eq_toNat_of_lt (x := BitVec.ofNat 32 t) (by rw [BitVec.toNat_ofNat]; omega)]
        exact Int.natCast_nonneg _
      show cond ((0#32).sle (BitVec.ofNat 32 t)) (BitVec.ofNat 32 t) w = BitVec.ofNat 32 t
      rw [this]; rfl
  · rfl

theorem wide_ne (e l : Bool) (t : Nat) (ht : t < 30522) : (BitVec.ofNat 32 (cond e 103 (cond l t 4294967294)) != 4294967295#32) = true := by
  cases e
  · cases l
    · exact (by decide : (4294967294#32 != 4294967295#32) = true)
    · rw [bne_iff_ne]
      intro h
      have := congrArg BitVec.toNat h
      rw [BitVec.toNat_ofNat, BitVec.toNat_ofNat] at this
      have h' : t % 2 ^ 32 = 4294967295 % 2 ^ 32 := this
      omega
  · exact (by decide : (103#32 != 4294967295#32) = true)

theorem word_picked (n : Nat) (h : picked n = true) : (word n).signExtend 32 = BitVec.ofNat 32 (wideN n) := by
  have e : auxN n = replN n := by unfold auxN; unfold picked at h; rw [h]; exact cond_true _ _
  unfold word
  rw [e]
  unfold replN wideN
  exact word_cases _ _ _ (tokenN_lt n).1

theorem word_left (n : Nat) (h : picked n = false) : (word n).signExtend 32 = 4294967295#32 := by
  have e : auxN n = 65535 := by unfold auxN; unfold picked at h; rw [h]; exact cond_false _ _
  unfold word
  rw [e]
  decide

/-- A stored word says whether its place is picked. -/
theorem word_ne (n : Nat) : ((word n).signExtend 32 != 4294967295#32) = picked n := by
  cases h : picked n
  · rw [word_left n h]; decide
  · rw [word_picked n h]; unfold wideN; exact wide_ne _ _ _ (tokenN_lt n).1

/-- The replacement a stored word stands for. -/
theorem wide_fresh (n : Nat) (w : BitVec 32) :
    cond ((0#32).sle (BitVec.ofNat 32 (wideN n))) (BitVec.ofNat 32 (wideN n)) w = fresh n w := by
  unfold wideN fresh early late
  exact wide_cases _ _ _ (tokenN_lt n).1 w

/-! ## The greatest of a row's marks -/

theorem ofBits_lowest : Ideal.ofBits .f32 0xFF800000#32 = (⊥ : EReal) := by simp [Ideal.ofBits, Ideal.ieee]

/-- The greatest of a row's marks is above zero when some column is marked. -/
theorem greatest_mark (q : Fin 4096 → Bool) :
    Ideal.cmp .ogt ((Finset.univ : Finset (Fin 4096)).fold max (Ideal.ofBits .f32 0xFF800000#32)
        fun k => cond (q k) (Ideal.ofBits .f32 0x3F800000#32) (Ideal.ofBits .f32 0x00000000#32)) (Ideal.ofBits .f32 0x00000000#32)
      = BitVec.ofBool !decide (∀ c, q c = false) := by
  unfold Ideal.cmp
  refine congrArg BitVec.ofBool ?_
  rw [Bool.eq_iff_iff, decide_eq_true_iff, Bool.not_eq_true', decide_eq_false_iff_not, Finset.lt_fold_max, ofBits_lowest, ofBits_zero,
    ofBits_one]
  constructor
  · rintro (h | ⟨k, -, h⟩) f
    · exact absurd h not_lt_bot
    · rw [f k] at h; exact lt_irrefl _ h
  · intro h
    obtain ⟨k, hk⟩ := not_forall.1 h
    refine Or.inr ⟨k, Finset.mem_univ k, ?_⟩
    rw [Bool.not_eq_false] at hk
    rw [hk]
    exact EReal.coe_lt_coe_iff.2 one_pos

/-! ## The body -/

theorem reduces_block : S64x4096.Reduces [1] S64 := by decide

/-- A place of a block's row, put together from the row and the column. -/
theorem lift_block (j : S64.Idx) (k : Fin 4096) : reduces_block.lift j k = Shape.pair (d := ![64, 4096]) (j 0) k := by
  funext a
  fin_cases a <;> rfl

/-- The place in the batch of a place in block `t`. -/
def spot (t : Fin 2) (y : S64x4096.Idx) : Cert.ReferenceIdeal.S128x4096.Idx :=
  Shape.pair (d := ![128, 4096]) ⟨64 * t.val + (y 0).val, by
    have h : (y 0).val < 64 := (y 0).isLt
    have ht := t.isLt
    show 64 * t.val + (y 0).val < 128
    omega⟩ (y 1)

section Block
variable (T : Cert.ReferenceIdeal.S128x4096.Idx → BitVec 32) (t : Fin 2)
variable (x0 : Vec Ideal S64x4096 .i32) (x1 : Vec Ideal S64x4096 .i16) (x2 x3 : Vec Ideal S1x64x1 .i32)
variable (h0 : ∀ y, x0 y = T (spot t y)) (h1 : ∀ y, x1 y = word (place (spot t y)))

theorem pay1_at (y : S64x4096.Idx) : k0_pay1 x1 y = (x1 y).signExtend 32 :=
  congrArg (BitVec.signExtend 32) (shapeCast_apply x1 _ y y rfl)

include h0 h1 in
theorem pay2_at (y : S64x4096.Idx) : k0_pay2 x0 x1 y = BitVec.ofBool (cand T (spot t y)) := by
  show IntOp.andi (BitVec.ofBool (k0_pay1 x1 y != 4294967295#32)) (BitVec.ofBool (x0 y != 0#32)) = _
  rw [pay1_at, h0, h1, word_ne]
  exact ofBool_and _ _

/-- The row of the batch that row `y` of block `t` is. -/
theorem spot_row (y : S64x4096.Idx) (j : S64.Idx) (hj : (j 0).val = (y 0).val) (c : Fin 4096) :
    spot t (Shape.pair (d := ![64, 4096]) (j 0) c) = Shape.pair (d := ![128, 4096]) (spot t y 0) c := by
  funext a
  apply Fin.ext
  fin_cases a
  · show 64 * t.val + (j 0).val = 64 * t.val + (y 0).val
    rw [hj]
  · rfl

include h0 h1 in
theorem mark_at (y : S64x4096.Idx) (j : S64.Idx) (hj : (j 0).val = (y 0).val) :
    cmpf (F := Ideal) (φ := .f32) .ogt (multiReduction .maximumf [1] S64 (select (k0_pay2 x0 x1) (broadcast S64x4096 (Scalar.ofBits .f32 0x3F800000#32 : Ideal .f32))
        (broadcast S64x4096 (Scalar.ofBits .f32 0x00000000#32 : Ideal .f32))) 0xFF800000#32 Facts₀.reduces_S64x4096_S64 (.inl rfl) rfl)
      (broadcast S64 (Scalar.ofBits .f32 0x00000000#32 : Ideal .f32)) j = BitVec.ofBool !bare T (spot t y 0) := by
  have e := Ideal.multiReduction_maximumf_single (φ := .f32) (select (k0_pay2 x0 x1) (broadcast S64x4096 (Scalar.ofBits .f32 0x3F800000#32 : Ideal .f32))
    (broadcast S64x4096 (Scalar.ofBits .f32 0x00000000#32 : Ideal .f32))) 0xFF800000#32 Facts₀.reduces_S64x4096_S64 (.inl rfl) rfl j
  refine Eq.trans ?_ (greatest_mark fun c => cand T (Shape.pair (d := ![128, 4096]) (spot t y 0) c))
  unfold cmpf
  rw [e]
  refine congrArg (fun w => Ideal.cmp .ogt w (Ideal.ofBits .f32 0x00000000#32)) ?_
  refine congrArg (fun g => (Finset.univ : Finset (Fin 4096)).fold max (Ideal.ofBits .f32 0xFF800000#32) g) (funext fun k => ?_)
  show Scalar.select (k0_pay2 x0 x1 (reduces_block.lift j k)) _ _ = _
  refine (congrArg (fun b => Scalar.select b _ _) ((pay2_at T t x0 x1 h0 h1 _).trans
    (congrArg (fun p => BitVec.ofBool (cand T p)) ((congrArg (spot t) (lift_block j k)).trans (spot_row t y j hj k))))).trans ?_
  exact select_ofBool _ _ _

variable (h2 : ∀ y : S64x4096.Idx, ∀ k : S1x64x1.Idx, (k 1).val = (y 0).val → x2 k = BitVec.ofNat 32 (posN (spot t y 0).val))
variable (h3 : ∀ y : S64x4096.Idx, ∀ k : S1x64x1.Idx, (k 1).val = (y 0).val →
  x3 k = BitVec.ofNat 32 (wideN (4096 * (spot t y 0).val + posN (spot t y 0).val)))

/-- A column of a block's rows, spread over the columns. -/
theorem spread_block {α : Type} (f : S64x1.Idx → α) (y : S64x4096.Idx) :
    broadcastTo S64x4096 f Facts₀.broadcasts_S64x1_S64x4096 y = f (Shape.pair (d := ![64, 1]) (y 0) (0 : Fin 1)) :=
  broadcastTo_apply f _ y _ fun a => by fin_cases a <;> rfl

/-- The place of a block's row in a block of one number per row. -/
def one (r : Fin 64) : S1x64x1.Idx := fun a => match a with
  | ⟨0, _⟩ => ⟨0, show 0 < 1 from Nat.one_pos⟩
  | ⟨1, _⟩ => ⟨r.val, r.isLt⟩
  | ⟨2, _⟩ => ⟨0, show 0 < 1 from Nat.one_pos⟩

theorem cast_one {α : Type} (f : S1x64x1.Idx → α) (r : Fin 64) :
    shapeCast S64x1 f Facts₀.shapeCasts_S1x64x1_S64x1 (Shape.pair (d := ![64, 1]) r (0 : Fin 1)) = f (one r) :=
  shapeCast_apply f _ _ _ (by
    rw [Shape.rowMajor_val_three, Shape.rowMajor_val_two]
    show (0 * 64 + r.val) * 1 + 0 = r.val * 1 + 0
    omega)

/-- The place of a block's row among the rows. -/
def blockRow (r : Fin 64) : S64.Idx := fun a => ⟨r.val, by fin_cases a; exact r.isLt⟩

theorem cast_row {α : Type} (f : S64.Idx → α) (r : Fin 64) :
    shapeCast S64x1 f Facts₀.shapeCasts_S64_S64x1 (Shape.pair (d := ![64, 1]) r (0 : Fin 1)) = f (blockRow r) :=
  shapeCast_apply f _ _ _ (by
    rw [Shape.rowMajor_val_one, Shape.rowMajor_val_two]
    show r.val = r.val * 1 + 0
    omega)

theorem not_not_bit (b : Bool) : IntOp.xori (BitVec.ofBool !b) 1#1 = BitVec.ofBool b := by cases b <;> rfl

include h0 h1 h2 in
theorem pay3_at (y : S64x4096.Idx) : k0_pay3 x0 x1 x2 y
    = BitVec.ofBool (bare T (spot t y 0) && (BitVec.ofNat 32 (posN (spot t y 0).val) == BitVec.ofNat 32 (spot t y 1).val)) := by
  change IntOp.andi _ _ = _
  refine Eq.trans (congr (congrArg IntOp.andi ?_) ?_) (ofBool_and _ _)
  · refine (spread_block _ y).trans ?_
    refine (congrArg (fun b => IntOp.xori b 1#1) ((cast_row _ (y 0)).trans (mark_at T t x0 x1 h0 h1 y (blockRow (y 0)) rfl))).trans ?_
    exact not_not_bit _
  · refine (congr (congrArg (IntOp.cmpi .eq) (iota_single_apply .tc S64x4096 32 1 Facts₀.iota_S64x4096_d1_w32 y))
      ((spread_block _ y).trans ((cast_one x2 (y 0)).trans (h2 y (one (y 0)) rfl)))).trans ?_
    refine congrArg BitVec.ofBool ?_
    rw [Bool.eq_iff_iff, beq_iff_eq, beq_iff_eq]
    exact eq_comm

include h0 h1 h2 in
theorem pay4_at (y : S64x4096.Idx) : k0_pay4 x0 x1 x2 y = BitVec.ofBool (chosen T (spot t y)) :=
  (congr (congrArg IntOp.ori (pay2_at T t x0 x1 h0 h1 y)) (pay3_at T t x0 x1 x2 h0 h1 h2 y)).trans (ofBool_or _ _)

include h0 h1 h2 in
theorem pay6_at (y : S64x4096.Idx) : k0_pay6 x0 x1 x2 y = label T (spot t y) := by
  refine (congr (congr (congrArg Scalar.select (pay4_at T t x0 x1 x2 h0 h1 h2 y)) (h0 y)) (rfl : _ = 4294967295#32)).trans ?_
  exact select_ofBool _ _ _

/-- The row's one place, when it is this place. -/
theorem same_place (p : Cert.ReferenceIdeal.S128x4096.Idx)
    (h : (BitVec.ofNat 32 (posN (p 0).val) == BitVec.ofNat 32 (p 1).val) = true) : 4096 * (p 0).val + posN (p 0).val = place p := by
  have e := congrArg BitVec.toNat (beq_iff_eq.1 h)
  rw [BitVec.toNat_ofNat, BitVec.toNat_ofNat] at e
  have hc : (p 1).val < 4096 := (p 1).isLt
  have hp : posN (p 0).val < 4096 := Nat.mod_lt _ (by decide)
  unfold place
  omega

include h0 h1 h2 h3 in
theorem pay5_at (y : S64x4096.Idx) : k0_pay5 x0 x1 x2 x3 y = filled T (spot t y) := by
  have e3 := pay3_at T t x0 x1 x2 h0 h1 h2 y
  have e4 := pay4_at T t x0 x1 x2 h0 h1 h2 y
  have ef : broadcastTo S64x4096 (shapeCast S64x1 (shapeCast S64x1 x3 Facts₀.shapeCasts_S1x64x1_S64x1) Facts₀.shapeCasts_S64x1_S64x1)
      Facts₀.broadcasts_S64x1_S64x4096 y = BitVec.ofNat 32 (wideN (4096 * (spot t y 0).val + posN (spot t y 0).val)) :=
    (spread_block _ y).trans ((shapeCast_apply _ _ _ (Shape.pair (d := ![64, 1]) (y 0) (0 : Fin 1)) rfl).trans ((cast_one x3 (y 0)).trans (h3 y (one (y 0)) rfl)))
  have rep : select (k0_pay3 x0 x1 x2) (broadcastTo S64x4096 (shapeCast S64x1 (shapeCast S64x1 x3 Facts₀.shapeCasts_S1x64x1_S64x1) Facts₀.shapeCasts_S64x1_S64x1)
        Facts₀.broadcasts_S64x1_S64x4096) (k0_pay1 x1) y
      = cond (bare T (spot t y 0) && (BitVec.ofNat 32 (posN (spot t y 0).val) == BitVec.ofNat 32 (spot t y 1).val))
        (BitVec.ofNat 32 (wideN (4096 * (spot t y 0).val + posN (spot t y 0).val))) ((word (place (spot t y))).signExtend 32) :=
    (congr (congr (congrArg Scalar.select e3) ef) ((pay1_at x1 y).trans (congrArg (BitVec.signExtend 32) (h1 y)))).trans (select_ofBool _ _ _)
  have whole : k0_pay5 x0 x1 x2 x3 y = cond (chosen T (spot t y) && (0#32).sle
      (cond (bare T (spot t y 0) && (BitVec.ofNat 32 (posN (spot t y 0).val) == BitVec.ofNat 32 (spot t y 1).val))
        (BitVec.ofNat 32 (wideN (4096 * (spot t y 0).val + posN (spot t y 0).val))) ((word (place (spot t y))).signExtend 32)))
      (cond (bare T (spot t y 0) && (BitVec.ofNat 32 (posN (spot t y 0).val) == BitVec.ofNat 32 (spot t y 1).val))
        (BitVec.ofNat 32 (wideN (4096 * (spot t y 0).val + posN (spot t y 0).val))) ((word (place (spot t y))).signExtend 32))
      (T (spot t y)) := by
    refine (congr (congr (congrArg Scalar.select ?_) rep) (h0 y)).trans (select_ofBool _ _ _)
    exact (congr (congrArg IntOp.andi e4) (congrArg (fun w => IntOp.cmpi .sge w 0#32) rep)).trans (ofBool_and _ _)
  rw [whole]
  generalize spot t y = p
  unfold filled
  cases hF : (bare T (p 0) && (BitVec.ofNat 32 (posN (p 0).val) == BitVec.ofNat 32 (p 1).val)) with
  | true =>
    have hc : chosen T p = true := by unfold chosen; rw [hF]; exact Bool.or_true _
    rw [hc, same_place p (Bool.and_eq_true_iff.1 hF).2, Bool.true_and, cond_true, cond_true]
    exact wide_fresh _ _
  | false =>
    have hc : chosen T p = cand T p := by unfold chosen; rw [hF]; exact Bool.or_false _
    rw [hc, cond_false]
    cases hC : cand T p with
    | true =>
      rw [word_picked _ (Bool.and_eq_true_iff.1 hC).1, Bool.true_and, cond_true]
      exact wide_fresh _ _
    | false => rw [Bool.false_and, cond_false, cond_false]

end Block

end Cert.Masker

end
-- ==== Proof.Rounds.lean ====
/- The kernel's random bits: the line of host operations that computes the words of four keys at once, and what it leaves
   in each row. -/
module

public import proofs.«01_k».proof.Proof.Gen.KernelIdeal
public import proofs.«01_k».proof.Proof.Keys
public import proofs.«01_k».proof.Proof.Model

@[expose] public section

noncomputable section

namespace Cert.Masker

open Cert.KernelIdeal Cert.KernelIdeal.Facts₀ Idealize.ShloMosaic Idealize.ShloMosaic.TcCoe Idealize.SL.Sem

/-- A statement of the kernel's host code. -/
abbrev KSt := Stm τ sig (Elt Ideal)
/-- Contents of the kernel's buffers. -/
abbrev KVl := Valuation τ sig (Elt Ideal)
/-- A reference to an array of words of the kernel. -/
abbrev KWd (S : Shape) := StableHlo.TRef sig ⟨S, .i32⟩
/-- Four rows of words, one for each key. -/
abbrev Four := KWd S4x524288

/-- The word at an index. -/
abbrev kwd {S : Shape} (V : KVl) (x : KWd S) (i : S.Idx) : BitVec 32 := rd V x i

/-- The word of an index's row in a column of keys. -/
abbrev rowOf (i : S4x524288.Idx) : S4x1.Idx := Shape.pair (d := ![4, 1]) (i 0) (0 : Fin 1)

/-- A column of keys laid over the places is, at every place, the word of the row. -/
theorem column_at {α : Type} (f : S4x1.Idx → α) (i : S4x524288.Idx) :
    broadcastInDim S4x524288 ![0, 1] bcast_S4x1_S4x524288_0_1 f i = f (rowOf i) :=
  broadcastInDim_apply _ _ f i (rowOf i) fun a => by fin_cases a <;> rfl

/-- The buffers of one round. -/
structure Round where
  (p : Four) (k : KWd S_) (b s : Four) (k' : KWd S_) (b' s' o q : Four)

/-- The statements of one round. -/
def Round.stms (R : Round) (x y : Four) (n m : BitVec 32) : List KSt :=
  [.bin x y R.p addi, .nul R.k (constantI S_ 32 n), .un R.k R.b (broadcastInDim S4x524288 ![] bcast_S_S4x524288),
   .bin y R.b R.s Host.shli, .nul R.k' (constantI S_ 32 m), .un R.k' R.b' (broadcastInDim S4x524288 ![] bcast_S_S4x524288),
   .bin y R.b' R.s' Host.shrui, .bin R.s R.s' R.o ori, .bin R.o R.p R.q xori]

/-- What one round leaves. -/
theorem Round.spec (R : Round) (x y : Four) (n m : BitVec 32) (V : KVl) (h : Holds V (R.stms x y n m))
    (hn : n.toNat < 32) (hm : m.toNat < 32) (i : S4x524288.Idx) :
    (kwd V R.p i, kwd V R.q i) = rndB n m (kwd V x i, kwd V y i) := by
  simp only [Round.stms, holds_cons, holds_nil, nul_eqn, un_eqn, bin_eqn] at h
  obtain ⟨e1, e2, e3, e4, e5, e6, e7, e8, e9, -⟩ := h
  rw [e2] at e3
  rw [e5] at e6
  rw [e3] at e4
  rw [e6] at e7
  rw [e4, e7] at e8
  rw [e1, e8] at e9
  unfold kwd
  rw [e1, e9]
  show (rd V x i + rd V y i, (IntOp.shli .host (rd V y i) n ||| IntOp.shrui .host (rd V y i) m) ^^^ (rd V x i + rd V y i)) = _
  rw [host_shli _ _ hn, host_shrui _ _ hm, BitVec.xor_comm]
  rfl

/-- The buffers of one addition of keys. -/
structure Adding where
  (a p b q : Four) (k : KWd S_) (c r : Four)

/-- The statements of one addition of keys. -/
def Adding.stms (J : Adding) (x y : Four) (ka kb : KWd S4x1) (n : BitVec 32) : List KSt :=
  [.un ka J.a (broadcastInDim S4x524288 ![0, 1] bcast_S4x1_S4x524288_0_1), .bin x J.a J.p addi,
   .un kb J.b (broadcastInDim S4x524288 ![0, 1] bcast_S4x1_S4x524288_0_1), .bin y J.b J.q addi,
   .nul J.k (constantI S_ 32 n), .un J.k J.c (broadcastInDim S4x524288 ![] bcast_S_S4x524288), .bin J.q J.c J.r addi]

/-- What one addition of keys leaves. -/
theorem Adding.spec (J : Adding) (x y : Four) (ka kb : KWd S4x1) (n : BitVec 32) (V : KVl)
    (h : Holds V (J.stms x y ka kb n)) (i : S4x524288.Idx) :
    (kwd V J.p i, kwd V J.r i) = injB (kwd V ka (rowOf i)) (kwd V kb (rowOf i)) n (kwd V x i, kwd V y i) := by
  simp only [Adding.stms, holds_cons, holds_nil, nul_eqn, un_eqn, bin_eqn] at h
  obtain ⟨e1, e2, e3, e4, e5, e6, e7, -⟩ := h
  have f1 : rd V J.a i = rd V ka (rowOf i) := by rw [e1]; exact column_at _ i
  have f3 : rd V J.b i = rd V kb (rowOf i) := by rw [e3]; exact column_at _ i
  unfold kwd
  rw [e7, e6, e5, e4, e2]
  show (rd V x i + rd V J.a i, rd V y i + rd V J.b i + n) = _
  rw [f1, f3]
  rfl

/-- The buffers of a group: four rounds and an addition of keys. -/
structure Group4 where
  (r1 r2 r3 r4 : Round) (j : Adding)

/-- The statements of a group with the turns `n1 … n4`. -/
def Group4.stms (G : Group4) (x y : Four) (ka kb : KWd S4x1) (n1 m1 n2 m2 n3 m3 n4 m4 n : BitVec 32) : List KSt :=
  G.r1.stms x y n1 m1 ++ (G.r2.stms G.r1.p G.r1.q n2 m2 ++ (G.r3.stms G.r2.p G.r2.q n3 m3 ++
    (G.r4.stms G.r3.p G.r3.q n4 m4 ++ G.j.stms G.r4.p G.r4.q ka kb n)))

/-- The odd groups' statements. -/
abbrev Group4.odd (G : Group4) (x y : Four) (ka kb : KWd S4x1) (n : BitVec 32) : List KSt :=
  G.stms x y ka kb 13 19 15 17 26 6 6 26 n
/-- The even groups' statements. -/
abbrev Group4.even (G : Group4) (x y : Four) (ka kb : KWd S4x1) (n : BitVec 32) : List KSt :=
  G.stms x y ka kb 17 15 29 3 16 16 24 8 n

theorem Group4.spec (G : Group4) (x y : Four) (ka kb : KWd S4x1) (n1 m1 n2 m2 n3 m3 n4 m4 n : BitVec 32) (V : KVl)
    (h : Holds V (G.stms x y ka kb n1 m1 n2 m2 n3 m3 n4 m4 n)) (h1 : n1.toNat < 32 ∧ m1.toNat < 32) (h2 : n2.toNat < 32 ∧ m2.toNat < 32)
    (h3 : n3.toNat < 32 ∧ m3.toNat < 32) (h4 : n4.toNat < 32 ∧ m4.toNat < 32) (i : S4x524288.Idx) :
    (kwd V G.j.p i, kwd V G.j.r i) = injB (kwd V ka (rowOf i)) (kwd V kb (rowOf i)) n
      (rndB n4 m4 (rndB n3 m3 (rndB n2 m2 (rndB n1 m1 (kwd V x i, kwd V y i))))) := by
  simp only [Group4.stms, holds_append] at h
  obtain ⟨g1, g2, g3, g4, g5⟩ := h
  rw [Adding.spec _ _ _ _ _ _ _ g5, Round.spec _ _ _ _ _ _ g4 h4.1 h4.2, Round.spec _ _ _ _ _ _ g3 h3.1 h3.2,
    Round.spec _ _ _ _ _ _ g2 h2.1 h2.2, Round.spec _ _ _ _ _ _ g1 h1.1 h1.2]

theorem Group4.odd_spec (G : Group4) (x y : Four) (ka kb : KWd S4x1) (n : BitVec 32) (V : KVl)
    (h : Holds V (G.odd x y ka kb n)) (i : S4x524288.Idx) :
    (kwd V G.j.p i, kwd V G.j.r i) = injB (kwd V ka (rowOf i)) (kwd V kb (rowOf i)) n (oddB (kwd V x i, kwd V y i)) :=
  Group4.spec G x y ka kb _ _ _ _ _ _ _ _ n V h (by decide) (by decide) (by decide) (by decide) i

theorem Group4.even_spec (G : Group4) (x y : Four) (ka kb : KWd S4x1) (n : BitVec 32) (V : KVl)
    (h : Holds V (G.even x y ka kb n)) (i : S4x524288.Idx) :
    (kwd V G.j.p i, kwd V G.j.r i) = injB (kwd V ka (rowOf i)) (kwd V kb (rowOf i)) n (evenB (kwd V x i, kwd V y i)) :=
  Group4.spec G x y ka kb _ _ _ _ _ _ _ _ n V h (by decide) (by decide) (by decide) (by decide) i

/-- The buffers of the whole line. -/
structure Stream where
  (v2 v3 v4 v5 : Four) (g1 g2 g3 g4 g5 : Group4)

/-- The statements of the whole line, with the three columns of key words. -/
def Stream.stms (T : Stream) (a b c : KWd S4x1) (x y : Four) : List KSt :=
  [.un a T.v2 (broadcastInDim S4x524288 ![0, 1] bcast_S4x1_S4x524288_0_1), .bin x T.v2 T.v3 addi,
   .un b T.v4 (broadcastInDim S4x524288 ![0, 1] bcast_S4x1_S4x524288_0_1), .bin y T.v4 T.v5 addi] ++
  (T.g1.odd T.v3 T.v5 b c 1 ++ (T.g2.even T.g1.j.p T.g1.j.r c a 2 ++ (T.g3.odd T.g2.j.p T.g2.j.r a b 3 ++
    (T.g4.even T.g3.j.p T.g3.j.r b c 4 ++ T.g5.odd T.g4.j.p T.g4.j.r c a 5))))

/-- What the whole line leaves at an index: the generator's words for the row's key. -/
theorem Stream.spec (T : Stream) (a b c : KWd S4x1) (x y : Four) (V : KVl) (h : Holds V (T.stms a b c x y)) (i : S4x524288.Idx)
    (hc : kwd V c (rowOf i) = key3 (kwd V a (rowOf i)) (kwd V b (rowOf i))) :
    (kwd V T.g5.j.p i, kwd V T.g5.j.r i)
      = threefry (kwd V a (rowOf i)) (kwd V b (rowOf i)) (kwd V x i) (kwd V y i) := by
  simp only [Stream.stms, holds_append] at h
  obtain ⟨h0, h1, h2, h3, h4, h5⟩ := h
  simp only [holds_cons, holds_nil, un_eqn, bin_eqn] at h0
  obtain ⟨e1, e2, e3, e4, -⟩ := h0
  have f1 : rd V T.v2 i = rd V a (rowOf i) := by rw [e1]; exact column_at _ i
  have f3 : rd V T.v4 i = rd V b (rowOf i) := by rw [e3]; exact column_at _ i
  have p : kwd V T.v3 i = kwd V x i + kwd V a (rowOf i) := by
    unfold kwd; rw [e2]; show rd V x i + rd V T.v2 i = _; rw [f1]
  have q : kwd V T.v5 i = kwd V y i + kwd V b (rowOf i) := by
    unfold kwd; rw [e4]; show rd V y i + rd V T.v4 i = _; rw [f3]
  rw [Group4.odd_spec _ _ _ _ _ _ _ h5, Group4.even_spec _ _ _ _ _ _ _ h4, Group4.odd_spec _ _ _ _ _ _ _ h3,
    Group4.even_spec _ _ _ _ _ _ _ h2, Group4.odd_spec _ _ _ _ _ _ _ h1, p, q, hc]
  rfl

end Cert.Masker

end
-- ==== Proof.Stored.lean ====
/- The kernel's host code as the list of its statements. -/
module

public import proofs.«01_k».proof.Proof.Rounds
public import proofs.«01_k».proof.Proof.Gen.KernelIdeal.Frame

@[expose] public section

set_option maxRecDepth 20000
set_option maxHeartbeats 1000000

noncomputable section

namespace Cert.Masker

open Cert.KernelIdeal Cert.KernelIdeal.Facts₀ Idealize.ShloMosaic Idealize.ShloMosaic.TcCoe Idealize.SL.Sem

/-- The stored tables, the zeros and the counts. -/
def headL : List KSt :=
  [.nul (.of main_c) (fun i => lit0 (S4x1.rowMajor i)),
   .nul (.of main_c_0) (fun i => lit1 (S4x1.rowMajor i)),
   .nul (.of main_c_1) (fun i => lit2 (S4x1.rowMajor i)),
   .nul (.of main_c_2) (fun i => lit3 (S2x64x1.rowMajor i)),
   .nul (.of main_c_3) (fun i => lit4 (S2x64x1.rowMajor i)),
   .nul (.of main_c_4) (constantI S_ 32 0#32),
   .un (.of main_c_4) (.of main_v0) (broadcastInDim S4x524288 ![] bcast_S_S4x524288 : (⟨S_, .i32⟩ : BufTy).Contents (Elt Ideal) → (⟨S4x524288, .i32⟩ : BufTy).Contents (Elt Ideal)),
   .nul (.of main_v1) (iotaInDim S4x524288 32 1)]

/-- The buffers of the four keys' random words. -/
def stream : Stream :=
  ⟨.of main_v2, .of main_v3, .of main_v4, .of main_v5,
    ⟨⟨.of main_v6, .of main_c_5, .of main_v7, .of main_v8, .of main_c_6, .of main_v9, .of main_v10, .of main_v11, .of main_v12⟩,
      ⟨.of main_v13, .of main_c_7, .of main_v14, .of main_v15, .of main_c_8, .of main_v16, .of main_v17, .of main_v18, .of main_v19⟩,
      ⟨.of main_v20, .of main_c_9, .of main_v21, .of main_v22, .of main_c_10, .of main_v23, .of main_v24, .of main_v25, .of main_v26⟩,
      ⟨.of main_v27, .of main_c_11, .of main_v28, .of main_v29, .of main_c_12, .of main_v30, .of main_v31, .of main_v32, .of main_v33⟩,
      ⟨.of main_v34, .of main_v35, .of main_v36, .of main_v37, .of main_c_13, .of main_v38, .of main_v39⟩⟩,
    ⟨⟨.of main_v40, .of main_c_14, .of main_v41, .of main_v42, .of main_c_15, .of main_v43, .of main_v44, .of main_v45, .of main_v46⟩,
      ⟨.of main_v47, .of main_c_16, .of main_v48, .of main_v49, .of main_c_17, .of main_v50, .of main_v51, .of main_v52, .of main_v53⟩,
      ⟨.of main_v54, .of main_c_18, .of main_v55, .of main_v56, .of main_c_19, .of main_v57, .of main_v58, .of main_v59, .of main_v60⟩,
      ⟨.of main_v61, .of main_c_20, .of main_v62, .of main_v63, .of main_c_21, .of main_v64, .of main_v65, .of main_v66, .of main_v67⟩,
      ⟨.of main_v68, .of main_v69, .of main_v70, .of main_v71, .of main_c_22, .of main_v72, .of main_v73⟩⟩,
    ⟨⟨.of main_v74, .of main_c_23, .of main_v75, .of main_v76, .of main_c_24, .of main_v77, .of main_v78, .of main_v79, .of main_v80⟩,
      ⟨.of main_v81, .of main_c_25, .of main_v82, .of main_v83, .of main_c_26, .of main_v84, .of main_v85, .of main_v86, .of main_v87⟩,
      ⟨.of main_v88, .of main_c_27, .of main_v89, .of main_v90, .of main_c_28, .of main_v91, .of main_v92, .of main_v93, .of main_v94⟩,
      ⟨.of main_v95, .of main_c_29, .of main_v96, .of main_v97, .of main_c_30, .of main_v98, .of main_v99, .of main_v100, .of main_v101⟩,
      ⟨.of main_v102, .of main_v103, .of main_v104, .of main_v105, .of main_c_31, .of main_v106, .of main_v107⟩⟩,
    ⟨⟨.of main_v108, .of main_c_32, .of main_v109, .of main_v110, .of main_c_33, .of main_v111, .of main_v112, .of main_v113, .of main_v114⟩,
      ⟨.of main_v115, .of main_c_34, .of main_v116, .of main_v117, .of main_c_35, .of main_v118, .of main_v119, .of main_v120, .of main_v121⟩,
      ⟨.of main_v122, .of main_c_36, .of main_v123, .of main_v124, .of main_c_37, .of main_v125, .of main_v126, .of main_v127, .of main_v128⟩,
      ⟨.of main_v129, .of main_c_38, .of main_v130, .of main_v131, .of main_c_39, .of main_v132, .of main_v133, .of main_v134, .of main_v135⟩,
      ⟨.of main_v136, .of main_v137, .of main_v138, .of main_v139, .of main_c_40, .of main_v140, .of main_v141⟩⟩,
    ⟨⟨.of main_v142, .of main_c_41, .of main_v143, .of main_v144, .of main_c_42, .of main_v145, .of main_v146, .of main_v147, .of main_v148⟩,
      ⟨.of main_v149, .of main_c_43, .of main_v150, .of main_v151, .of main_c_44, .of main_v152, .of main_v153, .of main_v154, .of main_v155⟩,
      ⟨.of main_v156, .of main_c_45, .of main_v157, .of main_v158, .of main_c_46, .of main_v159, .of main_v160, .of main_v161, .of main_v162⟩,
      ⟨.of main_v163, .of main_c_47, .of main_v164, .of main_v165, .of main_c_48, .of main_v166, .of main_v167, .of main_v168, .of main_v169⟩,
      ⟨.of main_v170, .of main_v171, .of main_v172, .of main_v173, .of main_c_49, .of main_v174, .of main_v175⟩⟩⟩

/-- From the random words to the table. -/
def tailL : List KSt :=
  [.bin (.of main_v171) (.of main_v175) (.of main_v176) (xori : (⟨S4x524288, .i32⟩ : BufTy).Contents (Elt Ideal) → (⟨S4x524288, .i32⟩ : BufTy).Contents (Elt Ideal) → (⟨S4x524288, .i32⟩ : BufTy).Contents (Elt Ideal)),
   .un (.of main_v176) (.of main_v177) ((extractStridedSlice S1x524288 ![2, 0] · slices_S4x524288_S1x524288_2_0) : (⟨S4x524288, .i32⟩ : BufTy).Contents (Elt Ideal) → (⟨S1x524288, .i32⟩ : BufTy).Contents (Elt Ideal)),
   .un (.of main_v176) (.of main_v178) ((extractStridedSlice S1x524288 ![3, 0] · slices_S4x524288_S1x524288_3_0) : (⟨S4x524288, .i32⟩ : BufTy).Contents (Elt Ideal) → (⟨S1x524288, .i32⟩ : BufTy).Contents (Elt Ideal)),
   .nul (.of main_c_50) (constantI S_ 32 9#32),
   .un (.of main_c_50) (.of main_v179) (broadcastInDim S4x524288 ![] bcast_S_S4x524288 : (⟨S_, .i32⟩ : BufTy).Contents (Elt Ideal) → (⟨S4x524288, .i32⟩ : BufTy).Contents (Elt Ideal)),
   .bin (.of main_v176) (.of main_v179) (.of main_v180) (Host.shrui : (⟨S4x524288, .i32⟩ : BufTy).Contents (Elt Ideal) → (⟨S4x524288, .i32⟩ : BufTy).Contents (Elt Ideal) → (⟨S4x524288, .i32⟩ : BufTy).Contents (Elt Ideal)),
   .nul (.of main_c_51) (constantI S_ 32 1065353216#32),
   .un (.of main_c_51) (.of main_v181) (broadcastInDim S4x524288 ![] bcast_S_S4x524288 : (⟨S_, .i32⟩ : BufTy).Contents (Elt Ideal) → (⟨S4x524288, .i32⟩ : BufTy).Contents (Elt Ideal)),
   .bin (.of main_v180) (.of main_v181) (.of main_v182) (ori : (⟨S4x524288, .i32⟩ : BufTy).Contents (Elt Ideal) → (⟨S4x524288, .i32⟩ : BufTy).Contents (Elt Ideal) → (⟨S4x524288, .i32⟩ : BufTy).Contents (Elt Ideal)),
   .un (.of main_v182) (.of main_v183) (bitcastToFloat (F := Ideal) .f32 : (⟨S4x524288, .i32⟩ : BufTy).Contents (Elt Ideal) → (⟨S4x524288, .f32⟩ : BufTy).Contents (Elt Ideal)),
   .nul (.of main_cst) (constant (F := Ideal) S_ .f32 0x3F800000#32),
   .un (.of main_cst) (.of main_v184) (broadcastInDim S4x524288 ![] bcast_S_S4x524288 : (⟨S_, .f32⟩ : BufTy).Contents (Elt Ideal) → (⟨S4x524288, .f32⟩ : BufTy).Contents (Elt Ideal)),
   .bin (.of main_v183) (.of main_v184) (.of main_v185) (subf (F := Ideal) (φ := .f32) : (⟨S4x524288, .f32⟩ : BufTy).Contents (Elt Ideal) → (⟨S4x524288, .f32⟩ : BufTy).Contents (Elt Ideal) → (⟨S4x524288, .f32⟩ : BufTy).Contents (Elt Ideal)),
   .un (.of main_v185) (.of main_v186) ((extractStridedSlice S1x524288 ![0, 0] · slices_S4x524288_S1x524288_0_0) : (⟨S4x524288, .f32⟩ : BufTy).Contents (Elt Ideal) → (⟨S1x524288, .f32⟩ : BufTy).Contents (Elt Ideal)),
   .un (.of main_v185) (.of main_v187) ((extractStridedSlice S1x524288 ![1, 0] · slices_S4x524288_S1x524288_1_0) : (⟨S4x524288, .f32⟩ : BufTy).Contents (Elt Ideal) → (⟨S1x524288, .f32⟩ : BufTy).Contents (Elt Ideal)),
   .nul (.of main_c_52) (constantI S_ 32 29523#32),
   .un (.of main_c_52) (.of main_v188) (broadcastInDim S1x524288 ![] bcast_S_S1x524288 : (⟨S_, .i32⟩ : BufTy).Contents (Elt Ideal) → (⟨S1x524288, .i32⟩ : BufTy).Contents (Elt Ideal)),
   .bin (.of main_v177) (.of main_v188) (.of main_v189) (Host.remui : (⟨S1x524288, .i32⟩ : BufTy).Contents (Elt Ideal) → (⟨S1x524288, .i32⟩ : BufTy).Contents (Elt Ideal) → (⟨S1x524288, .i32⟩ : BufTy).Contents (Elt Ideal)),
   .nul (.of main_c_53) (constantI S_ 32 20302#32),
   .un (.of main_c_53) (.of main_v190) (broadcastInDim S1x524288 ![] bcast_S_S1x524288 : (⟨S_, .i32⟩ : BufTy).Contents (Elt Ideal) → (⟨S1x524288, .i32⟩ : BufTy).Contents (Elt Ideal)),
   .bin (.of main_v189) (.of main_v190) (.of main_v191) (muli : (⟨S1x524288, .i32⟩ : BufTy).Contents (Elt Ideal) → (⟨S1x524288, .i32⟩ : BufTy).Contents (Elt Ideal) → (⟨S1x524288, .i32⟩ : BufTy).Contents (Elt Ideal)),
   .bin (.of main_v178) (.of main_v188) (.of main_v192) (Host.remui : (⟨S1x524288, .i32⟩ : BufTy).Contents (Elt Ideal) → (⟨S1x524288, .i32⟩ : BufTy).Contents (Elt Ideal) → (⟨S1x524288, .i32⟩ : BufTy).Contents (Elt Ideal)),
   .bin (.of main_v191) (.of main_v192) (.of main_v193) (addi : (⟨S1x524288, .i32⟩ : BufTy).Contents (Elt Ideal) → (⟨S1x524288, .i32⟩ : BufTy).Contents (Elt Ideal) → (⟨S1x524288, .i32⟩ : BufTy).Contents (Elt Ideal)),
   .bin (.of main_v193) (.of main_v188) (.of main_v194) (Host.remui : (⟨S1x524288, .i32⟩ : BufTy).Contents (Elt Ideal) → (⟨S1x524288, .i32⟩ : BufTy).Contents (Elt Ideal) → (⟨S1x524288, .i32⟩ : BufTy).Contents (Elt Ideal)),
   .un (.of main_v194) (.of main_v195) (id : (⟨S1x524288, .i32⟩ : BufTy).Contents (Elt Ideal) → (⟨S1x524288, .i32⟩ : BufTy).Contents (Elt Ideal)),
   .nul (.of main_c_54) (constantI S_ 32 999#32),
   .un (.of main_c_54) (.of main_v196) (broadcastInDim S1x524288 ![] bcast_S_S1x524288 : (⟨S_, .i32⟩ : BufTy).Contents (Elt Ideal) → (⟨S1x524288, .i32⟩ : BufTy).Contents (Elt Ideal)),
   .bin (.of main_v196) (.of main_v195) (.of main_v197) (addi : (⟨S1x524288, .i32⟩ : BufTy).Contents (Elt Ideal) → (⟨S1x524288, .i32⟩ : BufTy).Contents (Elt Ideal) → (⟨S1x524288, .i32⟩ : BufTy).Contents (Elt Ideal)),
   .nul (.of main_cst_55) (constant (F := Ideal) S_ .f32 0x3F666666#32),
   .un (.of main_cst_55) (.of main_v198) (broadcastInDim S1x524288 ![] bcast_S_S1x524288 : (⟨S_, .f32⟩ : BufTy).Contents (Elt Ideal) → (⟨S1x524288, .f32⟩ : BufTy).Contents (Elt Ideal)),
   .bin (.of main_v187) (.of main_v198) (.of main_v199) (cmpf (F := Ideal) (φ := .f32) .olt : (⟨S1x524288, .f32⟩ : BufTy).Contents (Elt Ideal) → (⟨S1x524288, .f32⟩ : BufTy).Contents (Elt Ideal) → (⟨S1x524288, .i1⟩ : BufTy).Contents (Elt Ideal)),
   .nul (.of main_c_56) (constantI S_ 32 4294967294#32),
   .un (.of main_c_56) (.of main_v200) (broadcastInDim S1x524288 ![] bcast_S_S1x524288 : (⟨S_, .i32⟩ : BufTy).Contents (Elt Ideal) → (⟨S1x524288, .i32⟩ : BufTy).Contents (Elt Ideal)),
   .ter (.of main_v199) (.of main_v197) (.of main_v200) (.of main_v201) (select : (⟨S1x524288, .i1⟩ : BufTy).Contents (Elt Ideal) → (⟨S1x524288, .i32⟩ : BufTy).Contents (Elt Ideal) → (⟨S1x524288, .i32⟩ : BufTy).Contents (Elt Ideal) → (⟨S1x524288, .i32⟩ : BufTy).Contents (Elt Ideal)),
   .nul (.of main_cst_57) (constant (F := Ideal) S_ .f32 0x3F4CCCCD#32),
   .un (.of main_cst_57) (.of main_v202) (broadcastInDim S1x524288 ![] bcast_S_S1x524288 : (⟨S_, .f32⟩ : BufTy).Contents (Elt Ideal) → (⟨S1x524288, .f32⟩ : BufTy).Contents (Elt Ideal)),
   .bin (.of main_v187) (.of main_v202) (.of main_v203) (cmpf (F := Ideal) (φ := .f32) .olt : (⟨S1x524288, .f32⟩ : BufTy).Contents (Elt Ideal) → (⟨S1x524288, .f32⟩ : BufTy).Contents (Elt Ideal) → (⟨S1x524288, .i1⟩ : BufTy).Contents (Elt Ideal)),
   .nul (.of main_c_58) (constantI S_ 32 103#32),
   .un (.of main_c_58) (.of main_v204) (broadcastInDim S1x524288 ![] bcast_S_S1x524288 : (⟨S_, .i32⟩ : BufTy).Contents (Elt Ideal) → (⟨S1x524288, .i32⟩ : BufTy).Contents (Elt Ideal)),
   .ter (.of main_v203) (.of main_v204) (.of main_v201) (.of main_v205) (select : (⟨S1x524288, .i1⟩ : BufTy).Contents (Elt Ideal) → (⟨S1x524288, .i32⟩ : BufTy).Contents (Elt Ideal) → (⟨S1x524288, .i32⟩ : BufTy).Contents (Elt Ideal) → (⟨S1x524288, .i32⟩ : BufTy).Contents (Elt Ideal)),
   .nul (.of main_cst_59) (constant (F := Ideal) S_ .f32 0x3E19999A#32),
   .un (.of main_cst_59) (.of main_v206) (broadcastInDim S1x524288 ![] bcast_S_S1x524288 : (⟨S_, .f32⟩ : BufTy).Contents (Elt Ideal) → (⟨S1x524288, .f32⟩ : BufTy).Contents (Elt Ideal)),
   .bin (.of main_v186) (.of main_v206) (.of main_v207) (cmpf (F := Ideal) (φ := .f32) .olt : (⟨S1x524288, .f32⟩ : BufTy).Contents (Elt Ideal) → (⟨S1x524288, .f32⟩ : BufTy).Contents (Elt Ideal) → (⟨S1x524288, .i1⟩ : BufTy).Contents (Elt Ideal)),
   .nul (.of main_c_60) (constantI S_ 32 4294967295#32),
   .un (.of main_c_60) (.of main_v208) (broadcastInDim S1x524288 ![] bcast_S_S1x524288 : (⟨S_, .i32⟩ : BufTy).Contents (Elt Ideal) → (⟨S1x524288, .i32⟩ : BufTy).Contents (Elt Ideal)),
   .ter (.of main_v207) (.of main_v205) (.of main_v208) (.of main_v209) (select : (⟨S1x524288, .i1⟩ : BufTy).Contents (Elt Ideal) → (⟨S1x524288, .i32⟩ : BufTy).Contents (Elt Ideal) → (⟨S1x524288, .i32⟩ : BufTy).Contents (Elt Ideal) → (⟨S1x524288, .i32⟩ : BufTy).Contents (Elt Ideal)),
   .un (.of main_v209) (.of main_v210) ((trunci 16 · natLt_16_32) : (⟨S1x524288, .i32⟩ : BufTy).Contents (Elt Ideal) → (⟨S1x524288, .i16⟩ : BufTy).Contents (Elt Ideal)),
   .rsh (.of main_v210) (.of main_v211) (rfl : (.i16 : EltTy) = .i16) shapeCasts_S1x524288_S128x4096]

/-- The statements of the kernel's host code. -/
def hostL : List KSt :=
  headL ++ (stream.stms (.of main_c) (.of main_c_0) (.of main_c_1) (.of main_v0) (.of main_v1) ++ tailL)

theorem hostL_ops : (Gen.hostOps0 : List (HloOp τ sig (Elt Ideal))) = opsOf hostL := rfl

theorem hostL_scan : scan 2 hostL = some 277 := by decide +kernel

/-- Of what the host code leaves, every statement's equation holds. -/
theorem host_holds (V : KVl) : Holds (StableHlo.after Gen.hostOps0 V) hostL := by
  rw [hostL_ops]; exact after_holds hostL 2 277 hostL_scan V

end Cert.Masker

end
-- ==== Proof.Computed.lean ====
/- The kernel's large table, which its host code computes: at every place it holds the word that should be there. -/
module

public import proofs.«01_k».proof.Proof.Stored
public import proofs.«01_k».proof.Proof.Meaning
import Mathlib.Tactic.Ring
import Mathlib.Tactic.NormNum

@[expose] public section

set_option maxRecDepth 20000
set_option maxHeartbeats 1000000

noncomputable section

namespace Cert.Masker

open Cert.KernelIdeal Cert.KernelIdeal.Facts₀ Idealize.ShloMosaic Idealize.ShloMosaic.TcCoe Idealize.SL.Sem

/-- Row `r` and place `n` of the four keys' words. -/
abbrev at4 (r : Fin 4) (n : Fin 524288) : S4x524288.Idx := Shape.pair (d := ![4, 524288]) r n
/-- Row `r` of a column of keys. -/
abbrev key4 (r : Fin 4) : S4x1.Idx := Shape.pair (d := ![4, 1]) r (0 : Fin 1)
/-- Place `n` of one row. -/
abbrev at1 (n : Fin 524288) : S1x524288.Idx := Shape.pair (d := ![1, 524288]) (0 : Fin 1) n

/-- The random words of a row are those of the row's key. -/
theorem row_bits (V : KVl) (h : Holds V hostL) (r : Fin 4) (n : Fin 524288) (a b : BitVec 32)
    (ha : lit0 (S4x1.rowMajor (key4 r)) = a) (hb : lit1 (S4x1.rowMajor (key4 r)) = b)
    (hc : lit2 (S4x1.rowMajor (key4 r)) = key3 a b) :
    kwd V (.of main_v176) (at4 r n) = bitsB a b n.val := by
  simp only [hostL, holds_append] at h
  obtain ⟨h0, h1, h2⟩ := h
  simp only [headL, holds_cons, holds_nil, nul_eqn, un_eqn] at h0
  obtain ⟨ec, ec0, ec1, -, -, ec4, e0, e1, -⟩ := h0
  simp only [tailL, holds_cons, bin_eqn] at h2
  have f := h2.1
  clear h2
  have ka : kwd V (.of main_c) (rowOf (at4 r n)) = a := by unfold kwd; rw [ec]; exact ha
  have kb : kwd V (.of main_c_0) (rowOf (at4 r n)) = b := by unfold kwd; rw [ec0]; exact hb
  have kc : kwd V (.of main_c_1) (rowOf (at4 r n)) = key3 a b := by unfold kwd; rw [ec1]; exact hc
  have x : kwd V (.of main_v0) (at4 r n) = 0#32 := by unfold kwd; rw [e0, ec4]; rfl
  have y : kwd V (.of main_v1) (at4 r n) = BitVec.ofNat 32 n.val := by unfold kwd; rw [e1]; rfl
  have t := Stream.spec stream _ _ _ _ _ V h1 (at4 r n) (by rw [ka, kb, kc])
  rw [ka, kb, x, y] at t
  unfold kwd
  rw [f]
  unfold bitsB
  exact congr (congrArg _ (congrArg Prod.fst t)) (congrArg Prod.snd t)

theorem stored_forced (V : KVl) (h : Holds V hostL) : rd V (.of main_c_2) = fun i => lit3 (S2x64x1.rowMajor i) := by
  simp only [hostL, holds_append] at h
  simp only [headL, holds_cons, nul_eqn] at h
  exact h.1.2.2.2.1

theorem stored_forced_words (V : KVl) (h : Holds V hostL) : rd V (.of main_c_3) = fun i => lit4 (S2x64x1.rowMajor i) := by
  simp only [hostL, holds_append] at h
  simp only [headL, holds_cons, nul_eqn] at h
  exact h.1.2.2.2.2.1

/-- A uniform number as the kernel's host code computes it. -/
def unit (w : BitVec 32) : EReal := Ideal.ofBits .f32 (w >>> 9 ||| 1065353216#32) - Ideal.ofBits .f32 0x3F800000#32

theorem unit_draw (w : BitVec 32) : unit w = draw w := by
  unfold unit
  rw [draw_eq, ofBits_fraction, ofBits_one, ← EReal.coe_sub]
  refine congrArg Real.toEReal ?_
  push_cast
  ring

/-- One row out of four. -/
theorem slice_at {α : Type} (x : S4x524288.Idx → α) (off : Fin 2 → Nat) (hs : S4x524288.Slices off S1x524288) (r : Fin 4)
    (hoff : off = ![r.val, 0]) (n : Fin 524288) : extractStridedSlice S1x524288 off x hs (at1 n) = x (at4 r n) := by
  subst hoff
  refine extractStridedSlice_apply _ x hs _ _ fun a => ?_
  fin_cases a
  · rfl
  · exact (Nat.zero_add _).symm

/-- The choice among the words of 32 bits, cut to 16 bits. -/
theorem cut_choice (p e l : Bool) (t : Nat) :
    (cond p (cond e 103#32 (cond l (BitVec.ofNat 32 t) 4294967294#32)) 4294967295#32).setWidth 16
      = BitVec.ofNat 16 (cond p (cond e 103 (cond l t 65534)) 65535) := by
  have k : (BitVec.ofNat 32 t).setWidth 16 = BitVec.ofNat 16 t := by
    apply BitVec.eq_of_toNat_eq
    rw [BitVec.toNat_setWidth, BitVec.toNat_ofNat, BitVec.toNat_ofNat]
    omega
  cases p
  · exact (by decide : (4294967295#32).setWidth 16 = BitVec.ofNat 16 65535)
  · cases e
    · cases l
      · exact (by decide : (4294967294#32).setWidth 16 = BitVec.ofNat 16 65534)
      · exact k
    · rfl

theorem word_choice (n : Nat) :
    word n = (cond (picked n) (cond (early n) 103#32 (cond (late n) (BitVec.ofNat 32 (tokenN n)) 4294967294#32)) 4294967295#32).setWidth 16 :=
  (cut_choice (picked n) (early n) (late n) (tokenN n)).symm

theorem flat_place (a b c : Nat) (h : 4096 * a + b = c) : 0 * 524288 + c = a * 4096 + b := by
  rw [Nat.zero_mul, Nat.zero_add, Nat.mul_comm a, h]

/-- The table at a place, from the four random words of the place. -/
theorem table_of (V : KVl) (h : Holds V tailL) (n : Fin 524288) (i : S128x4096.Idx) (hi : 4096 * (i 0).val + (i 1).val = n.val)
    (w0 w1 w2 w3 : BitVec 32) (b0 : kwd V (.of main_v176) (at4 0 n) = w0) (b1 : kwd V (.of main_v176) (at4 1 n) = w1)
    (b2 : kwd V (.of main_v176) (at4 2 n) = w2) (b3 : kwd V (.of main_v176) (at4 3 n) = w3) :
    (rd V (.of main_v211) : S128x4096.Idx → BitVec 16) i =
      (cond (Nat.blt (w0 >>> 9).toNat 1258292) (cond (Nat.blt (w1 >>> 9).toNat 6710887) 103#32
        (cond (Nat.blt (w1 >>> 9).toNat 7549747) (pickInt 999#32 29523#32 20302#32 w2 w3) 4294967294#32)) 4294967295#32).setWidth 16 := by
  simp only [tailL, holds_cons, holds_nil, nul_eqn, un_eqn, bin_eqn, ter_eqn, rsh_eqn, id] at h
  obtain ⟨-, e177, e178, c50, e179, e180, c51, e181, e182, e183, cst, e184, e185, e186, e187, c52, e188, e189, c53, e190, e191,
    e192, e193, e194, e195, c54, e196, e197, cst55, e198, e199, c56, e200, e201, cst57, e202, e203, c58, e204, e205, cst59, e206,
    e207, c60, e208, e209, e210, e211, -⟩ := h
  have u : ∀ (r : Fin 4) (w : BitVec 32), kwd V (.of main_v176) (at4 r n) = w → rd V (.of main_v185) (at4 r n) = draw w := by
    intro r w hw
    refine Eq.trans ?_ (unit_draw w)
    have g180 : rd V (.of main_v180) (at4 r n) = w >>> 9 := by
      rw [e180, e179, c50]
      exact (congrArg (fun x => IntOp.shrui .host x 9#32) hw).trans (host_shrui _ _ (by decide))
    have g182 : rd V (.of main_v182) (at4 r n) = w >>> 9 ||| 1065353216#32 := by
      rw [e182, e181, c51]
      exact congrArg (fun x => IntOp.ori x 1065353216#32) g180
    rw [e185, e184, cst, e183]
    exact congrArg (fun x => Ideal.ofBits .f32 x - Ideal.ofBits .f32 0x3F800000#32) g182
  have h2 : rd V (.of main_v177) (at1 n) = w2 := by rw [e177]; exact (slice_at _ _ _ 2 rfl n).trans b2
  have h3 : rd V (.of main_v178) (at1 n) = w3 := by rw [e178]; exact (slice_at _ _ _ 3 rfl n).trans b3
  have d0 : rd V (.of main_v186) (at1 n) = draw w0 := by rw [e186]; exact (slice_at _ _ _ 0 rfl n).trans (u 0 w0 b0)
  have d1 : rd V (.of main_v187) (at1 n) = draw w1 := by rw [e187]; exact (slice_at _ _ _ 1 rfl n).trans (u 1 w1 b1)
  have tk : rd V (.of main_v197) (at1 n) = pickInt 999#32 29523#32 20302#32 w2 w3 := by
    rw [e197, e196, c54, e195, e194, e193, e192, e191, e190, c53, e189, e188, c52]
    exact congr (congrArg (pickInt 999#32 29523#32 20302#32) h2) h3
  have p9 : rd V (.of main_v199) (at1 n) = BitVec.ofBool (Nat.blt (w1 >>> 9).toNat 7549747) := by
    rw [e199, e198, cst55]
    exact (congrArg (fun x => Ideal.cmp .olt x (Ideal.ofBits .f32 0x3F666666#32)) d1).trans
      ((cmp_keep w1).trans (congrArg BitVec.ofBool (decide_blt _ _)))
  have p8 : rd V (.of main_v203) (at1 n) = BitVec.ofBool (Nat.blt (w1 >>> 9).toNat 6710887) := by
    rw [e203, e202, cst57]
    exact (congrArg (fun x => Ideal.cmp .olt x (Ideal.ofBits .f32 0x3F4CCCCD#32)) d1).trans
      ((cmp_mask w1).trans (congrArg BitVec.ofBool (decide_blt _ _)))
  have p0 : rd V (.of main_v207) (at1 n) = BitVec.ofBool (Nat.blt (w0 >>> 9).toNat 1258292) := by
    rw [e207, e206, cst59]
    exact (congrArg (fun x => Ideal.cmp .olt x (Ideal.ofBits .f32 0x3E19999A#32)) d0).trans
      ((cmp_pick w0).trans (congrArg BitVec.ofBool (decide_blt _ _)))
  have s1 : rd V (.of main_v201) (at1 n) = cond (Nat.blt (w1 >>> 9).toNat 7549747) (pickInt 999#32 29523#32 20302#32 w2 w3) 4294967294#32 := by
    rw [e201, e200, c56]
    exact (congr (congrArg (fun q x => Scalar.select q x 4294967294#32) p9) tk).trans (select_ofBool _ _ _)
  have s2 : rd V (.of main_v205) (at1 n) = cond (Nat.blt (w1 >>> 9).toNat 6710887) 103#32
      (cond (Nat.blt (w1 >>> 9).toNat 7549747) (pickInt 999#32 29523#32 20302#32 w2 w3) 4294967294#32) := by
    rw [e205, e204, c58]
    exact (congr (congrArg (fun q x => Scalar.select q 103#32 x) p8) s1).trans (select_ofBool _ _ _)
  have s3 : rd V (.of main_v209) (at1 n) = cond (Nat.blt (w0 >>> 9).toNat 1258292) (cond (Nat.blt (w1 >>> 9).toNat 6710887) 103#32
      (cond (Nat.blt (w1 >>> 9).toNat 7549747) (pickInt 999#32 29523#32 20302#32 w2 w3) 4294967294#32)) 4294967295#32 := by
    rw [e209, e208, c60]
    exact (congr (congrArg (fun q x => Scalar.select q x 4294967295#32) p0) s2).trans (select_ofBool _ _ _)
  have s4 := (congrFun e210 (at1 n)).trans (congrArg (BitVec.setWidth 16) s3)
  clear e177 e178 c50 e179 e180 c51 e181 e182 e183 cst e184 e185 e186 e187 c52 e188 e189 c53 e190 e191 e192 e193 e194 e195 c54
    e196 e197 cst55 e198 e199 c56 e200 e201 cst57 e202 e203 c58 e204 e205 cst59 e206 e207 c60 e208 e209 e210 u h2 h3 d0 d1 tk
    p9 p8 p0 s1 s2 s3
  refine (congrFun e211 i).trans ?_
  refine (shapeCast_apply _ _ i (at1 n) ?_).trans s4
  refine (Shape.rowMajor_val_two (at1 n)).trans (Eq.trans ?_ (Shape.rowMajor_val_two i).symm)
  exact flat_place _ _ _ hi

/-- The table that the host code computes. -/
theorem computed (V : KVl) (h : Holds V hostL) (i : S128x4096.Idx) :
    (rd V (.of main_v211) : S128x4096.Idx → BitVec 16) i = word (place i) := by
  have hn : place i < 2 ^ 32 := Nat.lt_trans (place_lt i) (by decide)
  have h' := h
  simp only [hostL, holds_append] at h'
  refine (table_of V h'.2.2 ⟨place i, place_lt i⟩ i rfl _ _ _ _
    (row_bits V h 0 _ 1832780943#32 270669613#32 (by decide +kernel) (by decide +kernel) (by decide +kernel))
    (row_bits V h 1 _ 2465931498#32 255383827#32 (by decide +kernel) (by decide +kernel) (by decide +kernel))
    (row_bits V h 2 _ 2463158877#32 4047937370#32 (by decide +kernel) (by decide +kernel) (by decide +kernel))
    (row_bits V h 3 _ 1914800406#32 1741898942#32 (by decide +kernel) (by decide +kernel) (by decide +kernel))).trans ?_
  rw [token_num _ hn, pick_num _ hn, kind_num _ hn]
  exact (word_choice (place i)).symm

end Cert.Masker

end
-- ==== Proof.KernelValue.lean ====
/- What the kernel's two results hold after its run, as functions of the tokens it is launched on. -/
module

public import proofs.«01_k».proof.Proof.Body
public import proofs.«01_k».proof.Proof.Computed
public import proofs.«01_k».proof.Proof.Gen.KernelIdeal.Value

@[expose] public section

set_option maxRecDepth 10000

noncomputable section

namespace Cert.Masker

open Cert.KernelIdeal Cert.KernelIdeal.Gen Cert.KernelIdeal.Value Idealize.ShloMosaic Idealize.ShloMosaic.TcCoe Idealize.SL.Sem

variable (m : (ℓ : Loc nD τ sig) → Buf (Elt Ideal) ℓ) (ρ : Dev nD → PrngReg)

/-! ## The tables as the launch finds them -/

theorem found_words (c : Dev nD) (i : S128x4096.Idx) : (V m c main_v211 : S128x4096.Idx → BitVec 16) i = word (place i) :=
  computed _ (host_holds _) i

theorem found_forced (c : Dev nD) : V m c main_c_2 = fun i => lit3 (S2x64x1.rowMajor i) := stored_forced _ (host_holds _)

theorem found_forced_words (c : Dev nD) : V m c main_c_3 = fun i => lit4 (S2x64x1.rowMajor i) := stored_forced_words _ (host_holds _)

/-! ## Where a block lies -/

/-- The launch's step as a number below two. -/
def half (t : Fin cfg0.N) : Fin 2 := ⟨t.val, by have h := t.isLt; have e : cfg0.N = 2 := N_0; omega⟩

theorem at_0 (t : Fin cfg0.N) : win0_0.index t (0 : Fin 2) = t.val ∧ win0_0.index t (1 : Fin 2) = 0 := by
  rcases fin_N0 t with rfl | rfl <;> decide

theorem at_1 (t : Fin cfg0.N) : win0_1.index t (0 : Fin 2) = t.val ∧ win0_1.index t (1 : Fin 2) = 0 := by
  rcases fin_N0 t with rfl | rfl <;> decide

theorem at_2 (t : Fin cfg0.N) : win0_2.index t (0 : Fin 3) = t.val ∧ win0_2.index t (1 : Fin 3) = 0 ∧ win0_2.index t (2 : Fin 3) = 0 := by
  rcases fin_N0 t with rfl | rfl <;> decide

theorem at_3 (t : Fin cfg0.N) : win0_3.index t (0 : Fin 3) = t.val ∧ win0_3.index t (1 : Fin 3) = 0 ∧ win0_3.index t (2 : Fin 3) = 0 := by
  rcases fin_N0 t with rfl | rfl <;> decide

theorem at_4 (t : Fin cfg0.N) : win0_4.index t (0 : Fin 2) = t.val ∧ win0_4.index t (1 : Fin 2) = 0 := by
  rcases fin_N0 t with rfl | rfl <;> decide

theorem at_5 (t : Fin cfg0.N) : win0_5.index t (0 : Fin 2) = t.val ∧ win0_5.index t (1 : Fin 2) = 0 := by
  rcases fin_N0 t with rfl | rfl <;> decide

/-- A block of whole rows that starts at its step's row reads the place `spot` names. -/
theorem spot_of (t : Fin cfg0.N) (y : S64x4096.Idx) (p : S128x4096.Idx) (a b : Nat) (ha : a = t.val) (hb : b = 0)
    (e0 : (p 0).val = a * 64 + 1 * (y 0).val) (e1 : (p 1).val = b * 4096 + 1 * (y 1).val) : p = spot (half t) y := by
  funext k
  apply Fin.ext
  match k with
  | ⟨0, _⟩ => show (p 0).val = 64 * t.val + (y 0).val; omega
  | ⟨1, _⟩ => show (p 1).val = (y 1).val; omega

theorem emb_0 (t : Fin cfg0.N) (y : S64x4096.Idx) : ((cfg0.win 0).blk t).view.emb y = spot (half t) y :=
  spot_of t y _ _ _ (at_0 t).1 (at_0 t).2 rfl rfl

theorem emb_1 (t : Fin cfg0.N) (y : S64x4096.Idx) : ((cfg0.win 1).blk t).view.emb y = spot (half t) y :=
  spot_of t y _ _ _ (at_1 t).1 (at_1 t).2 rfl rfl

theorem emb_4 (t : Fin cfg0.N) (y : S64x4096.Idx) : ((cfg0.win 4).blk t).view.emb y = spot (half t) y :=
  spot_of t y _ _ _ (at_4 t).1 (at_4 t).2 rfl rfl

theorem emb_5 (t : Fin cfg0.N) (y : S64x4096.Idx) : ((cfg0.win 5).blk t).view.emb y = spot (half t) y :=
  spot_of t y _ _ _ (at_5 t).1 (at_5 t).2 rfl rfl

/-- The place in the row tables of row `y` of block `t`: the batch row's number. -/
theorem line_of (t : Fin cfg0.N) (y : S64x4096.Idx) (k : S1x64x1.Idx) (hk : (k 1).val = (y 0).val) (p : S2x64x1.Idx) (a b d : Nat)
    (ha : a = t.val) (hb : b = 0) (hd : d = 0) (e0 : (p 0).val = a * 1 + 1 * (k 0).val) (e1 : (p 1).val = b * 64 + 1 * (k 1).val)
    (e2 : (p 2).val = d * 1 + 1 * (k 2).val) : (S2x64x1.rowMajor p).val = (spot (half t) y 0).val := by
  have hk0 : (k 0).val < 1 := (k 0).isLt
  have hk2 : (k 2).val < 1 := (k 2).isLt
  refine (Shape.rowMajor_val_three p).trans ?_
  show ((p 0).val * 64 + (p 1).val) * 1 + (p 2).val = 64 * t.val + (y 0).val
  omega

/-! ## The blocks the body reads -/

theorem block_0 (c : Dev nD) (t : Fin cfg0.N) (y : S64x4096.Idx) :
    (iblk m c 0 t : Vec Ideal S64x4096 .i32) y = m ((c : Thread nD τ).loc main_arg0) (spot (half t) y) := by
  show V m c main_arg0 (((cfg0.win 0).blk t).view.emb y) = _
  rw [emb_0, V_main_arg0]

theorem block_1 (c : Dev nD) (t : Fin cfg0.N) (y : S64x4096.Idx) :
    (iblk m c 1 t : Vec Ideal S64x4096 .i16) y = word (place (spot (half t) y)) := by
  show (V m c main_v211 : S128x4096.Idx → BitVec 16) (((cfg0.win 1).blk t).view.emb y) = _
  rw [emb_1]
  exact found_words m c _

theorem block_2 (c : Dev nD) (t : Fin cfg0.N) (y : S64x4096.Idx) (k : S1x64x1.Idx) (hk : (k 1).val = (y 0).val) :
    (iblk m c 2 t : Vec Ideal S1x64x1 .i32) k = BitVec.ofNat 32 (posN (spot (half t) y 0).val) := by
  show V m c main_c_2 (((cfg0.win 2).blk t).view.emb k) = _
  rw [found_forced]
  exact (forced_at _).trans (congrArg (fun r => BitVec.ofNat 32 (posN r))
    (line_of t y k hk _ _ _ _ (at_2 t).1 (at_2 t).2.1 (at_2 t).2.2 rfl rfl rfl))

theorem block_3 (c : Dev nD) (t : Fin cfg0.N) (y : S64x4096.Idx) (k : S1x64x1.Idx) (hk : (k 1).val = (y 0).val) :
    (iblk m c 3 t : Vec Ideal S1x64x1 .i32) k
      = BitVec.ofNat 32 (wideN (4096 * (spot (half t) y 0).val + posN (spot (half t) y 0).val)) := by
  show V m c main_c_3 (((cfg0.win 3).blk t).view.emb k) = _
  rw [found_forced_words]
  exact (forced_word_at _).trans (congrArg (fun r => BitVec.ofNat 32 (wideN (4096 * r + posN r)))
    (line_of t y k hk _ _ _ _ (at_3 t).1 (at_3 t).2.1 (at_3 t).2.2 rfl rfl rfl))

/-! ## What a step writes back -/

theorem start_two : (![0, 0] : Fin S64x4096.rank → Nat) = fun _ => 0 := by
  funext a; match a with | ⟨0, _⟩ => rfl | ⟨1, _⟩ => rfl

theorem start_three : (![0, 0, 0] : Fin S1x64x1.rank → Nat) = fun _ => 0 := by
  funext a; match a with | ⟨0, _⟩ => rfl | ⟨1, _⟩ => rfl | ⟨2, _⟩ => rfl

theorem out_4 (x0 : Vec Ideal S64x4096 .i32) (x1 : Vec Ideal S64x4096 .i16) (x2 x3 : Vec Ideal S1x64x1 .i32) :
    out0_4 x0 x1 x2 x3 = k0_pay5 x0 x1 x2 x3 := by
  unfold out0_4
  rw [View.canon_unit_zero start_two, View.ld_unit_zero start_two, View.ld_unit_zero start_two, View.ld_unit_zero start_three, View.ld_unit_zero start_three]

theorem out_5 (x0 : Vec Ideal S64x4096 .i32) (x1 : Vec Ideal S64x4096 .i16) (x2 x3 : Vec Ideal S1x64x1 .i32) :
    out0_5 x0 x1 x2 x3 = k0_pay6 x0 x1 x2 := by
  unfold out0_5
  rw [View.canon_unit_zero start_two, View.ld_unit_zero start_two, View.ld_unit_zero start_two, View.ld_unit_zero start_three]

/-- A step's block of a result holds what a whole array does there, when its words are that array's. -/
theorem same_4 (t : Fin cfg0.N) (X : Vec Ideal S64x4096 .i32) (G : Vec Ideal S128x4096 .i32) (h : ∀ y, X y = G (spot (half t) y)) :
    (cfg0.win 4).cut (grid0.coords t) X = ((cfg0.win 4).blk t).view.read (Elt Ideal) G := by
  funext y
  show X y = G (((cfg0.win 4).blk t).view.emb y)
  rw [emb_4]
  exact h y

theorem same_5 (t : Fin cfg0.N) (X : Vec Ideal S64x4096 .i32) (G : Vec Ideal S128x4096 .i32) (h : ∀ y, X y = G (spot (half t) y)) :
    (cfg0.win 5).cut (grid0.coords t) X = ((cfg0.win 5).blk t).view.read (Elt Ideal) G := by
  funext y
  show X y = G (((cfg0.win 5).blk t).view.emb y)
  rw [emb_5]
  exact h y

theorem wrote_4 (c : Dev nD) (t : Fin cfg0.N) : (dats m 0 c).flushed 4 t
    = ((cfg0.win 4).blk t).view.read (Elt Ideal) (filled (m ((c : Thread nD τ).loc main_arg0))) :=
  (flushed4 m c t).trans (same_4 t _ _ fun y => (congrFun (out_4 (iblk m c 0 t) (iblk m c 1 t) (iblk m c 2 t) (iblk m c 3 t)) y).trans
    (pay5_at (m ((c : Thread nD τ).loc main_arg0)) (half t) (iblk m c 0 t) (iblk m c 1 t) (iblk m c 2 t) (iblk m c 3 t)
      (block_0 m c t) (block_1 m c t) (block_2 m c t) (block_3 m c t) y))

theorem wrote_5 (c : Dev nD) (t : Fin cfg0.N) : (dats m 0 c).flushed 5 t
    = ((cfg0.win 5).blk t).view.read (Elt Ideal) (label (m ((c : Thread nD τ).loc main_arg0))) :=
  (flushed5 m c t).trans (same_5 t _ _ fun y => (congrFun (out_5 (iblk m c 0 t) (iblk m c 1 t) (iblk m c 2 t) (iblk m c 3 t)) y).trans
    (pay6_at (m ((c : Thread nD τ).loc main_arg0)) (half t) (iblk m c 0 t) (iblk m c 1 t) (iblk m c 2 t)
      (block_0 m c t) (block_1 m c t) (block_2 m c t) y))

/-! ## The whole results -/

/-- Every place of a result is in the block of one of the two steps. -/
theorem reached (i : S128x4096.Idx) : ∃ t : Fin cfg0.N, ∃ y : S64x4096.Idx, spot (half t) y = i := by
  have hi : (i 0).val < 128 := (i 0).isLt
  have e : cfg0.N = 2 := N_0
  refine ⟨⟨(i 0).val / 64, by omega⟩, Shape.pair (d := ![64, 4096]) ⟨(i 0).val % 64, Nat.mod_lt _ (by decide)⟩ (i 1), ?_⟩
  funext k
  apply Fin.ext
  match k with
  | ⟨0, _⟩ => exact Nat.div_add_mod (i 0).val 64
  | ⟨1, _⟩ => rfl

theorem cover_4 (i : S128x4096.Idx) : ∃ t : Fin cfg0.N, (cfg0.win 4).flush t = true ∧ i ∈ ((cfg0.win 4).blk t).view.set := by
  obtain ⟨t, y, rfl⟩ := reached i
  refine ⟨t, flush0_4 t, ?_⟩
  have h := ((cfg0.win 4).blk t).view.emb_mem_set y
  rwa [emb_4] at h

theorem cover_5 (i : S128x4096.Idx) : ∃ t : Fin cfg0.N, (cfg0.win 5).flush t = true ∧ i ∈ ((cfg0.win 5).blk t).view.set := by
  obtain ⟨t, y, rfl⟩ := reached i
  refine ⟨t, flush0_5 t, ?_⟩
  have h := ((cfg0.win 5).blk t).view.emb_mem_set y
  rwa [emb_5] at h

/-- The kernel's run: its first result is the filled tokens, its second their labels, and its arguments are kept. -/
theorem kernel_run : θ_run defs (onTc (τ := τ) (main (F := Ideal))) ⟨m, fun _ => 0, ρ⟩ fun r => ∀ c : Dev nD,
      r.2.mem ((c : Thread nD τ).loc main_v212_0) = filled (m ((c : Thread nD τ).loc main_arg0))
      ∧ r.2.mem ((c : Thread nD τ).loc main_v212_1) = label (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨(h c).1.trans ((dats m 0 c).arrAt_eq_of_cover 4 (filled (m ((c : Thread nD τ).loc main_arg0))) (fun t _ => wrote_4 m c t) cover_4),
      (h c).2.1.trans ((dats m 0 c).arrAt_eq_of_cover 5 (label (m ((c : Thread nD τ).loc main_arg0))) (fun t _ => wrote_5 m c t) cover_5),
      (h c).2.2⟩) (run_blocks m ρ)

end Cert.Masker

end
-- ==== Proof.Agree.lean ====
/- The kernel and the reference, started on the same arguments, end with the same two results. -/
module

public import proofs.«01_k».proof.Defs
public import proofs.«01_k».proof.Proof.Run
public import proofs.«01_k».proof.Proof.Reference
public import proofs.«01_k».proof.Proof.KernelValue
public import proofs.«01_k».proof.Proof.Gen.Pre_stated_prob

@[expose] public section

set_option maxRecDepth 100000

noncomputable section

namespace Cert.Masker

open Idealize.ShloMosaic Idealize.ShloMosaic.TcCoe Idealize.SL.Sem

/-- Two extended numbers that compare equal are equal. -/
theorem eq_of_oeq (x y : Ideal .f32) (h : Ideal.cmp .oeq x y = 1#1) : x = y := by
  by_contra hne
  have e : Ideal.cmp .oeq x y = 0#1 := (congrArg BitVec.ofBool (decide_eq_false hne)).trans rfl
  rw [e] at h
  exact absurd h (by decide)

/-- The stated condition says that the second argument is the number the kernel's tables were drawn for. -/
theorem prob_of_stated (a : IVec Cert.Pre_stated_prob.S128x4096 32) (p : FVec Ideal Cert.Pre_stated_prob.S_ .f32)
    (h : Cert.Pre_stated_prob.fn (F := Ideal) a p = fun _ => 1#1) (o : Cert.Pre_stated_prob.S_.Idx) :
    p o = Ideal.ofBits .f32 0x3E19999A#32 :=
  eq_of_oeq _ _ (congrFun h o)

section Reference

open Cert.ReferenceIdeal

/-- Whatever memory satisfies the reference's equations holds the filled tokens and their labels. -/
theorem value_of (V : Vl) (h : Holds V mainL) (a : Vec Ideal S128x4096 .i32) (p : FVec Ideal S_ .f32)
    (ha : V (main_arg0 : DevRef τ sig) = a) (h1 : V (main_arg1 : DevRef τ sig) = p) (h2 : p o_ = Ideal.ofBits .f32 0x3E19999A#32) :
    V (main_v47 : DevRef τ sig) = filled a ∧ V (main_v34 : DevRef τ sig) = label a := by
  have r0 : rd V (.of main_arg0 : Wd S128x4096) = a := ha
  have r1 : rd V (.of main_arg1 : StableHlo.TRef sig ⟨S_, .f32⟩) = p := h1
  have h := reference_value V h ((congrFun r1 o_).trans h2)
  rw [r0] at h
  have e47 : rd V (.of main_v47 : Wd S128x4096) = filled a := funext fun i => (h i).1
  have e34 : rd V (.of main_v34 : Wd S128x4096) = label a := funext fun i => (h i).2
  exact ⟨e47, e34⟩

variable (m : (ℓ : Loc nD τ sig) → Buf (Elt Ideal) ℓ) (ρ : Dev nD → PrngReg)
variable (hp : ∀ c : Dev nD, (m ((c.tc : Thread nD τ).loc main_arg1) : FVec Ideal S_ .f32) o_ = Ideal.ofBits .f32 0x3E19999A#32)

include hp in
theorem final_value (c : Dev nD) : final m c (main_v47 : DevRef τ sig) = filled (m ((c.tc : Thread nD τ).loc main_arg0))
    ∧ final m c (main_v34 : DevRef τ sig) = label (m ((c.tc : Thread nD τ).loc main_arg0)) :=
  value_of (final m c) (final_holds m c) _ _ (final_arg0 m c) (final_arg1 m c) (hp c)

include hp in
/-- The reference's run: its first result is the filled tokens, its second their labels, and its arguments are kept. -/
theorem reference_run : θ_run (defs (F := Ideal)) (onTc (τ := τ) (main (F := Ideal))) ⟨m, fun _ => 0, ρ⟩ fun r => ∀ c : Dev nD,
      r.2.mem ((c.tc : Thread nD τ).loc main_v47) = filled (m ((c.tc : Thread nD τ).loc main_arg0))
      ∧ r.2.mem ((c.tc : Thread nD τ).loc main_v34) = label (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h.1 c main_v47).trans (final_value m hp c).1,
    (h.1 c main_v34).trans (final_value m hp c).2,
    (h.1 c main_arg0).trans (final_arg0 m c), (h.1 c main_arg1).trans (final_arg1 m c)⟩) (run m ρ)

end Reference

/-- The two programs agree wherever the second argument is the stated number. -/
theorem agree : Cert.algebraic_KernelIdeal_ReferenceIdeal_pre_stated_prob := by
  intro m g m' g' hpre hargs
  refine ⟨fun c => filled (m ((c.tc : Thread Cert.KernelIdeal.nD Cert.KernelIdeal.τ).loc Cert.KernelIdeal.main_arg0)),
    fun c => label (m ((c.tc : Thread Cert.KernelIdeal.nD Cert.KernelIdeal.τ).loc Cert.KernelIdeal.main_arg0)), kernel_run m g, ?_⟩
  have hp : ∀ c : Dev Cert.ReferenceIdeal.nD, (m' ((c.tc : Thread Cert.ReferenceIdeal.nD Cert.ReferenceIdeal.τ).loc Cert.ReferenceIdeal.main_arg1)
      : FVec Ideal Cert.ReferenceIdeal.S_ .f32) o_ = Ideal.ofBits .f32 0x3E19999A#32 := fun c =>
    (congrFun (hargs c).2 o_).trans (prob_of_stated _ _ (hpre c) o_)
  exact (θ_run Cert.ReferenceIdeal.defs _ _).mono (fun r h c => ⟨(h c).1.trans (congrArg filled (hargs c).1),
    (h c).2.1.trans (congrArg label (hargs c).1), (h c).2.2⟩) (reference_run m' g' hp)

end Cert.Masker

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Value
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_stated_prob
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_stated_prob.Gen.facts,
  fun m g _ => Cert.Kernel.Gen.frame m g,
  fun m g _ => Cert.KernelIdeal.Gen.frame m g,
  fun m g _ => Cert.KernelIdeal.Gen.frame m g,
  fun m g _ => Cert.Masker.frame m g,
  fun m g _ => Cert.Masker.frame m g,
  trivial,
  Cert.Masker.agree⟩

end Cert.Proof

end
